-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_gains [hPre_finite_gains : Cert.Pre_finite_gains.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_gains.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite_gains.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_gains [hPre_finite_gains : Cert.Pre_finite_gains.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_gains.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite_gains.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_gains [hPre_finite_gains : Cert.Pre_finite_gains.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_gains.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite_gains.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_gains [hPre_finite_gains : Cert.Pre_finite_gains.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_gains.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite_gains.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_gains [hPre_finite_gains : Cert.Pre_finite_gains.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_gains.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).1 = (fun _ => 1#1)
    ∧ (Cert.Pre_finite_gains.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_gains [hPre_finite_gains : Cert.Pre_finite_gains.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_gains.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).1 = (fun _ => 1#1)
    ∧ (Cert.Pre_finite_gains.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_gains [hPre_finite_gains : Cert.Pre_finite_gains.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_gains.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).1 = (fun _ => 1#1)
    ∧ (Cert.Pre_finite_gains.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_gains [hPre_finite_gains : Cert.Pre_finite_gains.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_gains.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).1 = (fun _ => 1#1)
    ∧ (Cert.Pre_finite_gains.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_gains [hKernel10Ideal : Cert.Kernel10Ideal.Facts] [hPre_finite_gains : Cert.Pre_finite_gains.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_gains m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_gains [hReference10Ideal : Cert.Reference10Ideal.Facts] [hPre_finite_gains : Cert.Pre_finite_gains.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_gains m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite_gains [hKernel11Ideal : Cert.Kernel11Ideal.Facts] [hPre_finite_gains : Cert.Pre_finite_gains.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_gains m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite_gains [hReference11Ideal : Cert.Reference11Ideal.Facts] [hPre_finite_gains : Cert.Pre_finite_gains.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_gains m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite_gains [hKernel12Ideal : Cert.Kernel12Ideal.Facts] [hPre_finite_gains : Cert.Pre_finite_gains.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_gains m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite_gains [hReference12Ideal : Cert.Reference12Ideal.Facts] [hPre_finite_gains : Cert.Pre_finite_gains.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_gains m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite_gains [hKernel13Ideal : Cert.Kernel13Ideal.Facts] [hPre_finite_gains : Cert.Pre_finite_gains.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_gains m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite_gains [hReference13Ideal : Cert.Reference13Ideal.Facts] [hPre_finite_gains : Cert.Pre_finite_gains.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_gains m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal_pre_finite_gains [hKernel10Ideal : Cert.Kernel10Ideal.Facts] [hReference10Ideal : Cert.Reference10Ideal.Facts] [hPre_finite_gains : Cert.Pre_finite_gains.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_gains m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v12)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite_gains [hKernel11Ideal : Cert.Kernel11Ideal.Facts] [hReference11Ideal : Cert.Reference11Ideal.Facts] [hPre_finite_gains : Cert.Pre_finite_gains.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_gains m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v72) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite_gains [hKernel12Ideal : Cert.Kernel12Ideal.Facts] [hReference12Ideal : Cert.Reference12Ideal.Facts] [hPre_finite_gains : Cert.Pre_finite_gains.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_gains m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v12)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v72) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_finite_gains [hKernel13Ideal : Cert.Kernel13Ideal.Facts] [hReference13Ideal : Cert.Reference13Ideal.Facts] [hPre_finite_gains : Cert.Pre_finite_gains.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_gains m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v12)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v12) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v72) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_gains : Cert.Pre_finite_gains.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_gains (hKernel10Ideal := hKernel10Ideal) (hPre_finite_gains := hPre_finite_gains)
    ∧ quiescent_Reference10Ideal (hReference10Ideal := hReference10Ideal)
    ∧ quiescent_Reference10Ideal_pre_finite_gains (hReference10Ideal := hReference10Ideal) (hPre_finite_gains := hPre_finite_gains)
    ∧ quiescent_Kernel11 (hKernel11 := hKernel11)
    ∧ quiescent_Kernel11Ideal (hKernel11Ideal := hKernel11Ideal)
    ∧ quiescent_Kernel11Ideal_pre_finite_gains (hKernel11Ideal := hKernel11Ideal) (hPre_finite_gains := hPre_finite_gains)
    ∧ quiescent_Reference11Ideal (hReference11Ideal := hReference11Ideal)
    ∧ quiescent_Reference11Ideal_pre_finite_gains (hReference11Ideal := hReference11Ideal) (hPre_finite_gains := hPre_finite_gains)
    ∧ quiescent_Kernel12 (hKernel12 := hKernel12)
    ∧ quiescent_Kernel12Ideal (hKernel12Ideal := hKernel12Ideal)
    ∧ quiescent_Kernel12Ideal_pre_finite_gains (hKernel12Ideal := hKernel12Ideal) (hPre_finite_gains := hPre_finite_gains)
    ∧ quiescent_Reference12Ideal (hReference12Ideal := hReference12Ideal)
    ∧ quiescent_Reference12Ideal_pre_finite_gains (hReference12Ideal := hReference12Ideal) (hPre_finite_gains := hPre_finite_gains)
    ∧ quiescent_Kernel13 (hKernel13 := hKernel13)
    ∧ quiescent_Kernel13Ideal (hKernel13Ideal := hKernel13Ideal)
    ∧ quiescent_Kernel13Ideal_pre_finite_gains (hKernel13Ideal := hKernel13Ideal) (hPre_finite_gains := hPre_finite_gains)
    ∧ quiescent_Reference13Ideal (hReference13Ideal := hReference13Ideal)
    ∧ quiescent_Reference13Ideal_pre_finite_gains (hReference13Ideal := hReference13Ideal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_gains (hKernel10Ideal := hKernel10Ideal) (hReference10Ideal := hReference10Ideal) (hPre_finite_gains := hPre_finite_gains)
    ∧ preserves_Kernel11_Kernel11Ideal
    ∧ algebraic_Kernel11Ideal_Reference11Ideal_pre_finite_gains (hKernel11Ideal := hKernel11Ideal) (hReference11Ideal := hReference11Ideal) (hPre_finite_gains := hPre_finite_gains)
    ∧ preserves_Kernel12_Kernel12Ideal
    ∧ algebraic_Kernel12Ideal_Reference12Ideal_pre_finite_gains (hKernel12Ideal := hKernel12Ideal) (hReference12Ideal := hReference12Ideal) (hPre_finite_gains := hPre_finite_gains)
    ∧ preserves_Kernel13_Kernel13Ideal
    ∧ algebraic_Kernel13Ideal_Reference13Ideal_pre_finite_gains (hKernel13Ideal := hKernel13Ideal) (hReference13Ideal := hReference13Ideal) (hPre_finite_gains := hPre_finite_gains)
-- ==== Pre_finite_gains.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S_ : Shape := ⟨0, ![]⟩

class Facts : Prop where
  bcast_S_S4x128 : S_.BroadcastsInDim S4x128 (![] : Fin 0 → Fin S4x128.rank)

variable [Facts]

def fn {F : FTy → Type} [FloatOps F] (main_arg0 : FVec F S16384x6144 .bf16) (main_arg1 : FVec F S4x256x2048 .f32) (main_arg2 : FVec F S4x2048 .f32) (main_arg3 : FVec F S4x2048x1024 .f32) (main_arg4 : FVec F S4x128 .f32) (main_arg5 : FVec F S4x128 .f32) : IVec S4x128 1 × IVec S4x128 1 :=
  let main_v0 : FVec F S4x128 .f32 := Host.absf main_arg4
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_v3 : FVec F S4x128 .f32 := Host.absf main_arg5
  let main_cst_0 : FVec F S_ .f32 := constant S_ .f32 0x7F800000#32
  let main_v4 : FVec F S4x128 .f32 := broadcastInDim S4x128 ![] bcast_S_S4x128 main_cst_0
  let main_v5 : IVec S4x128 1 := cmpf .olt main_v3 main_v4
  (main_v2, main_v5)
-- ==== Kernel.lean ====
abbrev S4x128x16384 : Shape := ⟨3, ![4, 128, 16384]⟩
abbrev S16384x128 : Shape := ⟨2, ![16384, 128]⟩
abbrev S64x128x256 : Shape := ⟨3, ![64, 128, 256]⟩
abbrev S16x64x16384 : Shape := ⟨3, ![16, 64, 16384]⟩
abbrev S16384x64 : Shape := ⟨2, ![16384, 64]⟩
abbrev S16x16384 : Shape := ⟨2, ![16, 16384]⟩
abbrev S4x16x256x64 : Shape := ⟨4, ![4, 16, 256, 64]⟩
abbrev S4x16x256x128 : Shape := ⟨4, ![4, 16, 256, 128]⟩
abbrev S4x16x128x256 : Shape := ⟨4, ![4, 16, 128, 256]⟩
abbrev S16384x512 : Shape := ⟨2, ![16384, 512]⟩
abbrev S16x64x256 : Shape := ⟨3, ![16, 64, 256]⟩
abbrev S16x256 : Shape := ⟨2, ![16, 256]⟩
abbrev S4x128x256 : Shape := ⟨3, ![4, 128, 256]⟩
abbrev S1x16x256x64 : Shape := ⟨4, ![1, 16, 256, 64]⟩
abbrev S1x16x256x128 : Shape := ⟨4, ![1, 16, 256, 128]⟩
abbrev S1x16x128x256 : Shape := ⟨4, ![1, 16, 128, 256]⟩
abbrev S256x512 : Shape := ⟨2, ![256, 512]⟩
abbrev S16x256x256 : Shape := ⟨3, ![16, 256, 256]⟩
abbrev S16x32x8x256 : Shape := ⟨4, ![16, 32, 8, 256]⟩
abbrev S16x8x256 : Shape := ⟨3, ![16, 8, 256]⟩
abbrev S256x256 : Shape := ⟨2, ![256, 256]⟩
abbrev S128x1024 : Shape := ⟨2, ![128, 1024]⟩
abbrev S2x4x256x256 : Shape := ⟨4, ![2, 4, 256, 256]⟩
abbrev S4x256x256 : Shape := ⟨3, ![4, 256, 256]⟩
abbrev S1x256 : Shape := ⟨2, ![1, 256]⟩
abbrev S8x1 : Shape := ⟨2, ![8, 1]⟩
abbrev S8x256 : Shape := ⟨2, ![8, 256]⟩
abbrev S1x1x64x64 : Shape := ⟨4, ![1, 1, 64, 64]⟩
abbrev S64x64 : Shape := ⟨2, ![64, 64]⟩
abbrev S1x64x256 : Shape := ⟨3, ![1, 64, 256]⟩
abbrev S64x256 : Shape := ⟨2, ![64, 256]⟩
abbrev S64x1 : Shape := ⟨2, ![64, 1]⟩
abbrev S1x1x8x256 : Shape := ⟨4, ![1, 1, 8, 256]⟩
abbrev S1x8x256 : Shape := ⟨3, ![1, 8, 256]⟩
abbrev S32x8x256 : Shape := ⟨3, ![32, 8, 256]⟩
abbrev S1x32x8x256 : Shape := ⟨4, ![1, 32, 8, 256]⟩
abbrev S1x256x256 : Shape := ⟨3, ![1, 256, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x128x256 : Shape := ⟨3, ![1, 128, 256]⟩
abbrev S128x256 : Shape := ⟨2, ![128, 256]⟩
abbrev S1x1x256x128 : Shape := ⟨4, ![1, 1, 256, 128]⟩
abbrev S256x128 : Shape := ⟨2, ![256, 128]⟩
abbrev S256x1024 : Shape := ⟨2, ![256, 1024]⟩
abbrev S1x1x256x256 : Shape := ⟨4, ![1, 1, 256, 256]⟩
abbrev S16x2x8x256 : Shape := ⟨4, ![16, 2, 8, 256]⟩
abbrev S2x8x256 : Shape := ⟨3, ![2, 8, 256]⟩
abbrev S1x1x128x256 : Shape := ⟨4, ![1, 1, 128, 256]⟩
abbrev S1x1x64x256 : Shape := ⟨4, ![1, 1, 64, 256]⟩
abbrev S8x8x256 : Shape := ⟨3, ![8, 8, 256]⟩
abbrev S4x2x8x256 : Shape := ⟨4, ![4, 2, 8, 256]⟩

abbrev nBuf : Space → Nat
  | .hbm => 10
  | .vmem => 23
  | .smem => 0
  | _ => 0

abbrev bufTy : (tb : Table) → Fin (tcTables nBuf tb) → BufTy
  | .hbm, ⟨0, _⟩ => ⟨S4x128x16384, .bf16⟩
  | .hbm, ⟨1, _⟩ => ⟨S16384x128, .bf16⟩
  | .hbm, ⟨2, _⟩ => ⟨S64x128x256, .bf16⟩
  | .hbm, ⟨3, _⟩ => ⟨S16x64x16384, .bf16⟩
  | .hbm, ⟨4, _⟩ => ⟨S16384x64, .bf16⟩
  | .hbm, ⟨5, _⟩ => ⟨S16x16384, .f32⟩
  | .hbm, ⟨6, _⟩ => ⟨S4x16x256x64, .bf16⟩
  | .hbm, ⟨7, _⟩ => ⟨S4x16x256x128, .bf16⟩
  | .hbm, ⟨8, _⟩ => ⟨S4x16x128x256, .bf16⟩
  | .hbm, ⟨9, _⟩ => ⟨S16384x512, .bf16⟩
  | .local _ .vmem, ⟨0, _⟩ => ⟨S16x64x256, .bf16⟩
  | .local _ .vmem, ⟨1, _⟩ => ⟨S16x64x256, .bf16⟩
  | .local _ .vmem, ⟨2, _⟩ => ⟨S16x256, .f32⟩
  | .local _ .vmem, ⟨3, _⟩ => ⟨S16x256, .f32⟩
  | .local _ .vmem, ⟨4, _⟩ => ⟨S4x128x256, .bf16⟩
  | .local _ .vmem, ⟨5, _⟩ => ⟨S4x128x256, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x128, .bf16⟩
  | .local _ .vmem, ⟨9, _⟩ => ⟨S1x16x256x128, .bf16⟩
  | .local _ .vmem, ⟨10, _⟩ => ⟨S1x16x128x256, .bf16⟩
  | .local _ .vmem, ⟨11, _⟩ => ⟨S1x16x128x256, .bf16⟩
  | .local _ .vmem, ⟨12, _⟩ => ⟨S256x512, .bf16⟩
  | .local _ .vmem, ⟨13, _⟩ => ⟨S256x512, .bf16⟩
  | .local _ .vmem, ⟨14, _⟩ => ⟨S16x256x256, .f32⟩
  | .local _ .vmem, ⟨15, _⟩ => ⟨S16x32x8x256, .i32⟩
  | .local _ .vmem, ⟨16, _⟩ => ⟨S16x8x256, .i32⟩
  | .local _ .vmem, ⟨17, _⟩ => ⟨S16x8x256, .i32⟩
  | .local _ .vmem, ⟨18, _⟩ => ⟨S256x256, .f32⟩
  | .local _ .vmem, ⟨19, _⟩ => ⟨S128x1024, .bf16⟩
  | .local _ .vmem, ⟨20, _⟩ => ⟨S2x4x256x256, .f32⟩
  | .local _ .vmem, ⟨21, _⟩ => ⟨S4x256x256, .bf16⟩
  | .local _ .vmem, ⟨22, _⟩ => ⟨S4x128x256, .f32⟩
  | _, _ => ⟨S4x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_60 : BitVec 32 := 1#32
  ⟨c0_i32_58, v330, c1_i32_60⟩
def k0_off1 (i : grid0.Coords) (k0_t1 : Fin (k0_t1_loop i).trips) : Fin 4 → Nat :=
  let c0_232 : Index := 0#32
  let c0_i32_58 : BitVec 32 := 0#32
  let c1_i32_60 : BitVec 32 := 1#32
  let arg18 : BitVec 32 := Scf.iv c0_i32_58 c1_i32_60 k0_t1
  let v600 : Index := Scalar.indexCast arg18
  let c0_233 : Index := 0#32
  let c0_234 : Index := 0#32
  ![0, v600.toNat, 0, 0]
def k0_off2 (i : grid0.Coords) (k0_t1 : Fin (k0_t1_loop i).trips) : Fin 3 → Nat :=
  let c0_i32_58 : BitVec 32 := 0#32
  let c1_i32_60 : BitVec 32 := 1#32
  let arg18 : BitVec 32 := Scf.iv c0_i32_58 c1_i32_60 k0_t1
  let v756 : Index := Scalar.indexCast arg18
  let c0_306 : Index := 0#32
  let c0_307 : Index := 0#32
  ![v756.toNat, 0, 0]
def k0_off3 (i : grid0.Coords) (k0_t1 : Fin (k0_t1_loop i).trips) : Fin 4 → Nat :=
  let c0_343 : Index := 0#32
  let c0_i32_58 : BitVec 32 := 0#32
  let c1_i32_60 : BitVec 32 := 1#32
  let arg18 : BitVec 32 := Scf.iv c0_i32_58 c1_i32_60 k0_t1
  let v882 : Index := Scalar.indexCast arg18
  let c64 : Index := 64#32
  let c0_344 : Index := 0#32
  ![0, v882.toNat, 64, 0]
def k0_off4 (i : grid0.Coords) (k0_t1 : Fin (k0_t1_loop i).trips) : Fin 3 → Nat :=
  let c0_i32_58 : BitVec 32 := 0#32
  let c1_i32_60 : BitVec 32 := 1#32
  let arg18 : BitVec 32 := Scf.iv c0_i32_58 c1_i32_60 k0_t1
  let v1038 : Index := Scalar.indexCast arg18
  let c64_428 : Index := 64#32
  let c0_429 : Index := 0#32
  ![v1038.toNat, 64, 0]
def k0_off5 (i : grid0.Coords) (k0_t1 : Fin (k0_t1_loop i).trips) : Fin 4 → Nat :=
  let c0_468 : Index := 0#32
  let c0_i32_58 : BitVec 32 := 0#32
  let c1_i32_60 : BitVec 32 := 1#32
  let arg18 : BitVec 32 := Scf.iv c0_i32_58 c1_i32_60 k0_t1
  let v1164 : Index := Scalar.indexCast arg18
  let c128_469 : Index := 128#32
  let c0_470 : Index := 0#32
  ![0, v1164.toNat, 128, 0]
def k0_off6 (i : grid0.Coords) (k0_t1 : Fin (k0_t1_loop i).trips) : Fin 3 → Nat :=
  let c0_i32_58 : BitVec 32 := 0#32
  let c1_i32_60 : BitVec 32 := 1#32
  let arg18 : BitVec 32 := Scf.iv c0_i32_58 c1_i32_60 k0_t1
  let v1320 : Index := Scalar.indexCast arg18
  let c128_554 : Index := 128#32
  let c0_555 : Index := 0#32
  ![v1320.toNat, 128, 0]
def k0_off7 (i : grid0.Coords) (k0_t1 : Fin (k0_t1_loop i).trips) : Fin 4 → Nat :=
  let c0_594 : Index := 0#32
  let c0_i32_58 : BitVec 32 := 0#32
  let c1_i32_60 : BitVec 32 := 1#32
  let arg18 : BitVec 32 := Scf.iv c0_i32_58 c1_i32_60 k0_t1
  let v1446 : Index := Scalar.indexCast arg18
  let c192 : Index := 192#32
  let c0_595 : Index := 0#32
  ![0, v1446.toNat, 192, 0]
def k0_off8 (i : grid0.Coords) (k0_t1 : Fin (k0_t1_loop i).trips) : Fin 3 → Nat :=
  let c0_i32_58 : BitVec 32 := 0#32
  let c1_i32_60 : BitVec 32 := 1#32
  let arg18 : BitVec 32 := Scf.iv c0_i32_58 c1_i32_60 k0_t1
  let v1602 : Index := Scalar.indexCast arg18
  let c192_679 : Index := 192#32
  let c0_680 : Index := 0#32
  ![v1602.toNat, 192, 0]
def k0_off9 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2016 : Index := Scalar.indexCast arg18
  let c0_813 : Index := 0#32
  let c0_814 : Index := 0#32
  let c0_815 : Index := 0#32
  ![v2016.toNat, 0, 0, 0]
def k0_off10 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2020 : Index := Scalar.indexCast arg18
  let c1_816 : Index := 1#32
  let c0_817 : Index := 0#32
  let c0_818 : Index := 0#32
  ![v2020.toNat, 1, 0, 0]
def k0_off11 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2024 : Index := Scalar.indexCast arg18
  let c2_819 : Index := 2#32
  let c0_820 : Index := 0#32
  let c0_821 : Index := 0#32
  ![v2024.toNat, 2, 0, 0]
def k0_off12 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2028 : Index := Scalar.indexCast arg18
  let c3_822 : Index := 3#32
  let c0_823 : Index := 0#32
  let c0_824 : Index := 0#32
  ![v2028.toNat, 3, 0, 0]
def k0_off13 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2032 : Index := Scalar.indexCast arg18
  let c4_825 : Index := 4#32
  let c0_826 : Index := 0#32
  let c0_827 : Index := 0#32
  ![v2032.toNat, 4, 0, 0]
def k0_off14 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2036 : Index := Scalar.indexCast arg18
  let c5_828 : Index := 5#32
  let c0_829 : Index := 0#32
  let c0_830 : Index := 0#32
  ![v2036.toNat, 5, 0, 0]
def k0_off15 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2040 : Index := Scalar.indexCast arg18
  let c6_831 : Index := 6#32
  let c0_832 : Index := 0#32
  let c0_833 : Index := 0#32
  ![v2040.toNat, 6, 0, 0]
def k0_off16 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2044 : Index := Scalar.indexCast arg18
  let c7_834 : Index := 7#32
  let c0_835 : Index := 0#32
  let c0_836 : Index := 0#32
  ![v2044.toNat, 7, 0, 0]
def k0_off17 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2048 : Index := Scalar.indexCast arg18
  let c8_837 : Index := 8#32
  let c0_838 : Index := 0#32
  let c0_839 : Index := 0#32
  ![v2048.toNat, 8, 0, 0]
def k0_off18 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2052 : Index := Scalar.indexCast arg18
  let c9_840 : Index := 9#32
  let c0_841 : Index := 0#32
  let c0_842 : Index := 0#32
  ![v2052.toNat, 9, 0, 0]
def k0_off19 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2056 : Index := Scalar.indexCast arg18
  let c10_843 : Index := 10#32
  let c0_844 : Index := 0#32
  let c0_845 : Index := 0#32
  ![v2056.toNat, 10, 0, 0]
def k0_off20 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2060 : Index := Scalar.indexCast arg18
  let c11_846 : Index := 11#32
  let c0_847 : Index := 0#32
  let c0_848 : Index := 0#32
  ![v2060.toNat, 11, 0, 0]
def k0_off21 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2064 : Index := Scalar.indexCast arg18
  let c12_849 : Index := 12#32
  let c0_850 : Index := 0#32
  let c0_851 : Index := 0#32
  ![v2064.toNat, 12, 0, 0]
def k0_off22 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2068 : Index := Scalar.indexCast arg18
  let c13_852 : Index := 13#32
  let c0_853 : Index := 0#32
  let c0_854 : Index := 0#32
  ![v2068.toNat, 13, 0, 0]
def k0_off23 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2072 : Index := Scalar.indexCast arg18
  let c14_855 : Index := 14#32
  let c0_856 : Index := 0#32
  let c0_857 : Index := 0#32
  ![v2072.toNat, 14, 0, 0]
def k0_off24 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2076 : Index := Scalar.indexCast arg18
  let c15_858 : Index := 15#32
  let c0_859 : Index := 0#32
  let c0_860 : Index := 0#32
  ![v2076.toNat, 15, 0, 0]
def k0_off25 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2080 : Index := Scalar.indexCast arg18
  let c16 : Index := 16#32
  let c0_861 : Index := 0#32
  let c0_862 : Index := 0#32
  ![v2080.toNat, 16, 0, 0]
def k0_off26 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2084 : Index := Scalar.indexCast arg18
  let c17 : Index := 17#32
  let c0_863 : Index := 0#32
  let c0_864 : Index := 0#32
  ![v2084.toNat, 17, 0, 0]
def k0_off27 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2088 : Index := Scalar.indexCast arg18
  let c18 : Index := 18#32
  let c0_865 : Index := 0#32
  let c0_866 : Index := 0#32
  ![v2088.toNat, 18, 0, 0]
def k0_off28 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2092 : Index := Scalar.indexCast arg18
  let c19 : Index := 19#32
  let c0_867 : Index := 0#32
  let c0_868 : Index := 0#32
  ![v2092.toNat, 19, 0, 0]
def k0_off29 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2096 : Index := Scalar.indexCast arg18
  let c20 : Index := 20#32
  let c0_869 : Index := 0#32
  let c0_870 : Index := 0#32
  ![v2096.toNat, 20, 0, 0]
def k0_off30 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2100 : Index := Scalar.indexCast arg18
  let c21 : Index := 21#32
  let c0_871 : Index := 0#32
  let c0_872 : Index := 0#32
  ![v2100.toNat, 21, 0, 0]
def k0_off31 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2104 : Index := Scalar.indexCast arg18
  let c22 : Index := 22#32
  let c0_873 : Index := 0#32
  let c0_874 : Index := 0#32
  ![v2104.toNat, 22, 0, 0]
def k0_off32 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2108 : Index := Scalar.indexCast arg18
  let c23 : Index := 23#32
  let c0_875 : Index := 0#32
  let c0_876 : Index := 0#32
  ![v2108.toNat, 23, 0, 0]
def k0_off33 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2112 : Index := Scalar.indexCast arg18
  let c24 : Index := 24#32
  let c0_877 : Index := 0#32
  let c0_878 : Index := 0#32
  ![v2112.toNat, 24, 0, 0]
def k0_off34 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2116 : Index := Scalar.indexCast arg18
  let c25 : Index := 25#32
  let c0_879 : Index := 0#32
  let c0_880 : Index := 0#32
  ![v2116.toNat, 25, 0, 0]
def k0_off35 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2120 : Index := Scalar.indexCast arg18
  let c26 : Index := 26#32
  let c0_881 : Index := 0#32
  let c0_882 : Index := 0#32
  ![v2120.toNat, 26, 0, 0]
def k0_off36 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2124 : Index := Scalar.indexCast arg18
  let c27 : Index := 27#32
  let c0_883 : Index := 0#32
  let c0_884 : Index := 0#32
  ![v2124.toNat, 27, 0, 0]
def k0_off37 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2128 : Index := Scalar.indexCast arg18
  let c28 : Index := 28#32
  let c0_885 : Index := 0#32
  let c0_886 : Index := 0#32
  ![v2128.toNat, 28, 0, 0]
def k0_off38 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2132 : Index := Scalar.indexCast arg18
  let c29 : Index := 29#32
  let c0_887 : Index := 0#32
  let c0_888 : Index := 0#32
  ![v2132.toNat, 29, 0, 0]
def k0_off39 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2136 : Index := Scalar.indexCast arg18
  let c30 : Index := 30#32
  let c0_889 : Index := 0#32
  let c0_890 : Index := 0#32
  ![v2136.toNat, 30, 0, 0]
def k0_off40 (i : grid0.Coords) (k0_t1 : Fin (k0_t1_loop i).trips) : Fin 4 → Nat :=
  let c0_i32_58 : BitVec 32 := 0#32
  let c1_i32_60 : BitVec 32 := 1#32
  let arg18 : BitVec 32 := Scf.iv c0_i32_58 c1_i32_60 k0_t1
  let v2140 : Index := Scalar.indexCast arg18
  let c31 : Index := 31#32
  let c0_891 : Index := 0#32
  let c0_892 : Index := 0#32
  ![v2140.toNat, 31, 0, 0]
def k0_off41 (i : grid0.Coords) (k0_t1 : Fin (k0_t1_loop i).trips) : Fin 3 → Nat :=
  let c0_i32_58 : BitVec 32 := 0#32
  let c1_i32_60 : BitVec 32 := 1#32
  let arg18 : BitVec 32 := Scf.iv c0_i32_58 c1_i32_60 k0_t1
  let v2148 : Index := Scalar.indexCast arg18
  let c0_894 : Index := 0#32
  let c0_895 : Index := 0#32
  ![v2148.toNat, 0, 0]
@[reducible] def k0_t2_loop (i : grid0.Coords) : Scf.Loop 32 :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let v327 : BitVec 32 := Scalar.addi c0_i32_58 v326
  let c1_i32_61 : BitVec 32 := 1#32
  ⟨v330, v327, c1_i32_61⟩
def k0_off42 (i : grid0.Coords) (k0_t2 : Fin (k0_t2_loop i).trips) : Fin 4 → Nat :=
  let c0_232 : Index := 0#32
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v600 : Index := Scalar.indexCast arg18
  let c0_233 : Index := 0#32
  let c0_234 : Index := 0#32
  ![0, v600.toNat, 0, 0]
def k0_off43 (i : grid0.Coords) (k0_t2 : Fin (k0_t2_loop i).trips) : Fin 3 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v756 : Index := Scalar.indexCast arg18
  let c0_306 : Index := 0#32
  let c0_307 : Index := 0#32
  ![v756.toNat, 0, 0]
def k0_off44 (i : grid0.Coords) (k0_t2 : Fin (k0_t2_loop i).trips) : Fin 4 → Nat :=
  let c0_343 : Index := 0#32
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v882 : Index := Scalar.indexCast arg18
  let c64 : Index := 64#32
  let c0_344 : Index := 0#32
  ![0, v882.toNat, 64, 0]
def k0_off45 (i : grid0.Coords) (k0_t2 : Fin (k0_t2_loop i).trips) : Fin 3 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v1038 : Index := Scalar.indexCast arg18
  let c64_428 : Index := 64#32
  let c0_429 : Index := 0#32
  ![v1038.toNat, 64, 0]
def k0_off46 (i : grid0.Coords) (k0_t2 : Fin (k0_t2_loop i).trips) : Fin 4 → Nat :=
  let c0_468 : Index := 0#32
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v1164 : Index := Scalar.indexCast arg18
  let c128_469 : Index := 128#32
  let c0_470 : Index := 0#32
  ![0, v1164.toNat, 128, 0]
def k0_off47 (i : grid0.Coords) (k0_t2 : Fin (k0_t2_loop i).trips) : Fin 3 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v1320 : Index := Scalar.indexCast arg18
  let c128_554 : Index := 128#32
  let c0_555 : Index := 0#32
  ![v1320.toNat, 128, 0]
def k0_off48 (i : grid0.Coords) (k0_t2 : Fin (k0_t2_loop i).trips) : Fin 4 → Nat :=
  let c0_594 : Index := 0#32
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v1446 : Index := Scalar.indexCast arg18
  let c192 : Index := 192#32
  let c0_595 : Index := 0#32
  ![0, v1446.toNat, 192, 0]
def k0_off49 (i : grid0.Coords) (k0_t2 : Fin (k0_t2_loop i).trips) : Fin 3 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v1602 : Index := Scalar.indexCast arg18
  let c192_679 : Index := 192#32
  let c0_680 : Index := 0#32
  ![v1602.toNat, 192, 0]
def k0_off50 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2016 : Index := Scalar.indexCast arg18
  let c0_813 : Index := 0#32
  let c0_814 : Index := 0#32
  let c0_815 : Index := 0#32
  ![v2016.toNat, 0, 0, 0]
def k0_off51 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2020 : Index := Scalar.indexCast arg18
  let c1_816 : Index := 1#32
  let c0_817 : Index := 0#32
  let c0_818 : Index := 0#32
  ![v2020.toNat, 1, 0, 0]
def k0_off52 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2024 : Index := Scalar.indexCast arg18
  let c2_819 : Index := 2#32
  let c0_820 : Index := 0#32
  let c0_821 : Index := 0#32
  ![v2024.toNat, 2, 0, 0]
def k0_off53 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2028 : Index := Scalar.indexCast arg18
  let c3_822 : Index := 3#32
  let c0_823 : Index := 0#32
  let c0_824 : Index := 0#32
  ![v2028.toNat, 3, 0, 0]
def k0_off54 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2032 : Index := Scalar.indexCast arg18
  let c4_825 : Index := 4#32
  let c0_826 : Index := 0#32
  let c0_827 : Index := 0#32
  ![v2032.toNat, 4, 0, 0]
def k0_off55 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2036 : Index := Scalar.indexCast arg18
  let c5_828 : Index := 5#32
  let c0_829 : Index := 0#32
  let c0_830 : Index := 0#32
  ![v2036.toNat, 5, 0, 0]
def k0_off56 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2040 : Index := Scalar.indexCast arg18
  let c6_831 : Index := 6#32
  let c0_832 : Index := 0#32
  let c0_833 : Index := 0#32
  ![v2040.toNat, 6, 0, 0]
def k0_off57 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2044 : Index := Scalar.indexCast arg18
  let c7_834 : Index := 7#32
  let c0_835 : Index := 0#32
  let c0_836 : Index := 0#32
  ![v2044.toNat, 7, 0, 0]
def k0_off58 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2048 : Index := Scalar.indexCast arg18
  let c8_837 : Index := 8#32
  let c0_838 : Index := 0#32
  let c0_839 : Index := 0#32
  ![v2048.toNat, 8, 0, 0]
def k0_off59 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2052 : Index := Scalar.indexCast arg18
  let c9_840 : Index := 9#32
  let c0_841 : Index := 0#32
  let c0_842 : Index := 0#32
  ![v2052.toNat, 9, 0, 0]
def k0_off60 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2056 : Index := Scalar.indexCast arg18
  let c10_843 : Index := 10#32
  let c0_844 : Index := 0#32
  let c0_845 : Index := 0#32
  ![v2056.toNat, 10, 0, 0]
def k0_off61 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2060 : Index := Scalar.indexCast arg18
  let c11_846 : Index := 11#32
  let c0_847 : Index := 0#32
  let c0_848 : Index := 0#32
  ![v2060.toNat, 11, 0, 0]
def k0_off62 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2064 : Index := Scalar.indexCast arg18
  let c12_849 : Index := 12#32
  let c0_850 : Index := 0#32
  let c0_851 : Index := 0#32
  ![v2064.toNat, 12, 0, 0]
def k0_off63 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2068 : Index := Scalar.indexCast arg18
  let c13_852 : Index := 13#32
  let c0_853 : Index := 0#32
  let c0_854 : Index := 0#32
  ![v2068.toNat, 13, 0, 0]
def k0_off64 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2072 : Index := Scalar.indexCast arg18
  let c14_855 : Index := 14#32
  let c0_856 : Index := 0#32
  let c0_857 : Index := 0#32
  ![v2072.toNat, 14, 0, 0]
def k0_off65 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2076 : Index := Scalar.indexCast arg18
  let c15_858 : Index := 15#32
  let c0_859 : Index := 0#32
  let c0_860 : Index := 0#32
  ![v2076.toNat, 15, 0, 0]
def k0_off66 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2080 : Index := Scalar.indexCast arg18
  let c16 : Index := 16#32
  let c0_861 : Index := 0#32
  let c0_862 : Index := 0#32
  ![v2080.toNat, 16, 0, 0]
def k0_off67 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2084 : Index := Scalar.indexCast arg18
  let c17 : Index := 17#32
  let c0_863 : Index := 0#32
  let c0_864 : Index := 0#32
  ![v2084.toNat, 17, 0, 0]
def k0_off68 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2088 : Index := Scalar.indexCast arg18
  let c18 : Index := 18#32
  let c0_865 : Index := 0#32
  let c0_866 : Index := 0#32
  ![v2088.toNat, 18, 0, 0]
def k0_off69 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2092 : Index := Scalar.indexCast arg18
  let c19 : Index := 19#32
  let c0_867 : Index := 0#32
  let c0_868 : Index := 0#32
  ![v2092.toNat, 19, 0, 0]
def k0_off70 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2096 : Index := Scalar.indexCast arg18
  let c20 : Index := 20#32
  let c0_869 : Index := 0#32
  let c0_870 : Index := 0#32
  ![v2096.toNat, 20, 0, 0]
def k0_off71 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2100 : Index := Scalar.indexCast arg18
  let c21 : Index := 21#32
  let c0_871 : Index := 0#32
  let c0_872 : Index := 0#32
  ![v2100.toNat, 21, 0, 0]
def k0_off72 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2104 : Index := Scalar.indexCast arg18
  let c22 : Index := 22#32
  let c0_873 : Index := 0#32
  let c0_874 : Index := 0#32
  ![v2104.toNat, 22, 0, 0]
def k0_off73 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2108 : Index := Scalar.indexCast arg18
  let c23 : Index := 23#32
  let c0_875 : Index := 0#32
  let c0_876 : Index := 0#32
  ![v2108.toNat, 23, 0, 0]
def k0_off74 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2112 : Index := Scalar.indexCast arg18
  let c24 : Index := 24#32
  let c0_877 : Index := 0#32
  let c0_878 : Index := 0#32
  ![v2112.toNat, 24, 0, 0]
def k0_off75 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2116 : Index := Scalar.indexCast arg18
  let c25 : Index := 25#32
  let c0_879 : Index := 0#32
  let c0_880 : Index := 0#32
  ![v2116.toNat, 25, 0, 0]
def k0_off76 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2120 : Index := Scalar.indexCast arg18
  let c26 : Index := 26#32
  let c0_881 : Index := 0#32
  let c0_882 : Index := 0#32
  ![v2120.toNat, 26, 0, 0]
def k0_off77 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2124 : Index := Scalar.indexCast arg18
  let c27 : Index := 27#32
  let c0_883 : Index := 0#32
  let c0_884 : Index := 0#32
  ![v2124.toNat, 27, 0, 0]
def k0_off78 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2128 : Index := Scalar.indexCast arg18
  let c28 : Index := 28#32
  let c0_885 : Index := 0#32
  let c0_886 : Index := 0#32
  ![v2128.toNat, 28, 0, 0]
def k0_off79 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2132 : Index := Scalar.indexCast arg18
  let c29 : Index := 29#32
  let c0_887 : Index := 0#32
  let c0_888 : Index := 0#32
  ![v2132.toNat, 29, 0, 0]
def k0_off80 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2136 : Index := Scalar.indexCast arg18
  let c30 : Index := 30#32
  let c0_889 : Index := 0#32
  let c0_890 : Index := 0#32
  ![v2136.toNat, 30, 0, 0]
def k0_off81 (i : grid0.Coords) (k0_t2 : Fin (k0_t2_loop i).trips) : Fin 4 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2140 : Index := Scalar.indexCast arg18
  let c31 : Index := 31#32
  let c0_891 : Index := 0#32
  let c0_892 : Index := 0#32
  ![v2140.toNat, 31, 0, 0]
def k0_off82 (i : grid0.Coords) (k0_t2 : Fin (k0_t2_loop i).trips) : Fin 3 → Nat :=
  let c0_i32_58 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_58
  let c1_i32_59 : BitVec 32 := 1#32
  let v328 : BitVec 32 := Scalar.divsi v326 c1_i32_59
  let v329 : BitVec 32 := Scalar.muli v328 c1_i32_59
  let v330 : BitVec 32 := Scalar.addi c0_i32_58 v329
  let c1_i32_61 : BitVec 32 := 1#32
  let arg18 : BitVec 32 := Scf.iv v330 c1_i32_61 k0_t2
  let v2148 : Index := Scalar.indexCast arg18
  let c0_894 : Index := 0#32
  let c0_895 : Index := 0#32
  ![v2148.toNat, 0, 0]
@[reducible] def k0_t3_loop (i : grid0.Coords) : Scf.Loop 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let c4_i32_71 : BitVec 32 := 4#32
  let v350 : BitVec 32 := Scalar.muli v349 c4_i32_71
  let v351 : BitVec 32 := Scalar.subi v350 v20
  let c1_i32_73 : BitVec 32 := 1#32
  let v353 : BitVec 32 := Scalar.divsi v351 c1_i32_73
  let v354 : BitVec 32 := Scalar.muli v353 c1_i32_73
  let v355 : BitVec 32 := Scalar.addi v20 v354
  let c1_i32_74 : BitVec 32 := 1#32
  ⟨v20, v355, c1_i32_74⟩
def k0_off83 (i : grid0.Coords) (k0_t3 : Fin (k0_t3_loop i).trips) : Fin 4 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_74 : BitVec 32 := 1#32
  let arg18 : BitVec 32 := Scf.iv v20 c1_i32_74 k0_t3
  let v601 : Index := Scalar.indexCast arg18
  let c0_233 : Index := 0#32
  let c0_234 : Index := 0#32
  let c0_235 : Index := 0#32
  ![v601.toNat, 0, 0, 0]
def k0_off84 (i : grid0.Coords) (k0_t3 : Fin (k0_t3_loop i).trips) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_74 : BitVec 32 := 1#32
  let arg18 : BitVec 32 := Scf.iv v20 c1_i32_74 k0_t3
  let v606 : Index := Scalar.indexCast arg18
  let c0_237 : Index := 0#32
  let c0_238 : Index := 0#32
  ![v606.toNat, 0, 0]
@[reducible] def k0_t4_loop (i : grid0.Coords) : Scf.Loop 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let c4_i32_71 : BitVec 32 := 4#32
  let v350 : BitVec 32 := Scalar.muli v349 c4_i32_71
  let v351 : BitVec 32 := Scalar.subi v350 v20
  let c1_i32_73 : BitVec 32 := 1#32
  let v353 : BitVec 32 := Scalar.divsi v351 c1_i32_73
  let v354 : BitVec 32 := Scalar.muli v353 c1_i32_73
  let v355 : BitVec 32 := Scalar.addi v20 v354
  let v352 : BitVec 32 := Scalar.addi v20 v351
  let c1_i32_75 : BitVec 32 := 1#32
  ⟨v355, v352, c1_i32_75⟩
def k0_off85 (i : grid0.Coords) (k0_t4 : Fin (k0_t4_loop i).trips) : Fin 4 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let c4_i32_71 : BitVec 32 := 4#32
  let v350 : BitVec 32 := Scalar.muli v349 c4_i32_71
  let v351 : BitVec 32 := Scalar.subi v350 v20
  let c1_i32_73 : BitVec 32 := 1#32
  let v353 : BitVec 32 := Scalar.divsi v351 c1_i32_73
  let v354 : BitVec 32 := Scalar.muli v353 c1_i32_73
  let v355 : BitVec 32 := Scalar.addi v20 v354
  let c1_i32_75 : BitVec 32 := 1#32
  let arg18 : BitVec 32 := Scf.iv v355 c1_i32_75 k0_t4
  let v601 : Index := Scalar.indexCast arg18
  let c0_233 : Index := 0#32
  let c0_234 : Index := 0#32
  let c0_235 : Index := 0#32
  ![v601.toNat, 0, 0, 0]
def k0_off86 (i : grid0.Coords) (k0_t4 : Fin (k0_t4_loop i).trips) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let c4_i32_71 : BitVec 32 := 4#32
  let v350 : BitVec 32 := Scalar.muli v349 c4_i32_71
  let v351 : BitVec 32 := Scalar.subi v350 v20
  let c1_i32_73 : BitVec 32 := 1#32
  let v353 : BitVec 32 := Scalar.divsi v351 c1_i32_73
  let v354 : BitVec 32 := Scalar.muli v353 c1_i32_73
  let v355 : BitVec 32 := Scalar.addi v20 v354
  let c1_i32_75 : BitVec 32 := 1#32
  let arg18 : BitVec 32 := Scf.iv v355 c1_i32_75 k0_t4
  let v606 : Index := Scalar.indexCast arg18
  let c0_237 : Index := 0#32
  let c0_238 : Index := 0#32
  ![v606.toNat, 0, 0]
@[reducible] def k0_t5_loop (i : grid0.Coords) : Scf.Loop 32 :=
  let c0_i32_77 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v357 : BitVec 32 := Scalar.subi v349 c0_i32_77
  let c1_i32_78 : BitVec 32 := 1#32
  let v359 : BitVec 32 := Scalar.divsi v357 c1_i32_78
  let v360 : BitVec 32 := Scalar.muli v359 c1_i32_78
  let v361 : BitVec 32 := Scalar.addi c0_i32_77 v360
  let c1_i32_79 : BitVec 32 := 1#32
  ⟨c0_i32_77, v361, c1_i32_79⟩
def k0_off87 (i : grid0.Coords) (k0_t5 : Fin (k0_t5_loop i).trips) (c0_i32_233 : BitVec 32) : Fin 3 → Nat :=
  let c0_i32_77 : BitVec 32 := 0#32
  let c1_i32_79 : BitVec 32 := 1#32
  let arg18 : BitVec 32 := Scf.iv c0_i32_77 c1_i32_79 k0_t5
  let c4_i32_232 : BitVec 32 := 4#32
  let v600 : BitVec 32 := Scalar.muli arg18 c4_i32_232
  let v601 : BitVec 32 := Scalar.addi v600 c0_i32_233
  let v602 : Index := Scalar.indexCast v601
  let c0_234 : Index := 0#32
  let c0_235 : Index := 0#32
  ![v602.toNat, 0, 0]
def k0_off88 (i : grid0.Coords) (k0_t5 : Fin (k0_t5_loop i).trips) (c0_i32_233 : BitVec 32) : Fin 4 → Nat :=
  let c0_i32_77 : BitVec 32 := 0#32
  let c1_i32_79 : BitVec 32 := 1#32
  let arg18 : BitVec 32 := Scf.iv c0_i32_77 c1_i32_79 k0_t5
  let c4_i32_232 : BitVec 32 := 4#32
  let v600 : BitVec 32 := Scalar.muli arg18 c4_i32_232
  let v601 : BitVec 32 := Scalar.addi v600 c0_i32_233
  let v609 : Index := Scalar.indexCast v601
  let c0_238 : Index := 0#32
  let c0_239 : Index := 0#32
  let c0_240 : Index := 0#32
  ![v609.toNat, 0, 0, 0]
@[reducible] def k0_t6_loop (i : grid0.Coords) : Scf.Loop 32 :=
  let c0_i32_77 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v357 : BitVec 32 := Scalar.subi v349 c0_i32_77
  let c1_i32_78 : BitVec 32 := 1#32
  let v359 : BitVec 32 := Scalar.divsi v357 c1_i32_78
  let v360 : BitVec 32 := Scalar.muli v359 c1_i32_78
  let v361 : BitVec 32 := Scalar.addi c0_i32_77 v360
  let v358 : BitVec 32 := Scalar.addi c0_i32_77 v357
  let c1_i32_80 : BitVec 32 := 1#32
  ⟨v361, v358, c1_i32_80⟩
def k0_off89 (i : grid0.Coords) (k0_t6 : Fin (k0_t6_loop i).trips) (c0_i32_233 : BitVec 32) : Fin 3 → Nat :=
  let c0_i32_77 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v357 : BitVec 32 := Scalar.subi v349 c0_i32_77
  let c1_i32_78 : BitVec 32 := 1#32
  let v359 : BitVec 32 := Scalar.divsi v357 c1_i32_78
  let v360 : BitVec 32 := Scalar.muli v359 c1_i32_78
  let v361 : BitVec 32 := Scalar.addi c0_i32_77 v360
  let c1_i32_80 : BitVec 32 := 1#32
  let arg18 : BitVec 32 := Scf.iv v361 c1_i32_80 k0_t6
  let c4_i32_232 : BitVec 32 := 4#32
  let v600 : BitVec 32 := Scalar.muli arg18 c4_i32_232
  let v601 : BitVec 32 := Scalar.addi v600 c0_i32_233
  let v602 : Index := Scalar.indexCast v601
  let c0_234 : Index := 0#32
  let c0_235 : Index := 0#32
  ![v602.toNat, 0, 0]
def k0_off90 (i : grid0.Coords) (k0_t6 : Fin (k0_t6_loop i).trips) (c0_i32_233 : BitVec 32) : Fin 4 → Nat :=
  let c0_i32_77 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v357 : BitVec 32 := Scalar.subi v349 c0_i32_77
  let c1_i32_78 : BitVec 32 := 1#32
  let v359 : BitVec 32 := Scalar.divsi v357 c1_i32_78
  let v360 : BitVec 32 := Scalar.muli v359 c1_i32_78
  let v361 : BitVec 32 := Scalar.addi c0_i32_77 v360
  let c1_i32_80 : BitVec 32 := 1#32
  let arg18 : BitVec 32 := Scf.iv v361 c1_i32_80 k0_t6
  let c4_i32_232 : BitVec 32 := 4#32
  let v600 : BitVec 32 := Scalar.muli arg18 c4_i32_232
  let v601 : BitVec 32 := Scalar.addi v600 c0_i32_233
  let v609 : Index := Scalar.indexCast v601
  let c0_238 : Index := 0#32
  let c0_239 : Index := 0#32
  let c0_240 : Index := 0#32
  ![v609.toNat, 0, 0, 0]
@[reducible] def k0_t7_loop : Scf.Loop 32 :=
  let c1_i32_85 : BitVec 32 := 1#32
  let c31_i32_86 : BitVec 32 := 31#32
  let v377 : BitVec 32 := Scalar.addi c1_i32_85 c31_i32_86
  let c1_i32_87 : BitVec 32 := 1#32
  ⟨c1_i32_85, v377, c1_i32_87⟩
@[reducible] def k0_t8_loop (i : grid0.Coords) : Scf.Loop 32 :=
  let c0_i32_233 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v602 : BitVec 32 := Scalar.subi v349 c0_i32_233
  let c1_i32_234 : BitVec 32 := 1#32
  let v604 : BitVec 32 := Scalar.divsi v602 c1_i32_234
  let v605 : BitVec 32 := Scalar.muli v604 c1_i32_234
  let v606 : BitVec 32 := Scalar.addi c0_i32_233 v605
  let c1_i32_235 : BitVec 32 := 1#32
  ⟨c0_i32_233, v606, c1_i32_235⟩
def k0_off91 (i : grid0.Coords) (k0_t8 : Fin (k0_t8_loop i).trips) (c0_i32_241 : BitVec 32) : Fin 3 → Nat :=
  let c0_i32_233 : BitVec 32 := 0#32
  let c1_i32_235 : BitVec 32 := 1#32
  let arg22 : BitVec 32 := Scf.iv c0_i32_233 c1_i32_235 k0_t8
  let c4_i32_240 : BitVec 32 := 4#32
  let v621 : BitVec 32 := Scalar.muli arg22 c4_i32_240
  let v622 : BitVec 32 := Scalar.addi v621 c0_i32_241
  let v623 : Index := Scalar.indexCast v622
  let c0_242 : Index := 0#32
  let c0_243 : Index := 0#32
  ![v623.toNat, 0, 0]
def k0_off92 (i : grid0.Coords) (k0_t7 : Fin k0_t7_loop.trips) (k0_t8 : Fin (k0_t8_loop i).trips) (c0_i32_241 : BitVec 32) : Fin 4 → Nat :=
  let c0_i32_233 : BitVec 32 := 0#32
  let c1_i32_235 : BitVec 32 := 1#32
  let arg22 : BitVec 32 := Scf.iv c0_i32_233 c1_i32_235 k0_t8
  let c4_i32_240 : BitVec 32 := 4#32
  let v621 : BitVec 32 := Scalar.muli arg22 c4_i32_240
  let v622 : BitVec 32 := Scalar.addi v621 c0_i32_241
  let v627 : Index := Scalar.indexCast v622
  let c1_i32_85 : BitVec 32 := 1#32
  let c1_i32_87 : BitVec 32 := 1#32
  let arg18 : BitVec 32 := Scf.iv c1_i32_85 c1_i32_87 k0_t7
  let c1_i32_244 : BitVec 32 := 1#32
  let v626 : BitVec 32 := Scalar.subi arg18 c1_i32_244
  let v628 : Index := Scalar.indexCast v626
  let c0_245 : Index := 0#32
  let c0_246 : Index := 0#32
  ![v627.toNat, v628.toNat, 0, 0]
def k0_off93 (i : grid0.Coords) (k0_t7 : Fin k0_t7_loop.trips) (k0_t8 : Fin (k0_t8_loop i).trips) (c0_i32_241 : BitVec 32) : Fin 4 → Nat :=
  let c0_i32_233 : BitVec 32 := 0#32
  let c1_i32_235 : BitVec 32 := 1#32
  let arg22 : BitVec 32 := Scf.iv c0_i32_233 c1_i32_235 k0_t8
  let c4_i32_240 : BitVec 32 := 4#32
  let v621 : BitVec 32 := Scalar.muli arg22 c4_i32_240
  let v622 : BitVec 32 := Scalar.addi v621 c0_i32_241
  let v641 : Index := Scalar.indexCast v622
  let c1_i32_85 : BitVec 32 := 1#32
  let c1_i32_87 : BitVec 32 := 1#32
  let arg18 : BitVec 32 := Scf.iv c1_i32_85 c1_i32_87 k0_t7
  let v642 : Index := Scalar.indexCast arg18
  let c0_250 : Index := 0#32
  let c0_251 : Index := 0#32
  ![v641.toNat, v642.toNat, 0, 0]
@[reducible] def k0_t9_loop (i : grid0.Coords) : Scf.Loop 32 :=
  let c0_i32_233 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v602 : BitVec 32 := Scalar.subi v349 c0_i32_233
  let c1_i32_234 : BitVec 32 := 1#32
  let v604 : BitVec 32 := Scalar.divsi v602 c1_i32_234
  let v605 : BitVec 32 := Scalar.muli v604 c1_i32_234
  let v606 : BitVec 32 := Scalar.addi c0_i32_233 v605
  let v603 : BitVec 32 := Scalar.addi c0_i32_233 v602
  let c1_i32_236 : BitVec 32 := 1#32
  ⟨v606, v603, c1_i32_236⟩
def k0_off94 (i : grid0.Coords) (k0_t9 : Fin (k0_t9_loop i).trips) (c0_i32_241 : BitVec 32) : Fin 3 → Nat :=
  let c0_i32_233 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v602 : BitVec 32 := Scalar.subi v349 c0_i32_233
  let c1_i32_234 : BitVec 32 := 1#32
  let v604 : BitVec 32 := Scalar.divsi v602 c1_i32_234
  let v605 : BitVec 32 := Scalar.muli v604 c1_i32_234
  let v606 : BitVec 32 := Scalar.addi c0_i32_233 v605
  let c1_i32_236 : BitVec 32 := 1#32
  let arg22 : BitVec 32 := Scf.iv v606 c1_i32_236 k0_t9
  let c4_i32_240 : BitVec 32 := 4#32
  let v621 : BitVec 32 := Scalar.muli arg22 c4_i32_240
  let v622 : BitVec 32 := Scalar.addi v621 c0_i32_241
  let v623 : Index := Scalar.indexCast v622
  let c0_242 : Index := 0#32
  let c0_243 : Index := 0#32
  ![v623.toNat, 0, 0]
def k0_off95 (i : grid0.Coords) (k0_t7 : Fin k0_t7_loop.trips) (k0_t9 : Fin (k0_t9_loop i).trips) (c0_i32_241 : BitVec 32) : Fin 4 → Nat :=
  let c0_i32_233 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v602 : BitVec 32 := Scalar.subi v349 c0_i32_233
  let c1_i32_234 : BitVec 32 := 1#32
  let v604 : BitVec 32 := Scalar.divsi v602 c1_i32_234
  let v605 : BitVec 32 := Scalar.muli v604 c1_i32_234
  let v606 : BitVec 32 := Scalar.addi c0_i32_233 v605
  let c1_i32_236 : BitVec 32 := 1#32
  let arg22 : BitVec 32 := Scf.iv v606 c1_i32_236 k0_t9
  let c4_i32_240 : BitVec 32 := 4#32
  let v621 : BitVec 32 := Scalar.muli arg22 c4_i32_240
  let v622 : BitVec 32 := Scalar.addi v621 c0_i32_241
  let v627 : Index := Scalar.indexCast v622
  let c1_i32_85 : BitVec 32 := 1#32
  let c1_i32_87 : BitVec 32 := 1#32
  let arg18 : BitVec 32 := Scf.iv c1_i32_85 c1_i32_87 k0_t7
  let c1_i32_244 : BitVec 32 := 1#32
  let v626 : BitVec 32 := Scalar.subi arg18 c1_i32_244
  let v628 : Index := Scalar.indexCast v626
  let c0_245 : Index := 0#32
  let c0_246 : Index := 0#32
  ![v627.toNat, v628.toNat, 0, 0]
def k0_off96 (i : grid0.Coords) (k0_t7 : Fin k0_t7_loop.trips) (k0_t9 : Fin (k0_t9_loop i).trips) (c0_i32_241 : BitVec 32) : Fin 4 → Nat :=
  let c0_i32_233 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v602 : BitVec 32 := Scalar.subi v349 c0_i32_233
  let c1_i32_234 : BitVec 32 := 1#32
  let v604 : BitVec 32 := Scalar.divsi v602 c1_i32_234
  let v605 : BitVec 32 := Scalar.muli v604 c1_i32_234
  let v606 : BitVec 32 := Scalar.addi c0_i32_233 v605
  let c1_i32_236 : BitVec 32 := 1#32
  let arg22 : BitVec 32 := Scf.iv v606 c1_i32_236 k0_t9
  let c4_i32_240 : BitVec 32 := 4#32
  let v621 : BitVec 32 := Scalar.muli arg22 c4_i32_240
  let v622 : BitVec 32 := Scalar.addi v621 c0_i32_241
  let v641 : Index := Scalar.indexCast v622
  let c1_i32_85 : BitVec 32 := 1#32
  let c1_i32_87 : BitVec 32 := 1#32
  let arg18 : BitVec 32 := Scf.iv c1_i32_85 c1_i32_87 k0_t7
  let v642 : Index := Scalar.indexCast arg18
  let c0_250 : Index := 0#32
  let c0_251 : Index := 0#32
  ![v641.toNat, v642.toNat, 0, 0]
@[reducible] def k0_t10_loop (i : grid0.Coords) : Scf.Loop 32 :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v398 : BitVec 32 := Scalar.subi v349 c0_i32_96
  let c1_i32_97 : BitVec 32 := 1#32
  let v400 : BitVec 32 := Scalar.divsi v398 c1_i32_97
  let v401 : BitVec 32 := Scalar.muli v400 c1_i32_97
  let v402 : BitVec 32 := Scalar.addi c0_i32_96 v401
  let c1_i32_98 : BitVec 32 := 1#32
  ⟨c0_i32_96, v402, c1_i32_98⟩
def k0_off97 (i : grid0.Coords) (k0_t10 : Fin (k0_t10_loop i).trips) (c0_i32_233 : BitVec 32) : Fin 3 → Nat :=
  let c0_i32_96 : BitVec 32 := 0#32
  let c1_i32_98 : BitVec 32 := 1#32
  let arg18 : BitVec 32 := Scf.iv c0_i32_96 c1_i32_98 k0_t10
  let c4_i32_232 : BitVec 32 := 4#32
  let v600 : BitVec 32 := Scalar.muli arg18 c4_i32_232
  let v601 : BitVec 32 := Scalar.addi v600 c0_i32_233
  let v602 : Index := Scalar.indexCast v601
  let c0_234 : Index := 0#32
  let c0_235 : Index := 0#32
  ![v602.toNat, 0, 0]
@[reducible] def k0_t11_loop (i : grid0.Coords) : Scf.Loop 32 :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v398 : BitVec 32 := Scalar.subi v349 c0_i32_96
  let c1_i32_97 : BitVec 32 := 1#32
  let v400 : BitVec 32 := Scalar.divsi v398 c1_i32_97
  let v401 : BitVec 32 := Scalar.muli v400 c1_i32_97
  let v402 : BitVec 32 := Scalar.addi c0_i32_96 v401
  let v399 : BitVec 32 := Scalar.addi c0_i32_96 v398
  let c1_i32_99 : BitVec 32 := 1#32
  ⟨v402, v399, c1_i32_99⟩
def k0_off98 (i : grid0.Coords) (k0_t11 : Fin (k0_t11_loop i).trips) (c0_i32_233 : BitVec 32) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v398 : BitVec 32 := Scalar.subi v349 c0_i32_96
  let c1_i32_97 : BitVec 32 := 1#32
  let v400 : BitVec 32 := Scalar.divsi v398 c1_i32_97
  let v401 : BitVec 32 := Scalar.muli v400 c1_i32_97
  let v402 : BitVec 32 := Scalar.addi c0_i32_96 v401
  let c1_i32_99 : BitVec 32 := 1#32
  let arg18 : BitVec 32 := Scf.iv v402 c1_i32_99 k0_t11
  let c4_i32_232 : BitVec 32 := 4#32
  let v600 : BitVec 32 := Scalar.muli arg18 c4_i32_232
  let v601 : BitVec 32 := Scalar.addi v600 c0_i32_233
  let v602 : Index := Scalar.indexCast v601
  let c0_234 : Index := 0#32
  let c0_235 : Index := 0#32
  ![v602.toNat, 0, 0]
@[reducible] def k0_t12_loop (i : grid0.Coords) : Scf.Loop 32 :=
  let c0_i32_234 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v605 : BitVec 32 := Scalar.subi v349 c0_i32_234
  let c1_i32_235 : BitVec 32 := 1#32
  let v607 : BitVec 32 := Scalar.divsi v605 c1_i32_235
  let v608 : BitVec 32 := Scalar.muli v607 c1_i32_235
  let v609 : BitVec 32 := Scalar.addi c0_i32_234 v608
  let c1_i32_236 : BitVec 32 := 1#32
  ⟨c0_i32_234, v609, c1_i32_236⟩
def k0_off99 (i : grid0.Coords) (k0_t12 : Fin (k0_t12_loop i).trips) (c0_i32_259 : BitVec 32) : Fin 3 → Nat :=
  let c0_i32_234 : BitVec 32 := 0#32
  let c1_i32_236 : BitVec 32 := 1#32
  let arg23 : BitVec 32 := Scf.iv c0_i32_234 c1_i32_236 k0_t12
  let c4_i32_258 : BitVec 32 := 4#32
  let v654 : BitVec 32 := Scalar.muli arg23 c4_i32_258
  let v655 : BitVec 32 := Scalar.addi v654 c0_i32_259
  let v656 : Index := Scalar.indexCast v655
  let c0_260 : Index := 0#32
  let c0_261 : Index := 0#32
  ![v656.toNat, 0, 0]
@[reducible] def k0_t13_loop (i : grid0.Coords) : Scf.Loop 32 :=
  let c0_i32_234 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v605 : BitVec 32 := Scalar.subi v349 c0_i32_234
  let c1_i32_235 : BitVec 32 := 1#32
  let v607 : BitVec 32 := Scalar.divsi v605 c1_i32_235
  let v608 : BitVec 32 := Scalar.muli v607 c1_i32_235
  let v609 : BitVec 32 := Scalar.addi c0_i32_234 v608
  let v606 : BitVec 32 := Scalar.addi c0_i32_234 v605
  let c1_i32_237 : BitVec 32 := 1#32
  ⟨v609, v606, c1_i32_237⟩
def k0_off100 (i : grid0.Coords) (k0_t13 : Fin (k0_t13_loop i).trips) (c0_i32_259 : BitVec 32) : Fin 3 → Nat :=
  let c0_i32_234 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v605 : BitVec 32 := Scalar.subi v349 c0_i32_234
  let c1_i32_235 : BitVec 32 := 1#32
  let v607 : BitVec 32 := Scalar.divsi v605 c1_i32_235
  let v608 : BitVec 32 := Scalar.muli v607 c1_i32_235
  let v609 : BitVec 32 := Scalar.addi c0_i32_234 v608
  let c1_i32_237 : BitVec 32 := 1#32
  let arg23 : BitVec 32 := Scf.iv v609 c1_i32_237 k0_t13
  let c4_i32_258 : BitVec 32 := 4#32
  let v654 : BitVec 32 := Scalar.muli arg23 c4_i32_258
  let v655 : BitVec 32 := Scalar.addi v654 c0_i32_259
  let v656 : Index := Scalar.indexCast v655
  let c0_260 : Index := 0#32
  let c0_261 : Index := 0#32
  ![v656.toNat, 0, 0]
@[reducible] def k0_t14_loop (i : grid0.Coords) : Scf.Loop 32 :=
  let c0_i32_244 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v627 : BitVec 32 := Scalar.subi v349 c0_i32_244
  let c1_i32_245 : BitVec 32 := 1#32
  let v629 : BitVec 32 := Scalar.divsi v627 c1_i32_245
  let v630 : BitVec 32 := Scalar.muli v629 c1_i32_245
  let v631 : BitVec 32 := Scalar.addi c0_i32_244 v630
  let c1_i32_246 : BitVec 32 := 1#32
  ⟨c0_i32_244, v631, c1_i32_246⟩
def k0_off101 (i : grid0.Coords) (k0_t14 : Fin (k0_t14_loop i).trips) (c0_i32_259 : BitVec 32) : Fin 3 → Nat :=
  let c0_i32_244 : BitVec 32 := 0#32
  let c1_i32_246 : BitVec 32 := 1#32
  let arg23 : BitVec 32 := Scf.iv c0_i32_244 c1_i32_246 k0_t14
  let c4_i32_258 : BitVec 32 := 4#32
  let v654 : BitVec 32 := Scalar.muli arg23 c4_i32_258
  let v655 : BitVec 32 := Scalar.addi v654 c0_i32_259
  let v656 : Index := Scalar.indexCast v655
  let c0_260 : Index := 0#32
  let c0_261 : Index := 0#32
  ![v656.toNat, 0, 0]
@[reducible] def k0_t15_loop (i : grid0.Coords) : Scf.Loop 32 :=
  let c0_i32_244 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v627 : BitVec 32 := Scalar.subi v349 c0_i32_244
  let c1_i32_245 : BitVec 32 := 1#32
  let v629 : BitVec 32 := Scalar.divsi v627 c1_i32_245
  let v630 : BitVec 32 := Scalar.muli v629 c1_i32_245
  let v631 : BitVec 32 := Scalar.addi c0_i32_244 v630
  let v628 : BitVec 32 := Scalar.addi c0_i32_244 v627
  let c1_i32_247 : BitVec 32 := 1#32
  ⟨v631, v628, c1_i32_247⟩
def k0_off102 (i : grid0.Coords) (k0_t15 : Fin (k0_t15_loop i).trips) (c0_i32_259 : BitVec 32) : Fin 3 → Nat :=
  let c0_i32_244 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c4_i32_62 : BitVec 32 := 4#32
  let v331 : BitVec 32 := Scalar.addi v20 c4_i32_62
  let c1_i32_63 : BitVec 32 := 1#32
  let v332 : BitVec 32 := Scalar.subi v331 c1_i32_63
  let c0_i32_65 : BitVec 32 := 0#32
  let v334 : BitVec 1 := Scalar.cmpi .sgt v332 c0_i32_65
  let v335 : BitVec 32 := Scalar.extui v334
  let c0_i32_66 : BitVec 32 := 0#32
  let v336 : BitVec 1 := Scalar.cmpi .slt v332 c0_i32_66
  let v337 : BitVec 32 := Scalar.extui v336
  let v338 : BitVec 32 := Scalar.subi v335 v337
  let c4_i32_64 : BitVec 32 := 4#32
  let c0_i32_67 : BitVec 32 := 0#32
  let v339 : BitVec 1 := Scalar.cmpi .sgt c4_i32_64 c0_i32_67
  let v340 : BitVec 32 := Scalar.extui v339
  let c0_i32_68 : BitVec 32 := 0#32
  let v341 : BitVec 1 := Scalar.cmpi .slt c4_i32_64 c0_i32_68
  let v342 : BitVec 32 := Scalar.extui v341
  let v343 : BitVec 32 := Scalar.subi v340 v342
  let v344 : BitVec 1 := Scalar.cmpi .ne v338 v343
  let v345 : BitVec 32 := Scalar.remsi v332 c4_i32_64
  let c0_i32_69 : BitVec 32 := 0#32
  let v346 : BitVec 1 := Scalar.cmpi .ne v345 c0_i32_69
  let v347 : BitVec 1 := Scalar.andi v344 v346
  let v333 : BitVec 32 := Scalar.divsi v332 c4_i32_64
  let c1_i32_70 : BitVec 32 := 1#32
  let v348 : BitVec 32 := Scalar.subi v333 c1_i32_70
  let v349 : BitVec 32 := Scalar.select v347 v348 v333
  let v627 : BitVec 32 := Scalar.subi v349 c0_i32_244
  let c1_i32_245 : BitVec 32 := 1#32
  let v629 : BitVec 32 := Scalar.divsi v627 c1_i32_245
  let v630 : BitVec 32 := Scalar.muli v629 c1_i32_245
  let v631 : BitVec 32 := Scalar.addi c0_i32_244 v630
  let c1_i32_247 : BitVec 32 := 1#32
  let arg23 : BitVec 32 := Scf.iv v631 c1_i32_247 k0_t15
  let c4_i32_258 : BitVec 32 := 4#32
  let v654 : BitVec 32 := Scalar.muli arg23 c4_i32_258
  let v655 : BitVec 32 := Scalar.addi v654 c0_i32_259
  let v656 : Index := Scalar.indexCast v655
  let c0_260 : Index := 0#32
  let c0_261 : Index := 0#32
  ![v656.toNat, 0, 0]
@[reducible] def k0_t16_loop (i : grid0.Coords) : Scf.Loop 32 :=
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_196 : BitVec 32 := 1#32
  ⟨c0_i32_194, v543, c1_i32_196⟩
def k0_off103 (i : grid0.Coords) (k0_t16 : Fin (k0_t16_loop i).trips) : Fin 3 → Nat :=
  let c2_i32_234 : BitVec 32 := 2#32
  let c0_i32_194 : BitVec 32 := 0#32
  let c1_i32_196 : BitVec 32 := 1#32
  let arg18 : BitVec 32 := Scf.iv c0_i32_194 c1_i32_196 k0_t16
  let v602 : BitVec 32 := Scalar.muli c2_i32_234 arg18
  let c1_i32_235 : BitVec 32 := 1#32
  let v603 : BitVec 32 := Scalar.addi v602 c1_i32_235
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_236 : BitVec 32 := 1#32
  let v604 : BitVec 32 := Scalar.subi v20 c1_i32_236
  let v605 : BitVec 32 := Scalar.minsi v603 v604
  let v606 : Index := Scalar.indexCast v605
  let c0_237 : Index := 0#32
  let c0_238 : Index := 0#32
  ![v606.toNat, 0, 0]
def k0_off104 (i : grid0.Coords) (k0_t16 : Fin (k0_t16_loop i).trips) : Fin 4 → Nat :=
  let c0_244 : Index := 0#32
  let c2_i32_234 : BitVec 32 := 2#32
  let c0_i32_194 : BitVec 32 := 0#32
  let c1_i32_196 : BitVec 32 := 1#32
  let arg18 : BitVec 32 := Scf.iv c0_i32_194 c1_i32_196 k0_t16
  let v602 : BitVec 32 := Scalar.muli c2_i32_234 arg18
  let c1_i32_235 : BitVec 32 := 1#32
  let v603 : BitVec 32 := Scalar.addi v602 c1_i32_235
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_236 : BitVec 32 := 1#32
  let v604 : BitVec 32 := Scalar.subi v20 c1_i32_236
  let v605 : BitVec 32 := Scalar.minsi v603 v604
  let v620 : Index := Scalar.indexCast v605
  let c0_245 : Index := 0#32
  let c0_246 : Index := 0#32
  ![0, v620.toNat, 0, 0]
def k0_off105 (i : grid0.Coords) (k0_t16 : Fin (k0_t16_loop i).trips) : Fin 4 → Nat :=
  let c0_286 : Index := 0#32
  let c2_i32_234 : BitVec 32 := 2#32
  let c0_i32_194 : BitVec 32 := 0#32
  let c1_i32_196 : BitVec 32 := 1#32
  let arg18 : BitVec 32 := Scf.iv c0_i32_194 c1_i32_196 k0_t16
  let v602 : BitVec 32 := Scalar.muli c2_i32_234 arg18
  let v673 : Index := Scalar.indexCast v602
  let c0_287 : Index := 0#32
  let c0_288 : Index := 0#32
  ![0, v673.toNat, 0, 0]
def k0_off106 (i : grid0.Coords) (k0_t16 : Fin (k0_t16_loop i).trips) : Fin 3 → Nat :=
  let c2_i32_232 : BitVec 32 := 2#32
  let c0_i32_194 : BitVec 32 := 0#32
  let c1_i32_196 : BitVec 32 := 1#32
  let arg18 : BitVec 32 := Scf.iv c0_i32_194 c1_i32_196 k0_t16
  let v600 : BitVec 32 := Scalar.muli c2_i32_232 arg18
  let c1_i32_233 : BitVec 32 := 1#32
  let v601 : BitVec 32 := Scalar.addi v600 c1_i32_233
  let c1_i32_455 : BitVec 32 := 1#32
  let v976 : BitVec 32 := Scalar.addi v601 c1_i32_455
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_456 : BitVec 32 := 1#32
  let v977 : BitVec 32 := Scalar.subi v20 c1_i32_456
  let v978 : BitVec 32 := Scalar.minsi v976 v977
  let v979 : Index := Scalar.indexCast v978
  let c0_457 : Index := 0#32
  let c0_458 : Index := 0#32
  ![v979.toNat, 0, 0]
def k0_off107 (i : grid0.Coords) (k0_t16 : Fin (k0_t16_loop i).trips) : Fin 4 → Nat :=
  let c0_464 : Index := 0#32
  let c2_i32_232 : BitVec 32 := 2#32
  let c0_i32_194 : BitVec 32 := 0#32
  let c1_i32_196 : BitVec 32 := 1#32
  let arg18 : BitVec 32 := Scf.iv c0_i32_194 c1_i32_196 k0_t16
  let v600 : BitVec 32 := Scalar.muli c2_i32_232 arg18
  let c1_i32_233 : BitVec 32 := 1#32
  let v601 : BitVec 32 := Scalar.addi v600 c1_i32_233
  let c1_i32_455 : BitVec 32 := 1#32
  let v976 : BitVec 32 := Scalar.addi v601 c1_i32_455
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_456 : BitVec 32 := 1#32
  let v977 : BitVec 32 := Scalar.subi v20 c1_i32_456
  let v978 : BitVec 32 := Scalar.minsi v976 v977
  let v993 : Index := Scalar.indexCast v978
  let c0_465 : Index := 0#32
  let c0_466 : Index := 0#32
  ![0, v993.toNat, 0, 0]
def k0_off108 (i : grid0.Coords) (k0_t16 : Fin (k0_t16_loop i).trips) : Fin 4 → Nat :=
  let c0_506 : Index := 0#32
  let c2_i32_232 : BitVec 32 := 2#32
  let c0_i32_194 : BitVec 32 := 0#32
  let c1_i32_196 : BitVec 32 := 1#32
  let arg18 : BitVec 32 := Scf.iv c0_i32_194 c1_i32_196 k0_t16
  let v600 : BitVec 32 := Scalar.muli c2_i32_232 arg18
  let c1_i32_233 : BitVec 32 := 1#32
  let v601 : BitVec 32 := Scalar.addi v600 c1_i32_233
  let v1046 : Index := Scalar.indexCast v601
  let c0_507 : Index := 0#32
  let c0_508 : Index := 0#32
  ![0, v1046.toNat, 0, 0]
@[reducible] def k0_t17_loop (i : grid0.Coords) : Scf.Loop 32 :=
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let v540 : BitVec 32 := Scalar.addi c0_i32_194 v539
  let c1_i32_197 : BitVec 32 := 1#32
  ⟨v543, v540, c1_i32_197⟩
def k0_off109 (i : grid0.Coords) (k0_t17 : Fin (k0_t17_loop i).trips) : Fin 3 → Nat :=
  let c2_i32_234 : BitVec 32 := 2#32
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_197 : BitVec 32 := 1#32
  let arg18 : BitVec 32 := Scf.iv v543 c1_i32_197 k0_t17
  let v602 : BitVec 32 := Scalar.muli c2_i32_234 arg18
  let c1_i32_235 : BitVec 32 := 1#32
  let v603 : BitVec 32 := Scalar.addi v602 c1_i32_235
  let c1_i32_236 : BitVec 32 := 1#32
  let v604 : BitVec 32 := Scalar.subi v20 c1_i32_236
  let v605 : BitVec 32 := Scalar.minsi v603 v604
  let v606 : Index := Scalar.indexCast v605
  let c0_237 : Index := 0#32
  let c0_238 : Index := 0#32
  ![v606.toNat, 0, 0]
def k0_off110 (i : grid0.Coords) (k0_t17 : Fin (k0_t17_loop i).trips) : Fin 4 → Nat :=
  let c0_244 : Index := 0#32
  let c2_i32_234 : BitVec 32 := 2#32
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_197 : BitVec 32 := 1#32
  let arg18 : BitVec 32 := Scf.iv v543 c1_i32_197 k0_t17
  let v602 : BitVec 32 := Scalar.muli c2_i32_234 arg18
  let c1_i32_235 : BitVec 32 := 1#32
  let v603 : BitVec 32 := Scalar.addi v602 c1_i32_235
  let c1_i32_236 : BitVec 32 := 1#32
  let v604 : BitVec 32 := Scalar.subi v20 c1_i32_236
  let v605 : BitVec 32 := Scalar.minsi v603 v604
  let v620 : Index := Scalar.indexCast v605
  let c0_245 : Index := 0#32
  let c0_246 : Index := 0#32
  ![0, v620.toNat, 0, 0]
def k0_off111 (i : grid0.Coords) (k0_t17 : Fin (k0_t17_loop i).trips) : Fin 4 → Nat :=
  let c0_286 : Index := 0#32
  let c2_i32_234 : BitVec 32 := 2#32
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_197 : BitVec 32 := 1#32
  let arg18 : BitVec 32 := Scf.iv v543 c1_i32_197 k0_t17
  let v602 : BitVec 32 := Scalar.muli c2_i32_234 arg18
  let v673 : Index := Scalar.indexCast v602
  let c0_287 : Index := 0#32
  let c0_288 : Index := 0#32
  ![0, v673.toNat, 0, 0]
def k0_off112 (i : grid0.Coords) (k0_t17 : Fin (k0_t17_loop i).trips) : Fin 3 → Nat :=
  let c2_i32_232 : BitVec 32 := 2#32
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_197 : BitVec 32 := 1#32
  let arg18 : BitVec 32 := Scf.iv v543 c1_i32_197 k0_t17
  let v600 : BitVec 32 := Scalar.muli c2_i32_232 arg18
  let c1_i32_233 : BitVec 32 := 1#32
  let v601 : BitVec 32 := Scalar.addi v600 c1_i32_233
  let c1_i32_455 : BitVec 32 := 1#32
  let v976 : BitVec 32 := Scalar.addi v601 c1_i32_455
  let c1_i32_456 : BitVec 32 := 1#32
  let v977 : BitVec 32 := Scalar.subi v20 c1_i32_456
  let v978 : BitVec 32 := Scalar.minsi v976 v977
  let v979 : Index := Scalar.indexCast v978
  let c0_457 : Index := 0#32
  let c0_458 : Index := 0#32
  ![v979.toNat, 0, 0]
def k0_off113 (i : grid0.Coords) (k0_t17 : Fin (k0_t17_loop i).trips) : Fin 4 → Nat :=
  let c0_464 : Index := 0#32
  let c2_i32_232 : BitVec 32 := 2#32
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_197 : BitVec 32 := 1#32
  let arg18 : BitVec 32 := Scf.iv v543 c1_i32_197 k0_t17
  let v600 : BitVec 32 := Scalar.muli c2_i32_232 arg18
  let c1_i32_233 : BitVec 32 := 1#32
  let v601 : BitVec 32 := Scalar.addi v600 c1_i32_233
  let c1_i32_455 : BitVec 32 := 1#32
  let v976 : BitVec 32 := Scalar.addi v601 c1_i32_455
  let c1_i32_456 : BitVec 32 := 1#32
  let v977 : BitVec 32 := Scalar.subi v20 c1_i32_456
  let v978 : BitVec 32 := Scalar.minsi v976 v977
  let v993 : Index := Scalar.indexCast v978
  let c0_465 : Index := 0#32
  let c0_466 : Index := 0#32
  ![0, v993.toNat, 0, 0]
def k0_off114 (i : grid0.Coords) (k0_t17 : Fin (k0_t17_loop i).trips) : Fin 4 → Nat :=
  let c0_506 : Index := 0#32
  let c2_i32_232 : BitVec 32 := 2#32
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_188 : BitVec 32 := 0#32
  let v523 : BitVec 1 := Scalar.cmpi .sgt v20 c0_i32_188
  let v524 : BitVec 32 := Scalar.extui v523
  let c0_i32_189 : BitVec 32 := 0#32
  let v525 : BitVec 1 := Scalar.cmpi .slt v20 c0_i32_189
  let v526 : BitVec 32 := Scalar.extui v525
  let v527 : BitVec 32 := Scalar.subi v524 v526
  let c2_i32_187 : BitVec 32 := 2#32
  let c0_i32_190 : BitVec 32 := 0#32
  let v528 : BitVec 1 := Scalar.cmpi .sgt c2_i32_187 c0_i32_190
  let v529 : BitVec 32 := Scalar.extui v528
  let c0_i32_191 : BitVec 32 := 0#32
  let v530 : BitVec 1 := Scalar.cmpi .slt c2_i32_187 c0_i32_191
  let v531 : BitVec 32 := Scalar.extui v530
  let v532 : BitVec 32 := Scalar.subi v529 v531
  let v533 : BitVec 1 := Scalar.cmpi .ne v527 v532
  let v534 : BitVec 32 := Scalar.remsi v20 c2_i32_187
  let c0_i32_192 : BitVec 32 := 0#32
  let v535 : BitVec 1 := Scalar.cmpi .ne v534 c0_i32_192
  let v536 : BitVec 1 := Scalar.andi v533 v535
  let v522 : BitVec 32 := Scalar.divsi v20 c2_i32_187
  let c1_i32_193 : BitVec 32 := 1#32
  let v537 : BitVec 32 := Scalar.subi v522 c1_i32_193
  let v538 : BitVec 32 := Scalar.select v536 v537 v522
  let v539 : BitVec 32 := Scalar.subi v538 c0_i32_194
  let c1_i32_195 : BitVec 32 := 1#32
  let v541 : BitVec 32 := Scalar.divsi v539 c1_i32_195
  let v542 : BitVec 32 := Scalar.muli v541 c1_i32_195
  let v543 : BitVec 32 := Scalar.addi c0_i32_194 v542
  let c1_i32_197 : BitVec 32 := 1#32
  let arg18 : BitVec 32 := Scf.iv v543 c1_i32_197 k0_t17
  let v600 : BitVec 32 := Scalar.muli c2_i32_232 arg18
  let c1_i32_233 : BitVec 32 := 1#32
  let v601 : BitVec 32 := Scalar.addi v600 c1_i32_233
  let v1046 : Index := Scalar.indexCast v601
  let c0_507 : Index := 0#32
  let c0_508 : Index := 0#32
  ![0, v1046.toNat, 0, 0]
def k0_cond1 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32_198 : BitVec 32 := 2#32
  let c0_i32_199 : BitVec 32 := 0#32
  let v546 : BitVec 1 := Scalar.cmpi .eq c2_i32_198 c0_i32_199
  let c1_i32_200 : BitVec 32 := 1#32
  let v547 : BitVec 32 := Scalar.select v546 c1_i32_200 c2_i32_198
  let v548 : BitVec 32 := Scalar.remsi v20 v547
  let c0_i32_202 : BitVec 32 := 0#32
  let v550 : BitVec 1 := Scalar.cmpi .slt v548 c0_i32_202
  let c0_i32_203 : BitVec 32 := 0#32
  let v551 : BitVec 1 := Scalar.cmpi .slt v547 c0_i32_203
  let v552 : BitVec 1 := Scalar.xori v550 v551
  let c0_i32_201 : BitVec 32 := 0#32
  let v549 : BitVec 1 := Scalar.cmpi .ne v548 c0_i32_201
  let v553 : BitVec 1 := Scalar.andi v552 v549
  let v554 : BitVec 32 := Scalar.addi v548 v547
  let v555 : BitVec 32 := Scalar.select v553 v554 v548
  let c1_i32_204 : BitVec 32 := 1#32
  let v556 : BitVec 1 := Scalar.cmpi .eq v555 c1_i32_204
  let v557 : BitVec 32 := Scalar.extui v556
  let c0_i32_205 : BitVec 32 := 0#32
  let v558 : BitVec 1 := Scalar.cmpi .ne v557 c0_i32_205
  v558

def k0_off115 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_232 : BitVec 32 := 1#32
  let v600 : BitVec 32 := Scalar.subi v20 c1_i32_232
  let c1_i32_233 : BitVec 32 := 1#32
  let v601 : BitVec 32 := Scalar.addi v600 c1_i32_233
  let c1_i32_234 : BitVec 32 := 1#32
  let v602 : BitVec 32 := Scalar.subi v20 c1_i32_234
  let v603 : BitVec 32 := Scalar.minsi v601 v602
  let v604 : Index := Scalar.indexCast v603
  let c0_235 : Index := 0#32
  let c0_236 : Index := 0#32
  ![v604.toNat, 0, 0]
def k0_off116 (i : grid0.Coords) : Fin 4 → Nat :=
  let c0_242 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_232 : BitVec 32 := 1#32
  let v600 : BitVec 32 := Scalar.subi v20 c1_i32_232
  let c1_i32_233 : BitVec 32 := 1#32
  let v601 : BitVec 32 := Scalar.addi v600 c1_i32_233
  let c1_i32_234 : BitVec 32 := 1#32
  let v602 : BitVec 32 := Scalar.subi v20 c1_i32_234
  let v603 : BitVec 32 := Scalar.minsi v601 v602
  let v618 : Index := Scalar.indexCast v603
  let c0_243 : Index := 0#32
  let c0_244 : Index := 0#32
  ![0, v618.toNat, 0, 0]
def k0_off117 (i : grid0.Coords) : Fin 4 → Nat :=
  let c0_272 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_232 : BitVec 32 := 1#32
  let v600 : BitVec 32 := Scalar.subi v20 c1_i32_232
  let v647 : Index := Scalar.indexCast v600
  let c0_273 : Index := 0#32
  let c0_274 : Index := 0#32
  ![0, v647.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S1x2048 : Shape := ⟨2, ![1, 2048]⟩
abbrev S2048 : Shape := ⟨1, ![2048]⟩
abbrev S4x5984x2048 : Shape := ⟨3, ![4, 5984, 2048]⟩
abbrev S4x6144x2048 : Shape := ⟨3, ![4, 6144, 2048]⟩
abbrev S1x5984x256 : Shape := ⟨3, ![1, 5984, 256]⟩
abbrev S1x6144x256 : Shape := ⟨3, ![1, 6144, 256]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩
abbrev S1x16x256 : Shape := ⟨3, ![1, 16, 256]⟩
abbrev S16x256 : Shape := ⟨2, ![16, 256]⟩
abbrev S160x256 : Shape := ⟨2, ![160, 256]⟩
abbrev S1x160x256 : Shape := ⟨3, ![1, 160, 256]⟩
abbrev S16384x6144 : Shape := ⟨2, ![16384, 6144]⟩
abbrev S4x16384x128 : Shape := ⟨3, ![4, 16384, 128]⟩
abbrev S512x2048 : Shape := ⟨2, ![512, 2048]⟩
abbrev S1x6144x2048 : Shape := ⟨3, ![1, 6144, 2048]⟩
abbrev S512x6144 : Shape := ⟨2, ![512, 6144]⟩
abbrev S4x512x128 : Shape := ⟨3, ![4, 512, 128]⟩
abbrev S512 : Shape := ⟨1, ![512]⟩
abbrev S512x1 : Shape := ⟨2, ![512, 1]⟩
abbrev S1x512x2048 : Shape := ⟨3, ![1, 512, 2048]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x5984x2048, .f32⟩
  | .hbm, ⟨8, _⟩ => ⟨S4x6144x2048, .bf16⟩
  | .hbm, ⟨9, _⟩ => ⟨S16384x6144, .bf16⟩
  | .hbm, ⟨10, _⟩ => ⟨S4x16384x128, .f32⟩
  | .local _ .vmem, ⟨0, _⟩ => ⟨S1x5984x256, .f32⟩
  | .local _ .vmem, ⟨1, _⟩ => ⟨S1x5984x256, .f32⟩
  | .local _ .vmem, ⟨2, _⟩ => ⟨S1x6144x256, .bf16⟩
  | .local _ .vmem, ⟨3, _⟩ => ⟨S1x6144x256, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x6144x2048, .bf16⟩
  | .local _ .vmem, ⟨8, _⟩ => ⟨S512x6144, .bf16⟩
  | .local _ .vmem, ⟨9, _⟩ => ⟨S512x6144, .bf16⟩
  | .local _ .vmem, ⟨10, _⟩ => ⟨S4x512x128, .f32⟩
  | .local _ .vmem, ⟨11, _⟩ => ⟨S4x512x128, .f32⟩
  | .local _ .vmem, ⟨12, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x5984x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x6144x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x6144 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference2Ideal.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x5984 : Shape := ⟨3, ![1, 2048, 5984]⟩
abbrev S2048x5984 : Shape := ⟨2, ![2048, 5984]⟩
abbrev S16384x5984 : Shape := ⟨2, ![16384, 5984]⟩
abbrev S16384x256 : Shape := ⟨2, ![16384, 256]⟩
abbrev S16384x512 : Shape := ⟨2, ![16384, 512]⟩
abbrev S16384x16 : Shape := ⟨2, ![16384, 16]⟩
abbrev S16384x128 : Shape := ⟨2, ![16384, 128]⟩
abbrev S16384x1024 : Shape := ⟨2, ![16384, 1024]⟩
abbrev S16384x64 : Shape := ⟨2, ![16384, 64]⟩
abbrev S16384x6144 : Shape := ⟨2, ![16384, 6144]⟩
abbrev S16384x4x128 : Shape := ⟨3, ![16384, 4, 128]⟩
abbrev S4x16384x128 : Shape := ⟨3, ![4, 16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x5984, .f32⟩
  | .hbm, ⟨23, _⟩ => ⟨S2048x5984, .f32⟩
  | .hbm, ⟨24, _⟩ => ⟨S16384x5984, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x16, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x128, .f32⟩
  | .hbm, ⟨34, _⟩ => ⟨S16384x128, .f32⟩
  | .hbm, ⟨35, _⟩ => ⟨S16384x1024, .f32⟩
  | .hbm, ⟨36, _⟩ => ⟨S16384x64, .f32⟩
  | .hbm, ⟨37, _⟩ => ⟨S16384x16, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x5984, .f32⟩
  | .hbm, ⟨42, _⟩ => ⟨S_, .i32⟩
  | .hbm, ⟨43, _⟩ => ⟨S_, .f32⟩
  | .hbm, ⟨44, _⟩ => ⟨S16384x6144, .f32⟩
  | .hbm, ⟨45, _⟩ => ⟨S16384x6144, .bf16⟩
  | .hbm, ⟨46, _⟩ => ⟨S16384x4x128, .f32⟩
  | .hbm, ⟨47, _⟩ => ⟨S4x16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel3.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x2048 : Shape := ⟨2, ![16384, 2048]⟩
abbrev S1x2048 : Shape := ⟨2, ![1, 2048]⟩
abbrev S2048 : Shape := ⟨1, ![2048]⟩
abbrev S512x512 : Shape := ⟨2, ![512, 512]⟩
abbrev S4x512x128 : Shape := ⟨3, ![4, 512, 128]⟩
abbrev S512x2048 : Shape := ⟨2, ![512, 2048]⟩
abbrev S1x512x512 : Shape := ⟨3, ![1, 512, 512]⟩
abbrev S1x2048x2048 : Shape := ⟨3, ![1, 2048, 2048]⟩
abbrev S1x512x128 : Shape := ⟨3, ![1, 512, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S2048x2048 : Shape := ⟨2, ![2048, 2048]⟩

abbrev nBuf : Space → Nat
  | .hbm => 16
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S4x512x512, .bf16⟩
  | .hbm, ⟨14, _⟩ => ⟨S4x2048x2048, .bf16⟩
  | .hbm, ⟨15, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S4x512x128, .f32⟩
  | .local _ .vmem, ⟨3, _⟩ => ⟨S4x512x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x512x512, .bf16⟩
  | .local _ .vmem, ⟨14, _⟩ => ⟨S1x2048x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S16384x2048 : Shape := ⟨2, ![16384, 2048]⟩
abbrev S16384x16x128 : Shape := ⟨3, ![16384, 16, 128]⟩
abbrev S16384x16 : Shape := ⟨2, ![16384, 16]⟩
abbrev S16384x16x1 : Shape := ⟨3, ![16384, 16, 1]⟩
abbrev S1x2048 : Shape := ⟨2, ![1, 2048]⟩
abbrev S2048 : Shape := ⟨1, ![2048]⟩
abbrev S16x128 : Shape := ⟨2, ![16, 128]⟩
abbrev S1x16x128 : Shape := ⟨3, ![1, 16, 128]⟩
abbrev S1x2048x2048 : Shape := ⟨3, ![1, 2048, 2048]⟩
abbrev S2048x2048 : Shape := ⟨2, ![2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x2048, .f32⟩
  | .hbm, ⟨44, _⟩ => ⟨S16384x16x128, .f32⟩
  | .hbm, ⟨45, _⟩ => ⟨S16384x16x128, .f32⟩
  | .hbm, ⟨46, _⟩ => ⟨S_, .f32⟩
  | .hbm, ⟨47, _⟩ => ⟨S16384x16, .f32⟩
  | .hbm, ⟨48, _⟩ => ⟨S16384x16x1, .f32⟩
  | .hbm, ⟨49, _⟩ => ⟨S_, .f32⟩
  | .hbm, ⟨50, _⟩ => ⟨S16384x16x1, .f32⟩
  | .hbm, ⟨51, _⟩ => ⟨S16384x16x1, .f32⟩
  | .hbm, ⟨52, _⟩ => ⟨S_, .f32⟩
  | .hbm, ⟨53, _⟩ => ⟨S16384x16x1, .f32⟩
  | .hbm, ⟨54, _⟩ => ⟨S16384x16x1, .f32⟩
  | .hbm, ⟨55, _⟩ => ⟨S16384x16x1, .f32⟩
  | .hbm, ⟨56, _⟩ => ⟨S16384x16x128, .f32⟩
  | .hbm, ⟨57, _⟩ => ⟨S16384x16x128, .f32⟩
  | .hbm, ⟨58, _⟩ => ⟨S1x2048, .f32⟩
  | .hbm, ⟨59, _⟩ => ⟨S2048, .f32⟩
  | .hbm, ⟨60, _⟩ => ⟨S16x128, .f32⟩
  | .hbm, ⟨61, _⟩ => ⟨S1x16x128, .f32⟩
  | .hbm, ⟨62, _⟩ => ⟨S16384x16x128, .f32⟩
  | .hbm, ⟨63, _⟩ => ⟨S16384x16x128, .f32⟩
  | .hbm, ⟨64, _⟩ => ⟨S16384x2048, .bf16⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S1x2048x2048, .f32⟩
  | .hbm, ⟨79, _⟩ => ⟨S2048x2048, .f32⟩
  | .hbm, ⟨80, _⟩ => ⟨S16384x2048, .f32⟩
  | .hbm, ⟨81, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S1x2048 : Shape := ⟨2, ![1, 2048]⟩
abbrev S2048 : Shape := ⟨1, ![2048]⟩
abbrev S4x5984x2048 : Shape := ⟨3, ![4, 5984, 2048]⟩
abbrev S4x6144x2048 : Shape := ⟨3, ![4, 6144, 2048]⟩
abbrev S1x5984x256 : Shape := ⟨3, ![1, 5984, 256]⟩
abbrev S1x6144x256 : Shape := ⟨3, ![1, 6144, 256]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩
abbrev S1x16x256 : Shape := ⟨3, ![1, 16, 256]⟩
abbrev S16x256 : Shape := ⟨2, ![16, 256]⟩
abbrev S160x256 : Shape := ⟨2, ![160, 256]⟩
abbrev S1x160x256 : Shape := ⟨3, ![1, 160, 256]⟩
abbrev S16384x6144 : Shape := ⟨2, ![16384, 6144]⟩
abbrev S4x16384x128 : Shape := ⟨3, ![4, 16384, 128]⟩
abbrev S512x2048 : Shape := ⟨2, ![512, 2048]⟩
abbrev S1x6144x2048 : Shape := ⟨3, ![1, 6144, 2048]⟩
abbrev S512x6144 : Shape := ⟨2, ![512, 6144]⟩
abbrev S4x512x128 : Shape := ⟨3, ![4, 512, 128]⟩
abbrev S512 : Shape := ⟨1, ![512]⟩
abbrev S512x1 : Shape := ⟨2, ![512, 1]⟩
abbrev S1x512x2048 : Shape := ⟨3, ![1, 512, 2048]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x5984x2048, .f32⟩
  | .hbm, ⟨8, _⟩ => ⟨S4x6144x2048, .bf16⟩
  | .hbm, ⟨9, _⟩ => ⟨S16384x6144, .bf16⟩
  | .hbm, ⟨10, _⟩ => ⟨S4x16384x128, .f32⟩
  | .local _ .vmem, ⟨0, _⟩ => ⟨S1x5984x256, .f32⟩
  | .local _ .vmem, ⟨1, _⟩ => ⟨S1x5984x256, .f32⟩
  | .local _ .vmem, ⟨2, _⟩ => ⟨S1x6144x256, .bf16⟩
  | .local _ .vmem, ⟨3, _⟩ => ⟨S1x6144x256, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x6144x2048, .bf16⟩
  | .local _ .vmem, ⟨8, _⟩ => ⟨S512x6144, .bf16⟩
  | .local _ .vmem, ⟨9, _⟩ => ⟨S512x6144, .bf16⟩
  | .local _ .vmem, ⟨10, _⟩ => ⟨S4x512x128, .f32⟩
  | .local _ .vmem, ⟨11, _⟩ => ⟨S4x512x128, .f32⟩
  | .local _ .vmem, ⟨12, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x5984x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x6144x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x6144 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference4Ideal.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x5984 : Shape := ⟨3, ![1, 2048, 5984]⟩
abbrev S2048x5984 : Shape := ⟨2, ![2048, 5984]⟩
abbrev S16384x5984 : Shape := ⟨2, ![16384, 5984]⟩
abbrev S16384x256 : Shape := ⟨2, ![16384, 256]⟩
abbrev S16384x512 : Shape := ⟨2, ![16384, 512]⟩
abbrev S16384x16 : Shape := ⟨2, ![16384, 16]⟩
abbrev S16384x128 : Shape := ⟨2, ![16384, 128]⟩
abbrev S16384x1024 : Shape := ⟨2, ![16384, 1024]⟩
abbrev S16384x64 : Shape := ⟨2, ![16384, 64]⟩
abbrev S16384x6144 : Shape := ⟨2, ![16384, 6144]⟩
abbrev S16384x4x128 : Shape := ⟨3, ![16384, 4, 128]⟩
abbrev S4x16384x128 : Shape := ⟨3, ![4, 16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x5984, .f32⟩
  | .hbm, ⟨23, _⟩ => ⟨S2048x5984, .f32⟩
  | .hbm, ⟨24, _⟩ => ⟨S16384x5984, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x16, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x128, .f32⟩
  | .hbm, ⟨34, _⟩ => ⟨S16384x128, .f32⟩
  | .hbm, ⟨35, _⟩ => ⟨S16384x1024, .f32⟩
  | .hbm, ⟨36, _⟩ => ⟨S16384x64, .f32⟩
  | .hbm, ⟨37, _⟩ => ⟨S16384x16, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x5984, .f32⟩
  | .hbm, ⟨42, _⟩ => ⟨S_, .i32⟩
  | .hbm, ⟨43, _⟩ => ⟨S_, .f32⟩
  | .hbm, ⟨44, _⟩ => ⟨S16384x6144, .f32⟩
  | .hbm, ⟨45, _⟩ => ⟨S16384x6144, .bf16⟩
  | .hbm, ⟨46, _⟩ => ⟨S16384x4x128, .f32⟩
  | .hbm, ⟨47, _⟩ => ⟨S4x16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S1x2048 : Shape := ⟨2, ![1, 2048]⟩
abbrev S2048 : Shape := ⟨1, ![2048]⟩
abbrev S4x5984x2048 : Shape := ⟨3, ![4, 5984, 2048]⟩
abbrev S4x6144x2048 : Shape := ⟨3, ![4, 6144, 2048]⟩
abbrev S1x5984x256 : Shape := ⟨3, ![1, 5984, 256]⟩
abbrev S1x6144x256 : Shape := ⟨3, ![1, 6144, 256]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩
abbrev S1x16x256 : Shape := ⟨3, ![1, 16, 256]⟩
abbrev S16x256 : Shape := ⟨2, ![16, 256]⟩
abbrev S160x256 : Shape := ⟨2, ![160, 256]⟩
abbrev S1x160x256 : Shape := ⟨3, ![1, 160, 256]⟩
abbrev S16384x6144 : Shape := ⟨2, ![16384, 6144]⟩
abbrev S4x16384x128 : Shape := ⟨3, ![4, 16384, 128]⟩
abbrev S512x2048 : Shape := ⟨2, ![512, 2048]⟩
abbrev S1x6144x2048 : Shape := ⟨3, ![1, 6144, 2048]⟩
abbrev S512x6144 : Shape := ⟨2, ![512, 6144]⟩
abbrev S4x512x128 : Shape := ⟨3, ![4, 512, 128]⟩
abbrev S512 : Shape := ⟨1, ![512]⟩
abbrev S512x1 : Shape := ⟨2, ![512, 1]⟩
abbrev S1x512x2048 : Shape := ⟨3, ![1, 512, 2048]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x5984x2048, .f32⟩
  | .hbm, ⟨8, _⟩ => ⟨S4x6144x2048, .bf16⟩
  | .hbm, ⟨9, _⟩ => ⟨S16384x6144, .bf16⟩
  | .hbm, ⟨10, _⟩ => ⟨S4x16384x128, .f32⟩
  | .local _ .vmem, ⟨0, _⟩ => ⟨S1x5984x256, .f32⟩
  | .local _ .vmem, ⟨1, _⟩ => ⟨S1x5984x256, .f32⟩
  | .local _ .vmem, ⟨2, _⟩ => ⟨S1x6144x256, .bf16⟩
  | .local _ .vmem, ⟨3, _⟩ => ⟨S1x6144x256, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x6144x2048, .bf16⟩
  | .local _ .vmem, ⟨8, _⟩ => ⟨S512x6144, .bf16⟩
  | .local _ .vmem, ⟨9, _⟩ => ⟨S512x6144, .bf16⟩
  | .local _ .vmem, ⟨10, _⟩ => ⟨S4x512x128, .f32⟩
  | .local _ .vmem, ⟨11, _⟩ => ⟨S4x512x128, .f32⟩
  | .local _ .vmem, ⟨12, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x5984x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x6144x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x6144 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference5Ideal.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x5984 : Shape := ⟨3, ![1, 2048, 5984]⟩
abbrev S2048x5984 : Shape := ⟨2, ![2048, 5984]⟩
abbrev S16384x5984 : Shape := ⟨2, ![16384, 5984]⟩
abbrev S16384x256 : Shape := ⟨2, ![16384, 256]⟩
abbrev S16384x512 : Shape := ⟨2, ![16384, 512]⟩
abbrev S16384x16 : Shape := ⟨2, ![16384, 16]⟩
abbrev S16384x128 : Shape := ⟨2, ![16384, 128]⟩
abbrev S16384x1024 : Shape := ⟨2, ![16384, 1024]⟩
abbrev S16384x64 : Shape := ⟨2, ![16384, 64]⟩
abbrev S16384x6144 : Shape := ⟨2, ![16384, 6144]⟩
abbrev S16384x4x128 : Shape := ⟨3, ![16384, 4, 128]⟩
abbrev S4x16384x128 : Shape := ⟨3, ![4, 16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x5984, .f32⟩
  | .hbm, ⟨23, _⟩ => ⟨S2048x5984, .f32⟩
  | .hbm, ⟨24, _⟩ => ⟨S16384x5984, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x16, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x128, .f32⟩
  | .hbm, ⟨34, _⟩ => ⟨S16384x128, .f32⟩
  | .hbm, ⟨35, _⟩ => ⟨S16384x1024, .f32⟩
  | .hbm, ⟨36, _⟩ => ⟨S16384x64, .f32⟩
  | .hbm, ⟨37, _⟩ => ⟨S16384x16, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x5984, .f32⟩
  | .hbm, ⟨42, _⟩ => ⟨S_, .i32⟩
  | .hbm, ⟨43, _⟩ => ⟨S_, .f32⟩
  | .hbm, ⟨44, _⟩ => ⟨S16384x6144, .f32⟩
  | .hbm, ⟨45, _⟩ => ⟨S16384x6144, .bf16⟩
  | .hbm, ⟨46, _⟩ => ⟨S16384x4x128, .f32⟩
  | .hbm, ⟨47, _⟩ => ⟨S4x16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel6.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S1x2048 : Shape := ⟨2, ![1, 2048]⟩
abbrev S2048 : Shape := ⟨1, ![2048]⟩
abbrev S4x5984x2048 : Shape := ⟨3, ![4, 5984, 2048]⟩
abbrev S4x6144x2048 : Shape := ⟨3, ![4, 6144, 2048]⟩
abbrev S1x5984x256 : Shape := ⟨3, ![1, 5984, 256]⟩
abbrev S1x6144x256 : Shape := ⟨3, ![1, 6144, 256]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩
abbrev S1x16x256 : Shape := ⟨3, ![1, 16, 256]⟩
abbrev S16x256 : Shape := ⟨2, ![16, 256]⟩
abbrev S160x256 : Shape := ⟨2, ![160, 256]⟩
abbrev S1x160x256 : Shape := ⟨3, ![1, 160, 256]⟩
abbrev S16384x6144 : Shape := ⟨2, ![16384, 6144]⟩
abbrev S4x16384x128 : Shape := ⟨3, ![4, 16384, 128]⟩
abbrev S512x2048 : Shape := ⟨2, ![512, 2048]⟩
abbrev S1x6144x2048 : Shape := ⟨3, ![1, 6144, 2048]⟩
abbrev S512x6144 : Shape := ⟨2, ![512, 6144]⟩
abbrev S4x512x128 : Shape := ⟨3, ![4, 512, 128]⟩
abbrev S512 : Shape := ⟨1, ![512]⟩
abbrev S512x1 : Shape := ⟨2, ![512, 1]⟩
abbrev S1x512x2048 : Shape := ⟨3, ![1, 512, 2048]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x5984x2048, .f32⟩
  | .hbm, ⟨8, _⟩ => ⟨S4x6144x2048, .bf16⟩
  | .hbm, ⟨9, _⟩ => ⟨S16384x6144, .bf16⟩
  | .hbm, ⟨10, _⟩ => ⟨S4x16384x128, .f32⟩
  | .local _ .vmem, ⟨0, _⟩ => ⟨S1x5984x256, .f32⟩
  | .local _ .vmem, ⟨1, _⟩ => ⟨S1x5984x256, .f32⟩
  | .local _ .vmem, ⟨2, _⟩ => ⟨S1x6144x256, .bf16⟩
  | .local _ .vmem, ⟨3, _⟩ => ⟨S1x6144x256, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x6144x2048, .bf16⟩
  | .local _ .vmem, ⟨8, _⟩ => ⟨S512x6144, .bf16⟩
  | .local _ .vmem, ⟨9, _⟩ => ⟨S512x6144, .bf16⟩
  | .local _ .vmem, ⟨10, _⟩ => ⟨S4x512x128, .f32⟩
  | .local _ .vmem, ⟨11, _⟩ => ⟨S4x512x128, .f32⟩
  | .local _ .vmem, ⟨12, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x5984x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x6144x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x6144 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference6Ideal.lean ====
abbrev S4x4096x2048 : Shape := ⟨3, ![4, 4096, 2048]⟩
abbrev S4x2048 : Shape := ⟨2, ![4, 2048]⟩
abbrev S4x2048x5984 : Shape := ⟨3, ![4, 2048, 5984]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x5984 : Shape := ⟨3, ![1, 2048, 5984]⟩
abbrev S2048x5984 : Shape := ⟨2, ![2048, 5984]⟩
abbrev S16384x5984 : Shape := ⟨2, ![16384, 5984]⟩
abbrev S16384x256 : Shape := ⟨2, ![16384, 256]⟩
abbrev S16384x512 : Shape := ⟨2, ![16384, 512]⟩
abbrev S16384x16 : Shape := ⟨2, ![16384, 16]⟩
abbrev S16384x128 : Shape := ⟨2, ![16384, 128]⟩
abbrev S16384x1024 : Shape := ⟨2, ![16384, 1024]⟩
abbrev S16384x64 : Shape := ⟨2, ![16384, 64]⟩
abbrev S16384x6144 : Shape := ⟨2, ![16384, 6144]⟩
abbrev S16384x4x128 : Shape := ⟨3, ![16384, 4, 128]⟩
abbrev S4x16384x128 : Shape := ⟨3, ![4, 16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048x5984, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x5984, .f32⟩
  | .hbm, ⟨23, _⟩ => ⟨S2048x5984, .f32⟩
  | .hbm, ⟨24, _⟩ => ⟨S16384x5984, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x16, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x128, .f32⟩
  | .hbm, ⟨34, _⟩ => ⟨S16384x128, .f32⟩
  | .hbm, ⟨35, _⟩ => ⟨S16384x1024, .f32⟩
  | .hbm, ⟨36, _⟩ => ⟨S16384x64, .f32⟩
  | .hbm, ⟨37, _⟩ => ⟨S16384x16, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x5984, .f32⟩
  | .hbm, ⟨42, _⟩ => ⟨S_, .i32⟩
  | .hbm, ⟨43, _⟩ => ⟨S_, .f32⟩
  | .hbm, ⟨44, _⟩ => ⟨S16384x6144, .f32⟩
  | .hbm, ⟨45, _⟩ => ⟨S16384x6144, .bf16⟩
  | .hbm, ⟨46, _⟩ => ⟨S16384x4x128, .f32⟩
  | .hbm, ⟨47, _⟩ => ⟨S4x16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel7.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x2048 : Shape := ⟨2, ![16384, 2048]⟩
abbrev S1x2048 : Shape := ⟨2, ![1, 2048]⟩
abbrev S2048 : Shape := ⟨1, ![2048]⟩
abbrev S512x512 : Shape := ⟨2, ![512, 512]⟩
abbrev S4x512x128 : Shape := ⟨3, ![4, 512, 128]⟩
abbrev S512x2048 : Shape := ⟨2, ![512, 2048]⟩
abbrev S1x512x512 : Shape := ⟨3, ![1, 512, 512]⟩
abbrev S1x2048x2048 : Shape := ⟨3, ![1, 2048, 2048]⟩
abbrev S1x512x128 : Shape := ⟨3, ![1, 512, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S2048x2048 : Shape := ⟨2, ![2048, 2048]⟩

abbrev nBuf : Space → Nat
  | .hbm => 16
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S4x512x512, .bf16⟩
  | .hbm, ⟨14, _⟩ => ⟨S4x2048x2048, .bf16⟩
  | .hbm, ⟨15, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S4x512x128, .f32⟩
  | .local _ .vmem, ⟨3, _⟩ => ⟨S4x512x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x512x512, .bf16⟩
  | .local _ .vmem, ⟨14, _⟩ => ⟨S1x2048x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S16384x2048 : Shape := ⟨2, ![16384, 2048]⟩
abbrev S16384x16x128 : Shape := ⟨3, ![16384, 16, 128]⟩
abbrev S16384x16 : Shape := ⟨2, ![16384, 16]⟩
abbrev S16384x16x1 : Shape := ⟨3, ![16384, 16, 1]⟩
abbrev S1x2048 : Shape := ⟨2, ![1, 2048]⟩
abbrev S2048 : Shape := ⟨1, ![2048]⟩
abbrev S16x128 : Shape := ⟨2, ![16, 128]⟩
abbrev S1x16x128 : Shape := ⟨3, ![1, 16, 128]⟩
abbrev S1x2048x2048 : Shape := ⟨3, ![1, 2048, 2048]⟩
abbrev S2048x2048 : Shape := ⟨2, ![2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x2048, .f32⟩
  | .hbm, ⟨44, _⟩ => ⟨S16384x16x128, .f32⟩
  | .hbm, ⟨45, _⟩ => ⟨S16384x16x128, .f32⟩
  | .hbm, ⟨46, _⟩ => ⟨S_, .f32⟩
  | .hbm, ⟨47, _⟩ => ⟨S16384x16, .f32⟩
  | .hbm, ⟨48, _⟩ => ⟨S16384x16x1, .f32⟩
  | .hbm, ⟨49, _⟩ => ⟨S_, .f32⟩
  | .hbm, ⟨50, _⟩ => ⟨S16384x16x1, .f32⟩
  | .hbm, ⟨51, _⟩ => ⟨S16384x16x1, .f32⟩
  | .hbm, ⟨52, _⟩ => ⟨S_, .f32⟩
  | .hbm, ⟨53, _⟩ => ⟨S16384x16x1, .f32⟩
  | .hbm, ⟨54, _⟩ => ⟨S16384x16x1, .f32⟩
  | .hbm, ⟨55, _⟩ => ⟨S16384x16x1, .f32⟩
  | .hbm, ⟨56, _⟩ => ⟨S16384x16x128, .f32⟩
  | .hbm, ⟨57, _⟩ => ⟨S16384x16x128, .f32⟩
  | .hbm, ⟨58, _⟩ => ⟨S1x2048, .f32⟩
  | .hbm, ⟨59, _⟩ => ⟨S2048, .f32⟩
  | .hbm, ⟨60, _⟩ => ⟨S16x128, .f32⟩
  | .hbm, ⟨61, _⟩ => ⟨S1x16x128, .f32⟩
  | .hbm, ⟨62, _⟩ => ⟨S16384x16x128, .f32⟩
  | .hbm, ⟨63, _⟩ => ⟨S16384x16x128, .f32⟩
  | .hbm, ⟨64, _⟩ => ⟨S16384x2048, .bf16⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S1x2048x2048, .f32⟩
  | .hbm, ⟨79, _⟩ => ⟨S2048x2048, .f32⟩
  | .hbm, ⟨80, _⟩ => ⟨S16384x2048, .f32⟩
  | .hbm, ⟨81, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel8.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x2048 : Shape := ⟨2, ![16384, 2048]⟩
abbrev S1x2048 : Shape := ⟨2, ![1, 2048]⟩
abbrev S2048 : Shape := ⟨1, ![2048]⟩
abbrev S512x512 : Shape := ⟨2, ![512, 512]⟩
abbrev S4x512x128 : Shape := ⟨3, ![4, 512, 128]⟩
abbrev S512x2048 : Shape := ⟨2, ![512, 2048]⟩
abbrev S1x512x512 : Shape := ⟨3, ![1, 512, 512]⟩
abbrev S1x2048x2048 : Shape := ⟨3, ![1, 2048, 2048]⟩
abbrev S1x512x128 : Shape := ⟨3, ![1, 512, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S2048x2048 : Shape := ⟨2, ![2048, 2048]⟩

abbrev nBuf : Space → Nat
  | .hbm => 16
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S4x512x512, .bf16⟩
  | .hbm, ⟨14, _⟩ => ⟨S4x2048x2048, .bf16⟩
  | .hbm, ⟨15, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S4x512x128, .f32⟩
  | .local _ .vmem, ⟨3, _⟩ => ⟨S4x512x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x512x512, .bf16⟩
  | .local _ .vmem, ⟨14, _⟩ => ⟨S1x2048x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S16384x2048 : Shape := ⟨2, ![16384, 2048]⟩
abbrev S16384x16x128 : Shape := ⟨3, ![16384, 16, 128]⟩
abbrev S16384x16 : Shape := ⟨2, ![16384, 16]⟩
abbrev S16384x16x1 : Shape := ⟨3, ![16384, 16, 1]⟩
abbrev S1x2048 : Shape := ⟨2, ![1, 2048]⟩
abbrev S2048 : Shape := ⟨1, ![2048]⟩
abbrev S16x128 : Shape := ⟨2, ![16, 128]⟩
abbrev S1x16x128 : Shape := ⟨3, ![1, 16, 128]⟩
abbrev S1x2048x2048 : Shape := ⟨3, ![1, 2048, 2048]⟩
abbrev S2048x2048 : Shape := ⟨2, ![2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x2048, .f32⟩
  | .hbm, ⟨44, _⟩ => ⟨S16384x16x128, .f32⟩
  | .hbm, ⟨45, _⟩ => ⟨S16384x16x128, .f32⟩
  | .hbm, ⟨46, _⟩ => ⟨S_, .f32⟩
  | .hbm, ⟨47, _⟩ => ⟨S16384x16, .f32⟩
  | .hbm, ⟨48, _⟩ => ⟨S16384x16x1, .f32⟩
  | .hbm, ⟨49, _⟩ => ⟨S_, .f32⟩
  | .hbm, ⟨50, _⟩ => ⟨S16384x16x1, .f32⟩
  | .hbm, ⟨51, _⟩ => ⟨S16384x16x1, .f32⟩
  | .hbm, ⟨52, _⟩ => ⟨S_, .f32⟩
  | .hbm, ⟨53, _⟩ => ⟨S16384x16x1, .f32⟩
  | .hbm, ⟨54, _⟩ => ⟨S16384x16x1, .f32⟩
  | .hbm, ⟨55, _⟩ => ⟨S16384x16x1, .f32⟩
  | .hbm, ⟨56, _⟩ => ⟨S16384x16x128, .f32⟩
  | .hbm, ⟨57, _⟩ => ⟨S16384x16x128, .f32⟩
  | .hbm, ⟨58, _⟩ => ⟨S1x2048, .f32⟩
  | .hbm, ⟨59, _⟩ => ⟨S2048, .f32⟩
  | .hbm, ⟨60, _⟩ => ⟨S16x128, .f32⟩
  | .hbm, ⟨61, _⟩ => ⟨S1x16x128, .f32⟩
  | .hbm, ⟨62, _⟩ => ⟨S16384x16x128, .f32⟩
  | .hbm, ⟨63, _⟩ => ⟨S16384x16x128, .f32⟩
  | .hbm, ⟨64, _⟩ => ⟨S16384x2048, .bf16⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S1x2048x2048, .f32⟩
  | .hbm, ⟨79, _⟩ => ⟨S2048x2048, .f32⟩
  | .hbm, ⟨80, _⟩ => ⟨S16384x2048, .f32⟩
  | .hbm, ⟨81, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel9.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x2048 : Shape := ⟨2, ![16384, 2048]⟩
abbrev S1x2048 : Shape := ⟨2, ![1, 2048]⟩
abbrev S2048 : Shape := ⟨1, ![2048]⟩
abbrev S512x512 : Shape := ⟨2, ![512, 512]⟩
abbrev S4x512x128 : Shape := ⟨3, ![4, 512, 128]⟩
abbrev S512x2048 : Shape := ⟨2, ![512, 2048]⟩
abbrev S1x512x512 : Shape := ⟨3, ![1, 512, 512]⟩
abbrev S1x2048x2048 : Shape := ⟨3, ![1, 2048, 2048]⟩
abbrev S1x512x128 : Shape := ⟨3, ![1, 512, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S2048x2048 : Shape := ⟨2, ![2048, 2048]⟩

abbrev nBuf : Space → Nat
  | .hbm => 16
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S4x512x512, .bf16⟩
  | .hbm, ⟨14, _⟩ => ⟨S4x2048x2048, .bf16⟩
  | .hbm, ⟨15, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S4x512x128, .f32⟩
  | .local _ .vmem, ⟨3, _⟩ => ⟨S4x512x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x512x512, .bf16⟩
  | .local _ .vmem, ⟨14, _⟩ => ⟨S1x2048x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S16384x512 : Shape := ⟨2, ![16384, 512]⟩
abbrev S4x16384x128 : Shape := ⟨3, ![4, 16384, 128]⟩
abbrev S16384x6144 : Shape := ⟨2, ![16384, 6144]⟩
abbrev S4x4096x2048 : Shape := ⟨3, ![4, 4096, 2048]⟩
abbrev S4x2048 : Shape := ⟨2, ![4, 2048]⟩
abbrev S4x512x512 : Shape := ⟨3, ![4, 512, 512]⟩
abbrev S4x2048x2048 : Shape := ⟨3, ![4, 2048, 2048]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S16384x2048 : Shape := ⟨2, ![16384, 2048]⟩
abbrev S16384x16x128 : Shape := ⟨3, ![16384, 16, 128]⟩
abbrev S16384x16 : Shape := ⟨2, ![16384, 16]⟩
abbrev S16384x16x1 : Shape := ⟨3, ![16384, 16, 1]⟩
abbrev S1x2048 : Shape := ⟨2, ![1, 2048]⟩
abbrev S2048 : Shape := ⟨1, ![2048]⟩
abbrev S16x128 : Shape := ⟨2, ![16, 128]⟩
abbrev S1x16x128 : Shape := ⟨3, ![1, 16, 128]⟩
abbrev S1x2048x2048 : Shape := ⟨3, ![1, 2048, 2048]⟩
abbrev S2048x2048 : Shape := ⟨2, ![2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x512, .bf16⟩
  | .hbm, ⟨3, _⟩ => ⟨S16384x512, .bf16⟩
  | .hbm, ⟨4, _⟩ => ⟨S16384x6144, .bf16⟩
  | .hbm, ⟨5, _⟩ => ⟨S4x4096x2048, .f32⟩
  | .hbm, ⟨6, _⟩ => ⟨S4x2048, .f32⟩
  | .hbm, ⟨7, _⟩ => ⟨S4x512x512, .f32⟩
  | .hbm, ⟨8, _⟩ => ⟨S4x2048x2048, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x2048, .f32⟩
  | .hbm, ⟨44, _⟩ => ⟨S16384x16x128, .f32⟩
  | .hbm, ⟨45, _⟩ => ⟨S16384x16x128, .f32⟩
  | .hbm, ⟨46, _⟩ => ⟨S_, .f32⟩
  | .hbm, ⟨47, _⟩ => ⟨S16384x16, .f32⟩
  | .hbm, ⟨48, _⟩ => ⟨S16384x16x1, .f32⟩
  | .hbm, ⟨49, _⟩ => ⟨S_, .f32⟩
  | .hbm, ⟨50, _⟩ => ⟨S16384x16x1, .f32⟩
  | .hbm, ⟨51, _⟩ => ⟨S16384x16x1, .f32⟩
  | .hbm, ⟨52, _⟩ => ⟨S_, .f32⟩
  | .hbm, ⟨53, _⟩ => ⟨S16384x16x1, .f32⟩
  | .hbm, ⟨54, _⟩ => ⟨S16384x16x1, .f32⟩
  | .hbm, ⟨55, _⟩ => ⟨S16384x16x1, .f32⟩
  | .hbm, ⟨56, _⟩ => ⟨S16384x16x128, .f32⟩
  | .hbm, ⟨57, _⟩ => ⟨S16384x16x128, .f32⟩
  | .hbm, ⟨58, _⟩ => ⟨S1x2048, .f32⟩
  | .hbm, ⟨59, _⟩ => ⟨S2048, .f32⟩
  | .hbm, ⟨60, _⟩ => ⟨S16x128, .f32⟩
  | .hbm, ⟨61, _⟩ => ⟨S1x16x128, .f32⟩
  | .hbm, ⟨62, _⟩ => ⟨S16384x16x128, .f32⟩
  | .hbm, ⟨63, _⟩ => ⟨S16384x16x128, .f32⟩
  | .hbm, ⟨64, _⟩ => ⟨S16384x2048, .bf16⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S1x2048x2048, .f32⟩
  | .hbm, ⟨79, _⟩ => ⟨S2048x2048, .f32⟩
  | .hbm, ⟨80, _⟩ => ⟨S16384x2048, .f32⟩
  | .hbm, ⟨81, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel10.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S1024x2048 : Shape := ⟨2, ![1024, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S1024x512 : Shape := ⟨2, ![1024, 512]⟩
abbrev S256x2048 : Shape := ⟨2, ![256, 2048]⟩
abbrev S1x2048x1024 : Shape := ⟨3, ![1, 2048, 1024]⟩
abbrev S256x512 : Shape := ⟨2, ![256, 512]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S16384x512 : Shape := ⟨2, ![16384, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 20
  | .vmem => 18
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S1024x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4x2048x1024, .bf16⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1024x512, .bf16⟩
  | .hbm, ⟨15, _⟩ => ⟨S1024x512, .bf16⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S16384x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S512x512, .bf16⟩
  | .local _ .vmem, ⟨10, _⟩ => ⟨S512x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1x128, .f32⟩
  | .local _ .vmem, ⟨16, _⟩ => ⟨S512x512, .bf16⟩
  | .local _ .vmem, ⟨17, _⟩ => ⟨S512x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference10Ideal.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S16384x512 : Shape := ⟨2, ![16384, 512]⟩
abbrev S4x4096x4x128 : Shape := ⟨4, ![4, 4096, 4, 128]⟩
abbrev S1x128 : Shape := ⟨2, ![1, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1x2048 : Shape := ⟨2, ![1, 2048]⟩
abbrev S2048 : Shape := ⟨1, ![2048]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S16384x512, .bf16⟩
  | .hbm, ⟨7, _⟩ => ⟨S16384x512, .f32⟩
  | .hbm, ⟨8, _⟩ => ⟨S4x4096x4x128, .f32⟩
  | .hbm, ⟨9, _⟩ => ⟨S1x128, .f32⟩
  | .hbm, ⟨10, _⟩ => ⟨S128, .f32⟩
  | .hbm, ⟨11, _⟩ => ⟨S4x4096x4x128, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x128, .f32⟩
  | .hbm, ⟨23, _⟩ => ⟨S4x4096x4x128, .f32⟩
  | .hbm, ⟨24, _⟩ => ⟨S1x1x1x128, .f32⟩
  | .hbm, ⟨25, _⟩ => ⟨S4x4096x4x128, .f32⟩
  | .hbm, ⟨26, _⟩ => ⟨S4x4096x4x128, .f32⟩
  | .hbm, ⟨27, _⟩ => ⟨S1x2048, .f32⟩
  | .hbm, ⟨28, _⟩ => ⟨S2048, .f32⟩
  | .hbm, ⟨29, _⟩ => ⟨S4x256x2048, .f32⟩
  | .hbm, ⟨30, _⟩ => ⟨S_, .f32⟩
  | .hbm, ⟨31, _⟩ => ⟨S4x256, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x2048, .f32⟩
  | .hbm, ⟨41, _⟩ => ⟨S4x256x2048, .f32⟩
  | .hbm, ⟨42, _⟩ => ⟨S1x1x2048, .f32⟩
  | .hbm, ⟨43, _⟩ => ⟨S4x256x2048, .f32⟩
  | .hbm, ⟨44, _⟩ => ⟨S4x256x2048, .f32⟩
  | .hbm, ⟨45, _⟩ => ⟨S1x2048x1024, .f32⟩
  | .hbm, ⟨46, _⟩ => ⟨S2048x1024, .f32⟩
  | .hbm, ⟨47, _⟩ => ⟨S4x256x1024, .f32⟩
  | .hbm, ⟨48, _⟩ => ⟨S4x256x512, .f32⟩
  | .hbm, ⟨49, _⟩ => ⟨S4x256x512, .f32⟩
  | .hbm, ⟨50, _⟩ => ⟨S4x256x4x128, .f32⟩
  | .hbm, ⟨51, _⟩ => ⟨S1x128, .f32⟩
  | .hbm, ⟨52, _⟩ => ⟨S128, .f32⟩
  | .hbm, ⟨53, _⟩ => ⟨S4x256x4x128, .f32⟩
  | .hbm, ⟨54, _⟩ => ⟨S_, .f32⟩
  | .hbm, ⟨55, _⟩ => ⟨S4x256x4, .f32⟩
  | .hbm, ⟨56, _⟩ => ⟨S4x256x4x1, .f32⟩
  | .hbm, ⟨57, _⟩ => ⟨S_, .f32⟩
  | .hbm, ⟨58, _⟩ => ⟨S4x256x4x1, .f32⟩
  | .hbm, ⟨59, _⟩ => ⟨S4x256x4x1, .f32⟩
  | .hbm, ⟨60, _⟩ => ⟨S_, .f32⟩
  | .hbm, ⟨61, _⟩ => ⟨S4x256x4x1, .f32⟩
  | .hbm, ⟨62, _⟩ => ⟨S4x256x4x1, .f32⟩
  | .hbm, ⟨63, _⟩ => ⟨S4x256x4x1, .f32⟩
  | .hbm, ⟨64, _⟩ => ⟨S4x256x4x128, .f32⟩
  | .hbm, ⟨65, _⟩ => ⟨S4x256x4x128, .f32⟩
  | .hbm, ⟨66, _⟩ => ⟨S1x1x1x128, .f32⟩
  | .hbm, ⟨67, _⟩ => ⟨S4x256x4x128, .f32⟩
  | .hbm, ⟨68, _⟩ => ⟨S4x256x4x128, .f32⟩
  | .hbm, ⟨69, _⟩ => ⟨S4x256x4x128, .f32⟩
  | .hbm, ⟨70, _⟩ => ⟨S4x4x4096x256, .f32⟩
  | .hbm, ⟨71, _⟩ => ⟨S_, .f32⟩
  | .hbm, ⟨72, _⟩ => ⟨S4x4x4096x256, .f32⟩
  | .hbm, ⟨73, _⟩ => ⟨S4x4x4096x256, .f32⟩
  | .hbm, ⟨74, _⟩ => ⟨S_, .f32⟩
  | .hbm, ⟨75, _⟩ => ⟨S4x4x4096, .f32⟩
  | .hbm, ⟨76, _⟩ => ⟨S_, .f32⟩
  | .hbm, ⟨77, _⟩ => ⟨S4x4x4096, .f32⟩
  | .hbm, ⟨78, _⟩ => ⟨S4x4x4096, .f32⟩
  | .hbm, ⟨79, _⟩ => ⟨S4x4x4096x1, .f32⟩
  | .hbm, ⟨80, _⟩ => ⟨S4x4x4096x256, .f32⟩
  | .hbm, ⟨81, _⟩ => ⟨S4x4x4096x256, .f32⟩
  | .hbm, ⟨82, _⟩ => ⟨S4x4x4096x256, .f32⟩
  | .hbm, ⟨83, _⟩ => ⟨S_, .f32⟩
  | .hbm, ⟨84, _⟩ => ⟨S4x4x4096, .f32⟩
  | .hbm, ⟨85, _⟩ => ⟨S4x4x4096x1, .f32⟩
  | .hbm, ⟨86, _⟩ => ⟨S4x4x4096x256, .f32⟩
  | .hbm, ⟨87, _⟩ => ⟨S4x4x4096x256, .f32⟩
  | .hbm, ⟨88, _⟩ => ⟨S4x4x128x4096, .f32⟩
  | .hbm, ⟨89, _⟩ => ⟨S4x4096x4x128, .f32⟩
  | .hbm, ⟨90, _⟩ => ⟨S16384x512, .f32⟩
  | .hbm, ⟨91, _⟩ => ⟨S16384x512, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel11.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S1024x2048 : Shape := ⟨2, ![1024, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S1024x512 : Shape := ⟨2, ![1024, 512]⟩
abbrev S256x2048 : Shape := ⟨2, ![256, 2048]⟩
abbrev S1x2048x1024 : Shape := ⟨3, ![1, 2048, 1024]⟩
abbrev S256x512 : Shape := ⟨2, ![256, 512]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S16384x512 : Shape := ⟨2, ![16384, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 20
  | .vmem => 18
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S1024x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4x2048x1024, .bf16⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1024x512, .bf16⟩
  | .hbm, ⟨15, _⟩ => ⟨S1024x512, .bf16⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S16384x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S512x512, .bf16⟩
  | .local _ .vmem, ⟨10, _⟩ => ⟨S512x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1x128, .f32⟩
  | .local _ .vmem, ⟨16, _⟩ => ⟨S512x512, .bf16⟩
  | .local _ .vmem, ⟨17, _⟩ => ⟨S512x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference11Ideal.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S16384x512 : Shape := ⟨2, ![16384, 512]⟩
abbrev S4x4096x4x128 : Shape := ⟨4, ![4, 4096, 4, 128]⟩
abbrev S1x128 : Shape := ⟨2, ![1, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1x2048 : Shape := ⟨2, ![1, 2048]⟩
abbrev S2048 : Shape := ⟨1, ![2048]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S16384x512, .bf16⟩
  | .hbm, ⟨7, _⟩ => ⟨S16384x512, .f32⟩
  | .hbm, ⟨8, _⟩ => ⟨S4x4096x4x128, .f32⟩
  | .hbm, ⟨9, _⟩ => ⟨S1x128, .f32⟩
  | .hbm, ⟨10, _⟩ => ⟨S128, .f32⟩
  | .hbm, ⟨11, _⟩ => ⟨S4x4096x4x128, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x128, .f32⟩
  | .hbm, ⟨23, _⟩ => ⟨S4x4096x4x128, .f32⟩
  | .hbm, ⟨24, _⟩ => ⟨S1x1x1x128, .f32⟩
  | .hbm, ⟨25, _⟩ => ⟨S4x4096x4x128, .f32⟩
  | .hbm, ⟨26, _⟩ => ⟨S4x4096x4x128, .f32⟩
  | .hbm, ⟨27, _⟩ => ⟨S1x2048, .f32⟩
  | .hbm, ⟨28, _⟩ => ⟨S2048, .f32⟩
  | .hbm, ⟨29, _⟩ => ⟨S4x256x2048, .f32⟩
  | .hbm, ⟨30, _⟩ => ⟨S_, .f32⟩
  | .hbm, ⟨31, _⟩ => ⟨S4x256, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x2048, .f32⟩
  | .hbm, ⟨41, _⟩ => ⟨S4x256x2048, .f32⟩
  | .hbm, ⟨42, _⟩ => ⟨S1x1x2048, .f32⟩
  | .hbm, ⟨43, _⟩ => ⟨S4x256x2048, .f32⟩
  | .hbm, ⟨44, _⟩ => ⟨S4x256x2048, .f32⟩
  | .hbm, ⟨45, _⟩ => ⟨S1x2048x1024, .f32⟩
  | .hbm, ⟨46, _⟩ => ⟨S2048x1024, .f32⟩
  | .hbm, ⟨47, _⟩ => ⟨S4x256x1024, .f32⟩
  | .hbm, ⟨48, _⟩ => ⟨S4x256x512, .f32⟩
  | .hbm, ⟨49, _⟩ => ⟨S4x256x512, .f32⟩
  | .hbm, ⟨50, _⟩ => ⟨S4x256x4x128, .f32⟩
  | .hbm, ⟨51, _⟩ => ⟨S1x128, .f32⟩
  | .hbm, ⟨52, _⟩ => ⟨S128, .f32⟩
  | .hbm, ⟨53, _⟩ => ⟨S4x256x4x128, .f32⟩
  | .hbm, ⟨54, _⟩ => ⟨S_, .f32⟩
  | .hbm, ⟨55, _⟩ => ⟨S4x256x4, .f32⟩
  | .hbm, ⟨56, _⟩ => ⟨S4x256x4x1, .f32⟩
  | .hbm, ⟨57, _⟩ => ⟨S_, .f32⟩
  | .hbm, ⟨58, _⟩ => ⟨S4x256x4x1, .f32⟩
  | .hbm, ⟨59, _⟩ => ⟨S4x256x4x1, .f32⟩
  | .hbm, ⟨60, _⟩ => ⟨S_, .f32⟩
  | .hbm, ⟨61, _⟩ => ⟨S4x256x4x1, .f32⟩
  | .hbm, ⟨62, _⟩ => ⟨S4x256x4x1, .f32⟩
  | .hbm, ⟨63, _⟩ => ⟨S4x256x4x1, .f32⟩
  | .hbm, ⟨64, _⟩ => ⟨S4x256x4x128, .f32⟩
  | .hbm, ⟨65, _⟩ => ⟨S4x256x4x128, .f32⟩
  | .hbm, ⟨66, _⟩ => ⟨S1x1x1x128, .f32⟩
  | .hbm, ⟨67, _⟩ => ⟨S4x256x4x128, .f32⟩
  | .hbm, ⟨68, _⟩ => ⟨S4x256x4x128, .f32⟩
  | .hbm, ⟨69, _⟩ => ⟨S4x256x4x128, .f32⟩
  | .hbm, ⟨70, _⟩ => ⟨S4x4x4096x256, .f32⟩
  | .hbm, ⟨71, _⟩ => ⟨S_, .f32⟩
  | .hbm, ⟨72, _⟩ => ⟨S4x4x4096x256, .f32⟩
  | .hbm, ⟨73, _⟩ => ⟨S4x4x4096x256, .f32⟩
  | .hbm, ⟨74, _⟩ => ⟨S_, .f32⟩
  | .hbm, ⟨75, _⟩ => ⟨S4x4x4096, .f32⟩
  | .hbm, ⟨76, _⟩ => ⟨S_, .f32⟩
  | .hbm, ⟨77, _⟩ => ⟨S4x4x4096, .f32⟩
  | .hbm, ⟨78, _⟩ => ⟨S4x4x4096, .f32⟩
  | .hbm, ⟨79, _⟩ => ⟨S4x4x4096x1, .f32⟩
  | .hbm, ⟨80, _⟩ => ⟨S4x4x4096x256, .f32⟩
  | .hbm, ⟨81, _⟩ => ⟨S4x4x4096x256, .f32⟩
  | .hbm, ⟨82, _⟩ => ⟨S4x4x4096x256, .f32⟩
  | .hbm, ⟨83, _⟩ => ⟨S_, .f32⟩
  | .hbm, ⟨84, _⟩ => ⟨S4x4x4096, .f32⟩
  | .hbm, ⟨85, _⟩ => ⟨S4x4x4096x1, .f32⟩
  | .hbm, ⟨86, _⟩ => ⟨S4x4x4096x256, .f32⟩
  | .hbm, ⟨87, _⟩ => ⟨S4x4x4096x256, .f32⟩
  | .hbm, ⟨88, _⟩ => ⟨S4x4x128x4096, .f32⟩
  | .hbm, ⟨89, _⟩ => ⟨S4x4096x4x128, .f32⟩
  | .hbm, ⟨90, _⟩ => ⟨S16384x512, .f32⟩
  | .hbm, ⟨91, _⟩ => ⟨S16384x512, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel12.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S1024x2048 : Shape := ⟨2, ![1024, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S1024x512 : Shape := ⟨2, ![1024, 512]⟩
abbrev S256x2048 : Shape := ⟨2, ![256, 2048]⟩
abbrev S1x2048x1024 : Shape := ⟨3, ![1, 2048, 1024]⟩
abbrev S256x512 : Shape := ⟨2, ![256, 512]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S16384x512 : Shape := ⟨2, ![16384, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 20
  | .vmem => 18
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S1024x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4x2048x1024, .bf16⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1024x512, .bf16⟩
  | .hbm, ⟨15, _⟩ => ⟨S1024x512, .bf16⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S16384x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S512x512, .bf16⟩
  | .local _ .vmem, ⟨10, _⟩ => ⟨S512x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1x128, .f32⟩
  | .local _ .vmem, ⟨16, _⟩ => ⟨S512x512, .bf16⟩
  | .local _ .vmem, ⟨17, _⟩ => ⟨S512x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference12Ideal.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S16384x512 : Shape := ⟨2, ![16384, 512]⟩
abbrev S4x4096x4x128 : Shape := ⟨4, ![4, 4096, 4, 128]⟩
abbrev S1x128 : Shape := ⟨2, ![1, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1x2048 : Shape := ⟨2, ![1, 2048]⟩
abbrev S2048 : Shape := ⟨1, ![2048]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S16384x512, .bf16⟩
  | .hbm, ⟨7, _⟩ => ⟨S16384x512, .f32⟩
  | .hbm, ⟨8, _⟩ => ⟨S4x4096x4x128, .f32⟩
  | .hbm, ⟨9, _⟩ => ⟨S1x128, .f32⟩
  | .hbm, ⟨10, _⟩ => ⟨S128, .f32⟩
  | .hbm, ⟨11, _⟩ => ⟨S4x4096x4x128, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x128, .f32⟩
  | .hbm, ⟨23, _⟩ => ⟨S4x4096x4x128, .f32⟩
  | .hbm, ⟨24, _⟩ => ⟨S1x1x1x128, .f32⟩
  | .hbm, ⟨25, _⟩ => ⟨S4x4096x4x128, .f32⟩
  | .hbm, ⟨26, _⟩ => ⟨S4x4096x4x128, .f32⟩
  | .hbm, ⟨27, _⟩ => ⟨S1x2048, .f32⟩
  | .hbm, ⟨28, _⟩ => ⟨S2048, .f32⟩
  | .hbm, ⟨29, _⟩ => ⟨S4x256x2048, .f32⟩
  | .hbm, ⟨30, _⟩ => ⟨S_, .f32⟩
  | .hbm, ⟨31, _⟩ => ⟨S4x256, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x2048, .f32⟩
  | .hbm, ⟨41, _⟩ => ⟨S4x256x2048, .f32⟩
  | .hbm, ⟨42, _⟩ => ⟨S1x1x2048, .f32⟩
  | .hbm, ⟨43, _⟩ => ⟨S4x256x2048, .f32⟩
  | .hbm, ⟨44, _⟩ => ⟨S4x256x2048, .f32⟩
  | .hbm, ⟨45, _⟩ => ⟨S1x2048x1024, .f32⟩
  | .hbm, ⟨46, _⟩ => ⟨S2048x1024, .f32⟩
  | .hbm, ⟨47, _⟩ => ⟨S4x256x1024, .f32⟩
  | .hbm, ⟨48, _⟩ => ⟨S4x256x512, .f32⟩
  | .hbm, ⟨49, _⟩ => ⟨S4x256x512, .f32⟩
  | .hbm, ⟨50, _⟩ => ⟨S4x256x4x128, .f32⟩
  | .hbm, ⟨51, _⟩ => ⟨S1x128, .f32⟩
  | .hbm, ⟨52, _⟩ => ⟨S128, .f32⟩
  | .hbm, ⟨53, _⟩ => ⟨S4x256x4x128, .f32⟩
  | .hbm, ⟨54, _⟩ => ⟨S_, .f32⟩
  | .hbm, ⟨55, _⟩ => ⟨S4x256x4, .f32⟩
  | .hbm, ⟨56, _⟩ => ⟨S4x256x4x1, .f32⟩
  | .hbm, ⟨57, _⟩ => ⟨S_, .f32⟩
  | .hbm, ⟨58, _⟩ => ⟨S4x256x4x1, .f32⟩
  | .hbm, ⟨59, _⟩ => ⟨S4x256x4x1, .f32⟩
  | .hbm, ⟨60, _⟩ => ⟨S_, .f32⟩
  | .hbm, ⟨61, _⟩ => ⟨S4x256x4x1, .f32⟩
  | .hbm, ⟨62, _⟩ => ⟨S4x256x4x1, .f32⟩
  | .hbm, ⟨63, _⟩ => ⟨S4x256x4x1, .f32⟩
  | .hbm, ⟨64, _⟩ => ⟨S4x256x4x128, .f32⟩
  | .hbm, ⟨65, _⟩ => ⟨S4x256x4x128, .f32⟩
  | .hbm, ⟨66, _⟩ => ⟨S1x1x1x128, .f32⟩
  | .hbm, ⟨67, _⟩ => ⟨S4x256x4x128, .f32⟩
  | .hbm, ⟨68, _⟩ => ⟨S4x256x4x128, .f32⟩
  | .hbm, ⟨69, _⟩ => ⟨S4x256x4x128, .f32⟩
  | .hbm, ⟨70, _⟩ => ⟨S4x4x4096x256, .f32⟩
  | .hbm, ⟨71, _⟩ => ⟨S_, .f32⟩
  | .hbm, ⟨72, _⟩ => ⟨S4x4x4096x256, .f32⟩
  | .hbm, ⟨73, _⟩ => ⟨S4x4x4096x256, .f32⟩
  | .hbm, ⟨74, _⟩ => ⟨S_, .f32⟩
  | .hbm, ⟨75, _⟩ => ⟨S4x4x4096, .f32⟩
  | .hbm, ⟨76, _⟩ => ⟨S_, .f32⟩
  | .hbm, ⟨77, _⟩ => ⟨S4x4x4096, .f32⟩
  | .hbm, ⟨78, _⟩ => ⟨S4x4x4096, .f32⟩
  | .hbm, ⟨79, _⟩ => ⟨S4x4x4096x1, .f32⟩
  | .hbm, ⟨80, _⟩ => ⟨S4x4x4096x256, .f32⟩
  | .hbm, ⟨81, _⟩ => ⟨S4x4x4096x256, .f32⟩
  | .hbm, ⟨82, _⟩ => ⟨S4x4x4096x256, .f32⟩
  | .hbm, ⟨83, _⟩ => ⟨S_, .f32⟩
  | .hbm, ⟨84, _⟩ => ⟨S4x4x4096, .f32⟩
  | .hbm, ⟨85, _⟩ => ⟨S4x4x4096x1, .f32⟩
  | .hbm, ⟨86, _⟩ => ⟨S4x4x4096x256, .f32⟩
  | .hbm, ⟨87, _⟩ => ⟨S4x4x4096x256, .f32⟩
  | .hbm, ⟨88, _⟩ => ⟨S4x4x128x4096, .f32⟩
  | .hbm, ⟨89, _⟩ => ⟨S4x4096x4x128, .f32⟩
  | .hbm, ⟨90, _⟩ => ⟨S16384x512, .f32⟩
  | .hbm, ⟨91, _⟩ => ⟨S16384x512, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel13.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S1024x2048 : Shape := ⟨2, ![1024, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S1024x512 : Shape := ⟨2, ![1024, 512]⟩
abbrev S256x2048 : Shape := ⟨2, ![256, 2048]⟩
abbrev S1x2048x1024 : Shape := ⟨3, ![1, 2048, 1024]⟩
abbrev S256x512 : Shape := ⟨2, ![256, 512]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S16384x512 : Shape := ⟨2, ![16384, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 20
  | .vmem => 18
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S1024x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4x2048x1024, .bf16⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1024x512, .bf16⟩
  | .hbm, ⟨15, _⟩ => ⟨S1024x512, .bf16⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S16384x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S512x512, .bf16⟩
  | .local _ .vmem, ⟨10, _⟩ => ⟨S512x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1x128, .f32⟩
  | .local _ .vmem, ⟨16, _⟩ => ⟨S512x512, .bf16⟩
  | .local _ .vmem, ⟨17, _⟩ => ⟨S512x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference13Ideal.lean ====
abbrev S16384x6144 : Shape := ⟨2, ![16384, 6144]⟩
abbrev S4x256x2048 : Shape := ⟨3, ![4, 256, 2048]⟩
abbrev S4x2048 : Shape := ⟨2, ![4, 2048]⟩
abbrev S4x2048x1024 : Shape := ⟨3, ![4, 2048, 1024]⟩
abbrev S4x128 : Shape := ⟨2, ![4, 128]⟩
abbrev S16384x512 : Shape := ⟨2, ![16384, 512]⟩
abbrev S4x4096x4x128 : Shape := ⟨4, ![4, 4096, 4, 128]⟩
abbrev S1x128 : Shape := ⟨2, ![1, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1x2048 : Shape := ⟨2, ![1, 2048]⟩
abbrev S2048 : Shape := ⟨1, ![2048]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x256x2048, .f32⟩
  | .hbm, ⟨2, _⟩ => ⟨S4x2048, .f32⟩
  | .hbm, ⟨3, _⟩ => ⟨S4x2048x1024, .f32⟩
  | .hbm, ⟨4, _⟩ => ⟨S4x128, .f32⟩
  | .hbm, ⟨5, _⟩ => ⟨S4x128, .f32⟩
  | .hbm, ⟨6, _⟩ => ⟨S16384x512, .bf16⟩
  | .hbm, ⟨7, _⟩ => ⟨S16384x512, .f32⟩
  | .hbm, ⟨8, _⟩ => ⟨S4x4096x4x128, .f32⟩
  | .hbm, ⟨9, _⟩ => ⟨S1x128, .f32⟩
  | .hbm, ⟨10, _⟩ => ⟨S128, .f32⟩
  | .hbm, ⟨11, _⟩ => ⟨S4x4096x4x128, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x128, .f32⟩
  | .hbm, ⟨23, _⟩ => ⟨S4x4096x4x128, .f32⟩
  | .hbm, ⟨24, _⟩ => ⟨S1x1x1x128, .f32⟩
  | .hbm, ⟨25, _⟩ => ⟨S4x4096x4x128, .f32⟩
  | .hbm, ⟨26, _⟩ => ⟨S4x4096x4x128, .f32⟩
  | .hbm, ⟨27, _⟩ => ⟨S1x2048, .f32⟩
  | .hbm, ⟨28, _⟩ => ⟨S2048, .f32⟩
  | .hbm, ⟨29, _⟩ => ⟨S4x256x2048, .f32⟩
  | .hbm, ⟨30, _⟩ => ⟨S_, .f32⟩
  | .hbm, ⟨31, _⟩ => ⟨S4x256, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x2048, .f32⟩
  | .hbm, ⟨41, _⟩ => ⟨S4x256x2048, .f32⟩
  | .hbm, ⟨42, _⟩ => ⟨S1x1x2048, .f32⟩
  | .hbm, ⟨43, _⟩ => ⟨S4x256x2048, .f32⟩
  | .hbm, ⟨44, _⟩ => ⟨S4x256x2048, .f32⟩
  | .hbm, ⟨45, _⟩ => ⟨S1x2048x1024, .f32⟩
  | .hbm, ⟨46, _⟩ => ⟨S2048x1024, .f32⟩
  | .hbm, ⟨47, _⟩ => ⟨S4x256x1024, .f32⟩
  | .hbm, ⟨48, _⟩ => ⟨S4x256x512, .f32⟩
  | .hbm, ⟨49, _⟩ => ⟨S4x256x512, .f32⟩
  | .hbm, ⟨50, _⟩ => ⟨S4x256x4x128, .f32⟩
  | .hbm, ⟨51, _⟩ => ⟨S1x128, .f32⟩
  | .hbm, ⟨52, _⟩ => ⟨S128, .f32⟩
  | .hbm, ⟨53, _⟩ => ⟨S4x256x4x128, .f32⟩
  | .hbm, ⟨54, _⟩ => ⟨S_, .f32⟩
  | .hbm, ⟨55, _⟩ => ⟨S4x256x4, .f32⟩
  | .hbm, ⟨56, _⟩ => ⟨S4x256x4x1, .f32⟩
  | .hbm, ⟨57, _⟩ => ⟨S_, .f32⟩
  | .hbm, ⟨58, _⟩ => ⟨S4x256x4x1, .f32⟩
  | .hbm, ⟨59, _⟩ => ⟨S4x256x4x1, .f32⟩
  | .hbm, ⟨60, _⟩ => ⟨S_, .f32⟩
  | .hbm, ⟨61, _⟩ => ⟨S4x256x4x1, .f32⟩
  | .hbm, ⟨62, _⟩ => ⟨S4x256x4x1, .f32⟩
  | .hbm, ⟨63, _⟩ => ⟨S4x256x4x1, .f32⟩
  | .hbm, ⟨64, _⟩ => ⟨S4x256x4x128, .f32⟩
  | .hbm, ⟨65, _⟩ => ⟨S4x256x4x128, .f32⟩
  | .hbm, ⟨66, _⟩ => ⟨S1x1x1x128, .f32⟩
  | .hbm, ⟨67, _⟩ => ⟨S4x256x4x128, .f32⟩
  | .hbm, ⟨68, _⟩ => ⟨S4x256x4x128, .f32⟩
  | .hbm, ⟨69, _⟩ => ⟨S4x256x4x128, .f32⟩
  | .hbm, ⟨70, _⟩ => ⟨S4x4x4096x256, .f32⟩
  | .hbm, ⟨71, _⟩ => ⟨S_, .f32⟩
  | .hbm, ⟨72, _⟩ => ⟨S4x4x4096x256, .f32⟩
  | .hbm, ⟨73, _⟩ => ⟨S4x4x4096x256, .f32⟩
  | .hbm, ⟨74, _⟩ => ⟨S_, .f32⟩
  | .hbm, ⟨75, _⟩ => ⟨S4x4x4096, .f32⟩
  | .hbm, ⟨76, _⟩ => ⟨S_, .f32⟩
  | .hbm, ⟨77, _⟩ => ⟨S4x4x4096, .f32⟩
  | .hbm, ⟨78, _⟩ => ⟨S4x4x4096, .f32⟩
  | .hbm, ⟨79, _⟩ => ⟨S4x4x4096x1, .f32⟩
  | .hbm, ⟨80, _⟩ => ⟨S4x4x4096x256, .f32⟩
  | .hbm, ⟨81, _⟩ => ⟨S4x4x4096x256, .f32⟩
  | .hbm, ⟨82, _⟩ => ⟨S4x4x4096x256, .f32⟩
  | .hbm, ⟨83, _⟩ => ⟨S_, .f32⟩
  | .hbm, ⟨84, _⟩ => ⟨S4x4x4096, .f32⟩
  | .hbm, ⟨85, _⟩ => ⟨S4x4x4096x1, .f32⟩
  | .hbm, ⟨86, _⟩ => ⟨S4x4x4096x256, .f32⟩
  | .hbm, ⟨87, _⟩ => ⟨S4x4x4096x256, .f32⟩
  | .hbm, ⟨88, _⟩ => ⟨S4x4x128x4096, .f32⟩
  | .hbm, ⟨89, _⟩ => ⟨S4x4096x4x128, .f32⟩
  | .hbm, ⟨90, _⟩ => ⟨S16384x512, .f32⟩
  | .hbm, ⟨91, _⟩ => ⟨S16384x512, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Proof.Dsa.Loose.lean ====
/-
  A frame that names no contents, for a kernel body of many printed parts. `Keeps c bd C p` says that the program `p`, run
  on core `c` from the resources `C`, terminates and gives `C` back. When `C` holds every buffer of the body at SOME contents
  (`Held`), a load and a store keep it, a sequence keeps it when its steps do, a counted loop when its region does, a
  conditional when both of its arms do: a body is gone through by its text alone, and no value it computes is named.
-/
module

public import proofs.«01_k».proof.Proof.Gen.Kernel
public import Idealize.ShloMosaic.Lib.Pipeline.Sound
public import Idealize.ShloMosaic.Lib.Pipeline.Frame
public import Idealize.ShloMosaic.Lib.Scf
public import Idealize.ShloMosaic.Lib.Tactic

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra: the pipeline library's, for the staging cells. -/
abbrev MF (F : FTy → Type) : Type := MT nD τ sig Unit (Elt F) ℕ (UR sig nD τ) ℕ

/-- The kernel's variants: the naturals, the while loop's trips still to run. -/
abbrev 𝒱₀ : Variants := Variants.nat

/-- From the resources `C`, the program `p` on core `c`, its calls answered below the variant `bd`, terminates and gives
    `C` back, whatever it returns. -/
def Keeps (c : Dev nD) (bd : Option ℕ) (C : sProp (MF F)) {α : Type} (p : Prog (TpuEff nD τ sig (Elt F) (Λ₀ F) .tc) α) : Prop :=
  C ⊢ wp frame (wpE (defs₀ (F := F)) 𝒱₀ (c : Thread nD τ) bd) Set.univ p fun _ => C

section Rules

variable {c : Dev nD} {bd : Option ℕ} {C : sProp (MF F)} {α β : Type}

theorem Keeps.ret (a : α) : Keeps (F := F) c bd C (.ret a) := le_wp_ret _ _ _ _ (fun _ => C)

theorem Keeps.pure (a : α) : Keeps (F := F) c bd C (Pure.pure a) := Keeps.ret a

/-- A sequence keeps what both of its parts keep. -/
theorem Keeps.bind {p : Prog (TpuEff nD τ sig (Elt F) (Λ₀ F) .tc) α} {k : α → Prog (TpuEff nD τ sig (Elt F) (Λ₀ F) .tc) β}
    (hp : Keeps c bd C p) (hk : ∀ a, Keeps c bd C (k a)) : Keeps c bd C (p >>= k) := by
  unfold Keeps at *
  rw [wp_bind]
  exact hp.trans (wp_mono _ _ _ hk)

/-- A counted loop keeps what each trip's region keeps. -/
theorem Keeps.for {w : ℕ} {σ : Type} (lb ub st : BitVec w) (hok : Scf.OK lb ub st) (init : σ)
    (body : Fin (Scf.trips lb ub st) → σ → Prog (TpuEff nD τ sig (Elt F) (Λ₀ F) .tc) σ)
    (hb : ∀ k a, Keeps c bd C (body k a)) : Keeps c bd C (Scf.for lb ub st hok init body) := by
  unfold Keeps at *
  iintro H
  iapply (Scf.wp_for _ _ _ lb ub st hok init body (fun _ _ => C) (fun k a => hb k a))
  isplitl [H]
  · iexact H
  · iintro %a H; iexact H

/-- `C` lends the memref `m`'s elements, at some contents, and takes them back at any. -/
def Lends {cs : CoreSpace} {s : Shape} {e : EltTy} (c : Dev nD) (C : sProp (MF F)) (m : Memref sig .tc cs s e) : Prop :=
  C ⊢ iprop(∃ f, (m.view.loc (c : Thread nD τ) ↦[m.view.set]{fullShare} f)
    ∗ (∀ g, (m.view.loc (c : Thread nD τ) ↦[m.view.set]{fullShare} g) -∗ C))

theorem Keeps.load {cs : CoreSpace} {s : Shape} {e : EltTy} {m : Memref sig .tc cs s e} (hm : Lends c C m) (r : LoadRect s)
    (hl : m.view.LoadsAt r) : Keeps (F := F) c bd C (Prog.lift (.load m r hl)) := by
  unfold Keeps Lends at *
  refine hm.trans ?_
  iintro ⟨%f, H, HC⟩
  iapply (wp_load 𝒱₀ (c : Thread nD τ) bd Set.univ (m := m) (View.setOn_subset_set _ _)) $$ H
  iintro H
  rw [wp_ret]; imodintro
  iapply HC; iexact H

theorem Keeps.store {cs : CoreSpace} {s : Shape} {e : EltTy} {m : Memref sig .tc cs s e} (hm : Lends c C m) (r : Rect s)
    (w : r.shape.Idx → Elt F e) (Mk : Finset r.shape.Idx) (hx : (m.access r).Stores Mk) (hk : Mk = Finset.univ ∨ ∀ a, r.stride a = 1) :
    Keeps (F := F) c bd C (Prog.lift (.store m r w Mk hx hk)) := by
  unfold Keeps Lends at *
  refine hm.trans ?_
  iintro ⟨%f, H, HC⟩
  iapply (wp_store 𝒱₀ (c : Thread nD τ) bd Set.univ (m := m) (Memref.setOn_access_subset m r Mk)) $$ H
  iintro H
  rw [wp_ret]; imodintro
  iapply HC; iexact H

end Rules

/-- The memrefs the kernel's body is called with: six inputs, the output and nine scratch buffers, each whole. -/
structure Mems where
  a2 : Memref sig .tc .vmem S16x64x256 .bf16
  h2 : a2.IsWhole
  a3 : Memref sig .tc .vmem S16x256 .f32
  h3 : a3.IsWhole
  a4 : Memref sig .tc .vmem S4x128x256 .bf16
  h4 : a4.IsWhole
  a5 : Memref sig .tc .vmem S1x16x256x64 .bf16
  h5 : a5.IsWhole
  a6 : Memref sig .tc .vmem S1x16x256x128 .bf16
  h6 : a6.IsWhole
  a7 : Memref sig .tc .vmem S1x16x128x256 .bf16
  h7 : a7.IsWhole
  a8 : Memref sig .tc .vmem S256x512 .bf16
  h8 : a8.IsWhole
  a9 : Memref sig .tc .vmem S16x256x256 .f32
  h9 : a9.IsWhole
  a10 : Memref sig .tc .vmem S16x32x8x256 .i32
  h10 : a10.IsWhole
  a11 : Memref sig .tc .vmem S16x8x256 .i32
  h11 : a11.IsWhole
  a12 : Memref sig .tc .vmem S16x8x256 .i32
  h12 : a12.IsWhole
  a13 : Memref sig .tc .vmem S256x256 .f32
  h13 : a13.IsWhole
  a14 : Memref sig .tc .vmem S128x1024 .bf16
  h14 : a14.IsWhole
  a15 : Memref sig .tc .vmem S2x4x256x256 .f32
  h15 : a15.IsWhole
  a16 : Memref sig .tc .vmem S4x256x256 .bf16
  h16 : a16.IsWhole
  a17 : Memref sig .tc .vmem S4x128x256 .f32
  h17 : a17.IsWhole

/-- The memref's own elements, at some contents. -/
def At {cs : CoreSpace} {s : Shape} {e : EltTy} (c : Dev nD) (m : Memref sig .tc cs s e) : sProp (MF F) :=
  iprop(∃ f, (m.view.loc (c : Thread nD τ) ↦[m.view.set]{fullShare} f))

theorem lends_last {cs : CoreSpace} {s : Shape} {e : EltTy} (c : Dev nD) (m : Memref sig .tc cs s e) : Lends c (At (F := F) c m) m := by
  unfold Lends At
  iintro ⟨%f, H⟩
  iexists f
  isplitl [H]; · iexact H
  iintro %g H; iexists g; iexact H

theorem lends_head {cs : CoreSpace} {s : Shape} {e : EltTy} (c : Dev nD) (m : Memref sig .tc cs s e) (R : sProp (MF F)) :
    Lends c iprop(At c m ∗ R) m := by
  unfold Lends At
  iintro ⟨⟨%f, H⟩, HR⟩
  iexists f
  isplitl [H]; · iexact H
  iintro %g H
  isplitl [H]
  · iexists g; iexact H
  · iexact HR

theorem lends_tail {cs : CoreSpace} {s : Shape} {e : EltTy} {c : Dev nD} {m : Memref sig .tc cs s e} {P R : sProp (MF F)} (h : Lends c R m) :
    Lends c iprop(P ∗ R) m := by
  unfold Lends at *
  refine (sep_mono .rfl h).trans ?_
  iintro ⟨HP, ⟨%f, H, HR⟩⟩
  iexists f
  isplitl [H]; · iexact H
  iintro %g H
  isplitl [HP]; · iexact HP
  iapply HR; iexact H

/-- Every buffer of the body, at some contents. -/
def Held (c : Dev nD) (M : Mems) : sProp (MF F) :=
  iprop(At c M.a2 ∗ At c M.a3 ∗ At c M.a4 ∗ At c M.a5 ∗ At c M.a6 ∗ At c M.a7 ∗ At c M.a8 ∗ At c M.a9 ∗ At c M.a10 ∗ At c M.a11 ∗ At c M.a12 ∗ At c M.a13 ∗ At c M.a14 ∗ At c M.a15 ∗ At c M.a16 ∗ At c M.a17)

theorem lends2 (c : Dev nD) (M : Mems) : Lends (F := F) c (Held c M) M.a2 := lends_head c M.a2 _
theorem lends3 (c : Dev nD) (M : Mems) : Lends (F := F) c (Held c M) M.a3 := lends_tail (lends_head c M.a3 _)
theorem lends4 (c : Dev nD) (M : Mems) : Lends (F := F) c (Held c M) M.a4 := lends_tail (lends_tail (lends_head c M.a4 _))
theorem lends5 (c : Dev nD) (M : Mems) : Lends (F := F) c (Held c M) M.a5 := lends_tail (lends_tail (lends_tail (lends_head c M.a5 _)))
theorem lends6 (c : Dev nD) (M : Mems) : Lends (F := F) c (Held c M) M.a6 := lends_tail (lends_tail (lends_tail (lends_tail (lends_head c M.a6 _))))
theorem lends7 (c : Dev nD) (M : Mems) : Lends (F := F) c (Held c M) M.a7 := lends_tail (lends_tail (lends_tail (lends_tail (lends_tail (lends_head c M.a7 _)))))
theorem lends8 (c : Dev nD) (M : Mems) : Lends (F := F) c (Held c M) M.a8 := lends_tail (lends_tail (lends_tail (lends_tail (lends_tail (lends_tail (lends_head c M.a8 _))))))
theorem lends9 (c : Dev nD) (M : Mems) : Lends (F := F) c (Held c M) M.a9 := lends_tail (lends_tail (lends_tail (lends_tail (lends_tail (lends_tail (lends_tail (lends_head c M.a9 _)))))))
theorem lends10 (c : Dev nD) (M : Mems) : Lends (F := F) c (Held c M) M.a10 := lends_tail (lends_tail (lends_tail (lends_tail (lends_tail (lends_tail (lends_tail (lends_tail (lends_head c M.a10 _))))))))
theorem lends11 (c : Dev nD) (M : Mems) : Lends (F := F) c (Held c M) M.a11 := lends_tail (lends_tail (lends_tail (lends_tail (lends_tail (lends_tail (lends_tail (lends_tail (lends_tail (lends_head c M.a11 _)))))))))
theorem lends12 (c : Dev nD) (M : Mems) : Lends (F := F) c (Held c M) M.a12 := lends_tail (lends_tail (lends_tail (lends_tail (lends_tail (lends_tail (lends_tail (lends_tail (lends_tail (lends_tail (lends_head c M.a12 _))))))))))
theorem lends13 (c : Dev nD) (M : Mems) : Lends (F := F) c (Held c M) M.a13 := lends_tail (lends_tail (lends_tail (lends_tail (lends_tail (lends_tail (lends_tail (lends_tail (lends_tail (lends_tail (lends_tail (lends_head c M.a13 _)))))))))))
theorem lends14 (c : Dev nD) (M : Mems) : Lends (F := F) c (Held c M) M.a14 := lends_tail (lends_tail (lends_tail (lends_tail (lends_tail (lends_tail (lends_tail (lends_tail (lends_tail (lends_tail (lends_tail (lends_tail (lends_head c M.a14 _))))))))))))
theorem lends15 (c : Dev nD) (M : Mems) : Lends (F := F) c (Held c M) M.a15 := lends_tail (lends_tail (lends_tail (lends_tail (lends_tail (lends_tail (lends_tail (lends_tail (lends_tail (lends_tail (lends_tail (lends_tail (lends_tail (lends_head c M.a15 _)))))))))))))
theorem lends16 (c : Dev nD) (M : Mems) : Lends (F := F) c (Held c M) M.a16 := lends_tail (lends_tail (lends_tail (lends_tail (lends_tail (lends_tail (lends_tail (lends_tail (lends_tail (lends_tail (lends_tail (lends_tail (lends_tail (lends_tail (lends_head c M.a16 _))))))))))))))
theorem lends17 (c : Dev nD) (M : Mems) : Lends (F := F) c (Held c M) M.a17 := lends_tail (lends_tail (lends_tail (lends_tail (lends_tail (lends_tail (lends_tail (lends_tail (lends_tail (lends_tail (lends_tail (lends_tail (lends_tail (lends_tail (lends_tail (lends_last c M.a17)))))))))))))))

end Cert.Proof.Dsa

end
-- ==== Proof.Dsa.Parts1.lean ====
/-
  The printed parts of the indexer's first block loop, each keeping the buffers.
-/
module

public import proofs.«01_k».proof.Proof.Dsa.Loose

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem keeps1 (c : Dev nD) (bd : Option ℕ) (M : Mems) (i : grid0.Coords) : ∀ v27 c0_i32_58 c1_i32_60 k0_t1, Keeps (F := F) c bd (Held c M) (k0_part1 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 c0_i32_58 c1_i32_60 k0_t1) := by
  intros
  unfold k0_part1
  repeat' first
    | extract_lets
    | with_reducible exact Keeps.pure _
    | with_reducible refine Keeps.bind ?_ (fun _ => ?_)
    | with_reducible exact Keeps.load (lends2 c M) _ _
    | with_reducible exact Keeps.load (lends5 c M) _ _
    | split

theorem keeps2 (c : Dev nD) (bd : Option ℕ) (M : Mems) (i : grid0.Coords) : ∀ v27 v602 v628 v634 v635, Keeps (F := F) c bd (Held c M) (k0_part2 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v602 v628 v634 v635) := by
  intros
  unfold k0_part2
  repeat' first
    | extract_lets
    | with_reducible exact Keeps.pure _
    | with_reducible refine Keeps.bind ?_ (fun _ => ?_)
    | with_reducible exact Keeps.load (lends2 c M) _ _
    | split

theorem keeps3 (c : Dev nD) (bd : Option ℕ) (M : Mems) (i : grid0.Coords) : ∀ v27 v602 v673 v674, Keeps (F := F) c bd (Held c M) (k0_part3 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v602 v673 v674) := by
  intros
  unfold k0_part3
  repeat' first
    | extract_lets
    | with_reducible exact Keeps.pure _
    | with_reducible refine Keeps.bind ?_ (fun _ => ?_)
    | with_reducible exact Keeps.load (lends2 c M) _ _
    | split

theorem keeps4 (c : Dev nD) (bd : Option ℕ) (M : Mems) (i : grid0.Coords) : ∀ v24 v27 arg18 v602 v709 v710 v712, Keeps (F := F) c bd (Held c M) (k0_part4 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 arg18 v602 v709 v710 v712) := by
  intros
  unfold k0_part4
  repeat' first
    | extract_lets
    | with_reducible exact Keeps.pure _
    | with_reducible refine Keeps.bind ?_ (fun _ => ?_)
    | with_reducible exact Keeps.load (lends2 c M) _ _
    | split

theorem keeps5 (c : Dev nD) (bd : Option ℕ) (M : Mems) (i : grid0.Coords) : ∀ k0_t1 arg18 v745 v753, Keeps (F := F) c bd (Held c M) (k0_part5 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t1 arg18 v745 v753) := by
  intros
  unfold k0_part5
  repeat' first
    | extract_lets
    | with_reducible exact Keeps.pure _
    | with_reducible refine Keeps.bind ?_ (fun _ => ?_)
    | with_reducible exact Keeps.load (lends9 c M) _ _
    | with_reducible exact Keeps.store (lends9 c M) _ _ _ _ _
    | split

theorem keeps6 (c : Dev nD) (bd : Option ℕ) (M : Mems) (i : grid0.Coords) : ∀ v769 v772 v773 v779 v782 v788 v791 v796 v797 v798, Keeps (F := F) c bd (Held c M) (k0_part6 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v769 v772 v773 v779 v782 v788 v791 v796 v797 v798) := by
  intros
  unfold k0_part6
  repeat' first
    | extract_lets
    | with_reducible exact Keeps.pure _
    | with_reducible refine Keeps.bind ?_ (fun _ => ?_)
    | split

theorem keeps7 (c : Dev nD) (bd : Option ℕ) (M : Mems) (i : grid0.Coords) : ∀ v27 k0_t1 arg18 v809 v815 v818 v824 v827 v833 v836 v841 v842 v843, Keeps (F := F) c bd (Held c M) (k0_part7 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 k0_t1 arg18 v809 v815 v818 v824 v827 v833 v836 v841 v842 v843) := by
  intros
  unfold k0_part7
  repeat' first
    | extract_lets
    | with_reducible exact Keeps.pure _
    | with_reducible refine Keeps.bind ?_ (fun _ => ?_)
    | with_reducible exact Keeps.load (lends5 c M) _ _
    | split

theorem keeps8 (c : Dev nD) (bd : Option ℕ) (M : Mems) (i : grid0.Coords) : ∀ v27 v884 v885, Keeps (F := F) c bd (Held c M) (k0_part8 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v884 v885) := by
  intros
  unfold k0_part8
  repeat' first
    | extract_lets
    | with_reducible exact Keeps.pure _
    | with_reducible refine Keeps.bind ?_ (fun _ => ?_)
    | with_reducible exact Keeps.load (lends2 c M) _ _
    | split

theorem keeps9 (c : Dev nD) (bd : Option ℕ) (M : Mems) (i : grid0.Coords) : ∀ v27 v884 v919 v920 v923 cst_369, Keeps (F := F) c bd (Held c M) (k0_part9 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v884 v919 v920 v923 cst_369) := by
  intros
  unfold k0_part9
  repeat' first
    | extract_lets
    | with_reducible exact Keeps.pure _
    | with_reducible refine Keeps.bind ?_ (fun _ => ?_)
    | with_reducible exact Keeps.load (lends2 c M) _ _
    | split

theorem keeps10 (c : Dev nD) (bd : Option ℕ) (M : Mems) (i : grid0.Coords) : ∀ v27 v884 v955 v963, Keeps (F := F) c bd (Held c M) (k0_part10 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v884 v955 v963) := by
  intros
  unfold k0_part10
  repeat' first
    | extract_lets
    | with_reducible exact Keeps.pure _
    | with_reducible refine Keeps.bind ?_ (fun _ => ?_)
    | with_reducible exact Keeps.load (lends2 c M) _ _
    | split

theorem keeps11 (c : Dev nD) (bd : Option ℕ) (M : Mems) (i : grid0.Coords) : ∀ v24 v27 k0_t1 arg18 v884 v1000 v1001, Keeps (F := F) c bd (Held c M) (k0_part11 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 k0_t1 arg18 v884 v1000 v1001) := by
  intros
  unfold k0_part11
  repeat' first
    | extract_lets
    | with_reducible exact Keeps.pure _
    | with_reducible refine Keeps.bind ?_ (fun _ => ?_)
    | with_reducible exact Keeps.load (lends2 c M) _ _
    | with_reducible exact Keeps.load (lends9 c M) _ _
    | with_reducible exact Keeps.store (lends9 c M) _ _ _ _ _
    | split

theorem keeps12 (c : Dev nD) (bd : Option ℕ) (M : Mems) (i : grid0.Coords) : ∀ v1042, Keeps (F := F) c bd (Held c M) (k0_part12 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1042) := by
  intros
  unfold k0_part12
  repeat' first
    | extract_lets
    | with_reducible exact Keeps.pure _
    | with_reducible refine Keeps.bind ?_ (fun _ => ?_)
    | split

theorem keeps13 (c : Dev nD) (bd : Option ℕ) (M : Mems) (i : grid0.Coords) : ∀ v1055 v1061 v1064 v1070 v1073 v1079 v1082 v1087 v1088 c4_i32_443, Keeps (F := F) c bd (Held c M) (k0_part13 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1055 v1061 v1064 v1070 v1073 v1079 v1082 v1087 v1088 c4_i32_443) := by
  intros
  unfold k0_part13
  repeat' first
    | extract_lets
    | with_reducible exact Keeps.pure _
    | with_reducible refine Keeps.bind ?_ (fun _ => ?_)
    | split

theorem keeps14 (c : Dev nD) (bd : Option ℕ) (M : Mems) (i : grid0.Coords) : ∀ v27 k0_t1 arg18 v1100 v1106 v1109 v1115 v1118 v1124 v1127 v1132 c1_i32_458, Keeps (F := F) c bd (Held c M) (k0_part14 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 k0_t1 arg18 v1100 v1106 v1109 v1115 v1118 v1124 v1127 v1132 c1_i32_458) := by
  intros
  unfold k0_part14
  repeat' first
    | extract_lets
    | with_reducible exact Keeps.pure _
    | with_reducible refine Keeps.bind ?_ (fun _ => ?_)
    | with_reducible exact Keeps.load (lends2 c M) _ _
    | with_reducible exact Keeps.load (lends5 c M) _ _
    | split

theorem keeps15 (c : Dev nD) (bd : Option ℕ) (M : Mems) (i : grid0.Coords) : ∀ v27 v1166 v1174 v1175, Keeps (F := F) c bd (Held c M) (k0_part15 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1166 v1174 v1175) := by
  intros
  unfold k0_part15
  repeat' first
    | extract_lets
    | with_reducible exact Keeps.pure _
    | with_reducible refine Keeps.bind ?_ (fun _ => ?_)
    | with_reducible exact Keeps.load (lends2 c M) _ _
    | split

theorem keeps16 (c : Dev nD) (bd : Option ℕ) (M : Mems) (i : grid0.Coords) : ∀ v27 v1166 v1210 v1211 v1213, Keeps (F := F) c bd (Held c M) (k0_part16 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1166 v1210 v1211 v1213) := by
  intros
  unfold k0_part16
  repeat' first
    | extract_lets
    | with_reducible exact Keeps.pure _
    | with_reducible refine Keeps.bind ?_ (fun _ => ?_)
    | with_reducible exact Keeps.load (lends2 c M) _ _
    | split

theorem keeps17 (c : Dev nD) (bd : Option ℕ) (M : Mems) (i : grid0.Coords) : ∀ v27 v1166 v1246 v1247 v1250 v1251, Keeps (F := F) c bd (Held c M) (k0_part17 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1166 v1246 v1247 v1250 v1251) := by
  intros
  unfold k0_part17
  repeat' first
    | extract_lets
    | with_reducible exact Keeps.pure _
    | with_reducible refine Keeps.bind ?_ (fun _ => ?_)
    | with_reducible exact Keeps.load (lends2 c M) _ _
    | split

theorem keeps18 (c : Dev nD) (bd : Option ℕ) (M : Mems) (i : grid0.Coords) : ∀ v24 v27 k0_t1 arg18 v1166 v1291, Keeps (F := F) c bd (Held c M) (k0_part18 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 k0_t1 arg18 v1166 v1291) := by
  intros
  unfold k0_part18
  repeat' first
    | extract_lets
    | with_reducible exact Keeps.pure _
    | with_reducible refine Keeps.bind ?_ (fun _ => ?_)
    | with_reducible exact Keeps.load (lends2 c M) _ _
    | with_reducible exact Keeps.load (lends9 c M) _ _
    | with_reducible exact Keeps.store (lends9 c M) _ _ _ _ _
    | split

theorem keeps19 (c : Dev nD) (bd : Option ℕ) (M : Mems) (i : grid0.Coords) : ∀ v1329 v1330 v1331 v1332 v1333, Keeps (F := F) c bd (Held c M) (k0_part19 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1329 v1330 v1331 v1332 v1333) := by
  intros
  unfold k0_part19
  repeat' first
    | extract_lets
    | with_reducible exact Keeps.pure _
    | with_reducible refine Keeps.bind ?_ (fun _ => ?_)
    | split

theorem keeps20 (c : Dev nD) (bd : Option ℕ) (M : Mems) (i : grid0.Coords) : ∀ v1346 v1352 v1355 v1361 v1364 v1370 v1373 v1378 v1379, Keeps (F := F) c bd (Held c M) (k0_part20 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1346 v1352 v1355 v1361 v1364 v1370 v1373 v1378 v1379) := by
  intros
  unfold k0_part20
  repeat' first
    | extract_lets
    | with_reducible exact Keeps.pure _
    | with_reducible refine Keeps.bind ?_ (fun _ => ?_)
    | split

theorem keeps21 (c : Dev nD) (bd : Option ℕ) (M : Mems) (i : grid0.Coords) : ∀ v27 k0_t1 arg18 v1391 v1397 v1400 v1406 v1409 v1423, Keeps (F := F) c bd (Held c M) (k0_part21 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 k0_t1 arg18 v1391 v1397 v1400 v1406 v1409 v1423) := by
  intros
  unfold k0_part21
  repeat' first
    | extract_lets
    | with_reducible exact Keeps.pure _
    | with_reducible refine Keeps.bind ?_ (fun _ => ?_)
    | with_reducible exact Keeps.load (lends2 c M) _ _
    | with_reducible exact Keeps.load (lends5 c M) _ _
    | split

theorem keeps22 (c : Dev nD) (bd : Option ℕ) (M : Mems) (i : grid0.Coords) : ∀ v27 v1448 v1456 v1464, Keeps (F := F) c bd (Held c M) (k0_part22 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1448 v1456 v1464) := by
  intros
  unfold k0_part22
  repeat' first
    | extract_lets
    | with_reducible exact Keeps.pure _
    | with_reducible refine Keeps.bind ?_ (fun _ => ?_)
    | with_reducible exact Keeps.load (lends2 c M) _ _
    | split

theorem keeps23 (c : Dev nD) (bd : Option ℕ) (M : Mems) (i : grid0.Coords) : ∀ v27 v1448 v1501 v1502, Keeps (F := F) c bd (Held c M) (k0_part23 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1448 v1501 v1502) := by
  intros
  unfold k0_part23
  repeat' first
    | extract_lets
    | with_reducible exact Keeps.pure _
    | with_reducible refine Keeps.bind ?_ (fun _ => ?_)
    | with_reducible exact Keeps.load (lends2 c M) _ _
    | split

theorem keeps24 (c : Dev nD) (bd : Option ℕ) (M : Mems) (i : grid0.Coords) : ∀ v27 v1448 v1537 v1538 v1540 cst_649, Keeps (F := F) c bd (Held c M) (k0_part24 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1448 v1537 v1538 v1540 cst_649) := by
  intros
  unfold k0_part24
  repeat' first
    | extract_lets
    | with_reducible exact Keeps.pure _
    | with_reducible refine Keeps.bind ?_ (fun _ => ?_)
    | with_reducible exact Keeps.load (lends2 c M) _ _
    | split

theorem keeps25 (c : Dev nD) (bd : Option ℕ) (M : Mems) (i : grid0.Coords) : ∀ v24 v27 k0_t1 arg18 v1448 v1573 v1574 v1579, Keeps (F := F) c bd (Held c M) (k0_part25 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 k0_t1 arg18 v1448 v1573 v1574 v1579) := by
  intros
  unfold k0_part25
  repeat' first
    | extract_lets
    | with_reducible exact Keeps.pure _
    | with_reducible refine Keeps.bind ?_ (fun _ => ?_)
    | with_reducible exact Keeps.load (lends2 c M) _ _
    | with_reducible exact Keeps.load (lends9 c M) _ _
    | with_reducible exact Keeps.store (lends9 c M) _ _ _ _ _
    | split

theorem keeps26 (c : Dev nD) (bd : Option ℕ) (M : Mems) (i : grid0.Coords) : ∀ v1612 v1613 v1614 v1615 v1616 v1617 v1618 v1619 v1624, Keeps (F := F) c bd (Held c M) (k0_part26 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1612 v1613 v1614 v1615 v1616 v1617 v1618 v1619 v1624) := by
  intros
  unfold k0_part26
  repeat' first
    | extract_lets
    | with_reducible exact Keeps.pure _
    | with_reducible refine Keeps.bind ?_ (fun _ => ?_)
    | split

theorem keeps27 (c : Dev nD) (bd : Option ℕ) (M : Mems) (i : grid0.Coords) : ∀ v1628 v1634 v1637 v1646 v1652 v1655 v1661 v1664 v1669, Keeps (F := F) c bd (Held c M) (k0_part27 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1628 v1634 v1637 v1646 v1652 v1655 v1661 v1664 v1669) := by
  intros
  unfold k0_part27
  repeat' first
    | extract_lets
    | with_reducible exact Keeps.pure _
    | with_reducible refine Keeps.bind ?_ (fun _ => ?_)
    | split

theorem keeps28 (c : Dev nD) (bd : Option ℕ) (M : Mems) (i : grid0.Coords) : ∀ v851 v854 v860 v863 v1133 v1136 v1142 v1145 v1679 v1682 v1688 v1691 v1714, Keeps (F := F) c bd (Held c M) (k0_part28 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v851 v854 v860 v863 v1133 v1136 v1142 v1145 v1679 v1682 v1688 v1691 v1714) := by
  intros
  unfold k0_part28
  repeat' first
    | extract_lets
    | with_reducible exact Keeps.pure _
    | with_reducible refine Keeps.bind ?_ (fun _ => ?_)
    | split

theorem keeps29 (c : Dev nD) (bd : Option ℕ) (M : Mems) (i : grid0.Coords) : ∀ v863 v869 v872 v878 v881 v1145 v1151 v1154 v1160 v1163 v1415 v1697 v1759, Keeps (F := F) c bd (Held c M) (k0_part29 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v863 v869 v872 v878 v881 v1145 v1151 v1154 v1160 v1163 v1415 v1697 v1759) := by
  intros
  unfold k0_part29
  repeat' first
    | extract_lets
    | with_reducible exact Keeps.pure _
    | with_reducible refine Keeps.bind ?_ (fun _ => ?_)
    | split

theorem keeps30 (c : Dev nD) (bd : Option ℕ) (M : Mems) (i : grid0.Coords) : ∀ v1415 v1418 v1424 v1427 v1433 v1436 v1697 v1700 v1706 v1709 v1715 v1718 v1804, Keeps (F := F) c bd (Held c M) (k0_part30 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1415 v1418 v1424 v1427 v1433 v1436 v1697 v1700 v1706 v1709 v1715 v1718 v1804) := by
  intros
  unfold k0_part30
  repeat' first
    | extract_lets
    | with_reducible exact Keeps.pure _
    | with_reducible refine Keeps.bind ?_ (fun _ => ?_)
    | split

theorem keeps31 (c : Dev nD) (bd : Option ℕ) (M : Mems) (i : grid0.Coords) : ∀ v1436 v1442 v1445 v1718 v1724 v1727 v1733 v1742 v1751 v1805 v1814 v1823 v1849, Keeps (F := F) c bd (Held c M) (k0_part31 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1436 v1442 v1445 v1718 v1724 v1727 v1733 v1742 v1751 v1805 v1814 v1823 v1849) := by
  intros
  unfold k0_part31
  repeat' first
    | extract_lets
    | with_reducible exact Keeps.pure _
    | with_reducible refine Keeps.bind ?_ (fun _ => ?_)
    | split

theorem keeps32 (c : Dev nD) (bd : Option ℕ) (M : Mems) (i : grid0.Coords) : ∀ v1751 v1760 v1769 v1778 v1787 v1796 v1823 v1832 v1841 v1850 v1859 v1868 v1894, Keeps (F := F) c bd (Held c M) (k0_part32 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1751 v1760 v1769 v1778 v1787 v1796 v1823 v1832 v1841 v1850 v1859 v1868 v1894) := by
  intros
  unfold k0_part32
  repeat' first
    | extract_lets
    | with_reducible exact Keeps.pure _
    | with_reducible refine Keeps.bind ?_ (fun _ => ?_)
    | split

theorem keeps33 (c : Dev nD) (bd : Option ℕ) (M : Mems) (i : grid0.Coords) : ∀ v1736 v1745 v1754 v1763 v1772 v1796 v1808 v1817 v1826 v1835 v1844 v1868 v1939, Keeps (F := F) c bd (Held c M) (k0_part33 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1736 v1745 v1754 v1763 v1772 v1796 v1808 v1817 v1826 v1835 v1844 v1868 v1939) := by
  intros
  unfold k0_part33
  repeat' first
    | extract_lets
    | with_reducible exact Keeps.pure _
    | with_reducible refine Keeps.bind ?_ (fun _ => ?_)
    | split

theorem keeps34 (c : Dev nD) (bd : Option ℕ) (M : Mems) (i : grid0.Coords) : ∀ k0_t1 arg18 v1772 v1781 v1790 v1799 v1844 v1853 v1862 v1871 v1877 v1886 v1984, Keeps (F := F) c bd (Held c M) (k0_part34 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t1 arg18 v1772 v1781 v1790 v1799 v1844 v1853 v1862 v1871 v1877 v1886 v1984) := by
  intros
  unfold k0_part34
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps35 (c : Dev nD) (bd : Option ℕ) (M : Mems) (i : grid0.Coords) : ∀ k0_t1 arg18 v1895 v1904 v1913 v1922 v1931 v1940 v1949 v1958, Keeps (F := F) c bd (Held c M) (k0_part35 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t1 arg18 v1895 v1904 v1913 v1922 v1931 v1940 v1949 v1958) := by
  intros
  unfold k0_part35
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps36 (c : Dev nD) (bd : Option ℕ) (M : Mems) (i : grid0.Coords) : ∀ k0_t1 arg18 v1880 v1967 v1976 v1985 v1994 v2003 v2012 v2055, Keeps (F := F) c bd (Held c M) (k0_part36 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t1 arg18 v1880 v1967 v1976 v1985 v1994 v2003 v2012 v2055) := by
  intros
  unfold k0_part36
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps37 (c : Dev nD) (bd : Option ℕ) (M : Mems) (i : grid0.Coords) : ∀ k0_t1 arg18 v1889 v1898 v1907 v1916 v1925 v1934 v1943 v1952, Keeps (F := F) c bd (Held c M) (k0_part37 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t1 arg18 v1889 v1898 v1907 v1916 v1925 v1934 v1943 v1952) := by
  intros
  unfold k0_part37
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps38 (c : Dev nD) (bd : Option ℕ) (M : Mems) (i : grid0.Coords) : ∀ v20 k0_t1 arg18 v1961 v1970 v1979 v1988 v1997 v2006 v2015 v2115, Keeps (F := F) c bd (Held c M) (k0_part38 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 k0_t1 arg18 v1961 v1970 v1979 v1988 v1997 v2006 v2015 v2115) := by
  intros
  unfold k0_part38
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

end Cert.Proof.Dsa

end
-- ==== Proof.Dsa.Parts2.lean ====
/-
  The printed parts of the indexer's second block loop, each keeping the buffers.
-/
module

public import proofs.«01_k».proof.Proof.Dsa.Loose

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem keeps39 (c : Dev nD) (bd : Option ℕ) (M : Mems) (i : grid0.Coords) : ∀ v27 v330 c1_i32_61 k0_t2, Keeps (F := F) c bd (Held c M) (k0_part39 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v330 c1_i32_61 k0_t2) := by
  intros
  unfold k0_part39
  repeat' first
    | extract_lets
    | with_reducible exact Keeps.pure _
    | with_reducible refine Keeps.bind ?_ (fun _ => ?_)
    | with_reducible exact Keeps.load (lends2 c M) _ _
    | with_reducible exact Keeps.load (lends5 c M) _ _
    | split

theorem keeps40 (c : Dev nD) (bd : Option ℕ) (M : Mems) (i : grid0.Coords) : ∀ v27 v602 v628 v634 v635, Keeps (F := F) c bd (Held c M) (k0_part40 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v602 v628 v634 v635) := by
  intros
  unfold k0_part40
  repeat' first
    | extract_lets
    | with_reducible exact Keeps.pure _
    | with_reducible refine Keeps.bind ?_ (fun _ => ?_)
    | with_reducible exact Keeps.load (lends2 c M) _ _
    | split

theorem keeps41 (c : Dev nD) (bd : Option ℕ) (M : Mems) (i : grid0.Coords) : ∀ v27 v602 v673 v674, Keeps (F := F) c bd (Held c M) (k0_part41 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v602 v673 v674) := by
  intros
  unfold k0_part41
  repeat' first
    | extract_lets
    | with_reducible exact Keeps.pure _
    | with_reducible refine Keeps.bind ?_ (fun _ => ?_)
    | with_reducible exact Keeps.load (lends2 c M) _ _
    | split

theorem keeps42 (c : Dev nD) (bd : Option ℕ) (M : Mems) (i : grid0.Coords) : ∀ v24 v27 arg18 v602 v709 v710 v712, Keeps (F := F) c bd (Held c M) (k0_part42 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 arg18 v602 v709 v710 v712) := by
  intros
  unfold k0_part42
  repeat' first
    | extract_lets
    | with_reducible exact Keeps.pure _
    | with_reducible refine Keeps.bind ?_ (fun _ => ?_)
    | with_reducible exact Keeps.load (lends2 c M) _ _
    | split

theorem keeps43 (c : Dev nD) (bd : Option ℕ) (M : Mems) (i : grid0.Coords) : ∀ k0_t2 arg18 v745 v753, Keeps (F := F) c bd (Held c M) (k0_part43 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t2 arg18 v745 v753) := by
  intros
  unfold k0_part43
  repeat' first
    | extract_lets
    | with_reducible exact Keeps.pure _
    | with_reducible refine Keeps.bind ?_ (fun _ => ?_)
    | with_reducible exact Keeps.load (lends9 c M) _ _
    | with_reducible exact Keeps.store (lends9 c M) _ _ _ _ _
    | split

theorem keeps44 (c : Dev nD) (bd : Option ℕ) (M : Mems) (i : grid0.Coords) : ∀ v769 v772 v773 v779 v782 v788 v791 v796 v797 v798, Keeps (F := F) c bd (Held c M) (k0_part44 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v769 v772 v773 v779 v782 v788 v791 v796 v797 v798) := by
  intros
  unfold k0_part44
  repeat' first
    | extract_lets
    | with_reducible exact Keeps.pure _
    | with_reducible refine Keeps.bind ?_ (fun _ => ?_)
    | split

theorem keeps45 (c : Dev nD) (bd : Option ℕ) (M : Mems) (i : grid0.Coords) : ∀ v27 k0_t2 arg18 v809 v815 v818 v824 v827 v833 v836 v841 v842 v843, Keeps (F := F) c bd (Held c M) (k0_part45 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 k0_t2 arg18 v809 v815 v818 v824 v827 v833 v836 v841 v842 v843) := by
  intros
  unfold k0_part45
  repeat' first
    | extract_lets
    | with_reducible exact Keeps.pure _
    | with_reducible refine Keeps.bind ?_ (fun _ => ?_)
    | with_reducible exact Keeps.load (lends5 c M) _ _
    | split

theorem keeps46 (c : Dev nD) (bd : Option ℕ) (M : Mems) (i : grid0.Coords) : ∀ v27 v884 v885, Keeps (F := F) c bd (Held c M) (k0_part46 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v884 v885) := by
  intros
  unfold k0_part46
  repeat' first
    | extract_lets
    | with_reducible exact Keeps.pure _
    | with_reducible refine Keeps.bind ?_ (fun _ => ?_)
    | with_reducible exact Keeps.load (lends2 c M) _ _
    | split

theorem keeps47 (c : Dev nD) (bd : Option ℕ) (M : Mems) (i : grid0.Coords) : ∀ v27 v884 v919 v920 v923 cst_369, Keeps (F := F) c bd (Held c M) (k0_part47 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v884 v919 v920 v923 cst_369) := by
  intros
  unfold k0_part47
  repeat' first
    | extract_lets
    | with_reducible exact Keeps.pure _
    | with_reducible refine Keeps.bind ?_ (fun _ => ?_)
    | with_reducible exact Keeps.load (lends2 c M) _ _
    | split

theorem keeps48 (c : Dev nD) (bd : Option ℕ) (M : Mems) (i : grid0.Coords) : ∀ v27 v884 v955 v963, Keeps (F := F) c bd (Held c M) (k0_part48 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v884 v955 v963) := by
  intros
  unfold k0_part48
  repeat' first
    | extract_lets
    | with_reducible exact Keeps.pure _
    | with_reducible refine Keeps.bind ?_ (fun _ => ?_)
    | with_reducible exact Keeps.load (lends2 c M) _ _
    | split

theorem keeps49 (c : Dev nD) (bd : Option ℕ) (M : Mems) (i : grid0.Coords) : ∀ v24 v27 k0_t2 arg18 v884 v1000 v1001, Keeps (F := F) c bd (Held c M) (k0_part49 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 k0_t2 arg18 v884 v1000 v1001) := by
  intros
  unfold k0_part49
  repeat' first
    | extract_lets
    | with_reducible exact Keeps.pure _
    | with_reducible refine Keeps.bind ?_ (fun _ => ?_)
    | with_reducible exact Keeps.load (lends2 c M) _ _
    | with_reducible exact Keeps.load (lends9 c M) _ _
    | with_reducible exact Keeps.store (lends9 c M) _ _ _ _ _
    | split

theorem keeps50 (c : Dev nD) (bd : Option ℕ) (M : Mems) (i : grid0.Coords) : ∀ v1042, Keeps (F := F) c bd (Held c M) (k0_part50 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1042) := by
  intros
  unfold k0_part50
  repeat' first
    | extract_lets
    | with_reducible exact Keeps.pure _
    | with_reducible refine Keeps.bind ?_ (fun _ => ?_)
    | split

theorem keeps51 (c : Dev nD) (bd : Option ℕ) (M : Mems) (i : grid0.Coords) : ∀ v1055 v1061 v1064 v1070 v1073 v1079 v1082 v1087 v1088 c4_i32_443, Keeps (F := F) c bd (Held c M) (k0_part51 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1055 v1061 v1064 v1070 v1073 v1079 v1082 v1087 v1088 c4_i32_443) := by
  intros
  unfold k0_part51
  repeat' first
    | extract_lets
    | with_reducible exact Keeps.pure _
    | with_reducible refine Keeps.bind ?_ (fun _ => ?_)
    | split

theorem keeps52 (c : Dev nD) (bd : Option ℕ) (M : Mems) (i : grid0.Coords) : ∀ v27 k0_t2 arg18 v1100 v1106 v1109 v1115 v1118 v1124 v1127 v1132 c1_i32_458, Keeps (F := F) c bd (Held c M) (k0_part52 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 k0_t2 arg18 v1100 v1106 v1109 v1115 v1118 v1124 v1127 v1132 c1_i32_458) := by
  intros
  unfold k0_part52
  repeat' first
    | extract_lets
    | with_reducible exact Keeps.pure _
    | with_reducible refine Keeps.bind ?_ (fun _ => ?_)
    | with_reducible exact Keeps.load (lends2 c M) _ _
    | with_reducible exact Keeps.load (lends5 c M) _ _
    | split

theorem keeps53 (c : Dev nD) (bd : Option ℕ) (M : Mems) (i : grid0.Coords) : ∀ v27 v1166 v1174 v1175, Keeps (F := F) c bd (Held c M) (k0_part53 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1166 v1174 v1175) := by
  intros
  unfold k0_part53
  repeat' first
    | extract_lets
    | with_reducible exact Keeps.pure _
    | with_reducible refine Keeps.bind ?_ (fun _ => ?_)
    | with_reducible exact Keeps.load (lends2 c M) _ _
    | split

theorem keeps54 (c : Dev nD) (bd : Option ℕ) (M : Mems) (i : grid0.Coords) : ∀ v27 v1166 v1210 v1211 v1213, Keeps (F := F) c bd (Held c M) (k0_part54 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1166 v1210 v1211 v1213) := by
  intros
  unfold k0_part54
  repeat' first
    | extract_lets
    | with_reducible exact Keeps.pure _
    | with_reducible refine Keeps.bind ?_ (fun _ => ?_)
    | with_reducible exact Keeps.load (lends2 c M) _ _
    | split

theorem keeps55 (c : Dev nD) (bd : Option ℕ) (M : Mems) (i : grid0.Coords) : ∀ v27 v1166 v1246 v1247 v1250 v1251, Keeps (F := F) c bd (Held c M) (k0_part55 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1166 v1246 v1247 v1250 v1251) := by
  intros
  unfold k0_part55
  repeat' first
    | extract_lets
    | with_reducible exact Keeps.pure _
    | with_reducible refine Keeps.bind ?_ (fun _ => ?_)
    | with_reducible exact Keeps.load (lends2 c M) _ _
    | split

theorem keeps56 (c : Dev nD) (bd : Option ℕ) (M : Mems) (i : grid0.Coords) : ∀ v24 v27 k0_t2 arg18 v1166 v1291, Keeps (F := F) c bd (Held c M) (k0_part56 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 k0_t2 arg18 v1166 v1291) := by
  intros
  unfold k0_part56
  repeat' first
    | extract_lets
    | with_reducible exact Keeps.pure _
    | with_reducible refine Keeps.bind ?_ (fun _ => ?_)
    | with_reducible exact Keeps.load (lends2 c M) _ _
    | with_reducible exact Keeps.load (lends9 c M) _ _
    | with_reducible exact Keeps.store (lends9 c M) _ _ _ _ _
    | split

theorem keeps57 (c : Dev nD) (bd : Option ℕ) (M : Mems) (i : grid0.Coords) : ∀ v1329 v1330 v1331 v1332 v1333, Keeps (F := F) c bd (Held c M) (k0_part57 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1329 v1330 v1331 v1332 v1333) := by
  intros
  unfold k0_part57
  repeat' first
    | extract_lets
    | with_reducible exact Keeps.pure _
    | with_reducible refine Keeps.bind ?_ (fun _ => ?_)
    | split

theorem keeps58 (c : Dev nD) (bd : Option ℕ) (M : Mems) (i : grid0.Coords) : ∀ v1346 v1352 v1355 v1361 v1364 v1370 v1373 v1378 v1379, Keeps (F := F) c bd (Held c M) (k0_part58 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1346 v1352 v1355 v1361 v1364 v1370 v1373 v1378 v1379) := by
  intros
  unfold k0_part58
  repeat' first
    | extract_lets
    | with_reducible exact Keeps.pure _
    | with_reducible refine Keeps.bind ?_ (fun _ => ?_)
    | split

theorem keeps59 (c : Dev nD) (bd : Option ℕ) (M : Mems) (i : grid0.Coords) : ∀ v27 k0_t2 arg18 v1391 v1397 v1400 v1406 v1409 v1423, Keeps (F := F) c bd (Held c M) (k0_part59 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 k0_t2 arg18 v1391 v1397 v1400 v1406 v1409 v1423) := by
  intros
  unfold k0_part59
  repeat' first
    | extract_lets
    | with_reducible exact Keeps.pure _
    | with_reducible refine Keeps.bind ?_ (fun _ => ?_)
    | with_reducible exact Keeps.load (lends2 c M) _ _
    | with_reducible exact Keeps.load (lends5 c M) _ _
    | split

theorem keeps60 (c : Dev nD) (bd : Option ℕ) (M : Mems) (i : grid0.Coords) : ∀ v27 v1448 v1456 v1464, Keeps (F := F) c bd (Held c M) (k0_part60 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1448 v1456 v1464) := by
  intros
  unfold k0_part60
  repeat' first
    | extract_lets
    | with_reducible exact Keeps.pure _
    | with_reducible refine Keeps.bind ?_ (fun _ => ?_)
    | with_reducible exact Keeps.load (lends2 c M) _ _
    | split

theorem keeps61 (c : Dev nD) (bd : Option ℕ) (M : Mems) (i : grid0.Coords) : ∀ v27 v1448 v1501 v1502, Keeps (F := F) c bd (Held c M) (k0_part61 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1448 v1501 v1502) := by
  intros
  unfold k0_part61
  repeat' first
    | extract_lets
    | with_reducible exact Keeps.pure _
    | with_reducible refine Keeps.bind ?_ (fun _ => ?_)
    | with_reducible exact Keeps.load (lends2 c M) _ _
    | split

theorem keeps62 (c : Dev nD) (bd : Option ℕ) (M : Mems) (i : grid0.Coords) : ∀ v27 v1448 v1537 v1538 v1540 cst_649, Keeps (F := F) c bd (Held c M) (k0_part62 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v27 v1448 v1537 v1538 v1540 cst_649) := by
  intros
  unfold k0_part62
  repeat' first
    | extract_lets
    | with_reducible exact Keeps.pure _
    | with_reducible refine Keeps.bind ?_ (fun _ => ?_)
    | with_reducible exact Keeps.load (lends2 c M) _ _
    | split

theorem keeps63 (c : Dev nD) (bd : Option ℕ) (M : Mems) (i : grid0.Coords) : ∀ v24 v27 k0_t2 arg18 v1448 v1573 v1574 v1579, Keeps (F := F) c bd (Held c M) (k0_part63 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v27 k0_t2 arg18 v1448 v1573 v1574 v1579) := by
  intros
  unfold k0_part63
  repeat' first
    | extract_lets
    | with_reducible exact Keeps.pure _
    | with_reducible refine Keeps.bind ?_ (fun _ => ?_)
    | with_reducible exact Keeps.load (lends2 c M) _ _
    | with_reducible exact Keeps.load (lends9 c M) _ _
    | with_reducible exact Keeps.store (lends9 c M) _ _ _ _ _
    | split

theorem keeps64 (c : Dev nD) (bd : Option ℕ) (M : Mems) (i : grid0.Coords) : ∀ v1612 v1613 v1614 v1615 v1616 v1617 v1618 v1619 v1624, Keeps (F := F) c bd (Held c M) (k0_part64 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1612 v1613 v1614 v1615 v1616 v1617 v1618 v1619 v1624) := by
  intros
  unfold k0_part64
  repeat' first
    | extract_lets
    | with_reducible exact Keeps.pure _
    | with_reducible refine Keeps.bind ?_ (fun _ => ?_)
    | split

theorem keeps65 (c : Dev nD) (bd : Option ℕ) (M : Mems) (i : grid0.Coords) : ∀ v1628 v1634 v1637 v1646 v1652 v1655 v1661 v1664 v1669, Keeps (F := F) c bd (Held c M) (k0_part65 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1628 v1634 v1637 v1646 v1652 v1655 v1661 v1664 v1669) := by
  intros
  unfold k0_part65
  repeat' first
    | extract_lets
    | with_reducible exact Keeps.pure _
    | with_reducible refine Keeps.bind ?_ (fun _ => ?_)
    | split

theorem keeps66 (c : Dev nD) (bd : Option ℕ) (M : Mems) (i : grid0.Coords) : ∀ v851 v854 v860 v863 v1133 v1136 v1142 v1145 v1679 v1682 v1688 v1691 v1714, Keeps (F := F) c bd (Held c M) (k0_part66 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v851 v854 v860 v863 v1133 v1136 v1142 v1145 v1679 v1682 v1688 v1691 v1714) := by
  intros
  unfold k0_part66
  repeat' first
    | extract_lets
    | with_reducible exact Keeps.pure _
    | with_reducible refine Keeps.bind ?_ (fun _ => ?_)
    | split

theorem keeps67 (c : Dev nD) (bd : Option ℕ) (M : Mems) (i : grid0.Coords) : ∀ v863 v869 v872 v878 v881 v1145 v1151 v1154 v1160 v1163 v1415 v1697 v1759, Keeps (F := F) c bd (Held c M) (k0_part67 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v863 v869 v872 v878 v881 v1145 v1151 v1154 v1160 v1163 v1415 v1697 v1759) := by
  intros
  unfold k0_part67
  repeat' first
    | extract_lets
    | with_reducible exact Keeps.pure _
    | with_reducible refine Keeps.bind ?_ (fun _ => ?_)
    | split

theorem keeps68 (c : Dev nD) (bd : Option ℕ) (M : Mems) (i : grid0.Coords) : ∀ v1415 v1418 v1424 v1427 v1433 v1436 v1697 v1700 v1706 v1709 v1715 v1718 v1804, Keeps (F := F) c bd (Held c M) (k0_part68 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1415 v1418 v1424 v1427 v1433 v1436 v1697 v1700 v1706 v1709 v1715 v1718 v1804) := by
  intros
  unfold k0_part68
  repeat' first
    | extract_lets
    | with_reducible exact Keeps.pure _
    | with_reducible refine Keeps.bind ?_ (fun _ => ?_)
    | split

theorem keeps69 (c : Dev nD) (bd : Option ℕ) (M : Mems) (i : grid0.Coords) : ∀ v1436 v1442 v1445 v1718 v1724 v1727 v1733 v1742 v1751 v1805 v1814 v1823 v1849, Keeps (F := F) c bd (Held c M) (k0_part69 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1436 v1442 v1445 v1718 v1724 v1727 v1733 v1742 v1751 v1805 v1814 v1823 v1849) := by
  intros
  unfold k0_part69
  repeat' first
    | extract_lets
    | with_reducible exact Keeps.pure _
    | with_reducible refine Keeps.bind ?_ (fun _ => ?_)
    | split

theorem keeps70 (c : Dev nD) (bd : Option ℕ) (M : Mems) (i : grid0.Coords) : ∀ v1751 v1760 v1769 v1778 v1787 v1796 v1823 v1832 v1841 v1850 v1859 v1868 v1894, Keeps (F := F) c bd (Held c M) (k0_part70 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1751 v1760 v1769 v1778 v1787 v1796 v1823 v1832 v1841 v1850 v1859 v1868 v1894) := by
  intros
  unfold k0_part70
  repeat' first
    | extract_lets
    | with_reducible exact Keeps.pure _
    | with_reducible refine Keeps.bind ?_ (fun _ => ?_)
    | split

theorem keeps71 (c : Dev nD) (bd : Option ℕ) (M : Mems) (i : grid0.Coords) : ∀ v1736 v1745 v1754 v1763 v1772 v1796 v1808 v1817 v1826 v1835 v1844 v1868 v1939, Keeps (F := F) c bd (Held c M) (k0_part71 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1736 v1745 v1754 v1763 v1772 v1796 v1808 v1817 v1826 v1835 v1844 v1868 v1939) := by
  intros
  unfold k0_part71
  repeat' first
    | extract_lets
    | with_reducible exact Keeps.pure _
    | with_reducible refine Keeps.bind ?_ (fun _ => ?_)
    | split

theorem keeps72 (c : Dev nD) (bd : Option ℕ) (M : Mems) (i : grid0.Coords) : ∀ k0_t2 arg18 v1772 v1781 v1790 v1799 v1844 v1853 v1862 v1871 v1877 v1886 v1984, Keeps (F := F) c bd (Held c M) (k0_part72 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t2 arg18 v1772 v1781 v1790 v1799 v1844 v1853 v1862 v1871 v1877 v1886 v1984) := by
  intros
  unfold k0_part72
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps73 (c : Dev nD) (bd : Option ℕ) (M : Mems) (i : grid0.Coords) : ∀ k0_t2 arg18 v1895 v1904 v1913 v1922 v1931 v1940 v1949 v1958, Keeps (F := F) c bd (Held c M) (k0_part73 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t2 arg18 v1895 v1904 v1913 v1922 v1931 v1940 v1949 v1958) := by
  intros
  unfold k0_part73
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps74 (c : Dev nD) (bd : Option ℕ) (M : Mems) (i : grid0.Coords) : ∀ k0_t2 arg18 v1880 v1967 v1976 v1985 v1994 v2003 v2012 v2055, Keeps (F := F) c bd (Held c M) (k0_part74 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t2 arg18 v1880 v1967 v1976 v1985 v1994 v2003 v2012 v2055) := by
  intros
  unfold k0_part74
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps75 (c : Dev nD) (bd : Option ℕ) (M : Mems) (i : grid0.Coords) : ∀ k0_t2 arg18 v1889 v1898 v1907 v1916 v1925 v1934 v1943 v1952, Keeps (F := F) c bd (Held c M) (k0_part75 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t2 arg18 v1889 v1898 v1907 v1916 v1925 v1934 v1943 v1952) := by
  intros
  unfold k0_part75
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

theorem keeps76 (c : Dev nD) (bd : Option ℕ) (M : Mems) (i : grid0.Coords) : ∀ v20 k0_t2 arg18 v1961 v1970 v1979 v1988 v1997 v2006 v2015 v2115, Keeps (F := F) c bd (Held c M) (k0_part76 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 k0_t2 arg18 v1961 v1970 v1979 v1988 v1997 v2006 v2015 v2115) := by
  intros
  unfold k0_part76
  repeat' first
    | extract_lets
    | with_reducible exact Keeps.pure _
    | with_reducible refine Keeps.bind ?_ (fun _ => ?_)
    | with_reducible exact Keeps.load (lends10 c M) _ _
    | with_reducible exact Keeps.store (lends10 c M) _ _ _ _ _
    | split

end Cert.Proof.Dsa

end
-- ==== Proof.Dsa.Parts3.lean ====
/-
  The printed parts of the bisection's counts and of the attention's first chunk loop, each keeping the buffers.
-/
module

public import proofs.«01_k».proof.Proof.Dsa.Loose

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem keeps77 (c : Dev nD) (bd : Option ℕ) (M : Mems) (i : grid0.Coords) : ∀ c0_i32_77 c1_i32_79 k0_t5 arg19, Keeps (F := F) c bd (Held c M) (k0_part77 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 c0_i32_77 c1_i32_79 k0_t5 arg19) := by
  intros
  unfold k0_part77
  repeat' first
    | extract_lets
    | with_reducible exact Keeps.pure _
    | with_reducible refine Keeps.bind ?_ (fun _ => ?_)
    | with_reducible exact Keeps.load (lends10 c M) _ _
    | with_reducible exact Keeps.load (lends11 c M) _ _
    | with_reducible exact Keeps.load (lends12 c M) _ _
    | with_reducible exact Keeps.store (lends12 c M) _ _ _ _ _
    | split

theorem keeps78 (c : Dev nD) (bd : Option ℕ) (M : Mems) (i : grid0.Coords) : ∀ v361 c1_i32_80 k0_t6 arg19, Keeps (F := F) c bd (Held c M) (k0_part78 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v361 c1_i32_80 k0_t6 arg19) := by
  intros
  unfold k0_part78
  repeat' first
    | extract_lets
    | with_reducible exact Keeps.pure _
    | with_reducible refine Keeps.bind ?_ (fun _ => ?_)
    | with_reducible exact Keeps.load (lends10 c M) _ _
    | with_reducible exact Keeps.load (lends11 c M) _ _
    | with_reducible exact Keeps.load (lends12 c M) _ _
    | with_reducible exact Keeps.store (lends12 c M) _ _ _ _ _
    | split

theorem keeps79 (c : Dev nD) (bd : Option ℕ) (M : Mems) (i : grid0.Coords) : ∀ k0_t7 arg18 v601 c0_i32_233 c1_i32_235 k0_t8 arg23, Keeps (F := F) c bd (Held c M) (k0_part79 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t7 arg18 v601 c0_i32_233 c1_i32_235 k0_t8 arg23) := by
  intros
  unfold k0_part79
  repeat' first
    | extract_lets
    | with_reducible exact Keeps.pure _
    | with_reducible refine Keeps.bind ?_ (fun _ => ?_)
    | with_reducible exact Keeps.load (lends10 c M) _ _
    | with_reducible exact Keeps.load (lends12 c M) _ _
    | with_reducible exact Keeps.store (lends12 c M) _ _ _ _ _
    | split

theorem keeps80 (c : Dev nD) (bd : Option ℕ) (M : Mems) (i : grid0.Coords) : ∀ k0_t7 arg18 v601 k0_t8 arg22 v647 v649 v652 v657 v658 cst_259, Keeps (F := F) c bd (Held c M) (k0_part80 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t7 arg18 v601 k0_t8 arg22 v647 v649 v652 v657 v658 cst_259) := by
  intros
  unfold k0_part80
  repeat' first
    | extract_lets
    | with_reducible exact Keeps.pure _
    | with_reducible refine Keeps.bind ?_ (fun _ => ?_)
    | with_reducible exact Keeps.load (lends10 c M) _ _
    | with_reducible exact Keeps.load (lends12 c M) _ _
    | with_reducible exact Keeps.store (lends12 c M) _ _ _ _ _
    | split

theorem keeps81 (c : Dev nD) (bd : Option ℕ) (M : Mems) (i : grid0.Coords) : ∀ k0_t7 arg18 v601 v606 c1_i32_236 k0_t9 arg23, Keeps (F := F) c bd (Held c M) (k0_part81 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t7 arg18 v601 v606 c1_i32_236 k0_t9 arg23) := by
  intros
  unfold k0_part81
  repeat' first
    | extract_lets
    | with_reducible exact Keeps.pure _
    | with_reducible refine Keeps.bind ?_ (fun _ => ?_)
    | with_reducible exact Keeps.load (lends10 c M) _ _
    | with_reducible exact Keeps.load (lends12 c M) _ _
    | with_reducible exact Keeps.store (lends12 c M) _ _ _ _ _
    | split

theorem keeps82 (c : Dev nD) (bd : Option ℕ) (M : Mems) (i : grid0.Coords) : ∀ k0_t7 arg18 v601 k0_t9 arg22 v647 v649 v652 v657 v658 cst_259, Keeps (F := F) c bd (Held c M) (k0_part82 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t7 arg18 v601 k0_t9 arg22 v647 v649 v652 v657 v658 cst_259) := by
  intros
  unfold k0_part82
  repeat' first
    | extract_lets
    | with_reducible exact Keeps.pure _
    | with_reducible refine Keeps.bind ?_ (fun _ => ?_)
    | with_reducible exact Keeps.load (lends10 c M) _ _
    | with_reducible exact Keeps.load (lends12 c M) _ _
    | with_reducible exact Keeps.store (lends12 c M) _ _ _ _ _
    | split

theorem keeps83 (c : Dev nD) (bd : Option ℕ) (M : Mems) (i : grid0.Coords) : ∀ v395 c0_i32_96 c1_i32_98 k0_t10 arg19 arg20, Keeps (F := F) c bd (Held c M) (k0_part83 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v395 c0_i32_96 c1_i32_98 k0_t10 arg19 arg20) := by
  intros
  unfold k0_part83
  repeat' first
    | extract_lets
    | with_reducible exact Keeps.pure _
    | with_reducible refine Keeps.bind ?_ (fun _ => ?_)
    | with_reducible exact Keeps.load (lends9 c M) _ _
    | split

theorem keeps84 (c : Dev nD) (bd : Option ℕ) (M : Mems) (i : grid0.Coords) : ∀ v395 k0_t10 arg18 v619 v632 v638, Keeps (F := F) c bd (Held c M) (k0_part84 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v395 k0_t10 arg18 v619 v632 v638) := by
  intros
  unfold k0_part84
  repeat' first
    | extract_lets
    | with_reducible exact Keeps.pure _
    | with_reducible refine Keeps.bind ?_ (fun _ => ?_)
    | with_reducible exact Keeps.load (lends9 c M) _ _
    | split

theorem keeps85 (c : Dev nD) (bd : Option ℕ) (M : Mems) (i : grid0.Coords) : ∀ v395 v402 c1_i32_99 k0_t11 arg19 arg20, Keeps (F := F) c bd (Held c M) (k0_part85 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v395 v402 c1_i32_99 k0_t11 arg19 arg20) := by
  intros
  unfold k0_part85
  repeat' first
    | extract_lets
    | with_reducible exact Keeps.pure _
    | with_reducible refine Keeps.bind ?_ (fun _ => ?_)
    | with_reducible exact Keeps.load (lends9 c M) _ _
    | split

theorem keeps86 (c : Dev nD) (bd : Option ℕ) (M : Mems) (i : grid0.Coords) : ∀ v395 k0_t11 arg18 v619 v632 v638, Keeps (F := F) c bd (Held c M) (k0_part86 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v395 k0_t11 arg18 v619 v632 v638) := by
  intros
  unfold k0_part86
  repeat' first
    | extract_lets
    | with_reducible exact Keeps.pure _
    | with_reducible refine Keeps.bind ?_ (fun _ => ?_)
    | with_reducible exact Keeps.load (lends9 c M) _ _
    | split

theorem keeps87 (c : Dev nD) (bd : Option ℕ) (M : Mems) (i : grid0.Coords) : ∀ v20 v424_0 c0_i32_194 c1_i32_196 k0_t16, Keeps (F := F) c bd (Held c M) (k0_part87 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 c0_i32_194 c1_i32_196 k0_t16) := by
  intros
  unfold k0_part87
  repeat' first
    | extract_lets
    | with_reducible exact Keeps.pure _
    | with_reducible refine Keeps.bind ?_ (fun _ => ?_)
    | with_reducible exact Keeps.load (lends6 c M) _ _
    | with_reducible exact Keeps.load (lends9 c M) _ _
    | with_reducible exact Keeps.load (lends13 c M) _ _
    | with_reducible exact Keeps.load (lends14 c M) _ _
    | with_reducible exact Keeps.load (lends15 c M) _ _
    | with_reducible exact Keeps.store (lends13 c M) _ _ _ _ _
    | with_reducible exact Keeps.store (lends15 c M) _ _ _ _ _
    | split

theorem keeps88 (c : Dev nD) (bd : Option ℕ) (M : Mems) (i : grid0.Coords) : ∀ arg23 arg24 arg25 v624 v631, Keeps (F := F) c bd (Held c M) (k0_part88 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg23 arg24 arg25 v624 v631) := by
  intros
  unfold k0_part88
  repeat' first
    | extract_lets
    | with_reducible exact Keeps.pure _
    | with_reducible refine Keeps.bind ?_ (fun _ => ?_)
    | with_reducible exact Keeps.load (lends13 c M) _ _
    | with_reducible exact Keeps.load (lends15 c M) _ _
    | with_reducible exact Keeps.store (lends15 c M) _ _ _ _ _
    | split

theorem keeps89 (c : Dev nD) (bd : Option ℕ) (M : Mems) (i : grid0.Coords) : ∀ k0_t16 arg19 arg23 arg26 arg27 v602 v663, Keeps (F := F) c bd (Held c M) (k0_part89 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t16 arg19 arg23 arg26 arg27 v602 v663) := by
  intros
  unfold k0_part89
  repeat' first
    | extract_lets
    | with_reducible exact Keeps.pure _
    | with_reducible refine Keeps.bind ?_ (fun _ => ?_)
    | with_reducible exact Keeps.load (lends7 c M) _ _
    | with_reducible exact Keeps.load (lends15 c M) _ _
    | with_reducible exact Keeps.load (lends16 c M) _ _
    | with_reducible exact Keeps.store (lends15 c M) _ _ _ _ _
    | with_reducible exact Keeps.store (lends16 c M) _ _ _ _ _
    | split

theorem keeps90 (c : Dev nD) (bd : Option ℕ) (M : Mems) (i : grid0.Coords) : ∀ v680 v692 v703, Keeps (F := F) c bd (Held c M) (k0_part90 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v680 v692 v703) := by
  intros
  unfold k0_part90
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps91 (c : Dev nD) (bd : Option ℕ) (M : Mems) (i : grid0.Coords) : ∀ arg20 arg24 arg28 v675 v677, Keeps (F := F) c bd (Held c M) (k0_part91 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg20 arg24 arg28 v675 v677) := by
  intros
  unfold k0_part91
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps92 (c : Dev nD) (bd : Option ℕ) (M : Mems) (i : grid0.Coords) : ∀ v755 v767 v775 v776, Keeps (F := F) c bd (Held c M) (k0_part92 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v755 v767 v775 v776) := by
  intros
  unfold k0_part92
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps93 (c : Dev nD) (bd : Option ℕ) (M : Mems) (i : grid0.Coords) : ∀ arg21 arg25 arg29 v675 v752 v814, Keeps (F := F) c bd (Held c M) (k0_part93 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg21 arg25 arg29 v675 v752 v814) := by
  intros
  unfold k0_part93
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps94 (c : Dev nD) (bd : Option ℕ) (M : Mems) (i : grid0.Coords) : ∀ v830 v842 v849, Keeps (F := F) c bd (Held c M) (k0_part94 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v830 v842 v849) := by
  intros
  unfold k0_part94
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps95 (c : Dev nD) (bd : Option ℕ) (M : Mems) (i : grid0.Coords) : ∀ arg22 arg26 arg30 v675 v827 v886 v887, Keeps (F := F) c bd (Held c M) (k0_part95 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg22 arg26 arg30 v675 v827 v886 v887) := by
  intros
  unfold k0_part95
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps96 (c : Dev nD) (bd : Option ℕ) (M : Mems) (i : grid0.Coords) : ∀ v905 v917, Keeps (F := F) c bd (Held c M) (k0_part96 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v905 v917) := by
  intros
  unfold k0_part96
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps97 (c : Dev nD) (bd : Option ℕ) (M : Mems) (i : grid0.Coords) : ∀ v20 v424_0 k0_t16 v601 v675 v902 v961, Keeps (F := F) c bd (Held c M) (k0_part97 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 k0_t16 v601 v675 v902 v961) := by
  intros
  unfold k0_part97
  repeat' first
    | extract_lets
    | with_reducible exact Keeps.pure _
    | with_reducible refine Keeps.bind ?_ (fun _ => ?_)
    | with_reducible exact Keeps.load (lends6 c M) _ _
    | with_reducible exact Keeps.load (lends9 c M) _ _
    | with_reducible exact Keeps.load (lends13 c M) _ _
    | with_reducible exact Keeps.load (lends16 c M) _ _
    | with_reducible exact Keeps.load (lends17 c M) _ _
    | with_reducible exact Keeps.store (lends13 c M) _ _ _ _ _
    | with_reducible exact Keeps.store (lends16 c M) _ _ _ _ _
    | with_reducible exact Keeps.store (lends17 c M) _ _ _ _ _
    | split

theorem keeps98 (c : Dev nD) (bd : Option ℕ) (M : Mems) (i : grid0.Coords) : ∀ v636 v648 v995, Keeps (F := F) c bd (Held c M) (k0_part98 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v636 v648 v995) := by
  intros
  unfold k0_part98
  repeat' first
    | extract_lets
    | with_reducible exact Keeps.pure _
    | with_reducible refine Keeps.bind ?_ (fun _ => ?_)
    | with_reducible exact Keeps.load (lends13 c M) _ _
    | with_reducible exact Keeps.load (lends14 c M) _ _
    | with_reducible exact Keeps.load (lends15 c M) _ _
    | with_reducible exact Keeps.store (lends15 c M) _ _ _ _ _
    | split

theorem keeps99 (c : Dev nD) (bd : Option ℕ) (M : Mems) (i : grid0.Coords) : ∀ k0_t16 arg23 v601 v636 v660 v672 v734 v997 v1024, Keeps (F := F) c bd (Held c M) (k0_part99 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t16 arg23 v601 v636 v660 v672 v734 v997 v1024) := by
  intros
  unfold k0_part99
  repeat' first
    | extract_lets
    | with_reducible exact Keeps.pure _
    | with_reducible refine Keeps.bind ?_ (fun _ => ?_)
    | with_reducible exact Keeps.load (lends7 c M) _ _
    | with_reducible exact Keeps.load (lends13 c M) _ _
    | with_reducible exact Keeps.load (lends15 c M) _ _
    | with_reducible exact Keeps.store (lends15 c M) _ _ _ _ _
    | split

theorem keeps100 (c : Dev nD) (bd : Option ℕ) (M : Mems) (i : grid0.Coords) : ∀ v1053 v1056 v1062 v1064, Keeps (F := F) c bd (Held c M) (k0_part100 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1053 v1056 v1062 v1064) := by
  intros
  unfold k0_part100
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps101 (c : Dev nD) (bd : Option ℕ) (M : Mems) (i : grid0.Coords) : ∀ arg24 v648 v809 v1048 v1050 v1053 v1093, Keeps (F := F) c bd (Held c M) (k0_part101 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg24 v648 v809 v1048 v1050 v1053 v1093) := by
  intros
  unfold k0_part101
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps102 (c : Dev nD) (bd : Option ℕ) (M : Mems) (i : grid0.Coords) : ∀ v1128 v1131 v1137 v1138, Keeps (F := F) c bd (Held c M) (k0_part102 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1128 v1131 v1137 v1138) := by
  intros
  unfold k0_part102
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps103 (c : Dev nD) (bd : Option ℕ) (M : Mems) (i : grid0.Coords) : ∀ arg25 v660 v884 v1048 v1125 v1128 v1168, Keeps (F := F) c bd (Held c M) (k0_part103 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg25 v660 v884 v1048 v1125 v1128 v1168) := by
  intros
  unfold k0_part103
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps104 (c : Dev nD) (bd : Option ℕ) (M : Mems) (i : grid0.Coords) : ∀ v1203 v1206 v1211, Keeps (F := F) c bd (Held c M) (k0_part104 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1203 v1206 v1211) := by
  intros
  unfold k0_part104
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps105 (c : Dev nD) (bd : Option ℕ) (M : Mems) (i : grid0.Coords) : ∀ arg26 v672 v959 v1048 v1200 v1203 v1243, Keeps (F := F) c bd (Held c M) (k0_part105 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg26 v672 v959 v1048 v1200 v1203 v1243) := by
  intros
  unfold k0_part105
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps106 (c : Dev nD) (bd : Option ℕ) (M : Mems) (i : grid0.Coords) : ∀ v1278 v1281 v1284, Keeps (F := F) c bd (Held c M) (k0_part106 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1278 v1281 v1284) := by
  intros
  unfold k0_part106
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

end Cert.Proof.Dsa

end
-- ==== Proof.Dsa.Parts4.lean ====
/-
  The printed parts of the attention's further chunk loops and of the while loop's counts, each keeping the buffers.
-/
module

public import proofs.«01_k».proof.Proof.Dsa.Loose

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem keeps108 (c : Dev nD) (bd : Option ℕ) (M : Mems) (i : grid0.Coords) : ∀ v20 v424_0 v543 c1_i32_197 k0_t17, Keeps (F := F) c bd (Held c M) (k0_part108 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 v543 c1_i32_197 k0_t17) := by
  intros
  unfold k0_part108
  repeat' first
    | extract_lets
    | with_reducible exact Keeps.pure _
    | with_reducible refine Keeps.bind ?_ (fun _ => ?_)
    | with_reducible exact Keeps.load (lends6 c M) _ _
    | with_reducible exact Keeps.load (lends9 c M) _ _
    | with_reducible exact Keeps.load (lends13 c M) _ _
    | with_reducible exact Keeps.load (lends14 c M) _ _
    | with_reducible exact Keeps.load (lends15 c M) _ _
    | with_reducible exact Keeps.store (lends13 c M) _ _ _ _ _
    | with_reducible exact Keeps.store (lends15 c M) _ _ _ _ _
    | split

theorem keeps109 (c : Dev nD) (bd : Option ℕ) (M : Mems) (i : grid0.Coords) : ∀ arg23 arg24 arg25 v624 v631, Keeps (F := F) c bd (Held c M) (k0_part109 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg23 arg24 arg25 v624 v631) := by
  intros
  unfold k0_part109
  repeat' first
    | extract_lets
    | with_reducible exact Keeps.pure _
    | with_reducible refine Keeps.bind ?_ (fun _ => ?_)
    | with_reducible exact Keeps.load (lends13 c M) _ _
    | with_reducible exact Keeps.load (lends15 c M) _ _
    | with_reducible exact Keeps.store (lends15 c M) _ _ _ _ _
    | split

theorem keeps110 (c : Dev nD) (bd : Option ℕ) (M : Mems) (i : grid0.Coords) : ∀ k0_t17 arg19 arg23 arg26 arg27 v602 v663, Keeps (F := F) c bd (Held c M) (k0_part110 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t17 arg19 arg23 arg26 arg27 v602 v663) := by
  intros
  unfold k0_part110
  repeat' first
    | extract_lets
    | with_reducible exact Keeps.pure _
    | with_reducible refine Keeps.bind ?_ (fun _ => ?_)
    | with_reducible exact Keeps.load (lends7 c M) _ _
    | with_reducible exact Keeps.load (lends15 c M) _ _
    | with_reducible exact Keeps.load (lends16 c M) _ _
    | with_reducible exact Keeps.store (lends15 c M) _ _ _ _ _
    | with_reducible exact Keeps.store (lends16 c M) _ _ _ _ _
    | split

theorem keeps111 (c : Dev nD) (bd : Option ℕ) (M : Mems) (i : grid0.Coords) : ∀ v680 v692 v703, Keeps (F := F) c bd (Held c M) (k0_part111 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v680 v692 v703) := by
  intros
  unfold k0_part111
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps112 (c : Dev nD) (bd : Option ℕ) (M : Mems) (i : grid0.Coords) : ∀ arg20 arg24 arg28 v675 v677, Keeps (F := F) c bd (Held c M) (k0_part112 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg20 arg24 arg28 v675 v677) := by
  intros
  unfold k0_part112
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps113 (c : Dev nD) (bd : Option ℕ) (M : Mems) (i : grid0.Coords) : ∀ v755 v767 v775 v776, Keeps (F := F) c bd (Held c M) (k0_part113 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v755 v767 v775 v776) := by
  intros
  unfold k0_part113
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps114 (c : Dev nD) (bd : Option ℕ) (M : Mems) (i : grid0.Coords) : ∀ arg21 arg25 arg29 v675 v752 v814, Keeps (F := F) c bd (Held c M) (k0_part114 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg21 arg25 arg29 v675 v752 v814) := by
  intros
  unfold k0_part114
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps115 (c : Dev nD) (bd : Option ℕ) (M : Mems) (i : grid0.Coords) : ∀ v830 v842 v849, Keeps (F := F) c bd (Held c M) (k0_part115 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v830 v842 v849) := by
  intros
  unfold k0_part115
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps116 (c : Dev nD) (bd : Option ℕ) (M : Mems) (i : grid0.Coords) : ∀ arg22 arg26 arg30 v675 v827 v886 v887, Keeps (F := F) c bd (Held c M) (k0_part116 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg22 arg26 arg30 v675 v827 v886 v887) := by
  intros
  unfold k0_part116
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps117 (c : Dev nD) (bd : Option ℕ) (M : Mems) (i : grid0.Coords) : ∀ v905 v917, Keeps (F := F) c bd (Held c M) (k0_part117 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v905 v917) := by
  intros
  unfold k0_part117
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps118 (c : Dev nD) (bd : Option ℕ) (M : Mems) (i : grid0.Coords) : ∀ v20 v424_0 k0_t17 v601 v675 v902 v961, Keeps (F := F) c bd (Held c M) (k0_part118 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 k0_t17 v601 v675 v902 v961) := by
  intros
  unfold k0_part118
  repeat' first
    | extract_lets
    | with_reducible exact Keeps.pure _
    | with_reducible refine Keeps.bind ?_ (fun _ => ?_)
    | with_reducible exact Keeps.load (lends6 c M) _ _
    | with_reducible exact Keeps.load (lends9 c M) _ _
    | with_reducible exact Keeps.load (lends13 c M) _ _
    | with_reducible exact Keeps.load (lends16 c M) _ _
    | with_reducible exact Keeps.load (lends17 c M) _ _
    | with_reducible exact Keeps.store (lends13 c M) _ _ _ _ _
    | with_reducible exact Keeps.store (lends16 c M) _ _ _ _ _
    | with_reducible exact Keeps.store (lends17 c M) _ _ _ _ _
    | split

theorem keeps119 (c : Dev nD) (bd : Option ℕ) (M : Mems) (i : grid0.Coords) : ∀ v636 v648 v995, Keeps (F := F) c bd (Held c M) (k0_part119 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v636 v648 v995) := by
  intros
  unfold k0_part119
  repeat' first
    | extract_lets
    | with_reducible exact Keeps.pure _
    | with_reducible refine Keeps.bind ?_ (fun _ => ?_)
    | with_reducible exact Keeps.load (lends13 c M) _ _
    | with_reducible exact Keeps.load (lends14 c M) _ _
    | with_reducible exact Keeps.load (lends15 c M) _ _
    | with_reducible exact Keeps.store (lends15 c M) _ _ _ _ _
    | split

theorem keeps120 (c : Dev nD) (bd : Option ℕ) (M : Mems) (i : grid0.Coords) : ∀ k0_t17 arg23 v601 v636 v660 v672 v734 v997 v1024, Keeps (F := F) c bd (Held c M) (k0_part120 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_t17 arg23 v601 v636 v660 v672 v734 v997 v1024) := by
  intros
  unfold k0_part120
  repeat' first
    | extract_lets
    | with_reducible exact Keeps.pure _
    | with_reducible refine Keeps.bind ?_ (fun _ => ?_)
    | with_reducible exact Keeps.load (lends7 c M) _ _
    | with_reducible exact Keeps.load (lends13 c M) _ _
    | with_reducible exact Keeps.load (lends15 c M) _ _
    | with_reducible exact Keeps.store (lends15 c M) _ _ _ _ _
    | split

theorem keeps121 (c : Dev nD) (bd : Option ℕ) (M : Mems) (i : grid0.Coords) : ∀ v1053 v1056 v1062 v1064, Keeps (F := F) c bd (Held c M) (k0_part121 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1053 v1056 v1062 v1064) := by
  intros
  unfold k0_part121
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps122 (c : Dev nD) (bd : Option ℕ) (M : Mems) (i : grid0.Coords) : ∀ arg24 v648 v809 v1048 v1050 v1053 v1093, Keeps (F := F) c bd (Held c M) (k0_part122 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg24 v648 v809 v1048 v1050 v1053 v1093) := by
  intros
  unfold k0_part122
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps123 (c : Dev nD) (bd : Option ℕ) (M : Mems) (i : grid0.Coords) : ∀ v1128 v1131 v1137 v1138, Keeps (F := F) c bd (Held c M) (k0_part123 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1128 v1131 v1137 v1138) := by
  intros
  unfold k0_part123
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps124 (c : Dev nD) (bd : Option ℕ) (M : Mems) (i : grid0.Coords) : ∀ arg25 v660 v884 v1048 v1125 v1128 v1168, Keeps (F := F) c bd (Held c M) (k0_part124 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg25 v660 v884 v1048 v1125 v1128 v1168) := by
  intros
  unfold k0_part124
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps125 (c : Dev nD) (bd : Option ℕ) (M : Mems) (i : grid0.Coords) : ∀ v1203 v1206 v1211, Keeps (F := F) c bd (Held c M) (k0_part125 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1203 v1206 v1211) := by
  intros
  unfold k0_part125
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps126 (c : Dev nD) (bd : Option ℕ) (M : Mems) (i : grid0.Coords) : ∀ arg26 v672 v959 v1048 v1200 v1203 v1243, Keeps (F := F) c bd (Held c M) (k0_part126 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg26 v672 v959 v1048 v1200 v1203 v1243) := by
  intros
  unfold k0_part126
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps127 (c : Dev nD) (bd : Option ℕ) (M : Mems) (i : grid0.Coords) : ∀ v1278 v1281 v1284, Keeps (F := F) c bd (Held c M) (k0_part127 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v1278 v1281 v1284) := by
  intros
  unfold k0_part127
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps129 (c : Dev nD) (bd : Option ℕ) (M : Mems) (i : grid0.Coords) : ∀ v20 v424_0 k0_h1, Keeps (F := F) c bd (Held c M) (k0_part129 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 k0_h1) := by
  intros
  unfold k0_part129
  repeat' first
    | extract_lets
    | with_reducible exact Keeps.pure _
    | with_reducible refine Keeps.bind ?_ (fun _ => ?_)
    | with_reducible exact Keeps.load (lends6 c M) _ _
    | with_reducible exact Keeps.load (lends9 c M) _ _
    | with_reducible exact Keeps.load (lends13 c M) _ _
    | with_reducible exact Keeps.load (lends14 c M) _ _
    | with_reducible exact Keeps.load (lends15 c M) _ _
    | with_reducible exact Keeps.store (lends13 c M) _ _ _ _ _
    | with_reducible exact Keeps.store (lends15 c M) _ _ _ _ _
    | split

theorem keeps130 (c : Dev nD) (bd : Option ℕ) (M : Mems) (i : grid0.Coords) : ∀ v545_0 v545_4 v545_8 k0_h1 v600 v622 v631, Keeps (F := F) c bd (Held c M) (k0_part130 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v545_0 v545_4 v545_8 k0_h1 v600 v622 v631) := by
  intros
  unfold k0_part130
  repeat' first
    | extract_lets
    | with_reducible exact Keeps.pure _
    | with_reducible refine Keeps.bind ?_ (fun _ => ?_)
    | with_reducible exact Keeps.load (lends7 c M) _ _
    | with_reducible exact Keeps.load (lends13 c M) _ _
    | with_reducible exact Keeps.load (lends15 c M) _ _
    | with_reducible exact Keeps.store (lends15 c M) _ _ _ _ _
    | split

theorem keeps131 (c : Dev nD) (bd : Option ℕ) (M : Mems) (i : grid0.Coords) : ∀ v654 v663 v666, Keeps (F := F) c bd (Held c M) (k0_part131 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v654 v663 v666) := by
  intros
  unfold k0_part131
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps132 (c : Dev nD) (bd : Option ℕ) (M : Mems) (i : grid0.Coords) : ∀ v545_1 v545_5 v545_9 v649 v651 v654 v694 v700, Keeps (F := F) c bd (Held c M) (k0_part132 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v545_1 v545_5 v545_9 v649 v651 v654 v694 v700) := by
  intros
  unfold k0_part132
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps133 (c : Dev nD) (bd : Option ℕ) (M : Mems) (i : grid0.Coords) : ∀ v729 v732 v738 v739, Keeps (F := F) c bd (Held c M) (k0_part133 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v729 v732 v738 v739) := by
  intros
  unfold k0_part133
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps134 (c : Dev nD) (bd : Option ℕ) (M : Mems) (i : grid0.Coords) : ∀ v545_2 v545_6 v545_10 v649 v726 v729 v769, Keeps (F := F) c bd (Held c M) (k0_part134 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v545_2 v545_6 v545_10 v649 v726 v729 v769) := by
  intros
  unfold k0_part134
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps135 (c : Dev nD) (bd : Option ℕ) (M : Mems) (i : grid0.Coords) : ∀ v804 v807 v813, Keeps (F := F) c bd (Held c M) (k0_part135 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v804 v807 v813) := by
  intros
  unfold k0_part135
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps136 (c : Dev nD) (bd : Option ℕ) (M : Mems) (i : grid0.Coords) : ∀ v545_3 v545_7 v545_11 v649 v801 v804 v844, Keeps (F := F) c bd (Held c M) (k0_part136 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v545_3 v545_7 v545_11 v649 v801 v804 v844) := by
  intros
  unfold k0_part136
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact Keeps.store (lends17 c M) _ _ _ _ _
    | split

theorem keeps137 (c : Dev nD) (bd : Option ℕ) (M : Mems) (i : grid0.Coords) : ∀ v879 v882 v885 v886, Keeps (F := F) c bd (Held c M) (k0_part137 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v879 v882 v885 v886) := by
  intros
  unfold k0_part137
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.store (lends16 c M) _ _ _ _ _
    | split

theorem keeps138 (c : Dev nD) (bd : Option ℕ) (M : Mems) (i : grid0.Coords) : Keeps (F := F) c bd (Held c M) (k0_part138 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) := by
  unfold k0_part138
  repeat' first
    | extract_lets
    | with_reducible exact Keeps.pure _
    | with_reducible refine Keeps.bind ?_ (fun _ => ?_)
    | with_reducible exact Keeps.load (lends3 c M) _ _
    | with_reducible exact Keeps.load (lends11 c M) _ _
    | with_reducible exact Keeps.store (lends11 c M) _ _ _ _ _
    | split

theorem keeps139 (c : Dev nD) (bd : Option ℕ) (M : Mems) (i : grid0.Coords) : ∀ v24 v32 v35, Keeps (F := F) c bd (Held c M) (k0_part139 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v24 v32 v35) := by
  intros
  unfold k0_part139
  repeat' first
    | extract_lets
    | with_reducible exact Keeps.pure _
    | with_reducible refine Keeps.bind ?_ (fun _ => ?_)
    | split

theorem keeps140 (c : Dev nD) (bd : Option ℕ) (M : Mems) (i : grid0.Coords) : ∀ v32 v36 v73 v78 c0_i32_25 v79, Keeps (F := F) c bd (Held c M) (k0_part140 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v32 v36 v73 v78 c0_i32_25 v79) := by
  intros
  unfold k0_part140
  repeat' first
    | extract_lets
    | with_reducible exact Keeps.pure _
    | with_reducible refine Keeps.bind ?_ (fun _ => ?_)
    | split

theorem keeps141 (c : Dev nD) (bd : Option ℕ) (M : Mems) (i : grid0.Coords) : ∀ v32 v36 v118 v123 c0_i32_33 v124, Keeps (F := F) c bd (Held c M) (k0_part141 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v32 v36 v118 v123 c0_i32_33 v124) := by
  intros
  unfold k0_part141
  repeat' first
    | extract_lets
    | with_reducible exact Keeps.pure _
    | with_reducible refine Keeps.bind ?_ (fun _ => ?_)
    | split

theorem keeps142 (c : Dev nD) (bd : Option ℕ) (M : Mems) (i : grid0.Coords) : ∀ v32 v36 v163 v168 c0_i32_38 v169, Keeps (F := F) c bd (Held c M) (k0_part142 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v32 v36 v163 v168 c0_i32_38 v169) := by
  intros
  unfold k0_part142
  repeat' first
    | extract_lets
    | with_reducible exact Keeps.pure _
    | with_reducible refine Keeps.bind ?_ (fun _ => ?_)
    | split

theorem keeps143 (c : Dev nD) (bd : Option ℕ) (M : Mems) (i : grid0.Coords) : ∀ v32 v36 v208 v213 c0_i32_44 v214, Keeps (F := F) c bd (Held c M) (k0_part143 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v32 v36 v208 v213 c0_i32_44 v214) := by
  intros
  unfold k0_part143
  repeat' first
    | extract_lets
    | with_reducible exact Keeps.pure _
    | with_reducible refine Keeps.bind ?_ (fun _ => ?_)
    | split

theorem keeps144 (c : Dev nD) (bd : Option ℕ) (M : Mems) (i : grid0.Coords) : ∀ v32 v36 v253 v258 c0_i32_49 v259, Keeps (F := F) c bd (Held c M) (k0_part144 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v32 v36 v253 v258 c0_i32_49 v259) := by
  intros
  unfold k0_part144
  repeat' first
    | extract_lets
    | with_reducible exact Keeps.pure _
    | with_reducible refine Keeps.bind ?_ (fun _ => ?_)
    | split

theorem keeps153 (c : Dev nD) (bd : Option ℕ) (M : Mems) (i : grid0.Coords) : ∀ arg18 arg19 arg20 arg21 arg22 v602 c0_i32_234 c1_i32_236 k0_t12 arg24 arg25, Keeps (F := F) c bd (Held c M) (k0_part153 i M.a9 M.h9 arg18 arg19 arg20 arg21 arg22 v602 c0_i32_234 c1_i32_236 k0_t12 arg24 arg25) := by
  intros
  unfold k0_part153
  repeat' first
    | extract_lets
    | with_reducible exact Keeps.pure _
    | with_reducible refine Keeps.bind ?_ (fun _ => ?_)
    | with_reducible exact Keeps.load (lends9 c M) _ _
    | split

theorem keeps154 (c : Dev nD) (bd : Option ℕ) (M : Mems) (i : grid0.Coords) : ∀ arg18 arg19 arg20 arg21 arg22 v602 v609 c1_i32_237 k0_t13 arg24 arg25, Keeps (F := F) c bd (Held c M) (k0_part154 i M.a9 M.h9 arg18 arg19 arg20 arg21 arg22 v602 v609 c1_i32_237 k0_t13 arg24 arg25) := by
  intros
  unfold k0_part154
  repeat' first
    | extract_lets
    | with_reducible exact Keeps.pure _
    | with_reducible refine Keeps.bind ?_ (fun _ => ?_)
    | with_reducible exact Keeps.load (lends9 c M) _ _
    | split

theorem keeps155 (c : Dev nD) (bd : Option ℕ) (M : Mems) (i : grid0.Coords) : ∀ arg18 arg19 arg20 arg21 arg22 v624 c0_i32_244 c1_i32_246 k0_t14 arg24 arg25, Keeps (F := F) c bd (Held c M) (k0_part155 i M.a9 M.h9 arg18 arg19 arg20 arg21 arg22 v624 c0_i32_244 c1_i32_246 k0_t14 arg24 arg25) := by
  intros
  unfold k0_part155
  repeat' first
    | extract_lets
    | with_reducible exact Keeps.pure _
    | with_reducible refine Keeps.bind ?_ (fun _ => ?_)
    | with_reducible exact Keeps.load (lends9 c M) _ _
    | split

theorem keeps156 (c : Dev nD) (bd : Option ℕ) (M : Mems) (i : grid0.Coords) : ∀ arg18 arg19 arg20 arg21 arg22 v624 k0_t14 arg23 v673 v686 v692, Keeps (F := F) c bd (Held c M) (k0_part156 i M.a9 M.h9 arg18 arg19 arg20 arg21 arg22 v624 k0_t14 arg23 v673 v686 v692) := by
  intros
  unfold k0_part156
  repeat' first
    | extract_lets
    | with_reducible exact Keeps.pure _
    | with_reducible refine Keeps.bind ?_ (fun _ => ?_)
    | with_reducible exact Keeps.load (lends9 c M) _ _
    | split

theorem keeps157 (c : Dev nD) (bd : Option ℕ) (M : Mems) (i : grid0.Coords) : ∀ arg18 arg19 arg20 arg21 arg22 v624 v631 c1_i32_247 k0_t15 arg24 arg25, Keeps (F := F) c bd (Held c M) (k0_part157 i M.a9 M.h9 arg18 arg19 arg20 arg21 arg22 v624 v631 c1_i32_247 k0_t15 arg24 arg25) := by
  intros
  unfold k0_part157
  repeat' first
    | extract_lets
    | with_reducible exact Keeps.pure _
    | with_reducible refine Keeps.bind ?_ (fun _ => ?_)
    | with_reducible exact Keeps.load (lends9 c M) _ _
    | split

theorem keeps158 (c : Dev nD) (bd : Option ℕ) (M : Mems) (i : grid0.Coords) : ∀ arg18 arg19 arg20 arg21 arg22 v624 k0_t15 arg23 v673 v686 v692, Keeps (F := F) c bd (Held c M) (k0_part158 i M.a9 M.h9 arg18 arg19 arg20 arg21 arg22 v624 k0_t15 arg23 v673 v686 v692) := by
  intros
  unfold k0_part158
  repeat' first
    | extract_lets
    | with_reducible exact Keeps.pure _
    | with_reducible refine Keeps.bind ?_ (fun _ => ?_)
    | with_reducible exact Keeps.load (lends9 c M) _ _
    | split

end Cert.Proof.Dsa

end
-- ==== Proof.Dsa.Parts5.lean ====
/-
  The printed parts that run the counted loops: the two block loops of the indexer, the bisection, the chunks.
-/
module

public import proofs.«01_k».proof.Proof.Dsa.Parts1
public import proofs.«01_k».proof.Proof.Dsa.Parts2
public import proofs.«01_k».proof.Proof.Dsa.Parts3
public import proofs.«01_k».proof.Proof.Dsa.Parts4

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem keeps107 (c : Dev nD) (bd : Option ℕ) (M : Mems) (i : grid0.Coords) : ∀ v20 v424_0 c0_i32_194 c1_i32_196 k0_t16 arg19 arg20 arg21 arg22 arg23 arg24 arg25 arg26 arg27 arg28 arg29 arg30, Keeps (F := F) c bd (Held c M) (k0_part107 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 c0_i32_194 c1_i32_196 k0_t16 arg19 arg20 arg21 arg22 arg23 arg24 arg25 arg26 arg27 arg28 arg29 arg30) := by
  intros
  unfold k0_part107
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact keeps87 c bd M i _ _ _ _ _
    | with_reducible exact keeps88 c bd M i _ _ _ _ _
    | with_reducible exact keeps89 c bd M i _ _ _ _ _ _ _
    | with_reducible exact keeps90 c bd M i _ _ _
    | with_reducible exact keeps91 c bd M i _ _ _ _ _
    | with_reducible exact keeps92 c bd M i _ _ _ _
    | with_reducible exact keeps93 c bd M i _ _ _ _ _ _
    | with_reducible exact keeps94 c bd M i _ _ _
    | with_reducible exact keeps95 c bd M i _ _ _ _ _ _ _
    | with_reducible exact keeps96 c bd M i _ _
    | with_reducible exact keeps97 c bd M i _ _ _ _ _ _ _
    | with_reducible exact keeps98 c bd M i _ _ _
    | with_reducible exact keeps99 c bd M i _ _ _ _ _ _ _ _ _
    | with_reducible exact keeps100 c bd M i _ _ _ _
    | with_reducible exact keeps101 c bd M i _ _ _ _ _ _ _
    | with_reducible exact keeps102 c bd M i _ _ _ _
    | with_reducible exact keeps103 c bd M i _ _ _ _ _ _ _
    | with_reducible exact keeps104 c bd M i _ _ _
    | with_reducible exact keeps105 c bd M i _ _ _ _ _ _ _
    | with_reducible exact keeps106 c bd M i _ _ _
    | split

theorem keeps128 (c : Dev nD) (bd : Option ℕ) (M : Mems) (i : grid0.Coords) : ∀ v20 v424_0 v543 c1_i32_197 k0_t17 arg19 arg20 arg21 arg22 arg23 arg24 arg25 arg26 arg27 arg28 arg29 arg30, Keeps (F := F) c bd (Held c M) (k0_part128 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 v543 c1_i32_197 k0_t17 arg19 arg20 arg21 arg22 arg23 arg24 arg25 arg26 arg27 arg28 arg29 arg30) := by
  intros
  unfold k0_part128
  repeat' first
    | extract_lets
    | with_reducible exact Keeps.pure _
    | with_reducible refine Keeps.bind ?_ (fun _ => ?_)
    | with_reducible exact Keeps.load (lends15 c M) _ _
    | with_reducible exact Keeps.load (lends16 c M) _ _
    | with_reducible exact Keeps.load (lends17 c M) _ _
    | with_reducible exact Keeps.store (lends16 c M) _ _ _ _ _
    | with_reducible exact keeps108 c bd M i _ _ _ _ _
    | with_reducible exact keeps109 c bd M i _ _ _ _ _
    | with_reducible exact keeps110 c bd M i _ _ _ _ _ _ _
    | with_reducible exact keeps111 c bd M i _ _ _
    | with_reducible exact keeps112 c bd M i _ _ _ _ _
    | with_reducible exact keeps113 c bd M i _ _ _ _
    | with_reducible exact keeps114 c bd M i _ _ _ _ _ _
    | with_reducible exact keeps115 c bd M i _ _ _
    | with_reducible exact keeps116 c bd M i _ _ _ _ _ _ _
    | with_reducible exact keeps117 c bd M i _ _
    | with_reducible exact keeps118 c bd M i _ _ _ _ _ _ _
    | with_reducible exact keeps119 c bd M i _ _ _
    | with_reducible exact keeps120 c bd M i _ _ _ _ _ _ _ _ _
    | with_reducible exact keeps121 c bd M i _ _ _ _
    | with_reducible exact keeps122 c bd M i _ _ _ _ _ _ _
    | with_reducible exact keeps123 c bd M i _ _ _ _
    | with_reducible exact keeps124 c bd M i _ _ _ _ _ _ _
    | with_reducible exact keeps125 c bd M i _ _ _
    | with_reducible exact keeps126 c bd M i _ _ _ _ _ _ _
    | with_reducible exact keeps127 c bd M i _ _ _
    | split

theorem keeps145 (c : Dev nD) (bd : Option ℕ) (M : Mems) (i : grid0.Coords) : ∀ v20 v24 v27 v32 v36 v298 v303 c0_i32_54 v304, Keeps (F := F) c bd (Held c M) (k0_part145 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v24 v27 v32 v36 v298 v303 c0_i32_54 v304) := by
  intros
  unfold k0_part145
  repeat' first
    | extract_lets
    | with_reducible exact Keeps.pure _
    | with_reducible refine Keeps.bind ?_ (fun _ => ?_)
    | with_reducible exact Keeps.load (lends11 c M) _ _
    | with_reducible exact Keeps.store (lends11 c M) _ _ _ _ _
    | with_reducible exact keeps1 c bd M i _ _ _ _
    | with_reducible exact keeps2 c bd M i _ _ _ _ _
    | with_reducible exact keeps3 c bd M i _ _ _ _
    | with_reducible exact keeps4 c bd M i _ _ _ _ _ _ _
    | with_reducible exact keeps5 c bd M i _ _ _ _
    | with_reducible exact keeps6 c bd M i _ _ _ _ _ _ _ _ _ _
    | with_reducible exact keeps7 c bd M i _ _ _ _ _ _ _ _ _ _ _ _ _
    | with_reducible exact keeps8 c bd M i _ _ _
    | with_reducible exact keeps9 c bd M i _ _ _ _ _ _
    | with_reducible exact keeps10 c bd M i _ _ _ _
    | with_reducible exact keeps11 c bd M i _ _ _ _ _ _ _
    | with_reducible exact keeps12 c bd M i _
    | with_reducible exact keeps13 c bd M i _ _ _ _ _ _ _ _ _ _
    | with_reducible exact keeps14 c bd M i _ _ _ _ _ _ _ _ _ _ _ _
    | with_reducible exact keeps15 c bd M i _ _ _ _
    | with_reducible exact keeps16 c bd M i _ _ _ _ _
    | with_reducible exact keeps17 c bd M i _ _ _ _ _ _
    | with_reducible exact keeps18 c bd M i _ _ _ _ _ _
    | with_reducible exact keeps19 c bd M i _ _ _ _ _
    | with_reducible exact keeps20 c bd M i _ _ _ _ _ _ _ _ _
    | with_reducible exact keeps21 c bd M i _ _ _ _ _ _ _ _ _
    | with_reducible exact keeps22 c bd M i _ _ _ _
    | with_reducible exact keeps23 c bd M i _ _ _ _
    | with_reducible exact keeps24 c bd M i _ _ _ _ _ _
    | with_reducible exact keeps25 c bd M i _ _ _ _ _ _ _ _
    | with_reducible exact keeps26 c bd M i _ _ _ _ _ _ _ _ _
    | with_reducible exact keeps27 c bd M i _ _ _ _ _ _ _ _ _
    | with_reducible exact keeps28 c bd M i _ _ _ _ _ _ _ _ _ _ _ _ _
    | with_reducible exact keeps29 c bd M i _ _ _ _ _ _ _ _ _ _ _ _ _
    | with_reducible exact keeps30 c bd M i _ _ _ _ _ _ _ _ _ _ _ _ _
    | with_reducible exact keeps31 c bd M i _ _ _ _ _ _ _ _ _ _ _ _ _
    | with_reducible exact keeps32 c bd M i _ _ _ _ _ _ _ _ _ _ _ _ _
    | with_reducible exact keeps33 c bd M i _ _ _ _ _ _ _ _ _ _ _ _ _
    | with_reducible exact keeps34 c bd M i _ _ _ _ _ _ _ _ _ _ _ _ _
    | with_reducible exact keeps35 c bd M i _ _ _ _ _ _ _ _ _ _
    | with_reducible exact keeps36 c bd M i _ _ _ _ _ _ _ _ _ _
    | with_reducible exact keeps37 c bd M i _ _ _ _ _ _ _ _ _ _
    | with_reducible exact keeps38 c bd M i _ _ _ _ _ _ _ _ _ _ _
    | with_reducible exact keeps39 c bd M i _ _ _ _
    | with_reducible exact keeps40 c bd M i _ _ _ _ _
    | with_reducible exact keeps41 c bd M i _ _ _ _
    | with_reducible exact keeps42 c bd M i _ _ _ _ _ _ _
    | with_reducible exact keeps43 c bd M i _ _ _ _
    | with_reducible exact keeps44 c bd M i _ _ _ _ _ _ _ _ _ _
    | with_reducible exact keeps45 c bd M i _ _ _ _ _ _ _ _ _ _ _ _ _
    | with_reducible exact keeps46 c bd M i _ _ _
    | with_reducible exact keeps47 c bd M i _ _ _ _ _ _
    | with_reducible exact keeps48 c bd M i _ _ _ _
    | with_reducible exact keeps49 c bd M i _ _ _ _ _ _ _
    | with_reducible exact keeps50 c bd M i _
    | with_reducible exact keeps51 c bd M i _ _ _ _ _ _ _ _ _ _
    | with_reducible exact keeps52 c bd M i _ _ _ _ _ _ _ _ _ _ _ _
    | with_reducible exact keeps53 c bd M i _ _ _ _
    | with_reducible exact keeps54 c bd M i _ _ _ _ _
    | with_reducible exact keeps55 c bd M i _ _ _ _ _ _
    | with_reducible exact keeps56 c bd M i _ _ _ _ _ _
    | with_reducible exact keeps57 c bd M i _ _ _ _ _
    | with_reducible exact keeps58 c bd M i _ _ _ _ _ _ _ _ _
    | with_reducible exact keeps59 c bd M i _ _ _ _ _ _ _ _ _
    | with_reducible exact keeps60 c bd M i _ _ _ _
    | with_reducible exact keeps61 c bd M i _ _ _ _
    | with_reducible exact keeps62 c bd M i _ _ _ _ _ _
    | with_reducible exact keeps63 c bd M i _ _ _ _ _ _ _ _
    | with_reducible exact keeps64 c bd M i _ _ _ _ _ _ _ _ _
    | with_reducible exact keeps65 c bd M i _ _ _ _ _ _ _ _ _
    | with_reducible exact keeps66 c bd M i _ _ _ _ _ _ _ _ _ _ _ _ _
    | with_reducible exact keeps67 c bd M i _ _ _ _ _ _ _ _ _ _ _ _ _
    | with_reducible exact keeps68 c bd M i _ _ _ _ _ _ _ _ _ _ _ _ _
    | with_reducible exact keeps69 c bd M i _ _ _ _ _ _ _ _ _ _ _ _ _
    | with_reducible exact keeps70 c bd M i _ _ _ _ _ _ _ _ _ _ _ _ _
    | with_reducible exact keeps71 c bd M i _ _ _ _ _ _ _ _ _ _ _ _ _
    | with_reducible exact keeps72 c bd M i _ _ _ _ _ _ _ _ _ _ _ _ _
    | with_reducible exact keeps73 c bd M i _ _ _ _ _ _ _ _ _ _
    | with_reducible exact keeps74 c bd M i _ _ _ _ _ _ _ _ _ _
    | with_reducible exact keeps75 c bd M i _ _ _ _ _ _ _ _ _ _
    | with_reducible exact keeps76 c bd M i _ _ _ _ _ _ _ _ _ _ _
    | refine Keeps.for _ _ _ _ _ _ (fun _ _ => ?_)
    | split

theorem keeps146 (c : Dev nD) (bd : Option ℕ) (M : Mems) (i : grid0.Coords) : ∀ v20 v332 c4_i32_64 v333 v344, Keeps (F := F) c bd (Held c M) (k0_part146 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v332 c4_i32_64 v333 v344) := by
  intros
  unfold k0_part146
  repeat' first
    | extract_lets
    | with_reducible exact Keeps.pure _
    | with_reducible refine Keeps.bind ?_ (fun _ => ?_)
    | with_reducible exact Keeps.load (lends9 c M) _ _
    | with_reducible exact Keeps.load (lends10 c M) _ _
    | with_reducible exact Keeps.load (lends11 c M) _ _
    | with_reducible exact Keeps.load (lends12 c M) _ _
    | with_reducible exact Keeps.store (lends9 c M) _ _ _ _ _
    | with_reducible exact Keeps.store (lends10 c M) _ _ _ _ _
    | with_reducible exact Keeps.store (lends12 c M) _ _ _ _ _
    | with_reducible exact keeps77 c bd M i _ _ _ _
    | with_reducible exact keeps78 c bd M i _ _ _ _
    | with_reducible exact keeps79 c bd M i _ _ _ _ _ _ _
    | with_reducible exact keeps80 c bd M i _ _ _ _ _ _ _ _ _ _ _
    | with_reducible exact keeps81 c bd M i _ _ _ _ _ _ _
    | with_reducible exact keeps82 c bd M i _ _ _ _ _ _ _ _ _ _ _
    | refine Keeps.for _ _ _ _ _ _ (fun _ _ => ?_)
    | split

theorem keeps147 (c : Dev nD) (bd : Option ℕ) (M : Mems) (i : grid0.Coords) : ∀ v349 v378_2 v380, Keeps (F := F) c bd (Held c M) (k0_part147 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v349 v378_2 v380) := by
  intros
  unfold k0_part147
  repeat' first
    | extract_lets
    | with_reducible exact Keeps.pure _
    | with_reducible refine Keeps.bind ?_ (fun _ => ?_)
    | with_reducible exact keeps83 c bd M i _ _ _ _ _ _
    | with_reducible exact keeps84 c bd M i _ _ _ _ _ _
    | with_reducible exact keeps85 c bd M i _ _ _ _ _ _
    | with_reducible exact keeps86 c bd M i _ _ _ _ _ _
    | refine Keeps.for _ _ _ _ _ _ (fun _ _ => ?_)
    | split

theorem keeps149 (c : Dev nD) (bd : Option ℕ) (M : Mems) (i : grid0.Coords) : ∀ v424_0, Keeps (F := F) c bd (Held c M) (k0_part149 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v424_0) := by
  intros
  unfold k0_part149
  repeat' first
    | extract_lets
    | with_reducible exact Keeps.pure _
    | with_reducible refine Keeps.bind ?_ (fun _ => ?_)
    | with_reducible exact Keeps.load (lends6 c M) _ _
    | with_reducible exact Keeps.load (lends9 c M) _ _
    | with_reducible exact Keeps.load (lends13 c M) _ _
    | with_reducible exact Keeps.load (lends14 c M) _ _
    | with_reducible exact Keeps.load (lends15 c M) _ _
    | with_reducible exact Keeps.store (lends13 c M) _ _ _ _ _
    | with_reducible exact Keeps.store (lends15 c M) _ _ _ _ _
    | split

theorem keeps150 (c : Dev nD) (bd : Option ℕ) (M : Mems) (i : grid0.Coords) : ∀ v449 v450 v451 v469 v480, Keeps (F := F) c bd (Held c M) (k0_part150 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v449 v450 v451 v469 v480) := by
  intros
  unfold k0_part150
  repeat' first
    | extract_lets
    | with_reducible exact Keeps.pure _
    | with_reducible refine Keeps.bind ?_ (fun _ => ?_)
    | with_reducible exact Keeps.load (lends13 c M) _ _
    | with_reducible exact Keeps.load (lends15 c M) _ _
    | with_reducible exact Keeps.store (lends15 c M) _ _ _ _ _
    | split

theorem keeps151 (c : Dev nD) (bd : Option ℕ) (M : Mems) (i : grid0.Coords) : ∀ v20 v424_0 v449 v450 v451 v452 v481 v493 v505 v512, Keeps (F := F) c bd (Held c M) (k0_part151 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 v449 v450 v451 v452 v481 v493 v505 v512) := by
  intros
  unfold k0_part151
  repeat' first
    | extract_lets
    | with_reducible exact Keeps.pure _
    | with_reducible refine Keeps.bind ?_ (fun _ => ?_)
    | with_reducible exact Keeps.load (lends17 c M) _ _
    | with_reducible exact Keeps.store (lends17 c M) _ _ _ _ _
    | with_reducible exact keeps107 c bd M i _ _ _ _ _ _ _ _ _ _ _ _ _ _ _ _ _
    | with_reducible exact keeps128 c bd M i _ _ _ _ _ _ _ _ _ _ _ _ _ _ _ _ _
    | refine Keeps.for _ _ _ _ _ _ (fun _ _ => ?_)
    | split

theorem keeps159 (c : Dev nD) (bd : Option ℕ) (M : Mems) (i : grid0.Coords) : ∀ arg18 arg19 arg20 arg21 arg22 v349, Keeps (F := F) c bd (Held c M) (k0_part159 i M.a9 M.h9 arg18 arg19 arg20 arg21 arg22 v349) := by
  intros
  unfold k0_part159
  repeat' first
    | extract_lets
    | with_reducible exact Keeps.pure _
    | with_reducible refine Keeps.bind ?_ (fun _ => ?_)
    | with_reducible exact Keeps.load (lends9 c M) _ _
    | with_reducible exact keeps153 c bd M i _ _ _ _ _ _ _ _ _ _ _
    | with_reducible exact keeps154 c bd M i _ _ _ _ _ _ _ _ _ _ _
    | with_reducible exact keeps155 c bd M i _ _ _ _ _ _ _ _ _ _ _
    | with_reducible exact keeps156 c bd M i _ _ _ _ _ _ _ _ _ _ _
    | with_reducible exact keeps157 c bd M i _ _ _ _ _ _ _ _ _ _ _
    | with_reducible exact keeps158 c bd M i _ _ _ _ _ _ _ _ _ _ _
    | refine Keeps.for _ _ _ _ _ _ (fun _ _ => ?_)
    | split

end Cert.Proof.Dsa

end
-- ==== Proof.Dsa.While.lean ====
/-
  The while loop of the selection: its label keeps the buffers, by induction on the trips its counter still allows.
-/
module

public import proofs.«01_k».proof.Proof.Dsa.Parts5

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A call of a label keeps what the label's body keeps, when it is entered below the bound. -/
theorem Keeps.call {c : Dev nD} {bd : Option ℕ} {C : sProp (MF F)} (ℓ : (Λ₀ F).Label) (a : (Λ₀ F).Args ℓ) (v : ℕ) (hv : ∀ u ∈ bd, v < u)
    (h : Keeps (F := F) c (some v) C (defs₀ (F := F) .tc ℓ a)) : Keeps (F := F) c bd C (Prog.lift (.call ℓ a)) := by
  unfold Keeps at *
  refine BI.BIBase.Entails.trans ?_ (wp_call 𝒱₀ (c : Thread nD τ) bd Set.univ v hv)
  exact h.trans (wp_mono _ _ _ fun x => le_wp_ret _ _ _ _ (fun _ => C))

/-- The while loop's condition bounds its counter. -/
theorem lt_of_cond {a : BitVec 1} {x : BitVec 32} (h : Scalar.andi a (Scalar.cmpi .slt x 256#32) = 1#1) : x.toInt < 256 := by
  have h2 : x.slt 256#32 = true := by
    by_contra hn
    have hf : x.slt 256#32 = false := by simpa using hn
    have : Scalar.andi a (Scalar.cmpi .slt x 256#32) = 0#1 := by
      simp [Scalar.andi, Scalar.cmpi, IntOp.andi, IntOp.cmpi, hf]
    rw [this] at h
    exact absurd h (by decide)
  have h3 : x.toInt < (256#32).toInt := by simpa [BitVec.slt] using h2
  have h4 : (256#32 : BitVec 32).toInt = 256 := by decide
  omega

/-- The next trip's counter. -/
theorem toInt_next {x : BitVec 32} (h : x.toInt < 256) : (Scalar.addi x 1#32).toInt = x.toInt + 1 := by
  have h1 : (1#32 : BitVec 32).toInt = 1 := by decide
  have h2 := BitVec.le_toInt x
  show (x + 1#32).toInt = _
  rw [BitVec.toInt_add, h1]
  apply Int.bmod_eq_of_le <;> omega

/-- The while loop's label, entered at a variant no smaller than the trips its counter allows. -/
theorem keepsWhile (c : Dev nD) (M : Mems) (i : grid0.Coords) (n : ℕ) : ∀ v18 v19 v20 v21 (x : BitVec 32), 256 - x.toInt ≤ n →
    Keeps (F := F) c (some n) (Held c M) (cc0_while1 i M.a9 M.h9 v18 v19 v20 v21 x) := by
  induction n with
  | zero =>
    intro v18 v19 v20 v21 x hx
    unfold cc0_while1
    extract_lets
    split
    · exact absurd (lt_of_cond ‹_›) (by omega)
    · exact Keeps.pure _
  | succ n ih =>
    intro v18 v19 v20 v21 x hx
    unfold cc0_while1
    extract_lets
    split
    · have hlt := lt_of_cond ‹_›
      with_reducible refine Keeps.bind ?_ (fun _ => ?_)
      · exact keeps159 c _ M i _ _ _ _ _ _
      split
      extract_lets
      refine Keeps.call _ _ n (fun u hu => ?_) ?_
      · obtain rfl := Option.mem_some.1 hu; exact Nat.lt_succ_self n
      · refine ih _ _ _ _ _ ?_
        have := toInt_next hlt
        push_cast at hx
        show 256 - (Scalar.addi x 1#32).toInt ≤ (n : ℤ)
        omega
    · exact Keeps.pure _

/-- The call of the while loop's label, from the body. -/
theorem keepsCall (c : Dev nD) (M : Mems) (i : grid0.Coords) (v18 v19 v20 v21) :
    Keeps (F := F) c none (Held c M) (Prog.lift (.call (1 : (Λ₀ F).Label) ⟨i, M.a9, M.h9, v18, v19, v20, v21, 0#32⟩)) :=
  Keeps.call _ _ 256 (fun _ h => absurd h (Option.not_mem_none _)) (keepsWhile c M i 256 _ _ _ _ _ (by decide))

theorem keeps148 (c : Dev nD) (M : Mems) (i : grid0.Coords) : ∀ v392 v411 v418 v420, Keeps (F := F) c none (Held c M) (k0_part148 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v392 v411 v418 v420) := by
  intros
  unfold k0_part148
  repeat' first
    | extract_lets
    | with_reducible exact Keeps.pure _
    | with_reducible refine Keeps.bind ?_ (fun _ => ?_)
    | with_reducible exact Keeps.load (lends4 c M) _ _
    | with_reducible exact Keeps.load (lends14 c M) _ _
    | with_reducible exact Keeps.load (lends17 c M) _ _
    | with_reducible exact Keeps.store (lends14 c M) _ _ _ _ _
    | with_reducible exact Keeps.store (lends17 c M) _ _ _ _ _
    | exact keepsCall c M i _ _ _ _
    | split

theorem keeps152 (c : Dev nD) (bd : Option ℕ) (M : Mems) (i : grid0.Coords) : ∀ v20 v424_0 v545_0 v545_1 v545_2 v545_3 v545_4 v545_5 v545_6 v545_7 v545_8 v545_9 v545_10 v545_11 v547 v548 v549 v550, Keeps (F := F) c bd (Held c M) (k0_part152 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v20 v424_0 v545_0 v545_1 v545_2 v545_3 v545_4 v545_5 v545_6 v545_7 v545_8 v545_9 v545_10 v545_11 v547 v548 v549 v550) := by
  intros
  unfold k0_part152
  repeat' first
    | extract_lets
    | with_reducible exact Keeps.pure _
    | with_reducible refine Keeps.bind ?_ (fun _ => ?_)
    | with_reducible exact Keeps.load (lends8 c M) _ _
    | with_reducible exact Keeps.load (lends15 c M) _ _
    | with_reducible exact Keeps.load (lends16 c M) _ _
    | with_reducible exact Keeps.load (lends17 c M) _ _
    | with_reducible exact Keeps.store (lends8 c M) _ _ _ _ _
    | with_reducible exact Keeps.store (lends16 c M) _ _ _ _ _
    | with_reducible exact Keeps.store (lends17 c M) _ _ _ _ _
    | with_reducible exact keeps129 c bd M i _ _ _
    | with_reducible exact keeps130 c bd M i _ _ _ _ _ _ _
    | with_reducible exact keeps131 c bd M i _ _ _
    | with_reducible exact keeps132 c bd M i _ _ _ _ _ _ _ _
    | with_reducible exact keeps133 c bd M i _ _ _ _
    | with_reducible exact keeps134 c bd M i _ _ _ _ _ _ _
    | with_reducible exact keeps135 c bd M i _ _ _
    | with_reducible exact keeps136 c bd M i _ _ _ _ _ _ _
    | with_reducible exact keeps137 c bd M i _ _ _ _
    | split

theorem keepscc0_dsa_attn (c : Dev nD) (M : Mems) (i : grid0.Coords) : Keeps (F := F) c none (Held c M) (cc0_dsa_attn i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) := by
  unfold cc0_dsa_attn
  repeat' first
    | extract_lets
    | with_reducible exact Keeps.pure _
    | with_reducible refine Keeps.bind ?_ (fun _ => ?_)
    | with_reducible exact Keeps.load (lends8 c M) _ _
    | with_reducible exact Keeps.load (lends17 c M) _ _
    | with_reducible exact Keeps.store (lends8 c M) _ _ _ _ _
    | with_reducible exact keeps138 c none M i
    | with_reducible exact keeps139 c none M i _ _ _
    | with_reducible exact keeps140 c none M i _ _ _ _ _ _
    | with_reducible exact keeps141 c none M i _ _ _ _ _ _
    | with_reducible exact keeps142 c none M i _ _ _ _ _ _
    | with_reducible exact keeps143 c none M i _ _ _ _ _ _
    | with_reducible exact keeps144 c none M i _ _ _ _ _ _
    | with_reducible exact keeps145 c none M i _ _ _ _ _ _ _ _ _
    | with_reducible exact keeps146 c none M i _ _ _ _ _
    | with_reducible exact keeps147 c none M i _ _ _
    | with_reducible exact keeps148 c M i _ _ _ _
    | with_reducible exact keeps149 c none M i _
    | with_reducible exact keeps150 c none M i _ _ _ _ _
    | with_reducible exact keeps151 c none M i _ _ _ _ _ _ _ _ _ _
    | with_reducible exact keeps152 c none M i _ _ _ _ _ _ _ _ _ _ _ _ _ _ _ _ _ _
    | split

end Cert.Proof.Dsa

end
-- ==== Proof.Dsa.Run.lean ====
/-
  The kernel's body obligation, with every window forgotten, the run it gives, and the frame.
-/
module

public import proofs.«01_k».proof.Proof.Dsa.While
public import proofs.«01_k».proof.Proof.Gen.Kernel.Launch
public import proofs.«01_k».proof.Defs
public import Idealize.ShloMosaic.PureOps.BitExact

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

open Idealize.ShloMosaic.Pipeline (Dat BodyObligationLoose)

/-- A memref owned at some contents is its elements at some contents, -/
theorem at_of_owns {cs : CoreSpace} {s : Shape} {e : EltTy} (c : Dev nD) (m : Memref sig .tc cs s e) :
    (iprop(∃ X, owns (c : Thread nD τ) m fullShare X) : sProp (MF F)) ⊢ At c m := by
  unfold owns At
  iintro ⟨%X, %f, -, H⟩
  iexists f; iexact H

/-- and back. -/
theorem owns_of_at {cs : CoreSpace} {s : Shape} {e : EltTy} (c : Dev nD) (m : Memref sig .tc cs s e) :
    At c m ⊢ (iprop(∃ X, owns (c : Thread nD τ) m fullShare X) : sProp (MF F)) := by
  unfold owns At
  iintro ⟨%f, H⟩
  iexists _, f
  isplitr; · ipureintro; rfl
  iexact H

/-- A memref whose elements are its whole buffer, at some contents. -/
theorem at_univ {cs : CoreSpace} {s : Shape} {e : EltTy} (c : Dev nD) (m : Memref sig .tc cs s e) (h : m.view.set = Finset.univ) :
    (At c m : sProp (MF F)) = iprop(∃ f : Buf (Elt F) (m.view.loc (c : Thread nD τ)), (m.view.loc (c : Thread nD τ)) ↦{fullShare} f) := by
  unfold At
  rw [h]

variable (m : (ℓ : Loc nD τ sig) → Buf (Elt F) ℓ) (ρ : Dev nD → PrngReg)

/-- Every window is forgotten: nothing is said of what the body leaves in its staging buffer. -/
def forgets : Fin 7 → Bool := fun _ => true

/-- The buffers' contents when the kernel starts: the host's three reshapes have run. -/
abbrev V (c : Dev nD) (b : Ref sig .tc) : Buf (Elt F) ((c : Thread nD τ).loc b) :=
  StableHlo.after hostOps0 (fun b => m (c, b)) b

/-- The proof data on core `c`: each array as the region finds it, the staging contents unnamed, the scratch buffers at some
    contents as the invariant, nothing owed. -/
def dats (_ : Fin 1) (c : Dev nD) : Dat τ (Elt F) Unit ℕ (UR sig nD τ) ℕ (cfg0 (F := F)) c where
  A w := V m c (Pipeline.arrRef spec0 w)
  after w t := Dat.unnamed (cfg := cfg0 (F := F)) w t
  Φ _ := Pipeline.ΦA spec0 c
  q _ := fullShare
  owed _ := 0

/-- The memrefs the body is called with, at the windows' current staging buffers `s`. -/
def memsAt (s : (w : Fin 7) → Fin (win0 w).nbuf) : Mems where
  a2 := win0_0.stage (s 0)
  h2 := hstage0_0 ((s 0).cast nbuf0_0)
  a3 := win0_1.stage (s 1)
  h3 := hstage0_1 ((s 1).cast nbuf0_1)
  a4 := win0_2.stage (s 2)
  h4 := hstage0_2 ((s 2).cast nbuf0_2)
  a5 := win0_3.stage (s 3)
  h5 := hstage0_3 ((s 3).cast nbuf0_3)
  a6 := win0_4.stage (s 4)
  h6 := hstage0_4 ((s 4).cast nbuf0_4)
  a7 := win0_5.stage (s 5)
  h7 := hstage0_5 ((s 5).cast nbuf0_5)
  a8 := win0_6.stage (s 6)
  h8 := hstage0_6 ((s 6).cast nbuf0_6)
  a9 := Memref.whole cc0_scratch0
  h9 := Memref.isWhole_whole _
  a10 := Memref.whole cc0_scratch1
  h10 := Memref.isWhole_whole _
  a11 := Memref.whole cc0_scratch2
  h11 := Memref.isWhole_whole _
  a12 := Memref.whole cc0_scratch3
  h12 := Memref.isWhole_whole _
  a13 := Memref.whole cc0_scratch4
  h13 := Memref.isWhole_whole _
  a14 := Memref.whole cc0_scratch5
  h14 := Memref.isWhole_whole _
  a15 := Memref.whole cc0_scratch6
  h15 := Memref.isWhole_whole _
  a16 := Memref.whole cc0_scratch7
  h16 := Memref.isWhole_whole _
  a17 := Memref.whole cc0_scratch8
  h17 := Memref.isWhole_whole _

theorem body_obligation (c : Dev nD) :
    BodyObligationLoose (dats (F := F) m 0 c) defs₀ 𝒱₀ () Set.univ forgets := fun t => by
  rw [bigSep_W0, bigSep_W0]
  show iprop(Pipeline.ΦA spec0 c ∗ (dats m 0 c).owesAt () t.castSucc ∗ (∃ X, owns (c : Thread nD τ) (memsAt ((cfg0 (F := F)).slots t)).a2 fullShare X) ∗ (∃ X, owns (c : Thread nD τ) (memsAt ((cfg0 (F := F)).slots t)).a3 fullShare X) ∗ (∃ X, owns (c : Thread nD τ) (memsAt ((cfg0 (F := F)).slots t)).a4 fullShare X) ∗ (∃ X, owns (c : Thread nD τ) (memsAt ((cfg0 (F := F)).slots t)).a5 fullShare X) ∗ (∃ X, owns (c : Thread nD τ) (memsAt ((cfg0 (F := F)).slots t)).a6 fullShare X) ∗ (∃ X, owns (c : Thread nD τ) (memsAt ((cfg0 (F := F)).slots t)).a7 fullShare X) ∗ (∃ X, owns (c : Thread nD τ) (memsAt ((cfg0 (F := F)).slots t)).a8 fullShare X))
    ⊢ wp frame (wpE (defs₀ (F := F)) 𝒱₀ (c : Thread nD τ) none) Set.univ
        (cc0_dsa_attn (grid0.coords t) (memsAt ((cfg0 (F := F)).slots t)).a2 (memsAt ((cfg0 (F := F)).slots t)).h2 (memsAt ((cfg0 (F := F)).slots t)).a3 (memsAt ((cfg0 (F := F)).slots t)).h3 (memsAt ((cfg0 (F := F)).slots t)).a4 (memsAt ((cfg0 (F := F)).slots t)).h4 (memsAt ((cfg0 (F := F)).slots t)).a5 (memsAt ((cfg0 (F := F)).slots t)).h5 (memsAt ((cfg0 (F := F)).slots t)).a6 (memsAt ((cfg0 (F := F)).slots t)).h6 (memsAt ((cfg0 (F := F)).slots t)).a7 (memsAt ((cfg0 (F := F)).slots t)).h7 (memsAt ((cfg0 (F := F)).slots t)).a8 (memsAt ((cfg0 (F := F)).slots t)).h8 (memsAt ((cfg0 (F := F)).slots t)).a9 (memsAt ((cfg0 (F := F)).slots t)).h9 (memsAt ((cfg0 (F := F)).slots t)).a10 (memsAt ((cfg0 (F := F)).slots t)).h10 (memsAt ((cfg0 (F := F)).slots t)).a11 (memsAt ((cfg0 (F := F)).slots t)).h11 (memsAt ((cfg0 (F := F)).slots t)).a12 (memsAt ((cfg0 (F := F)).slots t)).h12 (memsAt ((cfg0 (F := F)).slots t)).a13 (memsAt ((cfg0 (F := F)).slots t)).h13 (memsAt ((cfg0 (F := F)).slots t)).a14 (memsAt ((cfg0 (F := F)).slots t)).h14 (memsAt ((cfg0 (F := F)).slots t)).a15 (memsAt ((cfg0 (F := F)).slots t)).h15 (memsAt ((cfg0 (F := F)).slots t)).a16 (memsAt ((cfg0 (F := F)).slots t)).h16 (memsAt ((cfg0 (F := F)).slots t)).a17 (memsAt ((cfg0 (F := F)).slots t)).h17) fun _ =>
      iprop(Pipeline.ΦA spec0 c ∗ (dats m 0 c).owesAt () t.castSucc ∗ (∃ X, owns (c : Thread nD τ) (memsAt ((cfg0 (F := F)).slots t)).a2 fullShare X) ∗ (∃ X, owns (c : Thread nD τ) (memsAt ((cfg0 (F := F)).slots t)).a3 fullShare X) ∗ (∃ X, owns (c : Thread nD τ) (memsAt ((cfg0 (F := F)).slots t)).a4 fullShare X) ∗ (∃ X, owns (c : Thread nD τ) (memsAt ((cfg0 (F := F)).slots t)).a5 fullShare X) ∗ (∃ X, owns (c : Thread nD τ) (memsAt ((cfg0 (F := F)).slots t)).a6 fullShare X) ∗ (∃ X, owns (c : Thread nD τ) (memsAt ((cfg0 (F := F)).slots t)).a7 fullShare X) ∗ (∃ X, owns (c : Thread nD τ) (memsAt ((cfg0 (F := F)).slots t)).a8 fullShare X))
  have hk := keepscc0_dsa_attn (F := F) c (memsAt ((cfg0 (F := F)).slots t)) (grid0.coords t)
  unfold Keeps at hk
  have hS : (Pipeline.ΦA spec0 c : sProp (MF F)) = iprop((At c (Memref.whole cc0_scratch0) ∗ At c (Memref.whole cc0_scratch1) ∗ At c (Memref.whole cc0_scratch2) ∗ At c (Memref.whole cc0_scratch3) ∗ At c (Memref.whole cc0_scratch4) ∗ At c (Memref.whole cc0_scratch5) ∗ At c (Memref.whole cc0_scratch6) ∗ At c (Memref.whole cc0_scratch7) ∗ At c (Memref.whole cc0_scratch8)) ∗ ∃ r, prngReg c r) := by
    unfold Pipeline.ΦA
    rw [scopedRest0_eq, at_univ c (Memref.whole cc0_scratch0) (View.set_whole _), at_univ c (Memref.whole cc0_scratch1) (View.set_whole _), at_univ c (Memref.whole cc0_scratch2) (View.set_whole _), at_univ c (Memref.whole cc0_scratch3) (View.set_whole _), at_univ c (Memref.whole cc0_scratch4) (View.set_whole _), at_univ c (Memref.whole cc0_scratch5) (View.set_whole _), at_univ c (Memref.whole cc0_scratch6) (View.set_whole _), at_univ c (Memref.whole cc0_scratch7) (View.set_whole _), at_univ c (Memref.whole cc0_scratch8) (View.set_whole _)]
  rw [hS]
  iintro ⟨⟨⟨S0, S1, S2, S3, S4, S5, S6, S7, S8⟩, HG⟩, HO, A0, A1, A2, A3, A4, A5, A6⟩
  ihave HW := hk $$ [A0 A1 A2 A3 A4 A5 A6 S0 S1 S2 S3 S4 S5 S6 S7 S8]
  · unfold Held
    isplitl [A0]; · iapply (at_of_owns c (memsAt ((cfg0 (F := F)).slots t)).a2); iexact A0
    isplitl [A1]; · iapply (at_of_owns c (memsAt ((cfg0 (F := F)).slots t)).a3); iexact A1
    isplitl [A2]; · iapply (at_of_owns c (memsAt ((cfg0 (F := F)).slots t)).a4); iexact A2
    isplitl [A3]; · iapply (at_of_owns c (memsAt ((cfg0 (F := F)).slots t)).a5); iexact A3
    isplitl [A4]; · iapply (at_of_owns c (memsAt ((cfg0 (F := F)).slots t)).a6); iexact A4
    isplitl [A5]; · iapply (at_of_owns c (memsAt ((cfg0 (F := F)).slots t)).a7); iexact A5
    isplitl [A6]; · iapply (at_of_owns c (memsAt ((cfg0 (F := F)).slots t)).a8); iexact A6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iapply (wp_wand_r frame (wpE (defs₀ (F := F)) 𝒱₀ (c : Thread nD τ) none) Set.univ)
  isplitl [HW]; · iexact HW
  iintro %a H
  unfold Held
  icases H with ⟨A0, A1, A2, A3, A4, A5, A6, S0, S1, S2, S3, S4, S5, S6, S7, S8⟩
  isplitl [HG S0 S1 S2 S3 S4 S5 S6 S7 S8]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact HG
  isplitl [HO]; · iexact HO
  isplitl [A0]; · iapply (owns_of_at c (memsAt ((cfg0 (F := F)).slots t)).a2); iexact A0
  isplitl [A1]; · iapply (owns_of_at c (memsAt ((cfg0 (F := F)).slots t)).a3); iexact A1
  isplitl [A2]; · iapply (owns_of_at c (memsAt ((cfg0 (F := F)).slots t)).a4); iexact A2
  isplitl [A3]; · iapply (owns_of_at c (memsAt ((cfg0 (F := F)).slots t)).a5); iexact A3
  isplitl [A4]; · iapply (owns_of_at c (memsAt ((cfg0 (F := F)).slots t)).a6); iexact A4
  isplitl [A5]; · iapply (owns_of_at c (memsAt ((cfg0 (F := F)).slots t)).a7); iexact A5
  iapply (owns_of_at c (memsAt ((cfg0 (F := F)).slots t)).a8); iexact A6

theorem hostOps0_fresh : (hostOps0 : List (HloOp τ sig (Elt F))).Forall fun op => op.fresh = ∅ := ⟨rfl, rfl, rfl⟩

set_option backward.isDefEq.respectTransparency.types false in
/-- The run, at any float values, from any memory with zero counters: it terminates, every input array of the kernel and every
    buffer that bypasses it keeps what the region found there, and every counter is back at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := body_obligation m) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (hΦ := fun _ _ => rfl)

theorem hostOps0_writes : (hostOps0 : List (HloOp τ sig (Elt F))).map HloOp.writes
    = [main_v0, main_v1, main_v2].map fun r => ({Proc.devRef (τ := τ) .tc r} : Finset (DevRef τ sig)) := rfl

/-- The host's reshapes write none of the arguments. -/
theorem V_of_ne (c : Dev nD) (b : Ref sig .tc) (hb : b ∉ [main_v0, main_v1, main_v2]) : V m c b = m ((c : Thread nD τ).loc b) :=
  StableHlo.after_of_writes_sub (W := [main_v0, main_v1, main_v2]) (r := b) hostOps0 (fun b => m (c, b))
    (StableHlo.forall_writes_sub_of_map hostOps0_writes) hb

/-- The frame of the kernel: it terminates, leaves its six arguments as they were and every counter at zero. -/
theorem frame_kernel : Cert.quiescent_Kernel := fun m ρ _ =>
  (θ_run defs _ _).mono (fun r (h : _ ∧ _) => ⟨fun c => ⟨
      (h.1.arr_in c 2 rfl).trans (V_of_ne m c main_arg0 (by decide)),
      ((h.1 c).2 main_arg1 (Pipeline.mem_restRefs_of main_arg1 (by decide) (by decide))).trans (V_of_ne m c main_arg1 (by decide)),
      ((h.1 c).2 main_arg2 (Pipeline.mem_restRefs_of main_arg2 (by decide) (by decide))).trans (V_of_ne m c main_arg2 (by decide)),
      (h.1.arr_in c 0 rfl).trans (V_of_ne m c main_arg3 (by decide)),
      ((h.1 c).2 main_arg4 (Pipeline.mem_restRefs_of main_arg4 (by decide) (by decide))).trans (V_of_ne m c main_arg4 (by decide)),
      (h.1.arr_in c 1 rfl).trans (V_of_ne m c main_arg5 (by decide))⟩, h.2⟩)
    (run_main (F := Bits) m ρ)

end Cert.Proof.Dsa

end
-- ==== Proof.InProj.Perm.lean ====
/-
  The weight permutation call: the array it leaves is the input weights with their columns in the
  order of the projection's output blocks, and zero in the padding columns.
-/
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj

open Idealize.ShloMosaic Idealize.ShloMosaic.TcCoe Idealize.ShloMosaic.Tactic
open Cert.Kernel2Ideal Cert.Kernel2Ideal.Gen
open Idealize.ShloMosaic.Pipeline (Dat Cfg Window)

/-- The projection's output column `c` holds column `src c` of the input weights, for `c < 5984`. -/
def src (c : ℕ) : ℕ :=
  if c < 512 then 1040 + c else
  if c < 1024 then 2064 + (c - 512) else
  if c < 1536 then 4448 + (c - 1024) else
  if c < 2048 then 5472 + (c - 1536) else
  if c < 3072 then 3344 + (c - 2048) else
  if c < 3584 then 512 + (c - 3072) else
  if c < 4096 then 1552 + (c - 3584) else
  if c < 4608 then 2576 + (c - 4096) else
  if c < 5120 then 4960 + (c - 4608) else
  if c < 5376 then 0 + (c - 5120) else
  if c < 5632 then 256 + (c - 5376) else
  if c < 5760 then 3088 + (c - 5632) else
  if c < 5888 then 3216 + (c - 5760) else
  if c < 5952 then 4368 + (c - 5888) else
  if c < 5968 then 1024 + (c - 5952) else
  if c < 5984 then 4432 + (c - 5968) else 0

theorem ite_lt {p : Prop} [Decidable p] {a b n : ℕ} (h : p → a < n) (h' : ¬p → b < n) : (if p then a else b) < n := by
  by_cases hp : p
  · rw [if_pos hp]; exact h hp
  · rw [if_neg hp]; exact h' hp

theorem src_lt (c : ℕ) : src c < 5984 := by
  unfold src
  repeat' (refine ite_lt (fun _ => by omega) fun _ => ?_)
  omega

/-- The permuted weights of the weights `w` (columns first). -/
def permW (w : S4x5984x2048.Idx → EReal) : S4x6144x2048.Idx → EReal := fun i =>
  if (i 1).val < 5984 then w (ix3 (i 0) ⟨src (i 1).val, src_lt _⟩ (i 2)) else 0

theorem idx0 : ∀ t : Fin cfg0.N, win0_0.index t = ![(grid0.coords t 0).val, 0, (grid0.coords t 1).val]
    ∧ win0_1.index t = ![(grid0.coords t 0).val, 0, (grid0.coords t 1).val] :=
  (by decide +kernel : ∀ t : Fin grid0.N, _)

variable (V : (c : Dev nD) → (b : Ref sig .tc) → Buf (Elt Ideal) ((c : Thread nD τ).loc b))

/-- A block of the weights at an index, as the permuted weights where they hold it. -/
theorem block_read (c : Dev nD) (t : Fin cfg0.N) (z : S1x5984x256.Idx) (i : S4x6144x2048.Idx)
    (hi0 : (i 0).val = (grid0.coords t 0).val) (hi1 : (i 1).val < 5984) (hz1 : (z 1).val = src (i 1).val)
    (hi2 : (i 2).val = (grid0.coords t 1).val * 256 + (z 2).val) :
    iblk0 V c 0 t z = permW (V c main_v4) i := by
  unfold permW
  rw [if_pos hi1]
  have hz0 : (z 0).val < 1 := (z 0).isLt
  blk_ext [iblk0, (idx0 t).1]

theorem perm_point (c : Dev nD) (t : Fin cfg0.N) (y : S1x6144x256.Idx) (i : S4x6144x2048.Idx)
    (hi0 : (i 0).val = (grid0.coords t 0).val) (hi1 : (i 1).val = (y 1).val)
    (hi2 : (i 2).val = (grid0.coords t 1).val * 256 + (y 2).val) :
    outsAt0 V c t y = permW (V c main_v4) i := by
  unfold outsAt0
  frame_out
  canon_tiles x h using (View.cover_of_tiledBy _ ![1, 16, 256] (by sl_kernel_rfl) y)
  · unfold_payloads
    pointwise
    unfold permW
    rw [if_neg (by omega)]
  all_goals
    unfold_payloads
    pointwise
    refine block_read V c t _ i hi0 (by omega) ?_ (by show _ = _ + (x 2).val; omega)
    rw [hi1, h1]
    unfold src
    repeat rw [if_neg (by omega)]
    try rw [if_pos (by omega)]
    simp

theorem perm_arr (c : Dev nD) : (dat0 V c).arrAt 1 cfg0.N = permW (V c main_v4) := by
  refine (dat0 V c).arrAt_eq_of_covers 1 _ (by decide +kernel) fun t hf y => ?_
  blk_simp
  rw [after0_1]
  refine perm_point V c t y _ ?_ ?_ ?_
  · blk_simp [(idx0 t).2]
  · blk_simp [(idx0 t).2]
  · blk_simp [(idx0 t).2]

end Cert.Proof.InProj

end
-- ==== Proof.InProj.Proj.lean ====
/-
  The projection call: each block of rows of its first result is the normalized rows against the
  permuted weights, and its second result is the S5 branch's columns of that product, head by head.
-/
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj

open Idealize.ShloMosaic Idealize.ShloMosaic.TcCoe Idealize.ShloMosaic.Tactic
open Cert.Kernel2Ideal Cert.Kernel2Ideal.Gen
open Idealize.ShloMosaic.Pipeline (Dat Cfg Window)

theorem idx1 : ∀ t : Fin cfg1.N, win1_0.index t = ![(grid1.coords t 0).val, 0]
    ∧ win1_1.index t = ![0, 0] ∧ win1_2.index t = ![0, 0, 0]
    ∧ win1_3.index t = ![(grid1.coords t 0).val, 0] ∧ win1_4.index t = ![0, (grid1.coords t 0).val, 0] :=
  (by decide +kernel : ∀ t : Fin grid1.N, _)

/-- Row `r` of `X`, divided by its root mean square and multiplied by the gain, at `k`. -/
def norm (X : S16384x2048.Idx → EReal) (g : S1x2048.Idx → EReal) (r : Fin 16384) (k : Fin 2048) : EReal :=
  X (ix2 r k) * Ideal.rsqrt (Ideal.div (∑ j : Fin 2048, X (ix2 r j) * X (ix2 r j)) (Ideal.ofBits FTy.f32 0x45000000#32)
    + Ideal.ofBits FTy.f32 0x358637BD#32) * g (ix2 0 k)

/-- The normalized row `r` against row `c` of layer 0 of the permuted weights. -/
def projAt (X : S16384x2048.Idx → EReal) (g : S1x2048.Idx → EReal) (w : S4x6144x2048.Idx → EReal) (r : Fin 16384) (c : Fin 6144) : EReal :=
  ∑ k : Fin 2048, norm X g r k * w (ix3 0 c k)

theorem pay1_apply (x : Vec Ideal S512x2048 .f32) (g : Vec Ideal S1x2048 .f32) (r : Fin 512) (k : Fin 2048) :
    k1_pay1 x g (ix2 r k) = x (ix2 r k) * Ideal.rsqrt (Ideal.div (∑ j : Fin 2048, x (ix2 r j) * x (ix2 r j)) (Ideal.ofBits FTy.f32 0x45000000#32)
      + Ideal.ofBits FTy.f32 0x358637BD#32) * g (ix2 0 k) := by
  unfold_payloads
  pointwise

variable (V : (c : Dev nD) → (b : Ref sig .tc) → Buf (Elt Ideal) ((c : Thread nD τ).loc b))

theorem read0 (c : Dev nD) (t : Fin cfg1.N) (r : Fin 512) (k : Fin 2048) (R : Fin 16384)
    (hR : R.val = (grid1.coords t 0).val * 512 + r.val) :
    iblk1 V c 0 t (ix2 r k) = V c main_v0 (ix2 R k) := by
  blk_ext [iblk1, (idx1 t).1]

theorem read1 (c : Dev nD) (t : Fin cfg1.N) (k : Fin 2048) :
    iblk1 V c 1 t (ix2 0 k) = V c main_v3 (ix2 0 k) := by
  blk_ext [iblk1, (idx1 t).2.1]

theorem read2 (c : Dev nD) (t : Fin cfg1.N) (a : Fin 6144) (k : Fin 2048) :
    iblk1 V c 2 t (ix3 0 a k) = V c main_v5 (ix3 0 a k) := by
  blk_ext [iblk1, (idx1 t).2.2.1]

theorem norm_block (c : Dev nD) (t : Fin cfg1.N) (r : Fin 512) (k : Fin 2048) (R : Fin 16384)
    (hR : R.val = (grid1.coords t 0).val * 512 + r.val) :
    k1_pay1 (F := Ideal) (iblk1 V c 0 t) (iblk1 V c 1 t) (ix2 r k) = norm (V c main_v0) (V c main_v3) R k := by
  rw [pay1_apply]
  unfold norm
  simp only [read0 V c t r _ R hR, read1]

/-- A sum over the normalized block and the block of weights, as the sum of the whole arrays. -/
theorem sum_block (c : Dev nD) (t : Fin cfg1.N) (r : Fin 512) (R : Fin 16384) (a a' : Fin 6144)
    (hR : R.val = (grid1.coords t 0).val * 512 + r.val) (ha : a = a') :
    (∑ k : Fin 2048, k1_pay1 (F := Ideal) (iblk1 V c 0 t) (iblk1 V c 1 t) (ix2 r k) * iblk1 V c 2 t (ix3 0 a k))
      = projAt (V c main_v0) (V c main_v3) (V c main_v5) R a' := by
  subst ha
  refine Finset.sum_congr rfl fun k _ => ?_
  rw [norm_block V c t r k R hR, read2]

theorem proj_point3 (c : Dev nD) (t : Fin cfg1.N) (y : S512x6144.Idx) (R : Fin 16384) (C : Fin 6144)
    (hR : R.val = (grid1.coords t 0).val * 512 + (y 0).val) (hC : C.val = (y 1).val) :
    (outsAt1 V c t).1 y = projAt (V c main_v0) (V c main_v3) (V c main_v5) R C := by
  unfold outsAt1
  dsimp only
  frame_out
  canon_tiles x h
  all_goals
    refine Eq.trans ?_ (sum_block V c t (x 0) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 0) k) * iblk1 V c 2 t (ix3 0 a k)) (Fin.ext ?_)
    rw [hC, h1]
    try simp

theorem proj_point4 (c : Dev nD) (t : Fin cfg1.N) (y : S4x512x128.Idx) (R : Fin 16384) (C : Fin 6144)
    (hR : R.val = (grid1.coords t 0).val * 512 + (y 1).val) (hC : C.val = 3584 + (y 0).val * 128 + (y 2).val) :
    (outsAt1 V c t).2 y = projAt (V c main_v0) (V c main_v3) (V c main_v5) R C := by
  unfold outsAt1
  dsimp only
  frame_out
  canon_tiles x h
  all_goals
    refine Eq.trans ?_ (sum_block V c t (x 1) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 1) k) * iblk1 V c 2 t (ix3 0 a k)) (Fin.ext ?_)
    show _ + _ = C.val
    omega

/-- The projection, an array of 16384 rows. -/
def projArr (X : S16384x2048.Idx → EReal) (g : S1x2048.Idx → EReal) (w : S4x6144x2048.Idx → EReal) : S16384x6144.Idx → EReal :=
  fun i => projAt X g w (i 0) (i 1)

/-- Columns 3584 to 4096 of the projection, in four parts of 128. -/
def partsArr (X : S16384x2048.Idx → EReal) (g : S1x2048.Idx → EReal) (w : S4x6144x2048.Idx → EReal) : S4x16384x128.Idx → EReal :=
  fun i => projAt X g w (i 1) ⟨3584 + (i 0).val * 128 + (i 2).val, by
    have h0 : (i 0).val < 4 := (i 0).isLt
    have h2 : (i 2).val < 128 := (i 2).isLt
    omega⟩

theorem proj_arr (c : Dev nD) :
    (dat1 V c).arrAt 3 cfg1.N = projArr (V c main_v0) (V c main_v3) (V c main_v5) := by
  refine (dat1 V c).arrAt_eq_of_covers 3 _ (by decide +kernel) fun t hf y => ?_
  blk_simp
  rw [after1_3]
  refine proj_point3 V c t y _ _ ?_ ?_
  all_goals
    simp [(idx1 t).2.2.2.1]

theorem parts_arr (c : Dev nD) :
    (dat1 V c).arrAt 4 cfg1.N = partsArr (V c main_v0) (V c main_v3) (V c main_v5) := by
  refine (dat1 V c).arrAt_eq_of_covers 4 _ (by decide +kernel) fun t hf y => ?_
  blk_simp
  rw [after1_4]
  refine proj_point4 V c t y _ _ ?_ ?_
  all_goals
    simp [(idx1 t).2.2.2.2]

end Cert.Proof.InProj

end
-- ==== Proof.InProj.Run.lean ====
module

public import proofs.«01_k».proof.Proof.InProj.Perm
public import proofs.«01_k».proof.Proof.InProj.Proj
public import Idealize.ShloMosaic.Lib.Claim

/-! The run of the input projection: its two results as functions of its arguments. -/

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The rows of the first argument. -/
def rows (x : S4x4096x2048.Idx → EReal) : S16384x2048.Idx → EReal :=
  shapeCast S16384x2048 x shapeCasts_S4x4096x2048_S16384x2048

theorem entry_rows (c : Dev nD) : V1 m ρ c main_v0 = rows (m ((c : Thread nD τ).loc main_arg0)) := by
  unfold_abbrev_sides
  after_results
  rfl

theorem entry_gain (c : Dev nD) (k : Fin 2048) :
    (V1 m ρ c main_v3 : S1x2048.Idx → EReal) (ix2 0 k) = (m ((c : Thread nD τ).loc main_arg1) : S4x2048.Idx → EReal) (ix2 0 k) := by
  unfold_abbrev_sides
  after_results
  pointwise

theorem entry_weights (c : Dev nD) (l : Fin 4) (j : Fin 5984) (k : Fin 2048) :
    (V1 m ρ c main_v4 : S4x5984x2048.Idx → EReal) (ix3 l j k) = (m ((c : Thread nD τ).loc main_arg2) : S4x2048x5984.Idx → EReal) (ix3 l k j) := by
  unfold_abbrev_sides
  after_results
  pointwise

theorem end_proj (c : Dev nD) : W3 m ρ c (Proc.devRef .tc main_v6_0)
    = projArr (V1 m ρ c main_v0) (V1 m ρ c main_v3) (permW (V1 m ρ c main_v4)) := by
  refine (W3_arr m ρ c 3).trans ?_
  rw [proj_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

theorem end_parts (c : Dev nD) : W3 m ρ c (Proc.devRef .tc main_v6_1)
    = partsArr (V1 m ρ c main_v0) (V1 m ρ c main_v3) (permW (V1 m ρ c main_v4)) := by
  refine (W3_arr m ρ c 4).trans ?_
  rw [parts_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

/-- The run: both results, and the arguments as they were. -/
theorem run : θ_run defs (onTc (τ := τ) (main (F := Ideal))) ⟨m, fun _ => 0, ρ⟩ (fun r => ∀ c : Dev nD,
      r.2.mem ((c.tc : Thread nD τ).loc main_v6_0) = projArr (V1 m ρ c main_v0) (V1 m ρ c main_v3) (permW (V1 m ρ c main_v4))
      ∧ r.2.mem ((c.tc : Thread nD τ).loc main_v6_1) = partsArr (V1 m ρ c main_v0) (V1 m ρ c main_v3) (permW (V1 m ρ c main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6_0 (by decide))).trans (end_proj m ρ c),
     (h c _ (mem_uc main_v6_1 (by decide))).trans (end_parts m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_bound m ρ)

end Cert.Proof.InProj

end
-- ==== Proof.InProj.Groups.lean ====
module

public import proofs.«01_k».proof.Proof.Gen.Reference2Ideal
public import Idealize.ShloMosaic.Lib.Pipeline.Value
public import Idealize.ShloMosaic.Lib.Pointwise

/-! The sixteen column groups side by side, read at a column. -/

@[expose] public section

set_option maxRecDepth 16384

noncomputable section

namespace Cert.Proof.InProj

open Idealize.ShloMosaic Idealize.ShloMosaic.TcCoe Idealize.ShloMosaic.Tactic
open Cert.Reference2Ideal Cert.Reference2Ideal.Gen

/-- The extent of a shape along the columns. -/
abbrev extent (s : Shape) : ℕ := if h : s.rank = S16384x5984.rank then s.size ((1 : Fin S16384x5984.rank).cast h.symm) else 0

/-- A concatenation along the columns, read at a column of the piece of number `n`. -/
theorem piece_at {α : Type} (xs : List ((s : Shape) × (s.Idx → α))) (h : Shape.Concatenates (xs.map (·.1)) S16384x5984 1)
    (shapes : List Shape) (hs : xs.map (·.1) = shapes)
    (r : Fin 16384) (c : Fin 5984) (n : ℕ) (hn : n < xs.length) (w : ℕ) (x : (⟨2, ![16384, w]⟩ : Shape).Idx → α)
    (hx : xs[n] = ⟨_, x⟩) (pre : ℕ) (hpre : ((shapes.take n).map extent).sum = pre)
    (d : Fin w) (hd : pre + d.val = c.val) :
    concatenate S16384x5984 1 xs h (ix2 r c) = x (ix2 r d) :=
  concatenate_apply_piece 1 xs h (ix2 r c) n hn _ x hx rfl pre (by rw [List.map_take, hs]; exact hpre) (ix2 r d)
    (fun b hb => by
      match b with
      | ⟨0, _⟩ => rfl
      | ⟨1, _⟩ => exact absurd rfl hb) hd

/-- The groups' shapes. -/
abbrev groupShapes : List Shape := [S16384x512, S16384x512, S16384x512, S16384x512, S16384x1024, S16384x512, S16384x512, S16384x512, S16384x512, S16384x256, S16384x256, S16384x128, S16384x128, S16384x64, S16384x16, S16384x16]

variable {α : Type}
variable (u0 : S16384x512.Idx → α)
variable (u1 : S16384x512.Idx → α)
variable (u2 : S16384x512.Idx → α)
variable (u3 : S16384x512.Idx → α)
variable (u4 : S16384x1024.Idx → α)
variable (u5 : S16384x512.Idx → α)
variable (u6 : S16384x512.Idx → α)
variable (u7 : S16384x512.Idx → α)
variable (u8 : S16384x512.Idx → α)
variable (u9 : S16384x256.Idx → α)
variable (u10 : S16384x256.Idx → α)
variable (u11 : S16384x128.Idx → α)
variable (u12 : S16384x128.Idx → α)
variable (u13 : S16384x64.Idx → α)
variable (u14 : S16384x16.Idx → α)
variable (u15 : S16384x16.Idx → α)

/-- The groups as a list. -/
abbrev groups : List ((s : Shape) × (s.Idx → α)) := [⟨S16384x512, u0⟩, ⟨S16384x512, u1⟩, ⟨S16384x512, u2⟩, ⟨S16384x512, u3⟩, ⟨S16384x1024, u4⟩, ⟨S16384x512, u5⟩, ⟨S16384x512, u6⟩, ⟨S16384x512, u7⟩, ⟨S16384x512, u8⟩, ⟨S16384x256, u9⟩, ⟨S16384x256, u10⟩, ⟨S16384x128, u11⟩, ⟨S16384x128, u12⟩, ⟨S16384x64, u13⟩, ⟨S16384x16, u14⟩, ⟨S16384x16, u15⟩]

/-- The groups side by side. -/
def cat : S16384x5984.Idx → α := concatenate S16384x5984 1 (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1

theorem cat_0 (r : Fin 16384) (c : Fin 5984) (d : Fin 512) (hd : 0 + d.val = c.val) :
    cat u0 u1 u2 u3 u4 u5 u6 u7 u8 u9 u10 u11 u12 u13 u14 u15 (ix2 r c) = u0 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 0 (Nat.lt_of_lt_of_eq (show 0 < 16 by decide) rfl) 512 u0 rfl 0 (by decide +kernel) d hd

theorem cat_1 (r : Fin 16384) (c : Fin 5984) (d : Fin 512) (hd : 512 + d.val = c.val) :
    cat u0 u1 u2 u3 u4 u5 u6 u7 u8 u9 u10 u11 u12 u13 u14 u15 (ix2 r c) = u1 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 1 (Nat.lt_of_lt_of_eq (show 1 < 16 by decide) rfl) 512 u1 rfl 512 (by decide +kernel) d hd

theorem cat_2 (r : Fin 16384) (c : Fin 5984) (d : Fin 512) (hd : 1024 + d.val = c.val) :
    cat u0 u1 u2 u3 u4 u5 u6 u7 u8 u9 u10 u11 u12 u13 u14 u15 (ix2 r c) = u2 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 2 (Nat.lt_of_lt_of_eq (show 2 < 16 by decide) rfl) 512 u2 rfl 1024 (by decide +kernel) d hd

theorem cat_3 (r : Fin 16384) (c : Fin 5984) (d : Fin 512) (hd : 1536 + d.val = c.val) :
    cat u0 u1 u2 u3 u4 u5 u6 u7 u8 u9 u10 u11 u12 u13 u14 u15 (ix2 r c) = u3 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 3 (Nat.lt_of_lt_of_eq (show 3 < 16 by decide) rfl) 512 u3 rfl 1536 (by decide +kernel) d hd

theorem cat_4 (r : Fin 16384) (c : Fin 5984) (d : Fin 1024) (hd : 2048 + d.val = c.val) :
    cat u0 u1 u2 u3 u4 u5 u6 u7 u8 u9 u10 u11 u12 u13 u14 u15 (ix2 r c) = u4 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 4 (Nat.lt_of_lt_of_eq (show 4 < 16 by decide) rfl) 1024 u4 rfl 2048 (by decide +kernel) d hd

theorem cat_5 (r : Fin 16384) (c : Fin 5984) (d : Fin 512) (hd : 3072 + d.val = c.val) :
    cat u0 u1 u2 u3 u4 u5 u6 u7 u8 u9 u10 u11 u12 u13 u14 u15 (ix2 r c) = u5 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 5 (Nat.lt_of_lt_of_eq (show 5 < 16 by decide) rfl) 512 u5 rfl 3072 (by decide +kernel) d hd

theorem cat_6 (r : Fin 16384) (c : Fin 5984) (d : Fin 512) (hd : 3584 + d.val = c.val) :
    cat u0 u1 u2 u3 u4 u5 u6 u7 u8 u9 u10 u11 u12 u13 u14 u15 (ix2 r c) = u6 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 6 (Nat.lt_of_lt_of_eq (show 6 < 16 by decide) rfl) 512 u6 rfl 3584 (by decide +kernel) d hd

theorem cat_7 (r : Fin 16384) (c : Fin 5984) (d : Fin 512) (hd : 4096 + d.val = c.val) :
    cat u0 u1 u2 u3 u4 u5 u6 u7 u8 u9 u10 u11 u12 u13 u14 u15 (ix2 r c) = u7 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 7 (Nat.lt_of_lt_of_eq (show 7 < 16 by decide) rfl) 512 u7 rfl 4096 (by decide +kernel) d hd

theorem cat_8 (r : Fin 16384) (c : Fin 5984) (d : Fin 512) (hd : 4608 + d.val = c.val) :
    cat u0 u1 u2 u3 u4 u5 u6 u7 u8 u9 u10 u11 u12 u13 u14 u15 (ix2 r c) = u8 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 8 (Nat.lt_of_lt_of_eq (show 8 < 16 by decide) rfl) 512 u8 rfl 4608 (by decide +kernel) d hd

theorem cat_9 (r : Fin 16384) (c : Fin 5984) (d : Fin 256) (hd : 5120 + d.val = c.val) :
    cat u0 u1 u2 u3 u4 u5 u6 u7 u8 u9 u10 u11 u12 u13 u14 u15 (ix2 r c) = u9 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 9 (Nat.lt_of_lt_of_eq (show 9 < 16 by decide) rfl) 256 u9 rfl 5120 (by decide +kernel) d hd

theorem cat_10 (r : Fin 16384) (c : Fin 5984) (d : Fin 256) (hd : 5376 + d.val = c.val) :
    cat u0 u1 u2 u3 u4 u5 u6 u7 u8 u9 u10 u11 u12 u13 u14 u15 (ix2 r c) = u10 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 10 (Nat.lt_of_lt_of_eq (show 10 < 16 by decide) rfl) 256 u10 rfl 5376 (by decide +kernel) d hd

theorem cat_11 (r : Fin 16384) (c : Fin 5984) (d : Fin 128) (hd : 5632 + d.val = c.val) :
    cat u0 u1 u2 u3 u4 u5 u6 u7 u8 u9 u10 u11 u12 u13 u14 u15 (ix2 r c) = u11 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 11 (Nat.lt_of_lt_of_eq (show 11 < 16 by decide) rfl) 128 u11 rfl 5632 (by decide +kernel) d hd

theorem cat_12 (r : Fin 16384) (c : Fin 5984) (d : Fin 128) (hd : 5760 + d.val = c.val) :
    cat u0 u1 u2 u3 u4 u5 u6 u7 u8 u9 u10 u11 u12 u13 u14 u15 (ix2 r c) = u12 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 12 (Nat.lt_of_lt_of_eq (show 12 < 16 by decide) rfl) 128 u12 rfl 5760 (by decide +kernel) d hd

theorem cat_13 (r : Fin 16384) (c : Fin 5984) (d : Fin 64) (hd : 5888 + d.val = c.val) :
    cat u0 u1 u2 u3 u4 u5 u6 u7 u8 u9 u10 u11 u12 u13 u14 u15 (ix2 r c) = u13 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 13 (Nat.lt_of_lt_of_eq (show 13 < 16 by decide) rfl) 64 u13 rfl 5888 (by decide +kernel) d hd

theorem cat_14 (r : Fin 16384) (c : Fin 5984) (d : Fin 16) (hd : 5952 + d.val = c.val) :
    cat u0 u1 u2 u3 u4 u5 u6 u7 u8 u9 u10 u11 u12 u13 u14 u15 (ix2 r c) = u14 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 14 (Nat.lt_of_lt_of_eq (show 14 < 16 by decide) rfl) 16 u14 rfl 5952 (by decide +kernel) d hd

theorem cat_15 (r : Fin 16384) (c : Fin 5984) (d : Fin 16) (hd : 5968 + d.val = c.val) :
    cat u0 u1 u2 u3 u4 u5 u6 u7 u8 u9 u10 u11 u12 u13 u14 u15 (ix2 r c) = u15 (ix2 r d) :=
  piece_at (groups u0 u1 u2 u3 u4 u5 u6 u7 u8 u9 u10 u11 u12 u13 u14 u15) concatenates_S16384x512_S16384x512_S16384x512_S16384x512_S16384x1024_S16384x512_S16384x512_S16384x512_S16384x512_S16384x256_S16384x256_S16384x128_S16384x128_S16384x64_S16384x16_S16384x16_S16384x5984_d1 groupShapes rfl r c 15 (Nat.lt_of_lt_of_eq (show 15 < 16 by decide) rfl) 16 u15 rfl 5968 (by decide +kernel) d hd

end Cert.Proof.InProj

end
-- ==== Proof.InProj.Ref.lean ====
module

public import proofs.«01_k».proof.Proof.InProj.Perm
public import proofs.«01_k».proof.Proof.InProj.Proj
public import proofs.«01_k».proof.Proof.Gen.Reference2Ideal.Run
public import proofs.«01_k».proof.Proof.Gen.Reference2Ideal.Read
public import proofs.«01_k».proof.Proof.InProj.Groups
public import proofs.«01_k».proof.Proof.InProj.Groups
public import Idealize.ShloMosaic.Lib.KernelVsHost

/-! The reference's two results, read at an index. -/

@[expose] public section

set_option maxRecDepth 16384

noncomputable section

namespace Cert.Proof.InProj

open Idealize.ShloMosaic Idealize.ShloMosaic.TcCoe Idealize.ShloMosaic.Tactic
open Cert.Reference2Ideal Cert.Reference2Ideal.Gen Cert.Reference2Ideal.Read

variable (x0 : S4x4096x2048.Idx → EReal) (x1 : S4x2048.Idx → EReal) (x2 : S4x2048x5984.Idx → EReal)

theorem ref_norm (g : S1x2048.Idx → EReal) (hg : ∀ k : Fin 2048, g (ix2 0 k) = x1 (ix2 0 k)) (r : Fin 16384) (k : Fin 2048) :
    val_main_v15 (F := Ideal) x0 x1 (ix2 r k) = norm (val_main_v0 (F := Ideal) x0) g r k := by
  unfold norm
  rw [hg]
  rw [val_main_v15_apply, val_main_v10_apply, val_main_v9_apply, val_main_v8_apply, val_main_v7_apply, val_main_v5_apply, val_main_v3_apply,
    val_main_v2_apply, val_main_v14_apply, val_main_v13_apply, val_main_v12_apply, val_main_v11_apply, val_main_v4_apply, val_main_v6_apply]
  simp only [val_main_v1_apply, val_main_cst_apply, val_main_cst_0_apply, val_main_cst_1_apply]
  generalize val_main_v0 (F := Ideal) x0 = X
  have e : idx_main_v11 (idx_main_v12 (idx_main_v13 (idx_main_v14 (ix2 r k)))) = ix2 0 k :=
    funext fun a => Fin.ext (by
      match a with
      | ⟨0, _⟩ => rfl
      | ⟨1, _⟩ => exact Nat.mod_eq_of_lt k.isLt)
  have e' : ∀ j : Fin 2048, idx_main_v2 (idx_main_v3 (idx_main_v9 (ix2 r k))) j = ix2 r j := fun j =>
    funext fun a => Fin.ext (by
      match a with
      | ⟨0, _⟩ => rfl
      | ⟨1, _⟩ => rfl)
  rw [e]
  simp only [e', Ideal.mulf_def, Ideal.addf_def, Ideal.hostUnary_rsqrt_def, Ideal.hostDivf_def, Ideal.ofBits_def, Ideal.ofBits_zero_f32, zero_add]

theorem ref_dot (g : S1x2048.Idx → EReal) (hg : ∀ k : Fin 2048, g (ix2 0 k) = x1 (ix2 0 k)) (r : Fin 16384) (j : Fin 5984) :
    val_main_v18 (F := Ideal) x0 x1 x2 (ix2 r j) = ∑ k : Fin 2048, norm (val_main_v0 (F := Ideal) x0) g r k * x2 (ix3 0 k j) := by
  rw [val_main_v18_apply]
  refine Finset.sum_congr rfl fun k _ => ?_
  rw [val_main_v17_apply, val_main_v16_apply, ← ref_norm x0 x1 g hg]
  have e : lidx_main_v18 (ix2 r j) k = ix2 r k := funext fun a => Fin.ext (by
    match a with
    | ⟨0, _⟩ => rfl
    | ⟨1, _⟩ => rfl)
  have e' : idx_main_v16 (idx_main_v17 (ridx_main_v18 (ix2 r j) k)) = ix3 0 k j := funext fun a => Fin.ext (by
    have hk := k.isLt
    have hj := j.isLt
    match a with
    | ⟨0, _⟩ => rfl
    | ⟨1, _⟩ => show (k.val * 5984 + j.val) / 5984 % 2048 = k.val; omega
    | ⟨2, _⟩ => show (k.val * 5984 + j.val) % 5984 = j.val; omega)
  rw [e, e']

/-- A column of the product, under two names of its index. -/
theorem at_col (y : S16384x5984.Idx → EReal) (i : S16384x5984.Idx) (r : Fin 16384) (j : Fin 5984) (h0 : (i 0).val = r.val) (h1 : (i 1).val = j.val) :
    y i = y (ix2 r j) :=
  congrArg y (funext fun a => Fin.ext (by
    match a with
    | ⟨0, _⟩ => exact h0
    | ⟨1, _⟩ => exact h1))

/-- Column `c` of the concatenation is column `src c` of the product. -/
theorem ref_cat (r : Fin 16384) (c : Fin 5984) :
    val_main_v35 (F := Ideal) x0 x1 x2 (ix2 r c) = val_main_v18 (F := Ideal) x0 x1 x2 (ix2 r ⟨src c.val, src_lt _⟩) := by
  have hc := c.isLt
  by_cases h0 : c.val < 512
  · refine (cat_0 _ _ _ _ _ _ _ _ _ _ _ _ _ _ _ _ r c ⟨c.val - 0, by omega⟩ (by show 0 + (c.val - 0) = c.val; omega)).trans ?_
    rw [val_main_v23_apply]
    refine at_col _ _ _ _ rfl ?_
    show 1040 + (c.val - 0) = src c.val
    unfold src
    rw [if_pos (by omega)]
    omega
  by_cases h1 : c.val < 1024
  · refine (cat_1 _ _ _ _ _ _ _ _ _ _ _ _ _ _ _ _ r c ⟨c.val - 512, by omega⟩ (by show 512 + (c.val - 512) = c.val; omega)).trans ?_
    rw [val_main_v25_apply]
    refine at_col _ _ _ _ rfl ?_
    show 2064 + (c.val - 512) = src c.val
    unfold src
    repeat rw [if_neg (by omega)]
    rw [if_pos (by omega)]
  by_cases h2 : c.val < 1536
  · refine (cat_2 _ _ _ _ _ _ _ _ _ _ _ _ _ _ _ _ r c ⟨c.val - 1024, by omega⟩ (by show 1024 + (c.val - 1024) = c.val; omega)).trans ?_
    rw [val_main_v32_apply]
    refine at_col _ _ _ _ rfl ?_
    show 4448 + (c.val - 1024) = src c.val
    unfold src
    repeat rw [if_neg (by omega)]
    rw [if_pos (by omega)]
  by_cases h3 : c.val < 2048
  · refine (cat_3 _ _ _ _ _ _ _ _ _ _ _ _ _ _ _ _ r c ⟨c.val - 1536, by omega⟩ (by show 1536 + (c.val - 1536) = c.val; omega)).trans ?_
    rw [val_main_v34_apply]
    refine at_col _ _ _ _ rfl ?_
    show 5472 + (c.val - 1536) = src c.val
    unfold src
    repeat rw [if_neg (by omega)]
    rw [if_pos (by omega)]
  by_cases h4 : c.val < 3072
  · refine (cat_4 _ _ _ _ _ _ _ _ _ _ _ _ _ _ _ _ r c ⟨c.val - 2048, by omega⟩ (by show 2048 + (c.val - 2048) = c.val; omega)).trans ?_
    rw [val_main_v29_apply]
    refine at_col _ _ _ _ rfl ?_
    show 3344 + (c.val - 2048) = src c.val
    unfold src
    repeat rw [if_neg (by omega)]
    rw [if_pos (by omega)]
  by_cases h5 : c.val < 3584
  · refine (cat_5 _ _ _ _ _ _ _ _ _ _ _ _ _ _ _ _ r c ⟨c.val - 3072, by omega⟩ (by show 3072 + (c.val - 3072) = c.val; omega)).trans ?_
    rw [val_main_v21_apply]
    refine at_col _ _ _ _ rfl ?_
    show 512 + (c.val - 3072) = src c.val
    unfold src
    repeat rw [if_neg (by omega)]
    rw [if_pos (by omega)]
  by_cases h6 : c.val < 4096
  · refine (cat_6 _ _ _ _ _ _ _ _ _ _ _ _ _ _ _ _ r c ⟨c.val - 3584, by omega⟩ (by show 3584 + (c.val - 3584) = c.val; omega)).trans ?_
    rw [val_main_v24_apply]
    refine at_col _ _ _ _ rfl ?_
    show 1552 + (c.val - 3584) = src c.val
    unfold src
    repeat rw [if_neg (by omega)]
    rw [if_pos (by omega)]
  by_cases h7 : c.val < 4608
  · refine (cat_7 _ _ _ _ _ _ _ _ _ _ _ _ _ _ _ _ r c ⟨c.val - 4096, by omega⟩ (by show 4096 + (c.val - 4096) = c.val; omega)).trans ?_
    rw [val_main_v26_apply]
    refine at_col _ _ _ _ rfl ?_
    show 2576 + (c.val - 4096) = src c.val
    unfold src
    repeat rw [if_neg (by omega)]
    rw [if_pos (by omega)]
  by_cases h8 : c.val < 5120
  · refine (cat_8 _ _ _ _ _ _ _ _ _ _ _ _ _ _ _ _ r c ⟨c.val - 4608, by omega⟩ (by show 4608 + (c.val - 4608) = c.val; omega)).trans ?_
    rw [val_main_v33_apply]
    refine at_col _ _ _ _ rfl ?_
    show 4960 + (c.val - 4608) = src c.val
    unfold src
    repeat rw [if_neg (by omega)]
    rw [if_pos (by omega)]
  by_cases h9 : c.val < 5376
  · refine (cat_9 _ _ _ _ _ _ _ _ _ _ _ _ _ _ _ _ r c ⟨c.val - 5120, by omega⟩ (by show 5120 + (c.val - 5120) = c.val; omega)).trans ?_
    rw [val_main_v19_apply]
    refine at_col _ _ _ _ rfl ?_
    show (c.val - 5120) = src c.val
    unfold src
    repeat rw [if_neg (by omega)]
    rw [if_pos (by omega)]
    omega
  by_cases h10 : c.val < 5632
  · refine (cat_10 _ _ _ _ _ _ _ _ _ _ _ _ _ _ _ _ r c ⟨c.val - 5376, by omega⟩ (by show 5376 + (c.val - 5376) = c.val; omega)).trans ?_
    rw [val_main_v20_apply]
    refine at_col _ _ _ _ rfl ?_
    show 256 + (c.val - 5376) = src c.val
    unfold src
    repeat rw [if_neg (by omega)]
    rw [if_pos (by omega)]
  by_cases h11 : c.val < 5760
  · refine (cat_11 _ _ _ _ _ _ _ _ _ _ _ _ _ _ _ _ r c ⟨c.val - 5632, by omega⟩ (by show 5632 + (c.val - 5632) = c.val; omega)).trans ?_
    rw [val_main_v27_apply]
    refine at_col _ _ _ _ rfl ?_
    show 3088 + (c.val - 5632) = src c.val
    unfold src
    repeat rw [if_neg (by omega)]
    rw [if_pos (by omega)]
  by_cases h12 : c.val < 5888
  · refine (cat_12 _ _ _ _ _ _ _ _ _ _ _ _ _ _ _ _ r c ⟨c.val - 5760, by omega⟩ (by show 5760 + (c.val - 5760) = c.val; omega)).trans ?_
    rw [val_main_v28_apply]
    refine at_col _ _ _ _ rfl ?_
    show 3216 + (c.val - 5760) = src c.val
    unfold src
    repeat rw [if_neg (by omega)]
    rw [if_pos (by omega)]
  by_cases h13 : c.val < 5952
  · refine (cat_13 _ _ _ _ _ _ _ _ _ _ _ _ _ _ _ _ r c ⟨c.val - 5888, by omega⟩ (by show 5888 + (c.val - 5888) = c.val; omega)).trans ?_
    rw [val_main_v30_apply]
    refine at_col _ _ _ _ rfl ?_
    show 4368 + (c.val - 5888) = src c.val
    unfold src
    repeat rw [if_neg (by omega)]
    rw [if_pos (by omega)]
  by_cases h14 : c.val < 5968
  · refine (cat_14 _ _ _ _ _ _ _ _ _ _ _ _ _ _ _ _ r c ⟨c.val - 5952, by omega⟩ (by show 5952 + (c.val - 5952) = c.val; omega)).trans ?_
    rw [val_main_v22_apply]
    refine at_col _ _ _ _ rfl ?_
    show 1024 + (c.val - 5952) = src c.val
    unfold src
    repeat rw [if_neg (by omega)]
    rw [if_pos (by omega)]
  refine (cat_15 _ _ _ _ _ _ _ _ _ _ _ _ _ _ _ _ r c ⟨c.val - 5968, by omega⟩ (by show 5968 + (c.val - 5968) = c.val; omega)).trans ?_
  rw [val_main_v31_apply]
  refine at_col _ _ _ _ rfl ?_
  show 4432 + (c.val - 5968) = src c.val
  unfold src
  repeat rw [if_neg (by omega)]
  rw [if_pos (by omega)]

theorem sitofp_zero : FloatOps.sitofp (F := Ideal) FTy.f32 0#32 = (0 : EReal) := by
  simp [FloatOps.sitofp]

theorem ref_proj (g : S1x2048.Idx → EReal) (hg : ∀ k : Fin 2048, g (ix2 0 k) = x1 (ix2 0 k))
    (w : Cert.Kernel2Ideal.S4x5984x2048.Idx → EReal) (hw : ∀ (j : Fin 5984) (k : Fin 2048), w (ix3 0 j k) = x2 (ix3 0 k j)) :
    val_main_v37 (F := Ideal) x0 x1 x2 = projArr (val_main_v0 (F := Ideal) x0) g (permW w) := by
  refine funext fun i => ?_
  have hi : i = ix2 (i 0) (i 1) := funext fun a => by
    match a with
    | ⟨0, _⟩ => rfl
    | ⟨1, _⟩ => rfl
  have hc : (i 1).val < 6144 := (i 1).isLt
  rw [val_main_v37_apply]
  show val_main_v36 (F := Ideal) x0 x1 x2 i = projAt _ g (permW w) (i 0) (i 1)
  unfold val_main_v36 projAt
  by_cases h : (i 1).val < 5984
  · rw [pad_apply_of_inside _ _ _ _ _ _ _ i (ix2 (i 0) ⟨(i 1).val, h⟩ : S16384x5984.Idx) (fun a => by
      match a with
      | ⟨0, _⟩ => show (i 0).val = 0 + (i 0).val * 1; omega
      | ⟨1, _⟩ => show (i 1).val = 0 + (i 1).val * 1; omega)]
    refine (ref_cat x0 x1 x2 (i 0) ⟨(i 1).val, h⟩).trans ((ref_dot x0 x1 x2 g hg (i 0) _).trans ?_)
    refine Finset.sum_congr rfl fun k _ => congrArg (fun z : EReal => norm (val_main_v0 (F := Ideal) x0) g (i 0) k * z) ?_
    exact ((if_pos h).trans (hw _ _)).symm
  · rw [pad_apply_of_not_inside _ _ _ _ _ _ _ i 1 (fun hin => h (by
      have := hin.2.2
      have e : ((i 1).val - 0) / (0 + 1) < 5984 := this
      omega))]
    refine Eq.trans ?_ (Finset.sum_eq_zero fun k _ => ?_).symm
    · rw [val_main_call0_v0_apply, val_main_c_apply]
      exact sitofp_zero
    · rw [show permW w (ix3 0 (i 1) k) = 0 from if_neg h, mul_zero]

theorem ref_parts (g : S1x2048.Idx → EReal) (hg : ∀ k : Fin 2048, g (ix2 0 k) = x1 (ix2 0 k))
    (w : Cert.Kernel2Ideal.S4x5984x2048.Idx → EReal) (hw : ∀ (j : Fin 5984) (k : Fin 2048), w (ix3 0 j k) = x2 (ix3 0 k j)) :
    val_main_v39 (F := Ideal) x0 x1 x2 = partsArr (val_main_v0 (F := Ideal) x0) g (permW w) := by
  refine funext fun i => ?_
  have h0 : (i 0).val < 4 := (i 0).isLt
  have h1 : (i 1).val < 16384 := (i 1).isLt
  have h2 : (i 2).val < 128 := (i 2).isLt
  have hs : src (3584 + (i 0).val * 128 + (i 2).val) = 1552 + ((i 0).val * 128 + (i 2).val) := by
    unfold src
    repeat rw [if_neg (by omega)]
    rw [if_pos (by omega)]
    omega
  rw [val_main_v39_apply, val_main_v38_apply, val_main_v24_apply]
  rw [at_col (val_main_v18 (F := Ideal) x0 x1 x2) _ (i 1) ⟨src (3584 + (i 0).val * 128 + (i 2).val), src_lt _⟩
    (by show (((i 1).val * 4 + (i 0).val) * 128 + (i 2).val) / 512 = (i 1).val; omega)
    (by show 1552 + (((i 1).val * 4 + (i 0).val) * 128 + (i 2).val) % 512 = src (3584 + (i 0).val * 128 + (i 2).val); omega)]
  refine (ref_dot x0 x1 x2 g hg (i 1) _).trans ?_
  show _ = projAt _ g (permW w) (i 1) _
  unfold projAt
  refine Finset.sum_congr rfl fun k _ => congrArg (fun z : EReal => norm (val_main_v0 (F := Ideal) x0) g (i 1) k * z) ?_
  exact ((if_pos (show 3584 + (i 0).val * 128 + (i 2).val < 5984 by omega)).trans (hw _ _)).symm

end Cert.Proof.InProj

end
-- ==== Proof.InProj.Claim.lean ====
module

public import proofs.«01_k».proof.Defs
public import proofs.«01_k».proof.Proof.InProj.Run
public import proofs.«01_k».proof.Proof.InProj.Ref
public import Idealize.ShloMosaic.Lib.Quiescent

/-! The input projection: the kernel's results are the reference's. -/

@[expose] public section

set_option maxRecDepth 16384

noncomputable section

namespace Cert.Proof.InProj

open Idealize.ShloMosaic Idealize.ShloMosaic.TcCoe Idealize.ShloMosaic.Tactic Idealize.SL.Sem

/-- The reference leaves its arguments unchanged, and has no semaphore. -/
theorem frame_reference : Cert.quiescent_Reference2Ideal := fun m ρ _ =>
  (θ_run _ _ _).mono (fun _ h => ⟨fun c => (h c).2.2, sem_eq_zero_of_no_sems rfl _⟩) (Cert.Reference2Ideal.Value.run m ρ)

theorem algebraic : Cert.algebraic_Kernel2Ideal_Reference2Ideal := by
  intro m g m' g' _ hag
  refine ⟨_, _, run m g, (θ_run _ _ _).mono (fun _ h c => ?_) (Cert.Reference2Ideal.Value.run m' g')⟩
  obtain ⟨h0, h1, hargs⟩ := h c
  obtain ⟨a0, a1, a2⟩ := hag c
  refine ⟨h0.trans ?_, h1.trans ?_, hargs⟩
  · rw [Cert.Reference2Ideal.Read.val_main_v37_eq, a0, a1, a2]
    refine (ref_proj _ _ _ _ (entry_gain m g c) _ (entry_weights m g c 0)).trans ?_
    rw [entry_rows]
    rfl
  · rw [Cert.Reference2Ideal.Read.val_main_v39_eq, a0, a1, a2]
    refine (ref_parts _ _ _ _ (entry_gain m g c) _ (entry_weights m g c 0)).trans ?_
    rw [entry_rows]
    rfl

end Cert.Proof.InProj

end
-- ==== Proof.OutProj.Math.lean ====
/-
  The arithmetic of the output projection, entry by entry: the S5 branch's activation and gate, the
  normalization of a head, the gate of a column, and the product with the weights.
-/
module

public import Idealize.ShloMosaic.Lib.Pointwise
public import Idealize.ShloMosaic.PureOps.Ideal

@[expose] public section

noncomputable section

namespace Cert.Proof.OutProj

open Idealize.ShloMosaic

/-- The activation of the S5 branch, by its tanh formula. -/
def gelu (u : EReal) : EReal :=
  u * (Ideal.ofBits FTy.f32 0x3F000000#32 * (1 + Ideal.tanh (Ideal.ofBits FTy.f32 0x3F4C422A#32
    * (u + Ideal.ofBits FTy.f32 0x3D372713#32 * (u * (u * u))))))

/-- Column `k` of a row of the S5 branch: the row `y`, activated, times its gate, whose weights are `w`. -/
def s5At (y : Fin 512 → EReal) (w : Fin 512 → Fin 512 → EReal) (k : Fin 512) : EReal :=
  gelu (y k) * Ideal.logistic (∑ j : Fin 512, gelu (y j) * w j k)

/-- Four rows of 512 as one row of 2048. -/
def rowOf (A B C D : Fin 512 → EReal) (c : Fin 2048) : EReal :=
  if h : c.val < 512 then A ⟨c.val, h⟩
  else if h : c.val < 1024 then B ⟨c.val - 512, by omega⟩
  else if h : c.val < 1536 then C ⟨c.val - 1024, by omega⟩
  else D ⟨c.val - 1536, by omega⟩

/-- Entry `c` of a row `O`, divided by the root mean square of its head of 128 columns, times the gain
    `g` and the activated gate `z`. -/
def lhsOf (O : Fin 2048 → EReal) (g z : EReal) (c : Fin 2048) : EReal :=
  O c * Ideal.rsqrt (Ideal.div (∑ j : Fin 128, O ⟨c.val / 128 * 128 + j.val, by omega⟩ * O ⟨c.val / 128 * 128 + j.val, by omega⟩)
    (Ideal.ofBits FTy.f32 0x43000000#32) + Ideal.ofBits FTy.f32 0x358637BD#32) * g * (z * Ideal.logistic z)

theorem rowOf_0 (A B C D : Fin 512 → EReal) (c : Fin 2048) (k : Fin 512) (h : c.val = k.val) : rowOf A B C D c = A k := by
  unfold rowOf
  rw [dif_pos (by omega)]
  exact congrArg A (Fin.ext h)

theorem rowOf_1 (A B C D : Fin 512 → EReal) (c : Fin 2048) (k : Fin 512) (h : c.val = 512 + k.val) : rowOf A B C D c = B k := by
  unfold rowOf
  rw [dif_neg (by omega), dif_pos (by omega)]
  exact congrArg B (Fin.ext (by simp only; omega))

theorem rowOf_2 (A B C D : Fin 512 → EReal) (c : Fin 2048) (k : Fin 512) (h : c.val = 1024 + k.val) : rowOf A B C D c = C k := by
  unfold rowOf
  rw [dif_neg (by omega), dif_neg (by omega), dif_pos (by omega)]
  exact congrArg C (Fin.ext (by simp only; omega))

theorem rowOf_3 (A B C D : Fin 512 → EReal) (c : Fin 2048) (k : Fin 512) (h : c.val = 1536 + k.val) : rowOf A B C D c = D k := by
  unfold rowOf
  rw [dif_neg (by omega), dif_neg (by omega), dif_neg (by omega)]
  exact congrArg D (Fin.ext (by simp only; omega))

/-- The entry of a head that starts at column `off`, from the head's own columns `P`. -/
theorem lhs_piece (O : Fin 2048 → EReal) (P : Fin 128 → EReal) (off : ℕ) (hoff : off % 128 = 0) (c : Fin 2048) (j : Fin 128)
    (hc : c.val = off + j.val) (hO : ∀ (j' : Fin 128) (c' : Fin 2048), c'.val = off + j'.val → O c' = P j') (g z : EReal) :
    P j * Ideal.rsqrt (Ideal.div (∑ x : Fin 128, P x * P x) (Ideal.ofBits FTy.f32 0x43000000#32)
      + Ideal.ofBits FTy.f32 0x358637BD#32) * g * (z * Ideal.logistic z) = lhsOf O g z c := by
  unfold lhsOf
  rw [hO j c hc]
  refine congrArg (fun s : EReal => P j * Ideal.rsqrt (Ideal.div s (Ideal.ofBits FTy.f32 0x43000000#32)
      + Ideal.ofBits FTy.f32 0x358637BD#32) * g * (z * Ideal.logistic z)) (Finset.sum_congr rfl fun x _ => ?_)
  rw [hO x ⟨c.val / 128 * 128 + x.val, by omega⟩ (by show c.val / 128 * 128 + x.val = _; omega)]

end Cert.Proof.OutProj
-- ==== Proof.OutProj.Block.lean ====
/-
  The output projection at one grid point: 512 rows of the four branches' outputs, gated and
  normalized head by head into a scratch of 2048 columns, and the scratch against the weights.
-/
module

public import proofs.«01_k».proof.Proof.OutProj.Math
public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.OutProj

open Idealize.ShloMosaic Idealize.ShloMosaic.TcCoe Idealize.ShloMosaic.Tactic
open Cert.Kernel3Ideal Cert.Kernel3Ideal.Gen
open Idealize.ShloMosaic.Pipeline (Dat Cfg Window)

/-- Row `r` of the S5 branch's four parts, as one row of 512. -/
def ysRow (x : S4x512x128.Idx → EReal) (r : Fin 512) (k : Fin 512) : EReal :=
  x (ix3 ⟨k.val / 128, by omega⟩ r ⟨k.val % 128, by omega⟩)

/-- The four branches' row `r`, as one row of 2048. -/
def blockRow (A B C D : S512x512.Idx → EReal) (r : Fin 512) : Fin 2048 → EReal :=
  rowOf (fun k => A (ix2 r k)) (fun k => B (ix2 r k)) (fun k => C (ix2 r k)) (fun k => D (ix2 r k))

/-- The normalized and gated block: what the scratch holds. -/
def lhsBlk (A B C D : S512x512.Idx → EReal) (z : S512x2048.Idx → EReal) (g : S1x2048.Idx → EReal) : S512x2048.Idx → EReal :=
  fun y => lhsOf (blockRow A B C D (y 0)) (g (ix2 0 (y 1))) (z y) (y 1)

theorem pay2_apply (a : Vec Ideal S512x2048 .f32) (l : Vec Ideal S512x2048 .bf16) (w : Vec Ideal S1x2048x2048 .bf16) (y : S512x2048.Idx) :
    k0_pay2 a l w y = a y + ∑ j : Fin 2048, l (ix2 (y 0) j) * w (ix3 0 j (y 1)) := by
  unfold_payloads
  pointwise

theorem four_parts (x : S4x512x128.Idx → EReal) (r k : Fin 512) (a b c d : Fin 128 → EReal)
    (ha : ∀ j, a j = x (ix3 0 r j)) (hb : ∀ j, b j = x (ix3 1 r j)) (hc : ∀ j, c j = x (ix3 2 r j)) (hd : ∀ j, d j = x (ix3 3 r j)) :
    (if h : k.val < 128 then a ⟨k.val, h⟩ else if h : k.val - 128 < 128 then b ⟨k.val - 128, h⟩
      else if h : k.val - 128 - 128 < 128 then c ⟨k.val - 128 - 128, h⟩ else d ⟨k.val - 128 - 128 - 128, by omega⟩)
      = ysRow x r k := by
  unfold ysRow
  split_ifs
  · rw [ha]
    exact congrArg x (congr (congrArg (fun i : Fin 4 => ix3 i r) (Fin.ext (by show 0 = k.val / 128; omega))) (Fin.ext (by show k.val = k.val % 128; omega)))
  · rw [hb]
    exact congrArg x (congr (congrArg (fun i : Fin 4 => ix3 i r) (Fin.ext (by show 1 = k.val / 128; omega))) (Fin.ext (by show k.val - 128 = k.val % 128; omega)))
  · rw [hc]
    exact congrArg x (congr (congrArg (fun i : Fin 4 => ix3 i r) (Fin.ext (by show 2 = k.val / 128; omega))) (Fin.ext (by show k.val - 128 - 128 = k.val % 128; omega)))
  · rw [hd]
    exact congrArg x (congr (congrArg (fun i : Fin 4 => ix3 i r) (Fin.ext (by show 3 = k.val / 128; omega))) (Fin.ext (by show k.val - 128 - 128 - 128 = k.val % 128; omega)))

/-- The S5 branch's block. -/
theorem pay3_apply (x : Vec Ideal S4x512x128 .f32) (w : Vec Ideal S1x512x512 .bf16) (r k : Fin 512) :
    k0_pay3 (View.ld x (Rect.unit ![0, 0, 0] ![1, 512, 128] inb_S4x512x128_S1x512x128_0_0_0))
      (View.ld x (Rect.unit ![1, 0, 0] ![1, 512, 128] inb_S4x512x128_S1x512x128_1_0_0))
      (View.ld x (Rect.unit ![2, 0, 0] ![1, 512, 128] inb_S4x512x128_S1x512x128_2_0_0))
      (View.ld x (Rect.unit ![3, 0, 0] ![1, 512, 128] inb_S4x512x128_S1x512x128_3_0_0)) w (ix2 r k)
      = s5At (ysRow x r) (fun j k => w (ix3 0 j k)) k := by
  have hp : ∀ k : Fin 512, (if h : k.val < 128 then x (ix3 0 r ⟨k.val, h⟩) else if h : k.val - 128 < 128 then x (ix3 1 r ⟨k.val - 128, h⟩)
      else if h : k.val - 128 - 128 < 128 then x (ix3 2 r ⟨k.val - 128 - 128, h⟩) else x (ix3 3 r ⟨k.val - 128 - 128 - 128, by omega⟩))
      = ysRow x r k := fun k => four_parts x r k _ _ _ _ (fun _ => rfl) (fun _ => rfl) (fun _ => rfl) (fun _ => rfl)
  unfold s5At gelu
  unfold_payloads
  pointwise
  simp only [hp]

/-- The block of the result: the old rows plus the scratch against the weights. -/
def outBlk (A B C D : S512x512.Idx → EReal) (z x : S512x2048.Idx → EReal) (g : S1x2048.Idx → EReal) (w : S1x2048x2048.Idx → EReal)
    (y : S512x2048.Idx) : EReal :=
  x y + ∑ j : Fin 2048, lhsBlk A B C D z g (ix2 (y 0) j) * w (ix3 0 j (y 1))

/-- An entry of the block, from the columns `P` of its head, which starts at column `off`. -/
theorem blk_at (A B C D : S512x512.Idx → EReal) (z : S512x2048.Idx → EReal) (g : S1x2048.Idx → EReal) (P : Fin 128 → EReal) (off : ℕ)
    (hoff : off % 128 = 0) (r : Fin 512) (j : Fin 128) (c : Fin 2048) (hc : c.val = off + j.val)
    (hO : ∀ (j' : Fin 128) (c' : Fin 2048), c'.val = off + j'.val → blockRow A B C D r c' = P j') :
    P j * Ideal.rsqrt (Ideal.div (∑ x : Fin 128, P x * P x) (Ideal.ofBits FTy.f32 0x43000000#32)
      + Ideal.ofBits FTy.f32 0x358637BD#32) * g (ix2 0 c) * (z (ix2 r c) * Ideal.logistic (z (ix2 r c))) = lhsBlk A B C D z g (ix2 r c) :=
  lhs_piece (blockRow A B C D r) P off hoff c j hc hO (g (ix2 0 c)) (z (ix2 r c))

/-- Where a store of 128 columns at column `off` lands. -/
theorem emb_at (off : ℕ) (inb : ∀ a, ![0, off] a + ![512, 128] a ≤ S512x2048.size a) (r : Fin 512) (j : Fin 128) (c : Fin 2048) (hc : c.val = off + j.val) :
    (Rect.unit (s := S512x2048) ![0, off] ![512, 128] inb).emb (ix2 r j) = ix2 r c := by
  funext a
  refine Fin.ext ?_
  match a with
  | ⟨0, _⟩ => simp
  | ⟨1, _⟩ => simp [hc]

theorem mem_at (off : ℕ) (inb : ∀ a, ![0, off] a + ![512, 128] a ≤ S512x2048.size a) (y : S512x2048.Idx)
    (h : off ≤ (y 1).val ∧ (y 1).val < off + 128) : y ∈ (Rect.unit (s := S512x2048) ![0, off] ![512, 128] inb).set := by
  refine Rect.mem_set_unit.mpr fun a => ?_
  match a with
  | ⟨0, _⟩ => exact ⟨Nat.zero_le _, (Nat.zero_add 512).symm ▸ (y 0).isLt⟩
  | ⟨1, _⟩ => exact h

theorem idx_eq (y : S512x128.Idx) : ∃ (r : Fin 512) (j : Fin 128), y = ix2 r j :=
  ⟨y 0, y 1, funext fun a => by match a with | ⟨0, _⟩ => rfl | ⟨1, _⟩ => rfl⟩

theorem store_0 (A C D : Vec Ideal S512x512 .bf16) (S : FVec Ideal S512x512 .f32) (z : Vec Ideal S512x2048 .bf16) (g : Vec Ideal S1x2048 .f32)
    (y : S512x128.Idx) :
    k0_pay7 (k0_pay4 A) (View.ld z (Rect.unit ![0, 0] ![512, 128] inb_S512x2048_S512x128_0_0))
      (View.ld g (Rect.unit ![0, 0] ![1, 128] inb_S1x2048_S1x128_0_0)) y
      = lhsBlk A S C D z g ((Rect.unit (s := S512x2048) ![0, 0] ![512, 128] inb_S512x2048_S512x128_0_0).emb y) := by
  obtain ⟨r, j, rfl⟩ := idx_eq y
  rw [emb_at 0 _ r j ⟨0 + j.val, by omega⟩ rfl, ← blk_at A S C D z g (fun j => A (ix2 r ⟨j.val, by omega⟩)) 0 rfl r j _ rfl
    (fun j' c' h => rowOf_0 _ _ _ _ c' ⟨j'.val, by omega⟩ (by show c'.val = (j'.val); omega))]
  unfold_payloads
  pointwise

theorem store_1 (A C D : Vec Ideal S512x512 .bf16) (S : FVec Ideal S512x512 .f32) (z : Vec Ideal S512x2048 .bf16) (g : Vec Ideal S1x2048 .f32)
    (y : S512x128.Idx) :
    k0_pay11 (k0_pay8 (View.ld z (Rect.unit ![0, 128] ![512, 128] inb_S512x2048_S512x128_0_128)))
      (k0_pay9 (k0_pay4 A) (View.ld g (Rect.unit ![0, 128] ![1, 128] inb_S1x2048_S1x128_0_128)))
      (k0_pay10 (View.ld z (Rect.unit ![0, 128] ![512, 128] inb_S512x2048_S512x128_0_128))) y
      = lhsBlk A S C D z g ((Rect.unit (s := S512x2048) ![0, 128] ![512, 128] inb_S512x2048_S512x128_0_128).emb y) := by
  obtain ⟨r, j, rfl⟩ := idx_eq y
  rw [emb_at 128 _ r j ⟨128 + j.val, by omega⟩ rfl, ← blk_at A S C D z g (fun j => A (ix2 r ⟨128 + j.val, by omega⟩)) 128 rfl r j _ rfl
    (fun j' c' h => rowOf_0 _ _ _ _ c' ⟨128 + j'.val, by omega⟩ (by show c'.val = (128 + j'.val); omega))]
  unfold_payloads
  pointwise

theorem store_2 (A C D : Vec Ideal S512x512 .bf16) (S : FVec Ideal S512x512 .f32) (z : Vec Ideal S512x2048 .bf16) (g : Vec Ideal S1x2048 .f32)
    (y : S512x128.Idx) :
    k0_pay12 (k0_pay4 A) (View.ld z (Rect.unit ![0, 256] ![512, 128] inb_S512x2048_S512x128_0_256))
      (View.ld g (Rect.unit ![0, 256] ![1, 128] inb_S1x2048_S1x128_0_256)) y
      = lhsBlk A S C D z g ((Rect.unit (s := S512x2048) ![0, 256] ![512, 128] inb_S512x2048_S512x128_0_256).emb y) := by
  obtain ⟨r, j, rfl⟩ := idx_eq y
  rw [emb_at 256 _ r j ⟨256 + j.val, by omega⟩ rfl, ← blk_at A S C D z g (fun j => A (ix2 r ⟨256 + j.val, by omega⟩)) 256 rfl r j _ rfl
    (fun j' c' h => rowOf_0 _ _ _ _ c' ⟨256 + j'.val, by omega⟩ (by show c'.val = (256 + j'.val); omega))]
  unfold_payloads
  pointwise

theorem store_3 (A C D : Vec Ideal S512x512 .bf16) (S : FVec Ideal S512x512 .f32) (z : Vec Ideal S512x2048 .bf16) (g : Vec Ideal S1x2048 .f32)
    (y : S512x128.Idx) :
    k0_pay17 (k0_pay13 (View.ld z (Rect.unit ![0, 384] ![512, 128] inb_S512x2048_S512x128_0_384))) (k0_pay14 (k0_pay4 A))
      (k0_pay15 (View.ld g (Rect.unit ![0, 384] ![1, 128] inb_S1x2048_S1x128_0_384))) (k0_pay16 (k0_pay4 A)) (FloatOps.ofBits FTy.f32 897988541#32) y
      = lhsBlk A S C D z g ((Rect.unit (s := S512x2048) ![0, 384] ![512, 128] inb_S512x2048_S512x128_0_384).emb y) := by
  obtain ⟨r, j, rfl⟩ := idx_eq y
  rw [emb_at 384 _ r j ⟨384 + j.val, by omega⟩ rfl, ← blk_at A S C D z g (fun j => A (ix2 r ⟨384 + j.val, by omega⟩)) 384 rfl r j _ rfl
    (fun j' c' h => rowOf_0 _ _ _ _ c' ⟨384 + j'.val, by omega⟩ (by show c'.val = (384 + j'.val); omega))]
  unfold_payloads
  pointwise

theorem store_4 (A C D : Vec Ideal S512x512 .bf16) (S : FVec Ideal S512x512 .f32) (z : Vec Ideal S512x2048 .bf16) (g : Vec Ideal S1x2048 .f32)
    (y : S512x128.Idx) :
    k0_pay18 S (View.ld z (Rect.unit ![0, 512] ![512, 128] inb_S512x2048_S512x128_0_512))
      (View.ld g (Rect.unit ![0, 512] ![1, 128] inb_S1x2048_S1x128_0_512)) y
      = lhsBlk A S C D z g ((Rect.unit (s := S512x2048) ![0, 512] ![512, 128] inb_S512x2048_S512x128_0_512).emb y) := by
  obtain ⟨r, j, rfl⟩ := idx_eq y
  rw [emb_at 512 _ r j ⟨512 + j.val, by omega⟩ rfl, ← blk_at A S C D z g (fun j => S (ix2 r ⟨j.val, by omega⟩)) 512 rfl r j _ rfl
    (fun j' c' h => rowOf_1 _ _ _ _ c' ⟨j'.val, by omega⟩ (by show c'.val = 512 + (j'.val); omega))]
  unfold_payloads
  pointwise

theorem store_5 (A C D : Vec Ideal S512x512 .bf16) (S : FVec Ideal S512x512 .f32) (z : Vec Ideal S512x2048 .bf16) (g : Vec Ideal S1x2048 .f32)
    (y : S512x128.Idx) :
    k0_pay22 (k0_pay19 (View.ld z (Rect.unit ![0, 640] ![512, 128] inb_S512x2048_S512x128_0_640))) (k0_pay20 S)
      (k0_pay21 (View.ld g (Rect.unit ![0, 640] ![1, 128] inb_S1x2048_S1x128_0_640))) y
      = lhsBlk A S C D z g ((Rect.unit (s := S512x2048) ![0, 640] ![512, 128] inb_S512x2048_S512x128_0_640).emb y) := by
  obtain ⟨r, j, rfl⟩ := idx_eq y
  rw [emb_at 640 _ r j ⟨640 + j.val, by omega⟩ rfl, ← blk_at A S C D z g (fun j => S (ix2 r ⟨128 + j.val, by omega⟩)) 640 rfl r j _ rfl
    (fun j' c' h => rowOf_1 _ _ _ _ c' ⟨128 + j'.val, by omega⟩ (by show c'.val = 512 + (128 + j'.val); omega))]
  unfold_payloads
  pointwise

theorem store_6 (A C D : Vec Ideal S512x512 .bf16) (S : FVec Ideal S512x512 .f32) (z : Vec Ideal S512x2048 .bf16) (g : Vec Ideal S1x2048 .f32)
    (y : S512x128.Idx) :
    k0_pay23 S (View.ld z (Rect.unit ![0, 768] ![512, 128] inb_S512x2048_S512x128_0_768))
      (View.ld g (Rect.unit ![0, 768] ![1, 128] inb_S1x2048_S1x128_0_768)) y
      = lhsBlk A S C D z g ((Rect.unit (s := S512x2048) ![0, 768] ![512, 128] inb_S512x2048_S512x128_0_768).emb y) := by
  obtain ⟨r, j, rfl⟩ := idx_eq y
  rw [emb_at 768 _ r j ⟨768 + j.val, by omega⟩ rfl, ← blk_at A S C D z g (fun j => S (ix2 r ⟨256 + j.val, by omega⟩)) 768 rfl r j _ rfl
    (fun j' c' h => rowOf_1 _ _ _ _ c' ⟨256 + j'.val, by omega⟩ (by show c'.val = 512 + (256 + j'.val); omega))]
  unfold_payloads
  pointwise

theorem store_7 (A C D : Vec Ideal S512x512 .bf16) (S : FVec Ideal S512x512 .f32) (z : Vec Ideal S512x2048 .bf16) (g : Vec Ideal S1x2048 .f32)
    (y : S512x128.Idx) :
    k0_pay24 S (View.ld z (Rect.unit ![0, 896] ![512, 128] inb_S512x2048_S512x128_0_896))
      (View.ld g (Rect.unit ![0, 896] ![1, 128] inb_S1x2048_S1x128_0_896)) y
      = lhsBlk A S C D z g ((Rect.unit (s := S512x2048) ![0, 896] ![512, 128] inb_S512x2048_S512x128_0_896).emb y) := by
  obtain ⟨r, j, rfl⟩ := idx_eq y
  rw [emb_at 896 _ r j ⟨896 + j.val, by omega⟩ rfl, ← blk_at A S C D z g (fun j => S (ix2 r ⟨384 + j.val, by omega⟩)) 896 rfl r j _ rfl
    (fun j' c' h => rowOf_1 _ _ _ _ c' ⟨384 + j'.val, by omega⟩ (by show c'.val = 512 + (384 + j'.val); omega))]
  unfold_payloads
  pointwise

theorem store_8 (A C D : Vec Ideal S512x512 .bf16) (S : FVec Ideal S512x512 .f32) (z : Vec Ideal S512x2048 .bf16) (g : Vec Ideal S1x2048 .f32)
    (y : S512x128.Idx) :
    k0_pay26 (k0_pay25 (k0_pay5 C) (View.ld z (Rect.unit ![0, 1024] ![512, 128] inb_S512x2048_S512x128_0_1024))
      (View.ld g (Rect.unit ![0, 1024] ![1, 128] inb_S1x2048_S1x128_0_1024))) y
      = lhsBlk A S C D z g ((Rect.unit (s := S512x2048) ![0, 1024] ![512, 128] inb_S512x2048_S512x128_0_1024).emb y) := by
  obtain ⟨r, j, rfl⟩ := idx_eq y
  rw [emb_at 1024 _ r j ⟨1024 + j.val, by omega⟩ rfl, ← blk_at A S C D z g (fun j => C (ix2 r ⟨j.val, by omega⟩)) 1024 rfl r j _ rfl
    (fun j' c' h => rowOf_2 _ _ _ _ c' ⟨j'.val, by omega⟩ (by show c'.val = 1024 + (j'.val); omega))]
  unfold_payloads
  pointwise

theorem store_9 (A C D : Vec Ideal S512x512 .bf16) (S : FVec Ideal S512x512 .f32) (z : Vec Ideal S512x2048 .bf16) (g : Vec Ideal S1x2048 .f32)
    (y : S512x128.Idx) :
    k0_pay27 (k0_pay5 C) (View.ld z (Rect.unit ![0, 1152] ![512, 128] inb_S512x2048_S512x128_0_1152))
      (View.ld g (Rect.unit ![0, 1152] ![1, 128] inb_S1x2048_S1x128_0_1152)) y
      = lhsBlk A S C D z g ((Rect.unit (s := S512x2048) ![0, 1152] ![512, 128] inb_S512x2048_S512x128_0_1152).emb y) := by
  obtain ⟨r, j, rfl⟩ := idx_eq y
  rw [emb_at 1152 _ r j ⟨1152 + j.val, by omega⟩ rfl, ← blk_at A S C D z g (fun j => C (ix2 r ⟨128 + j.val, by omega⟩)) 1152 rfl r j _ rfl
    (fun j' c' h => rowOf_2 _ _ _ _ c' ⟨128 + j'.val, by omega⟩ (by show c'.val = 1024 + (128 + j'.val); omega))]
  unfold_payloads
  pointwise

theorem store_10 (A C D : Vec Ideal S512x512 .bf16) (S : FVec Ideal S512x512 .f32) (z : Vec Ideal S512x2048 .bf16) (g : Vec Ideal S1x2048 .f32)
    (y : S512x128.Idx) :
    k0_pay32 (k0_pay28 (View.ld z (Rect.unit ![0, 1280] ![512, 128] inb_S512x2048_S512x128_0_1280))) (k0_pay29 (k0_pay5 C))
      (k0_pay30 (View.ld g (Rect.unit ![0, 1280] ![1, 128] inb_S1x2048_S1x128_0_1280))) (k0_pay31 (k0_pay5 C)) y
      = lhsBlk A S C D z g ((Rect.unit (s := S512x2048) ![0, 1280] ![512, 128] inb_S512x2048_S512x128_0_1280).emb y) := by
  obtain ⟨r, j, rfl⟩ := idx_eq y
  rw [emb_at 1280 _ r j ⟨1280 + j.val, by omega⟩ rfl, ← blk_at A S C D z g (fun j => C (ix2 r ⟨256 + j.val, by omega⟩)) 1280 rfl r j _ rfl
    (fun j' c' h => rowOf_2 _ _ _ _ c' ⟨256 + j'.val, by omega⟩ (by show c'.val = 1024 + (256 + j'.val); omega))]
  unfold_payloads
  pointwise

theorem store_11 (A C D : Vec Ideal S512x512 .bf16) (S : FVec Ideal S512x512 .f32) (z : Vec Ideal S512x2048 .bf16) (g : Vec Ideal S1x2048 .f32)
    (y : S512x128.Idx) :
    k0_pay33 (k0_pay5 C) (View.ld z (Rect.unit ![0, 1408] ![512, 128] inb_S512x2048_S512x128_0_1408))
      (View.ld g (Rect.unit ![0, 1408] ![1, 128] inb_S1x2048_S1x128_0_1408)) y
      = lhsBlk A S C D z g ((Rect.unit (s := S512x2048) ![0, 1408] ![512, 128] inb_S512x2048_S512x128_0_1408).emb y) := by
  obtain ⟨r, j, rfl⟩ := idx_eq y
  rw [emb_at 1408 _ r j ⟨1408 + j.val, by omega⟩ rfl, ← blk_at A S C D z g (fun j => C (ix2 r ⟨384 + j.val, by omega⟩)) 1408 rfl r j _ rfl
    (fun j' c' h => rowOf_2 _ _ _ _ c' ⟨384 + j'.val, by omega⟩ (by show c'.val = 1024 + (384 + j'.val); omega))]
  unfold_payloads
  pointwise

theorem store_12 (A C D : Vec Ideal S512x512 .bf16) (S : FVec Ideal S512x512 .f32) (z : Vec Ideal S512x2048 .bf16) (g : Vec Ideal S1x2048 .f32)
    (y : S512x128.Idx) :
    k0_pay38 (k0_pay34 (View.ld z (Rect.unit ![0, 1536] ![512, 128] inb_S512x2048_S512x128_0_1536))) (k0_pay35 (k0_pay6 D))
      (k0_pay36 (View.ld g (Rect.unit ![0, 1536] ![1, 128] inb_S1x2048_S1x128_0_1536))) (k0_pay37 (k0_pay6 D)) y
      = lhsBlk A S C D z g ((Rect.unit (s := S512x2048) ![0, 1536] ![512, 128] inb_S512x2048_S512x128_0_1536).emb y) := by
  obtain ⟨r, j, rfl⟩ := idx_eq y
  rw [emb_at 1536 _ r j ⟨1536 + j.val, by omega⟩ rfl, ← blk_at A S C D z g (fun j => D (ix2 r ⟨j.val, by omega⟩)) 1536 rfl r j _ rfl
    (fun j' c' h => rowOf_3 _ _ _ _ c' ⟨j'.val, by omega⟩ (by show c'.val = 1536 + (j'.val); omega))]
  unfold_payloads
  pointwise

theorem store_13 (A C D : Vec Ideal S512x512 .bf16) (S : FVec Ideal S512x512 .f32) (z : Vec Ideal S512x2048 .bf16) (g : Vec Ideal S1x2048 .f32)
    (y : S512x128.Idx) :
    k0_pay39 (k0_pay6 D) (View.ld z (Rect.unit ![0, 1664] ![512, 128] inb_S512x2048_S512x128_0_1664))
      (View.ld g (Rect.unit ![0, 1664] ![1, 128] inb_S1x2048_S1x128_0_1664)) y
      = lhsBlk A S C D z g ((Rect.unit (s := S512x2048) ![0, 1664] ![512, 128] inb_S512x2048_S512x128_0_1664).emb y) := by
  obtain ⟨r, j, rfl⟩ := idx_eq y
  rw [emb_at 1664 _ r j ⟨1664 + j.val, by omega⟩ rfl, ← blk_at A S C D z g (fun j => D (ix2 r ⟨128 + j.val, by omega⟩)) 1664 rfl r j _ rfl
    (fun j' c' h => rowOf_3 _ _ _ _ c' ⟨128 + j'.val, by omega⟩ (by show c'.val = 1536 + (128 + j'.val); omega))]
  unfold_payloads
  pointwise

theorem store_14 (A C D : Vec Ideal S512x512 .bf16) (S : FVec Ideal S512x512 .f32) (z : Vec Ideal S512x2048 .bf16) (g : Vec Ideal S1x2048 .f32)
    (y : S512x128.Idx) :
    k0_pay40 (k0_pay6 D) (View.ld z (Rect.unit ![0, 1792] ![512, 128] inb_S512x2048_S512x128_0_1792))
      (View.ld g (Rect.unit ![0, 1792] ![1, 128] inb_S1x2048_S1x128_0_1792)) y
      = lhsBlk A S C D z g ((Rect.unit (s := S512x2048) ![0, 1792] ![512, 128] inb_S512x2048_S512x128_0_1792).emb y) := by
  obtain ⟨r, j, rfl⟩ := idx_eq y
  rw [emb_at 1792 _ r j ⟨1792 + j.val, by omega⟩ rfl, ← blk_at A S C D z g (fun j => D (ix2 r ⟨256 + j.val, by omega⟩)) 1792 rfl r j _ rfl
    (fun j' c' h => rowOf_3 _ _ _ _ c' ⟨256 + j'.val, by omega⟩ (by show c'.val = 1536 + (256 + j'.val); omega))]
  unfold_payloads
  pointwise

theorem store_15 (A C D : Vec Ideal S512x512 .bf16) (S : FVec Ideal S512x512 .f32) (z : Vec Ideal S512x2048 .bf16) (g : Vec Ideal S1x2048 .f32)
    (y : S512x128.Idx) :
    k0_pay1 (k0_pay41 (k0_pay6 D) (View.ld z (Rect.unit ![0, 1920] ![512, 128] inb_S512x2048_S512x128_0_1920))
      (View.ld g (Rect.unit ![0, 1920] ![1, 128] inb_S1x2048_S1x128_0_1920))) y
      = lhsBlk A S C D z g ((Rect.unit (s := S512x2048) ![0, 1920] ![512, 128] inb_S512x2048_S512x128_0_1920).emb y) := by
  obtain ⟨r, j, rfl⟩ := idx_eq y
  rw [emb_at 1920 _ r j ⟨1920 + j.val, by omega⟩ rfl, ← blk_at A S C D z g (fun j => D (ix2 r ⟨384 + j.val, by omega⟩)) 1920 rfl r j _ rfl
    (fun j' c' h => rowOf_3 _ _ _ _ c' ⟨384 + j'.val, by omega⟩ (by show c'.val = 1536 + (384 + j'.val); omega))]
  unfold_payloads
  pointwise

/-- The sixteen stores of a grid point into its scratch, the last one first. -/
def stores (A C D : Vec Ideal S512x512 .bf16) (S : FVec Ideal S512x512 .f32) (z : Vec Ideal S512x2048 .bf16) (g : Vec Ideal S1x2048 .f32) :
    List (View.Piece (Elt Ideal) S512x2048 .bf16) :=
  [⟨Rect.unit ![0, 1920] ![512, 128] inb_S512x2048_S512x128_0_1920,
    k0_pay1 (k0_pay41 (k0_pay6 D) (View.ld z (Rect.unit ![0, 1920] ![512, 128] inb_S512x2048_S512x128_0_1920))
      (View.ld g (Rect.unit ![0, 1920] ![1, 128] inb_S1x2048_S1x128_0_1920)))⟩,
   ⟨Rect.unit ![0, 1792] ![512, 128] inb_S512x2048_S512x128_0_1792,
    k0_pay40 (k0_pay6 D) (View.ld z (Rect.unit ![0, 1792] ![512, 128] inb_S512x2048_S512x128_0_1792))
      (View.ld g (Rect.unit ![0, 1792] ![1, 128] inb_S1x2048_S1x128_0_1792))⟩,
   ⟨Rect.unit ![0, 1664] ![512, 128] inb_S512x2048_S512x128_0_1664,
    k0_pay39 (k0_pay6 D) (View.ld z (Rect.unit ![0, 1664] ![512, 128] inb_S512x2048_S512x128_0_1664))
      (View.ld g (Rect.unit ![0, 1664] ![1, 128] inb_S1x2048_S1x128_0_1664))⟩,
   ⟨Rect.unit ![0, 1536] ![512, 128] inb_S512x2048_S512x128_0_1536,
    k0_pay38 (k0_pay34 (View.ld z (Rect.unit ![0, 1536] ![512, 128] inb_S512x2048_S512x128_0_1536))) (k0_pay35 (k0_pay6 D))
      (k0_pay36 (View.ld g (Rect.unit ![0, 1536] ![1, 128] inb_S1x2048_S1x128_0_1536))) (k0_pay37 (k0_pay6 D))⟩,
   ⟨Rect.unit ![0, 1408] ![512, 128] inb_S512x2048_S512x128_0_1408,
    k0_pay33 (k0_pay5 C) (View.ld z (Rect.unit ![0, 1408] ![512, 128] inb_S512x2048_S512x128_0_1408))
      (View.ld g (Rect.unit ![0, 1408] ![1, 128] inb_S1x2048_S1x128_0_1408))⟩,
   ⟨Rect.unit ![0, 1280] ![512, 128] inb_S512x2048_S512x128_0_1280,
    k0_pay32 (k0_pay28 (View.ld z (Rect.unit ![0, 1280] ![512, 128] inb_S512x2048_S512x128_0_1280))) (k0_pay29 (k0_pay5 C))
      (k0_pay30 (View.ld g (Rect.unit ![0, 1280] ![1, 128] inb_S1x2048_S1x128_0_1280))) (k0_pay31 (k0_pay5 C))⟩,
   ⟨Rect.unit ![0, 1152] ![512, 128] inb_S512x2048_S512x128_0_1152,
    k0_pay27 (k0_pay5 C) (View.ld z (Rect.unit ![0, 1152] ![512, 128] inb_S512x2048_S512x128_0_1152))
      (View.ld g (Rect.unit ![0, 1152] ![1, 128] inb_S1x2048_S1x128_0_1152))⟩,
   ⟨Rect.unit ![0, 1024] ![512, 128] inb_S512x2048_S512x128_0_1024,
    k0_pay26 (k0_pay25 (k0_pay5 C) (View.ld z (Rect.unit ![0, 1024] ![512, 128] inb_S512x2048_S512x128_0_1024))
      (View.ld g (Rect.unit ![0, 1024] ![1, 128] inb_S1x2048_S1x128_0_1024)))⟩,
   ⟨Rect.unit ![0, 896] ![512, 128] inb_S512x2048_S512x128_0_896,
    k0_pay24 S (View.ld z (Rect.unit ![0, 896] ![512, 128] inb_S512x2048_S512x128_0_896))
      (View.ld g (Rect.unit ![0, 896] ![1, 128] inb_S1x2048_S1x128_0_896))⟩,
   ⟨Rect.unit ![0, 768] ![512, 128] inb_S512x2048_S512x128_0_768,
    k0_pay23 S (View.ld z (Rect.unit ![0, 768] ![512, 128] inb_S512x2048_S512x128_0_768))
      (View.ld g (Rect.unit ![0, 768] ![1, 128] inb_S1x2048_S1x128_0_768))⟩,
   ⟨Rect.unit ![0, 640] ![512, 128] inb_S512x2048_S512x128_0_640,
    k0_pay22 (k0_pay19 (View.ld z (Rect.unit ![0, 640] ![512, 128] inb_S512x2048_S512x128_0_640))) (k0_pay20 S)
      (k0_pay21 (View.ld g (Rect.unit ![0, 640] ![1, 128] inb_S1x2048_S1x128_0_640)))⟩,
   ⟨Rect.unit ![0, 512] ![512, 128] inb_S512x2048_S512x128_0_512,
    k0_pay18 S (View.ld z (Rect.unit ![0, 512] ![512, 128] inb_S512x2048_S512x128_0_512))
      (View.ld g (Rect.unit ![0, 512] ![1, 128] inb_S1x2048_S1x128_0_512))⟩,
   ⟨Rect.unit ![0, 384] ![512, 128] inb_S512x2048_S512x128_0_384,
    k0_pay17 (k0_pay13 (View.ld z (Rect.unit ![0, 384] ![512, 128] inb_S512x2048_S512x128_0_384))) (k0_pay14 (k0_pay4 A))
      (k0_pay15 (View.ld g (Rect.unit ![0, 384] ![1, 128] inb_S1x2048_S1x128_0_384))) (k0_pay16 (k0_pay4 A)) (FloatOps.ofBits FTy.f32 897988541#32)⟩,
   ⟨Rect.unit ![0, 256] ![512, 128] inb_S512x2048_S512x128_0_256,
    k0_pay12 (k0_pay4 A) (View.ld z (Rect.unit ![0, 256] ![512, 128] inb_S512x2048_S512x128_0_256))
      (View.ld g (Rect.unit ![0, 256] ![1, 128] inb_S1x2048_S1x128_0_256))⟩,
   ⟨Rect.unit ![0, 128] ![512, 128] inb_S512x2048_S512x128_0_128,
    k0_pay11 (k0_pay8 (View.ld z (Rect.unit ![0, 128] ![512, 128] inb_S512x2048_S512x128_0_128)))
      (k0_pay9 (k0_pay4 A) (View.ld g (Rect.unit ![0, 128] ![1, 128] inb_S1x2048_S1x128_0_128)))
      (k0_pay10 (View.ld z (Rect.unit ![0, 128] ![512, 128] inb_S512x2048_S512x128_0_128)))⟩,
   ⟨Rect.unit ![0, 0] ![512, 128] inb_S512x2048_S512x128_0_0,
    k0_pay7 (k0_pay4 A) (View.ld z (Rect.unit ![0, 0] ![512, 128] inb_S512x2048_S512x128_0_0))
      (View.ld g (Rect.unit ![0, 0] ![1, 128] inb_S1x2048_S1x128_0_0))⟩]

/-- They cover it. -/
theorem stores_cover (A C D : Vec Ideal S512x512 .bf16) (S : FVec Ideal S512x512 .f32) (z : Vec Ideal S512x2048 .bf16) (g : Vec Ideal S1x2048 .f32)
    (y : S512x2048.Idx) : ∃ p ∈ stores A C D S z g, y ∈ p.1.set := by
  have hy : (y 1).val < 2048 := (y 1).isLt
  unfold stores
  rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128) ∨ (1280 ≤ (y 1).val ∧ (y 1).val < 1280 + 128) ∨ (1408 ≤ (y 1).val ∧ (y 1).val < 1408 + 128) ∨ (1536 ≤ (y 1).val ∧ (y 1).val < 1536 + 128) ∨ (1664 ≤ (y 1).val ∧ (y 1).val < 1664 + 128) ∨ (1792 ≤ (y 1).val ∧ (y 1).val < 1792 + 128) ∨ (1920 ≤ (y 1).val ∧ (y 1).val < 1920 + 128)) with
    h | h | h | h | h | h | h | h | h | h | h | h | h | h | h | h
  · exact ⟨_, (.tail _ (.tail _ (.tail _ (.tail _ (.tail _ (.tail _ (.tail _ (.tail _ (.tail _ (.tail _ (.tail _ (.tail _ (.tail _ (.tail _ (.tail _ (.head _)))))))))))))))), mem_at 0 inb_S512x2048_S512x128_0_0 y h⟩
  · exact ⟨_, (.tail _ (.tail _ (.tail _ (.tail _ (.tail _ (.tail _ (.tail _ (.tail _ (.tail _ (.tail _ (.tail _ (.tail _ (.tail _ (.tail _ (.head _))))))))))))))), mem_at 128 inb_S512x2048_S512x128_0_128 y h⟩
  · exact ⟨_, (.tail _ (.tail _ (.tail _ (.tail _ (.tail _ (.tail _ (.tail _ (.tail _ (.tail _ (.tail _ (.tail _ (.tail _ (.tail _ (.head _)))))))))))))), mem_at 256 inb_S512x2048_S512x128_0_256 y h⟩
  · exact ⟨_, (.tail _ (.tail _ (.tail _ (.tail _ (.tail _ (.tail _ (.tail _ (.tail _ (.tail _ (.tail _ (.tail _ (.tail _ (.head _))))))))))))), mem_at 384 inb_S512x2048_S512x128_0_384 y h⟩
  · exact ⟨_, (.tail _ (.tail _ (.tail _ (.tail _ (.tail _ (.tail _ (.tail _ (.tail _ (.tail _ (.tail _ (.tail _ (.head _)))))))))))), mem_at 512 inb_S512x2048_S512x128_0_512 y h⟩
  · exact ⟨_, (.tail _ (.tail _ (.tail _ (.tail _ (.tail _ (.tail _ (.tail _ (.tail _ (.tail _ (.tail _ (.head _))))))))))), mem_at 640 inb_S512x2048_S512x128_0_640 y h⟩
  · exact ⟨_, (.tail _ (.tail _ (.tail _ (.tail _ (.tail _ (.tail _ (.tail _ (.tail _ (.tail _ (.head _)))))))))), mem_at 768 inb_S512x2048_S512x128_0_768 y h⟩
  · exact ⟨_, (.tail _ (.tail _ (.tail _ (.tail _ (.tail _ (.tail _ (.tail _ (.tail _ (.head _))))))))), mem_at 896 inb_S512x2048_S512x128_0_896 y h⟩
  · exact ⟨_, (.tail _ (.tail _ (.tail _ (.tail _ (.tail _ (.tail _ (.tail _ (.head _)))))))), mem_at 1024 inb_S512x2048_S512x128_0_1024 y h⟩
  · exact ⟨_, (.tail _ (.tail _ (.tail _ (.tail _ (.tail _ (.tail _ (.head _))))))), mem_at 1152 inb_S512x2048_S512x128_0_1152 y h⟩
  · exact ⟨_, (.tail _ (.tail _ (.tail _ (.tail _ (.tail _ (.head _)))))), mem_at 1280 inb_S512x2048_S512x128_0_1280 y h⟩
  · exact ⟨_, (.tail _ (.tail _ (.tail _ (.tail _ (.head _))))), mem_at 1408 inb_S512x2048_S512x128_0_1408 y h⟩
  · exact ⟨_, (.tail _ (.tail _ (.tail _ (.head _)))), mem_at 1536 inb_S512x2048_S512x128_0_1536 y h⟩
  · exact ⟨_, (.tail _ (.tail _ (.head _))), mem_at 1664 inb_S512x2048_S512x128_0_1664 y h⟩
  · exact ⟨_, (.tail _ (.head _)), mem_at 1792 inb_S512x2048_S512x128_0_1792 y h⟩
  · exact ⟨_, (.head _), mem_at 1920 inb_S512x2048_S512x128_0_1920 y h⟩

/-- Read back, they are the normalized and gated block. -/
theorem stores_read (A C D : Vec Ideal S512x512 .bf16) (S : FVec Ideal S512x512 .f32) (z : Vec Ideal S512x2048 .bf16) (g : Vec Ideal S1x2048 .f32)
    (y : S512x2048.Idx) : View.canon (stores A C D S z g) y = lhsBlk A S C D z g y := by
  refine View.canon_apply_of_pieces (lhsBlk A S C D z g) _ (View.PiecesOf.mem ?_) y (stores_cover A C D S z g y)
  unfold stores
  refine ⟨store_15 A C D S z g, store_14 A C D S z g, store_13 A C D S z g, store_12 A C D S z g, store_11 A C D S z g, store_10 A C D S z g, store_9 A C D S z g, store_8 A C D S z g, store_7 A C D S z g, store_6 A C D S z g, store_5 A C D S z g, store_4 A C D S z g, store_3 A C D S z g, store_2 A C D S z g, store_1 A C D S z g, store_0 A C D S z g, trivial⟩

/-- What a grid point leaves in the result's block, from the point's input blocks. -/
theorem point (m : (ℓ : Loc nD τ sig) → Buf (Elt Ideal) ℓ) (c : Dev nD) (t : Fin cfg0.N) (r : Fin 512) (k : Fin 2048) :
    outsAt0 m c t (ix2 r k) = outBlk (iblk m c 0 t) (fun i => s5At (ysRow (iblk m c 1 t) (i 0)) (fun j k => iblk m c 7 t (ix3 0 j k)) (i 1))
      (iblk m c 2 t) (iblk m c 3 t) (iblk m c 4 t) (iblk m c 5 t) (iblk m c 6 t) (iblk m c 8 t) (ix2 r k) := by
  have hS : k0_pay3 (F := Ideal) (View.ld (iblk m c 1 t) (Rect.unit ![0, 0, 0] ![1, 512, 128] inb_S4x512x128_S1x512x128_0_0_0))
      (View.ld (iblk m c 1 t) (Rect.unit ![1, 0, 0] ![1, 512, 128] inb_S4x512x128_S1x512x128_1_0_0))
      (View.ld (iblk m c 1 t) (Rect.unit ![2, 0, 0] ![1, 512, 128] inb_S4x512x128_S1x512x128_2_0_0))
      (View.ld (iblk m c 1 t) (Rect.unit ![3, 0, 0] ![1, 512, 128] inb_S4x512x128_S1x512x128_3_0_0)) (iblk m c 7 t)
      = fun i : S512x512.Idx => s5At (ysRow (iblk m c 1 t) (i 0)) (fun j k => iblk m c 7 t (ix3 0 j k)) (i 1) := by
    funext i
    obtain ⟨r, k, rfl⟩ : ∃ (r : Fin 512) (k : Fin 512), i = ix2 r k := ⟨i 0, i 1, funext fun a => by match a with | ⟨0, _⟩ => rfl | ⟨1, _⟩ => rfl⟩
    exact pay3_apply _ _ r k
  unfold outsAt0
  frame_out
  refine (pay2_apply _ _ _ _).trans ?_
  unfold outBlk
  refine congrArg₂ (fun a s : EReal => a + s) rfl (Finset.sum_congr rfl fun j _ => congrArg₂ (fun a b : EReal => a * b) ?_ rfl)
  refine (congrFun (View.readCov_eq_canon' _ _ _) _).trans ?_
  refine Eq.trans ?_ ((congrArg (fun S => View.canon (stores (iblk m c 0 t) (iblk m c 2 t) (iblk m c 3 t) S (iblk m c 4 t) (iblk m c 6 t)) (ix2 r j)) hS).trans
    (stores_read _ _ _ _ _ _ _))
  refine congrArg (View.canon _) (funext fun a => Fin.ext ?_)
  match a with
  | ⟨0, _⟩ => simp
  | ⟨1, _⟩ => simp

end Cert.Proof.OutProj
-- ==== Proof.OutProj.Arr.lean ====
/-
  The output projection over its whole arrays: every block of its result is the same function of them.
-/
module

public import proofs.«01_k».proof.Proof.OutProj.Block

@[expose] public section

set_option maxRecDepth 16384

noncomputable section

namespace Cert.Proof.OutProj

open Idealize.ShloMosaic Idealize.ShloMosaic.TcCoe Idealize.ShloMosaic.Tactic
open Cert.Kernel3Ideal Cert.Kernel3Ideal.Gen
open Idealize.ShloMosaic.Pipeline (Dat Cfg Window)

/-- Row `r` of the S5 branch's four parts, as one row of 512. -/
def ysAll (x : S4x16384x128.Idx → EReal) (r : Fin 16384) (k : Fin 512) : EReal :=
  x (ix3 ⟨k.val / 128, by omega⟩ r ⟨k.val % 128, by omega⟩)

/-- The output projection at row `r` and column `c`. -/
def outAt (A : S16384x512.Idx → EReal) (ys : S4x16384x128.Idx → EReal) (C D : S16384x512.Idx → EReal) (p : S16384x6144.Idx → EReal)
    (x : S16384x2048.Idx → EReal) (g : Fin 2048 → EReal) (wg : Fin 512 → Fin 512 → EReal) (w : Fin 2048 → Fin 2048 → EReal)
    (r : Fin 16384) (c : Fin 2048) : EReal :=
  x (ix2 r c) + ∑ j : Fin 2048, lhsOf (rowOf (fun k => A (ix2 r k)) (s5At (ysAll ys r) wg) (fun k => C (ix2 r k)) (fun k => D (ix2 r k)))
    (g j) (p (ix2 r ⟨j.val, by omega⟩)) j * w j c

theorem idx0 : ∀ t : Fin cfg0.N, (win0_0.index t = ![(grid0.coords t 0).val, 0] ∧ win0_1.index t = ![0, (grid0.coords t 0).val, 0]
    ∧ win0_2.index t = ![(grid0.coords t 0).val, 0] ∧ win0_3.index t = ![(grid0.coords t 0).val, 0]
    ∧ win0_4.index t = ![(grid0.coords t 0).val, 0]) ∧ win0_5.index t = ![(grid0.coords t 0).val, 0]
    ∧ win0_6.index t = ![0, 0] ∧ win0_7.index t = ![0, 0, 0] ∧ win0_8.index t = ![0, 0, 0]
    ∧ win0_9.index t = ![(grid0.coords t 0).val, 0] :=
  (by decide +kernel : ∀ t : Fin grid0.N, _)

variable (m : (ℓ : Loc nD τ sig) → Buf (Elt Ideal) ℓ)

theorem read0 (c : Dev nD) (t : Fin cfg0.N) (r : Fin 512) (k : Fin 512) (R : Fin 16384) (hR : R.val = (grid0.coords t 0).val * 512 + r.val) :
    iblk m c 0 t (ix2 r k) = V m c main_arg0 (ix2 R k) := by
  blk_ext [iblk, (idx0 t).1.1]

theorem read1 (c : Dev nD) (t : Fin cfg0.N) (a : Fin 4) (r : Fin 512) (k : Fin 128) (R : Fin 16384)
    (hR : R.val = (grid0.coords t 0).val * 512 + r.val) : iblk m c 1 t (ix3 a r k) = V m c main_arg1 (ix3 a R k) := by
  blk_ext [iblk, (idx0 t).1.2.1]

theorem read2 (c : Dev nD) (t : Fin cfg0.N) (r : Fin 512) (k : Fin 512) (R : Fin 16384) (hR : R.val = (grid0.coords t 0).val * 512 + r.val) :
    iblk m c 2 t (ix2 r k) = V m c main_arg2 (ix2 R k) := by
  blk_ext [iblk, (idx0 t).1.2.2.1]

theorem read3 (c : Dev nD) (t : Fin cfg0.N) (r : Fin 512) (k : Fin 512) (R : Fin 16384) (hR : R.val = (grid0.coords t 0).val * 512 + r.val) :
    iblk m c 3 t (ix2 r k) = V m c main_arg3 (ix2 R k) := by
  blk_ext [iblk, (idx0 t).1.2.2.2.1]

theorem read4 (c : Dev nD) (t : Fin cfg0.N) (r : Fin 512) (k : Fin 2048) (R : Fin 16384) (hR : R.val = (grid0.coords t 0).val * 512 + r.val) :
    iblk m c 4 t (ix2 r k) = V m c main_arg4 (ix2 R ⟨k.val, by omega⟩) := by
  blk_ext [iblk, (idx0 t).1.2.2.2.2]

theorem read5 (c : Dev nD) (t : Fin cfg0.N) (r : Fin 512) (k : Fin 2048) (R : Fin 16384) (hR : R.val = (grid0.coords t 0).val * 512 + r.val) :
    iblk m c 5 t (ix2 r k) = V m c main_v0 (ix2 R k) := by
  blk_ext [iblk, (idx0 t).2.1]

theorem read6 (c : Dev nD) (t : Fin cfg0.N) (k : Fin 2048) : iblk m c 6 t (ix2 0 k) = V m c main_v3 (ix2 0 k) := by
  blk_ext [iblk, (idx0 t).2.2.1]

theorem read7 (c : Dev nD) (t : Fin cfg0.N) (j k : Fin 512) : iblk m c 7 t (ix3 0 j k) = V m c main_v4 (ix3 0 j k) := by
  blk_ext [iblk, (idx0 t).2.2.2.1]

theorem read8 (c : Dev nD) (t : Fin cfg0.N) (j k : Fin 2048) : iblk m c 8 t (ix3 0 j k) = V m c main_v5 (ix3 0 j k) := by
  blk_ext [iblk, (idx0 t).2.2.2.2.1]

/-- The block of point `t`, in terms of the whole arrays. -/
theorem point_all (c : Dev nD) (t : Fin cfg0.N) (r : Fin 512) (k : Fin 2048) (R : Fin 16384)
    (hR : R.val = (grid0.coords t 0).val * 512 + r.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 0 j k)) (fun j k => V m c main_v5 (ix3 0 j k)) R k := by
  rw [point]
  have hy : ysRow (iblk m c 1 t) r = ysAll (V m c main_arg1) R := funext fun k => read1 m c t _ r _ R hR
  have hrow : blockRow (iblk m c 0 t) (fun i => s5At (ysRow (iblk m c 1 t) (i 0)) (fun j k => iblk m c 7 t (ix3 0 j k)) (i 1)) (iblk m c 2 t) (iblk m c 3 t) r
      = rowOf (fun k => V m c main_arg0 (ix2 R k)) (s5At (ysAll (V m c main_arg1) R) (fun j k => V m c main_v4 (ix3 0 j k)))
        (fun k => V m c main_arg2 (ix2 R k)) (fun k => V m c main_arg3 (ix2 R k)) := by
    unfold blockRow
    rw [funext fun k => read0 m c t r k R hR, funext fun k => read2 m c t r k R hR, funext fun k => read3 m c t r k R hR]
    refine congrArg (fun b => rowOf _ b _ _) ?_
    show s5At (ysRow (iblk m c 1 t) r) (fun j k => iblk m c 7 t (ix3 0 j k)) = _
    rw [hy, funext fun j => funext fun k => read7 m c t j k]
  refine congrArg₂ (fun a s : EReal => a + s) (read5 m c t r k R hR) (Finset.sum_congr rfl fun j _ => congrArg₂ (fun a b : EReal => a * b) ?_ (read8 m c t j k))
  show lhsOf (blockRow _ _ _ _ r) (iblk m c 6 t (ix2 0 j)) (iblk m c 4 t (ix2 r j)) j = _
  rw [hrow, read6, read4 m c t r j R hR]

theorem point_all' (c : Dev nD) (t : Fin cfg0.N) (r : Fin 512) (k : Fin 2048) (R : Fin 16384) (C : Fin 2048)
    (hR : R.val = (grid0.coords t 0).val * 512 + r.val) (hC : C.val = k.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 0 j k)) (fun j k => V m c main_v5 (ix3 0 j k)) R C := by
  obtain rfl : C = k := Fin.ext hC
  exact point_all m c t r C R hR

theorem arr9 (c : Dev nD) : (dats m 0 c).arrAt 9 cfg0.N = fun i : S16384x2048.Idx =>
    outAt (V m c main_arg0) (V m c main_arg1) (V m c main_arg2) (V m c main_arg3) (V m c main_arg4) (V m c main_v0)
      (fun k => V m c main_v3 (ix2 0 k)) (fun j k => V m c main_v4 (ix3 0 j k)) (fun j k => V m c main_v5 (ix3 0 j k)) (i 0) (i 1) := by
  refine (dats m 0 c).arrAt_eq_of_covers 9 _ (by decide +kernel) fun t hf y => ?_
  obtain ⟨r, k, rfl⟩ : ∃ (r : Fin 512) (k : Fin 2048), y = ix2 r k := ⟨y 0, y 1, funext fun a => by match a with | ⟨0, _⟩ => rfl | ⟨1, _⟩ => rfl⟩
  blk_simp
  rw [after0_9]
  refine point_all' m c t r k _ _ ?_ ?_
  all_goals
    simp [(idx0 t).2.2.2.2.2]

/-- The rows of the residual argument. -/
def rows (x : S4x4096x2048.Idx → EReal) : S16384x2048.Idx → EReal :=
  shapeCast S16384x2048 x shapeCasts_S4x4096x2048_S16384x2048

theorem entry_rows (c : Dev nD) : V m c main_v0 = rows (m ((c : Thread nD τ).loc main_arg5)) := by
  unfold_abbrev_sides
  after_results
  rfl

theorem entry_gain (c : Dev nD) (k : Fin 2048) :
    (V m c main_v3 : S1x2048.Idx → EReal) (ix2 0 k) = (m ((c : Thread nD τ).loc main_arg6) : S4x2048.Idx → EReal) (ix2 0 k) := by
  unfold_abbrev_sides
  after_results
  pointwise

theorem entry_glu (c : Dev nD) : V m c main_v4 = m ((c : Thread nD τ).loc main_arg7) := by
  unfold_abbrev_sides
  after_results
  rfl

theorem entry_weights (c : Dev nD) : V m c main_v5 = m ((c : Thread nD τ).loc main_arg8) := by
  unfold_abbrev_sides
  after_results
  rfl

end Cert.Proof.OutProj

end
-- ==== Proof.OutProj.Ref.lean ====
/-
  The reference's result, read at an index, stage by stage.
-/
module

public import proofs.«01_k».proof.Proof.OutProj.Arr
public import proofs.«01_k».proof.Proof.Gen.Reference3Ideal.Run
public import proofs.«01_k».proof.Proof.Gen.Reference3Ideal.Read
public import Idealize.ShloMosaic.Lib.KernelVsHost

@[expose] public section

set_option maxRecDepth 16384

noncomputable section

namespace Cert.Proof.OutProj

open Idealize.ShloMosaic Idealize.ShloMosaic.TcCoe Idealize.ShloMosaic.Tactic
open Cert.Reference3Ideal Cert.Reference3Ideal.Gen Cert.Reference3Ideal.Read

variable (x0 : S16384x512.Idx → EReal) (x1 : S4x16384x128.Idx → EReal) (x2 x3 : S16384x512.Idx → EReal) (x4 : S16384x6144.Idx → EReal)
  (x5 : S4x4096x2048.Idx → EReal) (x6 : S4x2048.Idx → EReal) (x7 : S4x512x512.Idx → EReal) (x8 : S4x2048x2048.Idx → EReal)

theorem ref_ys (r : Fin 16384) (k : Fin 512) : val_main_v1 (F := Ideal) x1 (ix2 r k) = ysAll x1 r k := by
  rw [val_main_v1_apply, val_main_v0_apply]
  refine congrArg x1 (funext fun a => Fin.ext ?_)
  have hr := r.isLt
  have hk := k.isLt
  match a with
  | ⟨0, _⟩ => show (r.val * 512 + k.val) / 128 % 4 = k.val / 128; omega
  | ⟨1, _⟩ => show (r.val * 512 + k.val) / 512 = r.val; omega
  | ⟨2, _⟩ => show (r.val * 512 + k.val) % 128 = k.val % 128; omega

theorem ref_gelu (r : Fin 16384) (k : Fin 512) : val_main_v14 (F := Ideal) x1 (ix2 r k) = gelu (ysAll x1 r k) := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, ref_ys]
  simp only [val_main_cst_apply, val_main_cst_0_apply, val_main_cst_1_apply, val_main_cst_2_apply, Ideal.mulf_def, Ideal.addf_def,
    Ideal.hostUnary_tanh_def, Ideal.ofBits_def, Ideal.ofBits_one_f32]
  unfold gelu
  rw [mul_comm (ysAll x1 r k * ysAll x1 r k) (ysAll x1 r k)]

theorem ref_s5 (r : Fin 16384) (k : Fin 512) :
    val_main_v24 (F := Ideal) x1 x7 (ix2 r k) = s5At (ysAll x1 r) (fun j k => x7 (ix3 0 j k)) k := by
  have hd : val_main_v17 (F := Ideal) x1 x7 (ix2 r k) = ∑ j : Fin 512, gelu (ysAll x1 r j) * x7 (ix3 0 j k) := by
    rw [val_main_v17_apply]
    refine Finset.sum_congr rfl fun j _ => ?_
    rw [val_main_v16_apply, val_main_v15_apply, ← ref_gelu]
    have e : lidx_main_v17 (ix2 r k) j = ix2 r j := funext fun a => Fin.ext (by
      match a with
      | ⟨0, _⟩ => rfl
      | ⟨1, _⟩ => rfl)
    have e' : idx_main_v15 (idx_main_v16 (ridx_main_v17 (ix2 r k) j)) = ix3 0 j k := funext fun a => Fin.ext (by
      have hk := k.isLt
      have hj := j.isLt
      match a with
      | ⟨0, _⟩ => rfl
      | ⟨1, _⟩ => show (j.val * 512 + k.val) / 512 % 512 = j.val; omega
      | ⟨2, _⟩ => show (j.val * 512 + k.val) % 512 = k.val; omega)
    rw [e, e']
  rw [val_main_v24_apply, val_main_v23_apply, val_main_v22_apply, val_main_v21_apply, val_main_v20_apply, val_main_v19_apply, val_main_v18_apply,
    hd, ref_gelu]
  simp only [val_main_cst_3_apply, val_main_cst_4_apply, Ideal.mulf_def, Ideal.addf_def, Ideal.ofBits_def, Ideal.ofBits_one_f32]
  rfl

/-- The four branches' row `r`. -/
def refRow (r : Fin 16384) : Fin 2048 → EReal :=
  rowOf (fun k => x0 (ix2 r k)) (s5At (ysAll x1 r) (fun j k => x7 (ix3 0 j k))) (fun k => x2 (ix2 r k)) (fun k => x3 (ix2 r k))

/-- Four arrays of 512 columns side by side, at an index. -/
theorem cat_four (A B C D : Vec Ideal S16384x512 .f32) (r : Fin 16384) (c : Fin 2048) :
    concatenate S16384x2048 1 [⟨S16384x512, A⟩, ⟨S16384x512, B⟩, ⟨S16384x512, C⟩, ⟨S16384x512, D⟩]
      concatenates_S16384x512_S16384x512_S16384x512_S16384x512_S16384x2048_d1 (ix2 r c)
      = rowOf (fun k => A (ix2 r k)) (fun k => B (ix2 r k)) (fun k => C (ix2 r k)) (fun k => D (ix2 r k)) c := by
  pointwise
  split_ifs
  all_goals first
    | exact (rowOf_0 (fun k => A (ix2 r k)) (fun k => B (ix2 r k)) (fun k => C (ix2 r k)) (fun k => D (ix2 r k)) c ⟨c.val, by omega⟩
      rfl).symm
    | exact (rowOf_1 (fun k => A (ix2 r k)) (fun k => B (ix2 r k)) (fun k => C (ix2 r k)) (fun k => D (ix2 r k)) c ⟨c.val - 512, by omega⟩
      (by show c.val = 512 + (c.val - 512); omega)).symm
    | exact (rowOf_2 (fun k => A (ix2 r k)) (fun k => B (ix2 r k)) (fun k => C (ix2 r k)) (fun k => D (ix2 r k)) c ⟨c.val - 512 - 512, by omega⟩
      (by show c.val = 1024 + (c.val - 512 - 512); omega)).symm
    | exact (rowOf_3 (fun k => A (ix2 r k)) (fun k => B (ix2 r k)) (fun k => C (ix2 r k)) (fun k => D (ix2 r k)) c ⟨c.val - 512 - 512 - 512, by omega⟩
      (by show c.val = 1536 + (c.val - 512 - 512 - 512); omega)).symm

theorem ref_row (r : Fin 16384) (c : Fin 2048) : val_main_v28 (F := Ideal) x0 x1 x2 x3 x7 (ix2 r c) = refRow x0 x1 x2 x3 x7 r c := by
  unfold val_main_v28 refRow
  refine (cat_four _ _ _ _ r c).trans ?_
  rw [funext fun k => ref_s5 x1 x7 r k]
  rfl

theorem ref_head (r : Fin 16384) (c : Fin 2048) (i : S16384x16x128.Idx) (h0 : (i 0).val = r.val) (h1 : (i 1).val * 128 + (i 2).val = c.val) :
    val_main_v29 (F := Ideal) x0 x1 x2 x3 x7 i = refRow x0 x1 x2 x3 x7 r c := by
  rw [val_main_v29_apply, ← ref_row]
  refine congrArg _ (funext fun a => Fin.ext ?_)
  have h1' : (i 1).val < 16 := (i 1).isLt
  have h2' : (i 2).val < 128 := (i 2).isLt
  match a with
  | ⟨0, _⟩ => show (((i 0).val * 16 + (i 1).val) * 128 + (i 2).val) / 2048 = r.val; omega
  | ⟨1, _⟩ => show (((i 0).val * 16 + (i 1).val) * 128 + (i 2).val) % 2048 = c.val; omega

theorem ref_gate (r : Fin 16384) (c : Fin 2048) :
    val_main_v50 (F := Ideal) x4 (ix2 r c) = x4 (ix2 r ⟨c.val, by omega⟩) * Ideal.logistic (x4 (ix2 r ⟨c.val, by omega⟩)) := by
  have hz : val_main_v47 (F := Ideal) x4 (ix2 r c) = x4 (ix2 r ⟨c.val, by omega⟩) := by
    rw [val_main_v47_apply, val_main_v46_apply]
    refine congrArg x4 (funext fun a => Fin.ext ?_)
    match a with
    | ⟨0, _⟩ => rfl
    | ⟨1, _⟩ => rfl
  rw [val_main_v50_apply, val_main_call0_v5_apply, val_main_call0_v4_apply, val_main_call0_v3_apply, val_main_call0_v2_apply,
    val_main_call0_v1_apply, val_main_call0_v0_apply, hz]
  simp only [val_main_call0_cst_apply, val_main_call0_cst_0_apply, Ideal.mulf_def, Ideal.addf_def, Ideal.ofBits_def, Ideal.ofBits_one_f32]
  rfl

theorem ref_gain (r : Fin 16384) (c : Fin 2048) : val_main_v44 (F := Ideal) x6 (idx_main_v49 (ix2 r c)) = x6 (ix2 0 c) := by
  rw [val_main_v44_apply, val_main_v43_apply, val_main_v42_apply, val_main_v41_apply, val_main_v40_apply]
  refine congrArg x6 (funext fun a => Fin.ext ?_)
  have hc := c.isLt
  match a with
  | ⟨0, _⟩ => rfl
  | ⟨1, _⟩ => show ((r.val * 2048 + c.val) / 128 % 16 * 128 + (r.val * 2048 + c.val) % 128) % 2048 = c.val; omega

theorem ref_lhs (r : Fin 16384) (c : Fin 2048) :
    val_main_v51 (F := Ideal) x0 x1 x2 x3 x4 x6 x7 (ix2 r c) = lhsOf (refRow x0 x1 x2 x3 x7 r) (x6 (ix2 0 c)) (x4 (ix2 r ⟨c.val, by omega⟩)) c := by
  have hc := c.isLt
  rw [val_main_v51_apply, val_main_v49_apply, val_main_v45_apply, ref_gain, val_main_v39_apply, val_main_v38_apply, val_main_v37_apply,
    val_main_v36_apply, val_main_v35_apply, val_main_v34_apply, val_main_v33_apply, val_main_v32_apply, val_main_v31_apply, ref_gate,
    ref_head x0 x1 x2 x3 x7 r c _ (by show (r.val * 2048 + c.val) / 2048 = r.val; omega)
      (by show (r.val * 2048 + c.val) / 128 % 16 * 128 + (r.val * 2048 + c.val) % 128 = c.val; omega)]
  have hs : ∀ j : Fin 128, val_main_v30 (F := Ideal) x0 x1 x2 x3 x7 (idx_main_v31 (idx_main_v32 (idx_main_v38 (idx_main_v49 (ix2 r c)))) j)
      = refRow x0 x1 x2 x3 x7 r ⟨c.val / 128 * 128 + j.val, by omega⟩ * refRow x0 x1 x2 x3 x7 r ⟨c.val / 128 * 128 + j.val, by omega⟩ := fun j => by
    rw [val_main_v30_apply, ref_head x0 x1 x2 x3 x7 r ⟨c.val / 128 * 128 + j.val, by omega⟩ _ (by show (r.val * 2048 + c.val) / 2048 = r.val; omega)
      (by show (r.val * 2048 + c.val) / 128 % 16 * 128 + j.val = c.val / 128 * 128 + j.val; omega)]
    rfl
  simp only [hs, val_main_cst_5_apply, val_main_cst_6_apply, val_main_cst_7_apply, Ideal.mulf_def, Ideal.addf_def, Ideal.hostUnary_rsqrt_def,
    Ideal.hostDivf_def, Ideal.ofBits_def, Ideal.ofBits_zero_f32, zero_add]
  rfl

/-- The reference's result is the output projection. -/
theorem ref_out (r : Fin 16384) (c : Fin 2048) :
    val_main_v55 (F := Ideal) x0 x1 x2 x3 x4 x5 x6 x7 x8 (ix2 r c)
      = outAt x0 x1 x2 x3 x4 (rows x5) (fun k => x6 (ix2 0 k)) (fun j k => x7 (ix3 0 j k)) (fun j k => x8 (ix3 0 j k)) r c := by
  rw [val_main_v55_apply, val_main_v54_apply]
  unfold outAt
  refine congrArg₂ (fun a s : EReal => a + s) rfl (Finset.sum_congr rfl fun j _ => congrArg₂ (fun a b : EReal => a * b) ?_ ?_)
  · refine Eq.trans (congrArg _ (funext fun a => Fin.ext ?_)) (ref_lhs x0 x1 x2 x3 x4 x6 x7 r j)
    match a with
    | ⟨0, _⟩ => rfl
    | ⟨1, _⟩ => rfl
  · rw [val_main_v53_apply, val_main_v52_apply]
    refine congrArg x8 (funext fun a => Fin.ext ?_)
    have hc := c.isLt
    have hj := j.isLt
    match a with
    | ⟨0, _⟩ => rfl
    | ⟨1, _⟩ => show (j.val * 2048 + c.val) / 2048 % 2048 = j.val; omega
    | ⟨2, _⟩ => show (j.val * 2048 + c.val) % 2048 = c.val; omega

end Cert.Proof.OutProj

end
-- ==== Proof.OutProj.Claim.lean ====
module

public import proofs.«01_k».proof.Defs
public import proofs.«01_k».proof.Proof.OutProj.Ref
public import proofs.«01_k».proof.Proof.Gen.Kernel3Ideal.Value
public import Idealize.ShloMosaic.Lib.Quiescent

/-! The output projection: the kernel's result is the reference's. -/

@[expose] public section

set_option maxRecDepth 16384

noncomputable section

namespace Cert.Proof.OutProj

open Idealize.ShloMosaic Idealize.ShloMosaic.TcCoe Idealize.ShloMosaic.Tactic Idealize.SL.Sem

/-- The reference leaves its arguments unchanged, and has no semaphore. -/
theorem frame_reference : Cert.quiescent_Reference3Ideal := fun m ρ _ =>
  (θ_run _ _ _).mono (fun _ h => ⟨fun c => (h c).2, sem_eq_zero_of_no_sems rfl _⟩) (Cert.Reference3Ideal.Value.run m ρ)

theorem algebraic : Cert.algebraic_Kernel3Ideal_Reference3Ideal := by
  intro m g m' g' _ hag
  refine ⟨_, Cert.Kernel3Ideal.Value.run_blocks m g, (θ_run _ _ _).mono (fun _ h c => ?_) (Cert.Reference3Ideal.Value.run m' g')⟩
  obtain ⟨h0, hargs⟩ := h c
  obtain ⟨a0, a1, a2, a3, a4, a5, a6, a7, a8⟩ := hag c
  refine ⟨h0.trans ?_, hargs⟩
  rw [Cert.Reference3Ideal.Read.val_main_v55_eq, a0, a1, a2, a3, a4, a5, a6, a7, a8, arr9]
  funext i
  obtain ⟨r, k, rfl⟩ : ∃ (r : Fin 16384) (k : Fin 2048), i = Idealize.ShloMosaic.ix2 r k :=
    ⟨i 0, i 1, funext fun a => by match a with | ⟨0, _⟩ => rfl | ⟨1, _⟩ => rfl⟩
  refine (ref_out _ _ _ _ _ _ _ _ _ r k).trans ?_
  rw [entry_rows, entry_glu, entry_weights, funext (entry_gain m c)]
  rfl

end Cert.Proof.OutProj

end
-- ==== Proof.InProj.L1.Perm.lean ====
/-
  The weight permutation call, as the program of layer 1 makes it: the array it leaves is the input weights with their columns in the
  order of the projection's output blocks, and zero in the padding columns.
-/
module

public import proofs.«01_k».proof.Proof.InProj.Perm
public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj.L1

open Idealize.ShloMosaic Idealize.ShloMosaic.TcCoe Idealize.ShloMosaic.Tactic
open Cert.Kernel4Ideal Cert.Kernel4Ideal.Gen
open Idealize.ShloMosaic.Pipeline (Dat Cfg Window)

theorem idx0 : ∀ t : Fin cfg0.N, win0_0.index t = ![(grid0.coords t 0).val, 0, (grid0.coords t 1).val]
    ∧ win0_1.index t = ![(grid0.coords t 0).val, 0, (grid0.coords t 1).val] :=
  (by decide +kernel : ∀ t : Fin grid0.N, _)

variable (V : (c : Dev nD) → (b : Ref sig .tc) → Buf (Elt Ideal) ((c : Thread nD τ).loc b))

/-- A block of the weights at an index, as the permuted weights where they hold it. -/
theorem block_read (c : Dev nD) (t : Fin cfg0.N) (z : S1x5984x256.Idx) (i : S4x6144x2048.Idx)
    (hi0 : (i 0).val = (grid0.coords t 0).val) (hi1 : (i 1).val < 5984) (hz1 : (z 1).val = src (i 1).val)
    (hi2 : (i 2).val = (grid0.coords t 1).val * 256 + (z 2).val) :
    iblk0 V c 0 t z = permW (V c main_v4) i := by
  unfold permW
  rw [if_pos hi1]
  have hz0 : (z 0).val < 1 := (z 0).isLt
  blk_ext [iblk0, (idx0 t).1]

theorem perm_point (c : Dev nD) (t : Fin cfg0.N) (y : S1x6144x256.Idx) (i : S4x6144x2048.Idx)
    (hi0 : (i 0).val = (grid0.coords t 0).val) (hi1 : (i 1).val = (y 1).val)
    (hi2 : (i 2).val = (grid0.coords t 1).val * 256 + (y 2).val) :
    outsAt0 V c t y = permW (V c main_v4) i := by
  unfold outsAt0
  frame_out
  canon_tiles x h using (View.cover_of_tiledBy _ ![1, 16, 256] (by sl_kernel_rfl) y)
  · unfold_payloads
    pointwise
    unfold permW
    rw [if_neg (by omega)]
  all_goals
    unfold_payloads
    pointwise
    refine block_read V c t _ i hi0 (by omega) ?_ (by show _ = _ + (x 2).val; omega)
    rw [hi1, h1]
    unfold src
    repeat rw [if_neg (by omega)]
    try rw [if_pos (by omega)]
    simp

theorem perm_arr (c : Dev nD) : (dat0 V c).arrAt 1 cfg0.N = permW (V c main_v4) := by
  refine (dat0 V c).arrAt_eq_of_covers 1 _ (by decide +kernel) fun t hf y => ?_
  blk_simp
  rw [after0_1]
  refine perm_point V c t y _ ?_ ?_ ?_
  · blk_simp [(idx0 t).2]
  · blk_simp [(idx0 t).2]
  · blk_simp [(idx0 t).2]

end Cert.Proof.InProj.L1

end
-- ==== Proof.InProj.L1.Proj.lean ====
/-
  The projection call of layer 1: each block of rows of its first result is the normalized rows against the
  permuted weights, and its second result is the S5 branch's columns of that product, head by head.
-/
module

public import proofs.«01_k».proof.Proof.InProj.Proj
public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj.L1

open Idealize.ShloMosaic Idealize.ShloMosaic.TcCoe Idealize.ShloMosaic.Tactic
open Cert.Kernel4Ideal Cert.Kernel4Ideal.Gen
open Idealize.ShloMosaic.Pipeline (Dat Cfg Window)

theorem idx1 : ∀ t : Fin cfg1.N, win1_0.index t = ![(grid1.coords t 0).val, 0]
    ∧ win1_1.index t = ![0, 0] ∧ win1_2.index t = ![1, 0, 0]
    ∧ win1_3.index t = ![(grid1.coords t 0).val, 0] ∧ win1_4.index t = ![0, (grid1.coords t 0).val, 0] :=
  (by decide +kernel : ∀ t : Fin grid1.N, _)

/-- The normalized row `r` against row `c` of layer 1 of the permuted weights. -/
def projAt (X : S16384x2048.Idx → EReal) (g : S1x2048.Idx → EReal) (w : S4x6144x2048.Idx → EReal) (r : Fin 16384) (c : Fin 6144) : EReal :=
  ∑ k : Fin 2048, norm X g r k * w (ix3 1 c k)

theorem pay1_apply (x : Vec Ideal S512x2048 .f32) (g : Vec Ideal S1x2048 .f32) (r : Fin 512) (k : Fin 2048) :
    k1_pay1 x g (ix2 r k) = x (ix2 r k) * Ideal.rsqrt (Ideal.div (∑ j : Fin 2048, x (ix2 r j) * x (ix2 r j)) (Ideal.ofBits FTy.f32 0x45000000#32)
      + Ideal.ofBits FTy.f32 0x358637BD#32) * g (ix2 0 k) := by
  unfold_payloads
  pointwise

variable (V : (c : Dev nD) → (b : Ref sig .tc) → Buf (Elt Ideal) ((c : Thread nD τ).loc b))

theorem read0 (c : Dev nD) (t : Fin cfg1.N) (r : Fin 512) (k : Fin 2048) (R : Fin 16384)
    (hR : R.val = (grid1.coords t 0).val * 512 + r.val) :
    iblk1 V c 0 t (ix2 r k) = V c main_v0 (ix2 R k) := by
  blk_ext [iblk1, (idx1 t).1]

theorem read1 (c : Dev nD) (t : Fin cfg1.N) (k : Fin 2048) :
    iblk1 V c 1 t (ix2 0 k) = V c main_v3 (ix2 0 k) := by
  blk_ext [iblk1, (idx1 t).2.1]

theorem read2 (c : Dev nD) (t : Fin cfg1.N) (a : Fin 6144) (k : Fin 2048) :
    iblk1 V c 2 t (ix3 0 a k) = V c main_v5 (ix3 1 a k) := by
  blk_ext [iblk1, (idx1 t).2.2.1]

theorem norm_block (c : Dev nD) (t : Fin cfg1.N) (r : Fin 512) (k : Fin 2048) (R : Fin 16384)
    (hR : R.val = (grid1.coords t 0).val * 512 + r.val) :
    k1_pay1 (F := Ideal) (iblk1 V c 0 t) (iblk1 V c 1 t) (ix2 r k) = norm (V c main_v0) (V c main_v3) R k := by
  rw [pay1_apply]
  unfold norm
  simp only [read0 V c t r _ R hR, read1]

/-- A sum over the normalized block and the block of weights, as the sum of the whole arrays. -/
theorem sum_block (c : Dev nD) (t : Fin cfg1.N) (r : Fin 512) (R : Fin 16384) (a a' : Fin 6144)
    (hR : R.val = (grid1.coords t 0).val * 512 + r.val) (ha : a = a') :
    (∑ k : Fin 2048, k1_pay1 (F := Ideal) (iblk1 V c 0 t) (iblk1 V c 1 t) (ix2 r k) * iblk1 V c 2 t (ix3 0 a k))
      = projAt (V c main_v0) (V c main_v3) (V c main_v5) R a' := by
  subst ha
  refine Finset.sum_congr rfl fun k _ => ?_
  rw [norm_block V c t r k R hR, read2]

theorem proj_point3 (c : Dev nD) (t : Fin cfg1.N) (y : S512x6144.Idx) (R : Fin 16384) (C : Fin 6144)
    (hR : R.val = (grid1.coords t 0).val * 512 + (y 0).val) (hC : C.val = (y 1).val) :
    (outsAt1 V c t).1 y = projAt (V c main_v0) (V c main_v3) (V c main_v5) R C := by
  unfold outsAt1
  dsimp only
  frame_out
  canon_tiles x h
  all_goals
    refine Eq.trans ?_ (sum_block V c t (x 0) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 0) k) * iblk1 V c 2 t (ix3 0 a k)) (Fin.ext ?_)
    rw [hC, h1]
    try simp

theorem proj_point4 (c : Dev nD) (t : Fin cfg1.N) (y : S4x512x128.Idx) (R : Fin 16384) (C : Fin 6144)
    (hR : R.val = (grid1.coords t 0).val * 512 + (y 1).val) (hC : C.val = 3584 + (y 0).val * 128 + (y 2).val) :
    (outsAt1 V c t).2 y = projAt (V c main_v0) (V c main_v3) (V c main_v5) R C := by
  unfold outsAt1
  dsimp only
  frame_out
  canon_tiles x h
  all_goals
    refine Eq.trans ?_ (sum_block V c t (x 1) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 1) k) * iblk1 V c 2 t (ix3 0 a k)) (Fin.ext ?_)
    show _ + _ = C.val
    omega

/-- The projection, an array of 16384 rows. -/
def projArr (X : S16384x2048.Idx → EReal) (g : S1x2048.Idx → EReal) (w : S4x6144x2048.Idx → EReal) : S16384x6144.Idx → EReal :=
  fun i => projAt X g w (i 0) (i 1)

/-- Columns 3584 to 4096 of the projection, in four parts of 128. -/
def partsArr (X : S16384x2048.Idx → EReal) (g : S1x2048.Idx → EReal) (w : S4x6144x2048.Idx → EReal) : S4x16384x128.Idx → EReal :=
  fun i => projAt X g w (i 1) ⟨3584 + (i 0).val * 128 + (i 2).val, by
    have h0 : (i 0).val < 4 := (i 0).isLt
    have h2 : (i 2).val < 128 := (i 2).isLt
    omega⟩

theorem proj_arr (c : Dev nD) :
    (dat1 V c).arrAt 3 cfg1.N = projArr (V c main_v0) (V c main_v3) (V c main_v5) := by
  refine (dat1 V c).arrAt_eq_of_covers 3 _ (by decide +kernel) fun t hf y => ?_
  blk_simp
  rw [after1_3]
  refine proj_point3 V c t y _ _ ?_ ?_
  all_goals
    simp [(idx1 t).2.2.2.1]

theorem parts_arr (c : Dev nD) :
    (dat1 V c).arrAt 4 cfg1.N = partsArr (V c main_v0) (V c main_v3) (V c main_v5) := by
  refine (dat1 V c).arrAt_eq_of_covers 4 _ (by decide +kernel) fun t hf y => ?_
  blk_simp
  rw [after1_4]
  refine proj_point4 V c t y _ _ ?_ ?_
  all_goals
    simp [(idx1 t).2.2.2.2]

end Cert.Proof.InProj.L1

end
-- ==== Proof.InProj.L1.Run.lean ====
module

public import proofs.«01_k».proof.Proof.InProj.Run
public import proofs.«01_k».proof.Proof.InProj.L1.Perm
public import proofs.«01_k».proof.Proof.InProj.L1.Proj
public import Idealize.ShloMosaic.Lib.Claim

/-! The run of the input projection of layer 1: its two results as functions of its arguments. -/

@[expose] public section

set_option maxRecDepth 16384

noncomputable section

namespace Cert.Proof.InProj.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

theorem entry_rows (c : Dev nD) : V1 m ρ c main_v0 = rows (m ((c : Thread nD τ).loc main_arg0)) := by
  unfold_abbrev_sides
  after_results
  rfl

theorem entry_gain (c : Dev nD) (k : Fin 2048) :
    (V1 m ρ c main_v3 : S1x2048.Idx → EReal) (ix2 0 k) = (m ((c : Thread nD τ).loc main_arg1) : S4x2048.Idx → EReal) (ix2 1 k) := by
  unfold_abbrev_sides
  after_results
  pointwise

theorem entry_weights (c : Dev nD) (l : Fin 4) (j : Fin 5984) (k : Fin 2048) :
    (V1 m ρ c main_v4 : S4x5984x2048.Idx → EReal) (ix3 l j k) = (m ((c : Thread nD τ).loc main_arg2) : S4x2048x5984.Idx → EReal) (ix3 l k j) := by
  unfold_abbrev_sides
  after_results
  pointwise

theorem end_proj (c : Dev nD) : W3 m ρ c (Proc.devRef .tc main_v6_0)
    = projArr (V1 m ρ c main_v0) (V1 m ρ c main_v3) (permW (V1 m ρ c main_v4)) := by
  refine (W3_arr m ρ c 3).trans ?_
  rw [proj_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

theorem end_parts (c : Dev nD) : W3 m ρ c (Proc.devRef .tc main_v6_1)
    = partsArr (V1 m ρ c main_v0) (V1 m ρ c main_v3) (permW (V1 m ρ c main_v4)) := by
  refine (W3_arr m ρ c 4).trans ?_
  rw [parts_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

/-- The run: both results, and the arguments as they were. -/
theorem run : θ_run defs (onTc (τ := τ) (main (F := Ideal))) ⟨m, fun _ => 0, ρ⟩ (fun r => ∀ c : Dev nD,
      r.2.mem ((c.tc : Thread nD τ).loc main_v6_0) = projArr (V1 m ρ c main_v0) (V1 m ρ c main_v3) (permW (V1 m ρ c main_v4))
      ∧ r.2.mem ((c.tc : Thread nD τ).loc main_v6_1) = partsArr (V1 m ρ c main_v0) (V1 m ρ c main_v3) (permW (V1 m ρ c main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6_0 (by decide))).trans (end_proj m ρ c),
     (h c _ (mem_uc main_v6_1 (by decide))).trans (end_parts m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_bound m ρ)

end Cert.Proof.InProj.L1

end
-- ==== Proof.InProj.L1.Ref.lean ====
module

public import proofs.«01_k».proof.Proof.InProj.L1.Perm
public import proofs.«01_k».proof.Proof.InProj.L1.Proj
public import proofs.«01_k».proof.Proof.Gen.Reference4Ideal.Run
public import proofs.«01_k».proof.Proof.Gen.Reference4Ideal.Read
public import proofs.«01_k».proof.Proof.InProj.Ref
public import Idealize.ShloMosaic.Lib.KernelVsHost

/-! The two results of the reference of layer 1, read at an index. -/

@[expose] public section

set_option maxRecDepth 16384

noncomputable section

namespace Cert.Proof.InProj.L1

open Idealize.ShloMosaic Idealize.ShloMosaic.TcCoe Idealize.ShloMosaic.Tactic
open Cert.Reference4Ideal Cert.Reference4Ideal.Gen Cert.Reference4Ideal.Read

variable (x0 : S4x4096x2048.Idx → EReal) (x1 : S4x2048.Idx → EReal) (x2 : S4x2048x5984.Idx → EReal)

theorem ref_norm (g : S1x2048.Idx → EReal) (hg : ∀ k : Fin 2048, g (ix2 0 k) = x1 (ix2 1 k)) (r : Fin 16384) (k : Fin 2048) :
    val_main_v15 (F := Ideal) x0 x1 (ix2 r k) = norm (val_main_v0 (F := Ideal) x0) g r k := by
  unfold norm
  rw [hg]
  rw [val_main_v15_apply, val_main_v10_apply, val_main_v9_apply, val_main_v8_apply, val_main_v7_apply, val_main_v5_apply, val_main_v3_apply,
    val_main_v2_apply, val_main_v14_apply, val_main_v13_apply, val_main_v12_apply, val_main_v11_apply, val_main_v4_apply, val_main_v6_apply]
  simp only [val_main_v1_apply, val_main_cst_apply, val_main_cst_0_apply, val_main_cst_1_apply]
  generalize val_main_v0 (F := Ideal) x0 = X
  have e : idx_main_v11 (idx_main_v12 (idx_main_v13 (idx_main_v14 (ix2 r k)))) = ix2 1 k :=
    funext fun a => Fin.ext (by
      match a with
      | ⟨0, _⟩ => rfl
      | ⟨1, _⟩ => exact Nat.mod_eq_of_lt k.isLt)
  have e' : ∀ j : Fin 2048, idx_main_v2 (idx_main_v3 (idx_main_v9 (ix2 r k))) j = ix2 r j := fun j =>
    funext fun a => Fin.ext (by
      match a with
      | ⟨0, _⟩ => rfl
      | ⟨1, _⟩ => rfl)
  rw [e]
  simp only [e', Ideal.mulf_def, Ideal.addf_def, Ideal.hostUnary_rsqrt_def, Ideal.hostDivf_def, Ideal.ofBits_def, Ideal.ofBits_zero_f32, zero_add]

theorem ref_dot (g : S1x2048.Idx → EReal) (hg : ∀ k : Fin 2048, g (ix2 0 k) = x1 (ix2 1 k)) (r : Fin 16384) (j : Fin 5984) :
    val_main_v18 (F := Ideal) x0 x1 x2 (ix2 r j) = ∑ k : Fin 2048, norm (val_main_v0 (F := Ideal) x0) g r k * x2 (ix3 1 k j) := by
  rw [val_main_v18_apply]
  refine Finset.sum_congr rfl fun k _ => ?_
  rw [val_main_v17_apply, val_main_v16_apply, ← ref_norm x0 x1 g hg]
  have e : lidx_main_v18 (ix2 r j) k = ix2 r k := funext fun a => Fin.ext (by
    match a with
    | ⟨0, _⟩ => rfl
    | ⟨1, _⟩ => rfl)
  have e' : idx_main_v16 (idx_main_v17 (ridx_main_v18 (ix2 r j) k)) = ix3 1 k j := funext fun a => Fin.ext (by
    have hk := k.isLt
    have hj := j.isLt
    match a with
    | ⟨0, _⟩ => rfl
    | ⟨1, _⟩ => show (k.val * 5984 + j.val) / 5984 % 2048 = k.val; omega
    | ⟨2, _⟩ => show (k.val * 5984 + j.val) % 5984 = j.val; omega)
  rw [e, e']

/-- Column `c` of the concatenation is column `src c` of the product. -/
theorem ref_cat (r : Fin 16384) (c : Fin 5984) :
    val_main_v35 (F := Ideal) x0 x1 x2 (ix2 r c) = val_main_v18 (F := Ideal) x0 x1 x2 (ix2 r ⟨src c.val, src_lt _⟩) := by
  have hc := c.isLt
  by_cases h0 : c.val < 512
  · refine (cat_0 _ _ _ _ _ _ _ _ _ _ _ _ _ _ _ _ r c ⟨c.val - 0, by omega⟩ (by show 0 + (c.val - 0) = c.val; omega)).trans ?_
    rw [val_main_v23_apply]
    refine at_col _ _ _ _ rfl ?_
    show 1040 + (c.val - 0) = src c.val
    unfold src
    rw [if_pos (by omega)]
    omega
  by_cases h1 : c.val < 1024
  · refine (cat_1 _ _ _ _ _ _ _ _ _ _ _ _ _ _ _ _ r c ⟨c.val - 512, by omega⟩ (by show 512 + (c.val - 512) = c.val; omega)).trans ?_
    rw [val_main_v25_apply]
    refine at_col _ _ _ _ rfl ?_
    show 2064 + (c.val - 512) = src c.val
    unfold src
    repeat rw [if_neg (by omega)]
    rw [if_pos (by omega)]
  by_cases h2 : c.val < 1536
  · refine (cat_2 _ _ _ _ _ _ _ _ _ _ _ _ _ _ _ _ r c ⟨c.val - 1024, by omega⟩ (by show 1024 + (c.val - 1024) = c.val; omega)).trans ?_
    rw [val_main_v32_apply]
    refine at_col _ _ _ _ rfl ?_
    show 4448 + (c.val - 1024) = src c.val
    unfold src
    repeat rw [if_neg (by omega)]
    rw [if_pos (by omega)]
  by_cases h3 : c.val < 2048
  · refine (cat_3 _ _ _ _ _ _ _ _ _ _ _ _ _ _ _ _ r c ⟨c.val - 1536, by omega⟩ (by show 1536 + (c.val - 1536) = c.val; omega)).trans ?_
    rw [val_main_v34_apply]
    refine at_col _ _ _ _ rfl ?_
    show 5472 + (c.val - 1536) = src c.val
    unfold src
    repeat rw [if_neg (by omega)]
    rw [if_pos (by omega)]
  by_cases h4 : c.val < 3072
  · refine (cat_4 _ _ _ _ _ _ _ _ _ _ _ _ _ _ _ _ r c ⟨c.val - 2048, by omega⟩ (by show 2048 + (c.val - 2048) = c.val; omega)).trans ?_
    rw [val_main_v29_apply]
    refine at_col _ _ _ _ rfl ?_
    show 3344 + (c.val - 2048) = src c.val
    unfold src
    repeat rw [if_neg (by omega)]
    rw [if_pos (by omega)]
  by_cases h5 : c.val < 3584
  · refine (cat_5 _ _ _ _ _ _ _ _ _ _ _ _ _ _ _ _ r c ⟨c.val - 3072, by omega⟩ (by show 3072 + (c.val - 3072) = c.val; omega)).trans ?_
    rw [val_main_v21_apply]
    refine at_col _ _ _ _ rfl ?_
    show 512 + (c.val - 3072) = src c.val
    unfold src
    repeat rw [if_neg (by omega)]
    rw [if_pos (by omega)]
  by_cases h6 : c.val < 4096
  · refine (cat_6 _ _ _ _ _ _ _ _ _ _ _ _ _ _ _ _ r c ⟨c.val - 3584, by omega⟩ (by show 3584 + (c.val - 3584) = c.val; omega)).trans ?_
    rw [val_main_v24_apply]
    refine at_col _ _ _ _ rfl ?_
    show 1552 + (c.val - 3584) = src c.val
    unfold src
    repeat rw [if_neg (by omega)]
    rw [if_pos (by omega)]
  by_cases h7 : c.val < 4608
  · refine (cat_7 _ _ _ _ _ _ _ _ _ _ _ _ _ _ _ _ r c ⟨c.val - 4096, by omega⟩ (by show 4096 + (c.val - 4096) = c.val; omega)).trans ?_
    rw [val_main_v26_apply]
    refine at_col _ _ _ _ rfl ?_
    show 2576 + (c.val - 4096) = src c.val
    unfold src
    repeat rw [if_neg (by omega)]
    rw [if_pos (by omega)]
  by_cases h8 : c.val < 5120
  · refine (cat_8 _ _ _ _ _ _ _ _ _ _ _ _ _ _ _ _ r c ⟨c.val - 4608, by omega⟩ (by show 4608 + (c.val - 4608) = c.val; omega)).trans ?_
    rw [val_main_v33_apply]
    refine at_col _ _ _ _ rfl ?_
    show 4960 + (c.val - 4608) = src c.val
    unfold src
    repeat rw [if_neg (by omega)]
    rw [if_pos (by omega)]
  by_cases h9 : c.val < 5376
  · refine (cat_9 _ _ _ _ _ _ _ _ _ _ _ _ _ _ _ _ r c ⟨c.val - 5120, by omega⟩ (by show 5120 + (c.val - 5120) = c.val; omega)).trans ?_
    rw [val_main_v19_apply]
    refine at_col _ _ _ _ rfl ?_
    show (c.val - 5120) = src c.val
    unfold src
    repeat rw [if_neg (by omega)]
    rw [if_pos (by omega)]
    omega
  by_cases h10 : c.val < 5632
  · refine (cat_10 _ _ _ _ _ _ _ _ _ _ _ _ _ _ _ _ r c ⟨c.val - 5376, by omega⟩ (by show 5376 + (c.val - 5376) = c.val; omega)).trans ?_
    rw [val_main_v20_apply]
    refine at_col _ _ _ _ rfl ?_
    show 256 + (c.val - 5376) = src c.val
    unfold src
    repeat rw [if_neg (by omega)]
    rw [if_pos (by omega)]
  by_cases h11 : c.val < 5760
  · refine (cat_11 _ _ _ _ _ _ _ _ _ _ _ _ _ _ _ _ r c ⟨c.val - 5632, by omega⟩ (by show 5632 + (c.val - 5632) = c.val; omega)).trans ?_
    rw [val_main_v27_apply]
    refine at_col _ _ _ _ rfl ?_
    show 3088 + (c.val - 5632) = src c.val
    unfold src
    repeat rw [if_neg (by omega)]
    rw [if_pos (by omega)]
  by_cases h12 : c.val < 5888
  · refine (cat_12 _ _ _ _ _ _ _ _ _ _ _ _ _ _ _ _ r c ⟨c.val - 5760, by omega⟩ (by show 5760 + (c.val - 5760) = c.val; omega)).trans ?_
    rw [val_main_v28_apply]
    refine at_col _ _ _ _ rfl ?_
    show 3216 + (c.val - 5760) = src c.val
    unfold src
    repeat rw [if_neg (by omega)]
    rw [if_pos (by omega)]
  by_cases h13 : c.val < 5952
  · refine (cat_13 _ _ _ _ _ _ _ _ _ _ _ _ _ _ _ _ r c ⟨c.val - 5888, by omega⟩ (by show 5888 + (c.val - 5888) = c.val; omega)).trans ?_
    rw [val_main_v30_apply]
    refine at_col _ _ _ _ rfl ?_
    show 4368 + (c.val - 5888) = src c.val
    unfold src
    repeat rw [if_neg (by omega)]
    rw [if_pos (by omega)]
  by_cases h14 : c.val < 5968
  · refine (cat_14 _ _ _ _ _ _ _ _ _ _ _ _ _ _ _ _ r c ⟨c.val - 5952, by omega⟩ (by show 5952 + (c.val - 5952) = c.val; omega)).trans ?_
    rw [val_main_v22_apply]
    refine at_col _ _ _ _ rfl ?_
    show 1024 + (c.val - 5952) = src c.val
    unfold src
    repeat rw [if_neg (by omega)]
    rw [if_pos (by omega)]
  refine (cat_15 _ _ _ _ _ _ _ _ _ _ _ _ _ _ _ _ r c ⟨c.val - 5968, by omega⟩ (by show 5968 + (c.val - 5968) = c.val; omega)).trans ?_
  rw [val_main_v31_apply]
  refine at_col _ _ _ _ rfl ?_
  show 4432 + (c.val - 5968) = src c.val
  unfold src
  repeat rw [if_neg (by omega)]
  rw [if_pos (by omega)]

theorem ref_proj (g : S1x2048.Idx → EReal) (hg : ∀ k : Fin 2048, g (ix2 0 k) = x1 (ix2 1 k))
    (w : Cert.Kernel4Ideal.S4x5984x2048.Idx → EReal) (hw : ∀ (j : Fin 5984) (k : Fin 2048), w (ix3 1 j k) = x2 (ix3 1 k j)) :
    val_main_v37 (F := Ideal) x0 x1 x2 = projArr (val_main_v0 (F := Ideal) x0) g (permW w) := by
  refine funext fun i => ?_
  have hi : i = ix2 (i 0) (i 1) := funext fun a => by
    match a with
    | ⟨0, _⟩ => rfl
    | ⟨1, _⟩ => rfl
  have hc : (i 1).val < 6144 := (i 1).isLt
  rw [val_main_v37_apply]
  show val_main_v36 (F := Ideal) x0 x1 x2 i = projAt _ g (permW w) (i 0) (i 1)
  unfold val_main_v36 projAt
  by_cases h : (i 1).val < 5984
  · rw [pad_apply_of_inside _ _ _ _ _ _ _ i (ix2 (i 0) ⟨(i 1).val, h⟩ : S16384x5984.Idx) (fun a => by
      match a with
      | ⟨0, _⟩ => show (i 0).val = 0 + (i 0).val * 1; omega
      | ⟨1, _⟩ => show (i 1).val = 0 + (i 1).val * 1; omega)]
    refine (ref_cat x0 x1 x2 (i 0) ⟨(i 1).val, h⟩).trans ((ref_dot x0 x1 x2 g hg (i 0) _).trans ?_)
    refine Finset.sum_congr rfl fun k _ => congrArg (fun z : EReal => norm (val_main_v0 (F := Ideal) x0) g (i 0) k * z) ?_
    exact ((if_pos h).trans (hw _ _)).symm
  · rw [pad_apply_of_not_inside _ _ _ _ _ _ _ i 1 (fun hin => h (by
      have := hin.2.2
      have e : ((i 1).val - 0) / (0 + 1) < 5984 := this
      omega))]
    refine Eq.trans ?_ (Finset.sum_eq_zero fun k _ => ?_).symm
    · rw [val_main_call0_v0_apply, val_main_c_apply]
      exact sitofp_zero
    · rw [show permW w (ix3 1 (i 1) k) = 0 from if_neg h, mul_zero]

theorem ref_parts (g : S1x2048.Idx → EReal) (hg : ∀ k : Fin 2048, g (ix2 0 k) = x1 (ix2 1 k))
    (w : Cert.Kernel4Ideal.S4x5984x2048.Idx → EReal) (hw : ∀ (j : Fin 5984) (k : Fin 2048), w (ix3 1 j k) = x2 (ix3 1 k j)) :
    val_main_v39 (F := Ideal) x0 x1 x2 = partsArr (val_main_v0 (F := Ideal) x0) g (permW w) := by
  refine funext fun i => ?_
  have h0 : (i 0).val < 4 := (i 0).isLt
  have h1 : (i 1).val < 16384 := (i 1).isLt
  have h2 : (i 2).val < 128 := (i 2).isLt
  have hs : src (3584 + (i 0).val * 128 + (i 2).val) = 1552 + ((i 0).val * 128 + (i 2).val) := by
    unfold src
    repeat rw [if_neg (by omega)]
    rw [if_pos (by omega)]
    omega
  rw [val_main_v39_apply, val_main_v38_apply, val_main_v24_apply]
  rw [at_col (val_main_v18 (F := Ideal) x0 x1 x2) _ (i 1) ⟨src (3584 + (i 0).val * 128 + (i 2).val), src_lt _⟩
    (by show (((i 1).val * 4 + (i 0).val) * 128 + (i 2).val) / 512 = (i 1).val; omega)
    (by show 1552 + (((i 1).val * 4 + (i 0).val) * 128 + (i 2).val) % 512 = src (3584 + (i 0).val * 128 + (i 2).val); omega)]
  refine (ref_dot x0 x1 x2 g hg (i 1) _).trans ?_
  show _ = projAt _ g (permW w) (i 1) _
  unfold projAt
  refine Finset.sum_congr rfl fun k _ => congrArg (fun z : EReal => norm (val_main_v0 (F := Ideal) x0) g (i 1) k * z) ?_
  exact ((if_pos (show 3584 + (i 0).val * 128 + (i 2).val < 5984 by omega)).trans (hw _ _)).symm

end Cert.Proof.InProj.L1

end
-- ==== Proof.InProj.L1.Claim.lean ====
module

public import proofs.«01_k».proof.Defs
public import proofs.«01_k».proof.Proof.InProj.L1.Run
public import proofs.«01_k».proof.Proof.InProj.L1.Ref
public import Idealize.ShloMosaic.Lib.Quiescent

/-! The input projection of layer 1: the kernel's results are the reference's. -/

@[expose] public section

set_option maxRecDepth 16384

noncomputable section

namespace Cert.Proof.InProj.L1

open Idealize.ShloMosaic Idealize.ShloMosaic.TcCoe Idealize.ShloMosaic.Tactic Idealize.SL.Sem

/-- The reference leaves its arguments unchanged, and has no semaphore. -/
theorem frame_reference : Cert.quiescent_Reference4Ideal := fun m ρ _ =>
  (θ_run _ _ _).mono (fun _ h => ⟨fun c => (h c).2.2, sem_eq_zero_of_no_sems rfl _⟩) (Cert.Reference4Ideal.Value.run m ρ)

theorem algebraic : Cert.algebraic_Kernel4Ideal_Reference4Ideal := by
  intro m g m' g' _ hag
  refine ⟨_, _, run m g, (θ_run _ _ _).mono (fun _ h c => ?_) (Cert.Reference4Ideal.Value.run m' g')⟩
  obtain ⟨h0, h1, hargs⟩ := h c
  obtain ⟨a0, a1, a2⟩ := hag c
  refine ⟨h0.trans ?_, h1.trans ?_, hargs⟩
  · rw [Cert.Reference4Ideal.Read.val_main_v37_eq, a0, a1, a2]
    refine (ref_proj _ _ _ _ (entry_gain m g c) _ (entry_weights m g c 1)).trans ?_
    rw [entry_rows]
    rfl
  · rw [Cert.Reference4Ideal.Read.val_main_v39_eq, a0, a1, a2]
    refine (ref_parts _ _ _ _ (entry_gain m g c) _ (entry_weights m g c 1)).trans ?_
    rw [entry_rows]
    rfl

end Cert.Proof.InProj.L1

end
-- ==== Proof.InProj.L2.Perm.lean ====
/-
  The weight permutation call, as the program of layer 2 makes it: the array it leaves is the input weights with their columns in the
  order of the projection's output blocks, and zero in the padding columns.
-/
module

public import proofs.«01_k».proof.Proof.InProj.Perm
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj.L2

open Idealize.ShloMosaic Idealize.ShloMosaic.TcCoe Idealize.ShloMosaic.Tactic
open Cert.Kernel5Ideal Cert.Kernel5Ideal.Gen
open Idealize.ShloMosaic.Pipeline (Dat Cfg Window)

theorem idx0 : ∀ t : Fin cfg0.N, win0_0.index t = ![(grid0.coords t 0).val, 0, (grid0.coords t 1).val]
    ∧ win0_1.index t = ![(grid0.coords t 0).val, 0, (grid0.coords t 1).val] :=
  (by decide +kernel : ∀ t : Fin grid0.N, _)

variable (V : (c : Dev nD) → (b : Ref sig .tc) → Buf (Elt Ideal) ((c : Thread nD τ).loc b))

/-- A block of the weights at an index, as the permuted weights where they hold it. -/
theorem block_read (c : Dev nD) (t : Fin cfg0.N) (z : S1x5984x256.Idx) (i : S4x6144x2048.Idx)
    (hi0 : (i 0).val = (grid0.coords t 0).val) (hi1 : (i 1).val < 5984) (hz1 : (z 1).val = src (i 1).val)
    (hi2 : (i 2).val = (grid0.coords t 1).val * 256 + (z 2).val) :
    iblk0 V c 0 t z = permW (V c main_v4) i := by
  unfold permW
  rw [if_pos hi1]
  have hz0 : (z 0).val < 1 := (z 0).isLt
  blk_ext [iblk0, (idx0 t).1]

theorem perm_point (c : Dev nD) (t : Fin cfg0.N) (y : S1x6144x256.Idx) (i : S4x6144x2048.Idx)
    (hi0 : (i 0).val = (grid0.coords t 0).val) (hi1 : (i 1).val = (y 1).val)
    (hi2 : (i 2).val = (grid0.coords t 1).val * 256 + (y 2).val) :
    outsAt0 V c t y = permW (V c main_v4) i := by
  unfold outsAt0
  frame_out
  canon_tiles x h using (View.cover_of_tiledBy _ ![1, 16, 256] (by sl_kernel_rfl) y)
  · unfold_payloads
    pointwise
    unfold permW
    rw [if_neg (by omega)]
  all_goals
    unfold_payloads
    pointwise
    refine block_read V c t _ i hi0 (by omega) ?_ (by show _ = _ + (x 2).val; omega)
    rw [hi1, h1]
    unfold src
    repeat rw [if_neg (by omega)]
    try rw [if_pos (by omega)]
    simp

theorem perm_arr (c : Dev nD) : (dat0 V c).arrAt 1 cfg0.N = permW (V c main_v4) := by
  refine (dat0 V c).arrAt_eq_of_covers 1 _ (by decide +kernel) fun t hf y => ?_
  blk_simp
  rw [after0_1]
  refine perm_point V c t y _ ?_ ?_ ?_
  · blk_simp [(idx0 t).2]
  · blk_simp [(idx0 t).2]
  · blk_simp [(idx0 t).2]

end Cert.Proof.InProj.L2

end
-- ==== Proof.InProj.L2.Proj.lean ====
/-
  The projection call of layer 2: each block of rows of its first result is the normalized rows against the
  permuted weights, and its second result is the S5 branch's columns of that product, head by head.
-/
module

public import proofs.«01_k».proof.Proof.InProj.Proj
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj.L2

open Idealize.ShloMosaic Idealize.ShloMosaic.TcCoe Idealize.ShloMosaic.Tactic
open Cert.Kernel5Ideal Cert.Kernel5Ideal.Gen
open Idealize.ShloMosaic.Pipeline (Dat Cfg Window)

theorem idx1 : ∀ t : Fin cfg1.N, win1_0.index t = ![(grid1.coords t 0).val, 0]
    ∧ win1_1.index t = ![0, 0] ∧ win1_2.index t = ![2, 0, 0]
    ∧ win1_3.index t = ![(grid1.coords t 0).val, 0] ∧ win1_4.index t = ![0, (grid1.coords t 0).val, 0] :=
  (by decide +kernel : ∀ t : Fin grid1.N, _)

/-- The normalized row `r` against row `c` of layer 2 of the permuted weights. -/
def projAt (X : S16384x2048.Idx → EReal) (g : S1x2048.Idx → EReal) (w : S4x6144x2048.Idx → EReal) (r : Fin 16384) (c : Fin 6144) : EReal :=
  ∑ k : Fin 2048, norm X g r k * w (ix3 2 c k)

theorem pay1_apply (x : Vec Ideal S512x2048 .f32) (g : Vec Ideal S1x2048 .f32) (r : Fin 512) (k : Fin 2048) :
    k1_pay1 x g (ix2 r k) = x (ix2 r k) * Ideal.rsqrt (Ideal.div (∑ j : Fin 2048, x (ix2 r j) * x (ix2 r j)) (Ideal.ofBits FTy.f32 0x45000000#32)
      + Ideal.ofBits FTy.f32 0x358637BD#32) * g (ix2 0 k) := by
  unfold_payloads
  pointwise

variable (V : (c : Dev nD) → (b : Ref sig .tc) → Buf (Elt Ideal) ((c : Thread nD τ).loc b))

theorem read0 (c : Dev nD) (t : Fin cfg1.N) (r : Fin 512) (k : Fin 2048) (R : Fin 16384)
    (hR : R.val = (grid1.coords t 0).val * 512 + r.val) :
    iblk1 V c 0 t (ix2 r k) = V c main_v0 (ix2 R k) := by
  blk_ext [iblk1, (idx1 t).1]

theorem read1 (c : Dev nD) (t : Fin cfg1.N) (k : Fin 2048) :
    iblk1 V c 1 t (ix2 0 k) = V c main_v3 (ix2 0 k) := by
  blk_ext [iblk1, (idx1 t).2.1]

theorem read2 (c : Dev nD) (t : Fin cfg1.N) (a : Fin 6144) (k : Fin 2048) :
    iblk1 V c 2 t (ix3 0 a k) = V c main_v5 (ix3 2 a k) := by
  blk_ext [iblk1, (idx1 t).2.2.1]

theorem norm_block (c : Dev nD) (t : Fin cfg1.N) (r : Fin 512) (k : Fin 2048) (R : Fin 16384)
    (hR : R.val = (grid1.coords t 0).val * 512 + r.val) :
    k1_pay1 (F := Ideal) (iblk1 V c 0 t) (iblk1 V c 1 t) (ix2 r k) = norm (V c main_v0) (V c main_v3) R k := by
  rw [pay1_apply]
  unfold norm
  simp only [read0 V c t r _ R hR, read1]

/-- A sum over the normalized block and the block of weights, as the sum of the whole arrays. -/
theorem sum_block (c : Dev nD) (t : Fin cfg1.N) (r : Fin 512) (R : Fin 16384) (a a' : Fin 6144)
    (hR : R.val = (grid1.coords t 0).val * 512 + r.val) (ha : a = a') :
    (∑ k : Fin 2048, k1_pay1 (F := Ideal) (iblk1 V c 0 t) (iblk1 V c 1 t) (ix2 r k) * iblk1 V c 2 t (ix3 0 a k))
      = projAt (V c main_v0) (V c main_v3) (V c main_v5) R a' := by
  subst ha
  refine Finset.sum_congr rfl fun k _ => ?_
  rw [norm_block V c t r k R hR, read2]

theorem proj_point3 (c : Dev nD) (t : Fin cfg1.N) (y : S512x6144.Idx) (R : Fin 16384) (C : Fin 6144)
    (hR : R.val = (grid1.coords t 0).val * 512 + (y 0).val) (hC : C.val = (y 1).val) :
    (outsAt1 V c t).1 y = projAt (V c main_v0) (V c main_v3) (V c main_v5) R C := by
  unfold outsAt1
  dsimp only
  frame_out
  canon_tiles x h
  all_goals
    refine Eq.trans ?_ (sum_block V c t (x 0) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 0) k) * iblk1 V c 2 t (ix3 0 a k)) (Fin.ext ?_)
    rw [hC, h1]
    try simp

theorem proj_point4 (c : Dev nD) (t : Fin cfg1.N) (y : S4x512x128.Idx) (R : Fin 16384) (C : Fin 6144)
    (hR : R.val = (grid1.coords t 0).val * 512 + (y 1).val) (hC : C.val = 3584 + (y 0).val * 128 + (y 2).val) :
    (outsAt1 V c t).2 y = projAt (V c main_v0) (V c main_v3) (V c main_v5) R C := by
  unfold outsAt1
  dsimp only
  frame_out
  canon_tiles x h
  all_goals
    refine Eq.trans ?_ (sum_block V c t (x 1) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 1) k) * iblk1 V c 2 t (ix3 0 a k)) (Fin.ext ?_)
    show _ + _ = C.val
    omega

/-- The projection, an array of 16384 rows. -/
def projArr (X : S16384x2048.Idx → EReal) (g : S1x2048.Idx → EReal) (w : S4x6144x2048.Idx → EReal) : S16384x6144.Idx → EReal :=
  fun i => projAt X g w (i 0) (i 1)

/-- Columns 3584 to 4096 of the projection, in four parts of 128. -/
def partsArr (X : S16384x2048.Idx → EReal) (g : S1x2048.Idx → EReal) (w : S4x6144x2048.Idx → EReal) : S4x16384x128.Idx → EReal :=
  fun i => projAt X g w (i 1) ⟨3584 + (i 0).val * 128 + (i 2).val, by
    have h0 : (i 0).val < 4 := (i 0).isLt
    have h2 : (i 2).val < 128 := (i 2).isLt
    omega⟩

theorem proj_arr (c : Dev nD) :
    (dat1 V c).arrAt 3 cfg1.N = projArr (V c main_v0) (V c main_v3) (V c main_v5) := by
  refine (dat1 V c).arrAt_eq_of_covers 3 _ (by decide +kernel) fun t hf y => ?_
  blk_simp
  rw [after1_3]
  refine proj_point3 V c t y _ _ ?_ ?_
  all_goals
    simp [(idx1 t).2.2.2.1]

theorem parts_arr (c : Dev nD) :
    (dat1 V c).arrAt 4 cfg1.N = partsArr (V c main_v0) (V c main_v3) (V c main_v5) := by
  refine (dat1 V c).arrAt_eq_of_covers 4 _ (by decide +kernel) fun t hf y => ?_
  blk_simp
  rw [after1_4]
  refine proj_point4 V c t y _ _ ?_ ?_
  all_goals
    simp [(idx1 t).2.2.2.2]

end Cert.Proof.InProj.L2

end
-- ==== Proof.InProj.L2.Run.lean ====
module

public import proofs.«01_k».proof.Proof.InProj.Run
public import proofs.«01_k».proof.Proof.InProj.L2.Perm
public import proofs.«01_k».proof.Proof.InProj.L2.Proj
public import Idealize.ShloMosaic.Lib.Claim

/-! The run of the input projection of layer 2: its two results as functions of its arguments. -/

@[expose] public section

set_option maxRecDepth 16384

noncomputable section

namespace Cert.Proof.InProj.L2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

theorem entry_rows (c : Dev nD) : V1 m ρ c main_v0 = rows (m ((c : Thread nD τ).loc main_arg0)) := by
  unfold_abbrev_sides
  after_results
  rfl

theorem entry_gain (c : Dev nD) (k : Fin 2048) :
    (V1 m ρ c main_v3 : S1x2048.Idx → EReal) (ix2 0 k) = (m ((c : Thread nD τ).loc main_arg1) : S4x2048.Idx → EReal) (ix2 2 k) := by
  unfold_abbrev_sides
  after_results
  pointwise

theorem entry_weights (c : Dev nD) (l : Fin 4) (j : Fin 5984) (k : Fin 2048) :
    (V1 m ρ c main_v4 : S4x5984x2048.Idx → EReal) (ix3 l j k) = (m ((c : Thread nD τ).loc main_arg2) : S4x2048x5984.Idx → EReal) (ix3 l k j) := by
  unfold_abbrev_sides
  after_results
  pointwise

theorem end_proj (c : Dev nD) : W3 m ρ c (Proc.devRef .tc main_v6_0)
    = projArr (V1 m ρ c main_v0) (V1 m ρ c main_v3) (permW (V1 m ρ c main_v4)) := by
  refine (W3_arr m ρ c 3).trans ?_
  rw [proj_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

theorem end_parts (c : Dev nD) : W3 m ρ c (Proc.devRef .tc main_v6_1)
    = partsArr (V1 m ρ c main_v0) (V1 m ρ c main_v3) (permW (V1 m ρ c main_v4)) := by
  refine (W3_arr m ρ c 4).trans ?_
  rw [parts_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

/-- The run: both results, and the arguments as they were. -/
theorem run : θ_run defs (onTc (τ := τ) (main (F := Ideal))) ⟨m, fun _ => 0, ρ⟩ (fun r => ∀ c : Dev nD,
      r.2.mem ((c.tc : Thread nD τ).loc main_v6_0) = projArr (V1 m ρ c main_v0) (V1 m ρ c main_v3) (permW (V1 m ρ c main_v4))
      ∧ r.2.mem ((c.tc : Thread nD τ).loc main_v6_1) = partsArr (V1 m ρ c main_v0) (V1 m ρ c main_v3) (permW (V1 m ρ c main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6_0 (by decide))).trans (end_proj m ρ c),
     (h c _ (mem_uc main_v6_1 (by decide))).trans (end_parts m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_bound m ρ)

end Cert.Proof.InProj.L2

end
-- ==== Proof.InProj.L2.Ref.lean ====
module

public import proofs.«01_k».proof.Proof.InProj.L2.Perm
public import proofs.«01_k».proof.Proof.InProj.L2.Proj
public import proofs.«01_k».proof.Proof.Gen.Reference5Ideal.Run
public import proofs.«01_k».proof.Proof.Gen.Reference5Ideal.Read
public import proofs.«01_k».proof.Proof.InProj.Ref
public import Idealize.ShloMosaic.Lib.KernelVsHost

/-! The two results of the reference of layer 2, read at an index. -/

@[expose] public section

set_option maxRecDepth 16384

noncomputable section

namespace Cert.Proof.InProj.L2

open Idealize.ShloMosaic Idealize.ShloMosaic.TcCoe Idealize.ShloMosaic.Tactic
open Cert.Reference5Ideal Cert.Reference5Ideal.Gen Cert.Reference5Ideal.Read

variable (x0 : S4x4096x2048.Idx → EReal) (x1 : S4x2048.Idx → EReal) (x2 : S4x2048x5984.Idx → EReal)

theorem ref_norm (g : S1x2048.Idx → EReal) (hg : ∀ k : Fin 2048, g (ix2 0 k) = x1 (ix2 2 k)) (r : Fin 16384) (k : Fin 2048) :
    val_main_v15 (F := Ideal) x0 x1 (ix2 r k) = norm (val_main_v0 (F := Ideal) x0) g r k := by
  unfold norm
  rw [hg]
  rw [val_main_v15_apply, val_main_v10_apply, val_main_v9_apply, val_main_v8_apply, val_main_v7_apply, val_main_v5_apply, val_main_v3_apply,
    val_main_v2_apply, val_main_v14_apply, val_main_v13_apply, val_main_v12_apply, val_main_v11_apply, val_main_v4_apply, val_main_v6_apply]
  simp only [val_main_v1_apply, val_main_cst_apply, val_main_cst_0_apply, val_main_cst_1_apply]
  generalize val_main_v0 (F := Ideal) x0 = X
  have e : idx_main_v11 (idx_main_v12 (idx_main_v13 (idx_main_v14 (ix2 r k)))) = ix2 2 k :=
    funext fun a => Fin.ext (by
      match a with
      | ⟨0, _⟩ => rfl
      | ⟨1, _⟩ => exact Nat.mod_eq_of_lt k.isLt)
  have e' : ∀ j : Fin 2048, idx_main_v2 (idx_main_v3 (idx_main_v9 (ix2 r k))) j = ix2 r j := fun j =>
    funext fun a => Fin.ext (by
      match a with
      | ⟨0, _⟩ => rfl
      | ⟨1, _⟩ => rfl)
  rw [e]
  simp only [e', Ideal.mulf_def, Ideal.addf_def, Ideal.hostUnary_rsqrt_def, Ideal.hostDivf_def, Ideal.ofBits_def, Ideal.ofBits_zero_f32, zero_add]

theorem ref_dot (g : S1x2048.Idx → EReal) (hg : ∀ k : Fin 2048, g (ix2 0 k) = x1 (ix2 2 k)) (r : Fin 16384) (j : Fin 5984) :
    val_main_v18 (F := Ideal) x0 x1 x2 (ix2 r j) = ∑ k : Fin 2048, norm (val_main_v0 (F := Ideal) x0) g r k * x2 (ix3 2 k j) := by
  rw [val_main_v18_apply]
  refine Finset.sum_congr rfl fun k _ => ?_
  rw [val_main_v17_apply, val_main_v16_apply, ← ref_norm x0 x1 g hg]
  have e : lidx_main_v18 (ix2 r j) k = ix2 r k := funext fun a => Fin.ext (by
    match a with
    | ⟨0, _⟩ => rfl
    | ⟨1, _⟩ => rfl)
  have e' : idx_main_v16 (idx_main_v17 (ridx_main_v18 (ix2 r j) k)) = ix3 2 k j := funext fun a => Fin.ext (by
    have hk := k.isLt
    have hj := j.isLt
    match a with
    | ⟨0, _⟩ => rfl
    | ⟨1, _⟩ => show (k.val * 5984 + j.val) / 5984 % 2048 = k.val; omega
    | ⟨2, _⟩ => show (k.val * 5984 + j.val) % 5984 = j.val; omega)
  rw [e, e']

/-- Column `c` of the concatenation is column `src c` of the product. -/
theorem ref_cat (r : Fin 16384) (c : Fin 5984) :
    val_main_v35 (F := Ideal) x0 x1 x2 (ix2 r c) = val_main_v18 (F := Ideal) x0 x1 x2 (ix2 r ⟨src c.val, src_lt _⟩) := by
  have hc := c.isLt
  by_cases h0 : c.val < 512
  · refine (cat_0 _ _ _ _ _ _ _ _ _ _ _ _ _ _ _ _ r c ⟨c.val - 0, by omega⟩ (by show 0 + (c.val - 0) = c.val; omega)).trans ?_
    rw [val_main_v23_apply]
    refine at_col _ _ _ _ rfl ?_
    show 1040 + (c.val - 0) = src c.val
    unfold src
    rw [if_pos (by omega)]
    omega
  by_cases h1 : c.val < 1024
  · refine (cat_1 _ _ _ _ _ _ _ _ _ _ _ _ _ _ _ _ r c ⟨c.val - 512, by omega⟩ (by show 512 + (c.val - 512) = c.val; omega)).trans ?_
    rw [val_main_v25_apply]
    refine at_col _ _ _ _ rfl ?_
    show 2064 + (c.val - 512) = src c.val
    unfold src
    repeat rw [if_neg (by omega)]
    rw [if_pos (by omega)]
  by_cases h2 : c.val < 1536
  · refine (cat_2 _ _ _ _ _ _ _ _ _ _ _ _ _ _ _ _ r c ⟨c.val - 1024, by omega⟩ (by show 1024 + (c.val - 1024) = c.val; omega)).trans ?_
    rw [val_main_v32_apply]
    refine at_col _ _ _ _ rfl ?_
    show 4448 + (c.val - 1024) = src c.val
    unfold src
    repeat rw [if_neg (by omega)]
    rw [if_pos (by omega)]
  by_cases h3 : c.val < 2048
  · refine (cat_3 _ _ _ _ _ _ _ _ _ _ _ _ _ _ _ _ r c ⟨c.val - 1536, by omega⟩ (by show 1536 + (c.val - 1536) = c.val; omega)).trans ?_
    rw [val_main_v34_apply]
    refine at_col _ _ _ _ rfl ?_
    show 5472 + (c.val - 1536) = src c.val
    unfold src
    repeat rw [if_neg (by omega)]
    rw [if_pos (by omega)]
  by_cases h4 : c.val < 3072
  · refine (cat_4 _ _ _ _ _ _ _ _ _ _ _ _ _ _ _ _ r c ⟨c.val - 2048, by omega⟩ (by show 2048 + (c.val - 2048) = c.val; omega)).trans ?_
    rw [val_main_v29_apply]
    refine at_col _ _ _ _ rfl ?_
    show 3344 + (c.val - 2048) = src c.val
    unfold src
    repeat rw [if_neg (by omega)]
    rw [if_pos (by omega)]
  by_cases h5 : c.val < 3584
  · refine (cat_5 _ _ _ _ _ _ _ _ _ _ _ _ _ _ _ _ r c ⟨c.val - 3072, by omega⟩ (by show 3072 + (c.val - 3072) = c.val; omega)).trans ?_
    rw [val_main_v21_apply]
    refine at_col _ _ _ _ rfl ?_
    show 512 + (c.val - 3072) = src c.val
    unfold src
    repeat rw [if_neg (by omega)]
    rw [if_pos (by omega)]
  by_cases h6 : c.val < 4096
  · refine (cat_6 _ _ _ _ _ _ _ _ _ _ _ _ _ _ _ _ r c ⟨c.val - 3584, by omega⟩ (by show 3584 + (c.val - 3584) = c.val; omega)).trans ?_
    rw [val_main_v24_apply]
    refine at_col _ _ _ _ rfl ?_
    show 1552 + (c.val - 3584) = src c.val
    unfold src
    repeat rw [if_neg (by omega)]
    rw [if_pos (by omega)]
  by_cases h7 : c.val < 4608
  · refine (cat_7 _ _ _ _ _ _ _ _ _ _ _ _ _ _ _ _ r c ⟨c.val - 4096, by omega⟩ (by show 4096 + (c.val - 4096) = c.val; omega)).trans ?_
    rw [val_main_v26_apply]
    refine at_col _ _ _ _ rfl ?_
    show 2576 + (c.val - 4096) = src c.val
    unfold src
    repeat rw [if_neg (by omega)]
    rw [if_pos (by omega)]
  by_cases h8 : c.val < 5120
  · refine (cat_8 _ _ _ _ _ _ _ _ _ _ _ _ _ _ _ _ r c ⟨c.val - 4608, by omega⟩ (by show 4608 + (c.val - 4608) = c.val; omega)).trans ?_
    rw [val_main_v33_apply]
    refine at_col _ _ _ _ rfl ?_
    show 4960 + (c.val - 4608) = src c.val
    unfold src
    repeat rw [if_neg (by omega)]
    rw [if_pos (by omega)]
  by_cases h9 : c.val < 5376
  · refine (cat_9 _ _ _ _ _ _ _ _ _ _ _ _ _ _ _ _ r c ⟨c.val - 5120, by omega⟩ (by show 5120 + (c.val - 5120) = c.val; omega)).trans ?_
    rw [val_main_v19_apply]
    refine at_col _ _ _ _ rfl ?_
    show (c.val - 5120) = src c.val
    unfold src
    repeat rw [if_neg (by omega)]
    rw [if_pos (by omega)]
    omega
  by_cases h10 : c.val < 5632
  · refine (cat_10 _ _ _ _ _ _ _ _ _ _ _ _ _ _ _ _ r c ⟨c.val - 5376, by omega⟩ (by show 5376 + (c.val - 5376) = c.val; omega)).trans ?_
    rw [val_main_v20_apply]
    refine at_col _ _ _ _ rfl ?_
    show 256 + (c.val - 5376) = src c.val
    unfold src
    repeat rw [if_neg (by omega)]
    rw [if_pos (by omega)]
  by_cases h11 : c.val < 5760
  · refine (cat_11 _ _ _ _ _ _ _ _ _ _ _ _ _ _ _ _ r c ⟨c.val - 5632, by omega⟩ (by show 5632 + (c.val - 5632) = c.val; omega)).trans ?_
    rw [val_main_v27_apply]
    refine at_col _ _ _ _ rfl ?_
    show 3088 + (c.val - 5632) = src c.val
    unfold src
    repeat rw [if_neg (by omega)]
    rw [if_pos (by omega)]
  by_cases h12 : c.val < 5888
  · refine (cat_12 _ _ _ _ _ _ _ _ _ _ _ _ _ _ _ _ r c ⟨c.val - 5760, by omega⟩ (by show 5760 + (c.val - 5760) = c.val; omega)).trans ?_
    rw [val_main_v28_apply]
    refine at_col _ _ _ _ rfl ?_
    show 3216 + (c.val - 5760) = src c.val
    unfold src
    repeat rw [if_neg (by omega)]
    rw [if_pos (by omega)]
  by_cases h13 : c.val < 5952
  · refine (cat_13 _ _ _ _ _ _ _ _ _ _ _ _ _ _ _ _ r c ⟨c.val - 5888, by omega⟩ (by show 5888 + (c.val - 5888) = c.val; omega)).trans ?_
    rw [val_main_v30_apply]
    refine at_col _ _ _ _ rfl ?_
    show 4368 + (c.val - 5888) = src c.val
    unfold src
    repeat rw [if_neg (by omega)]
    rw [if_pos (by omega)]
  by_cases h14 : c.val < 5968
  · refine (cat_14 _ _ _ _ _ _ _ _ _ _ _ _ _ _ _ _ r c ⟨c.val - 5952, by omega⟩ (by show 5952 + (c.val - 5952) = c.val; omega)).trans ?_
    rw [val_main_v22_apply]
    refine at_col _ _ _ _ rfl ?_
    show 1024 + (c.val - 5952) = src c.val
    unfold src
    repeat rw [if_neg (by omega)]
    rw [if_pos (by omega)]
  refine (cat_15 _ _ _ _ _ _ _ _ _ _ _ _ _ _ _ _ r c ⟨c.val - 5968, by omega⟩ (by show 5968 + (c.val - 5968) = c.val; omega)).trans ?_
  rw [val_main_v31_apply]
  refine at_col _ _ _ _ rfl ?_
  show 4432 + (c.val - 5968) = src c.val
  unfold src
  repeat rw [if_neg (by omega)]
  rw [if_pos (by omega)]

theorem ref_proj (g : S1x2048.Idx → EReal) (hg : ∀ k : Fin 2048, g (ix2 0 k) = x1 (ix2 2 k))
    (w : Cert.Kernel5Ideal.S4x5984x2048.Idx → EReal) (hw : ∀ (j : Fin 5984) (k : Fin 2048), w (ix3 2 j k) = x2 (ix3 2 k j)) :
    val_main_v37 (F := Ideal) x0 x1 x2 = projArr (val_main_v0 (F := Ideal) x0) g (permW w) := by
  refine funext fun i => ?_
  have hi : i = ix2 (i 0) (i 1) := funext fun a => by
    match a with
    | ⟨0, _⟩ => rfl
    | ⟨1, _⟩ => rfl
  have hc : (i 1).val < 6144 := (i 1).isLt
  rw [val_main_v37_apply]
  show val_main_v36 (F := Ideal) x0 x1 x2 i = projAt _ g (permW w) (i 0) (i 1)
  unfold val_main_v36 projAt
  by_cases h : (i 1).val < 5984
  · rw [pad_apply_of_inside _ _ _ _ _ _ _ i (ix2 (i 0) ⟨(i 1).val, h⟩ : S16384x5984.Idx) (fun a => by
      match a with
      | ⟨0, _⟩ => show (i 0).val = 0 + (i 0).val * 1; omega
      | ⟨1, _⟩ => show (i 1).val = 0 + (i 1).val * 1; omega)]
    refine (ref_cat x0 x1 x2 (i 0) ⟨(i 1).val, h⟩).trans ((ref_dot x0 x1 x2 g hg (i 0) _).trans ?_)
    refine Finset.sum_congr rfl fun k _ => congrArg (fun z : EReal => norm (val_main_v0 (F := Ideal) x0) g (i 0) k * z) ?_
    exact ((if_pos h).trans (hw _ _)).symm
  · rw [pad_apply_of_not_inside _ _ _ _ _ _ _ i 1 (fun hin => h (by
      have := hin.2.2
      have e : ((i 1).val - 0) / (0 + 1) < 5984 := this
      omega))]
    refine Eq.trans ?_ (Finset.sum_eq_zero fun k _ => ?_).symm
    · rw [val_main_call0_v0_apply, val_main_c_apply]
      exact sitofp_zero
    · rw [show permW w (ix3 2 (i 1) k) = 0 from if_neg h, mul_zero]

theorem ref_parts (g : S1x2048.Idx → EReal) (hg : ∀ k : Fin 2048, g (ix2 0 k) = x1 (ix2 2 k))
    (w : Cert.Kernel5Ideal.S4x5984x2048.Idx → EReal) (hw : ∀ (j : Fin 5984) (k : Fin 2048), w (ix3 2 j k) = x2 (ix3 2 k j)) :
    val_main_v39 (F := Ideal) x0 x1 x2 = partsArr (val_main_v0 (F := Ideal) x0) g (permW w) := by
  refine funext fun i => ?_
  have h0 : (i 0).val < 4 := (i 0).isLt
  have h1 : (i 1).val < 16384 := (i 1).isLt
  have h2 : (i 2).val < 128 := (i 2).isLt
  have hs : src (3584 + (i 0).val * 128 + (i 2).val) = 1552 + ((i 0).val * 128 + (i 2).val) := by
    unfold src
    repeat rw [if_neg (by omega)]
    rw [if_pos (by omega)]
    omega
  rw [val_main_v39_apply, val_main_v38_apply, val_main_v24_apply]
  rw [at_col (val_main_v18 (F := Ideal) x0 x1 x2) _ (i 1) ⟨src (3584 + (i 0).val * 128 + (i 2).val), src_lt _⟩
    (by show (((i 1).val * 4 + (i 0).val) * 128 + (i 2).val) / 512 = (i 1).val; omega)
    (by show 1552 + (((i 1).val * 4 + (i 0).val) * 128 + (i 2).val) % 512 = src (3584 + (i 0).val * 128 + (i 2).val); omega)]
  refine (ref_dot x0 x1 x2 g hg (i 1) _).trans ?_
  show _ = projAt _ g (permW w) (i 1) _
  unfold projAt
  refine Finset.sum_congr rfl fun k _ => congrArg (fun z : EReal => norm (val_main_v0 (F := Ideal) x0) g (i 1) k * z) ?_
  exact ((if_pos (show 3584 + (i 0).val * 128 + (i 2).val < 5984 by omega)).trans (hw _ _)).symm

end Cert.Proof.InProj.L2

end
-- ==== Proof.InProj.L2.Claim.lean ====
module

public import proofs.«01_k».proof.Defs
public import proofs.«01_k».proof.Proof.InProj.L2.Run
public import proofs.«01_k».proof.Proof.InProj.L2.Ref
public import Idealize.ShloMosaic.Lib.Quiescent

/-! The input projection of layer 2: the kernel's results are the reference's. -/

@[expose] public section

set_option maxRecDepth 16384

noncomputable section

namespace Cert.Proof.InProj.L2

open Idealize.ShloMosaic Idealize.ShloMosaic.TcCoe Idealize.ShloMosaic.Tactic Idealize.SL.Sem

/-- The reference leaves its arguments unchanged, and has no semaphore. -/
theorem frame_reference : Cert.quiescent_Reference5Ideal := fun m ρ _ =>
  (θ_run _ _ _).mono (fun _ h => ⟨fun c => (h c).2.2, sem_eq_zero_of_no_sems rfl _⟩) (Cert.Reference5Ideal.Value.run m ρ)

theorem algebraic : Cert.algebraic_Kernel5Ideal_Reference5Ideal := by
  intro m g m' g' _ hag
  refine ⟨_, _, run m g, (θ_run _ _ _).mono (fun _ h c => ?_) (Cert.Reference5Ideal.Value.run m' g')⟩
  obtain ⟨h0, h1, hargs⟩ := h c
  obtain ⟨a0, a1, a2⟩ := hag c
  refine ⟨h0.trans ?_, h1.trans ?_, hargs⟩
  · rw [Cert.Reference5Ideal.Read.val_main_v37_eq, a0, a1, a2]
    refine (ref_proj _ _ _ _ (entry_gain m g c) _ (entry_weights m g c 2)).trans ?_
    rw [entry_rows]
    rfl
  · rw [Cert.Reference5Ideal.Read.val_main_v39_eq, a0, a1, a2]
    refine (ref_parts _ _ _ _ (entry_gain m g c) _ (entry_weights m g c 2)).trans ?_
    rw [entry_rows]
    rfl

end Cert.Proof.InProj.L2

end
-- ==== Proof.InProj.L3.Perm.lean ====
/-
  The weight permutation call, as the program of layer 3 makes it: the array it leaves is the input weights with their columns in the
  order of the projection's output blocks, and zero in the padding columns.
-/
module

public import proofs.«01_k».proof.Proof.InProj.Perm
public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj.L3

open Idealize.ShloMosaic Idealize.ShloMosaic.TcCoe Idealize.ShloMosaic.Tactic
open Cert.Kernel6Ideal Cert.Kernel6Ideal.Gen
open Idealize.ShloMosaic.Pipeline (Dat Cfg Window)

theorem idx0 : ∀ t : Fin cfg0.N, win0_0.index t = ![(grid0.coords t 0).val, 0, (grid0.coords t 1).val]
    ∧ win0_1.index t = ![(grid0.coords t 0).val, 0, (grid0.coords t 1).val] :=
  (by decide +kernel : ∀ t : Fin grid0.N, _)

variable (V : (c : Dev nD) → (b : Ref sig .tc) → Buf (Elt Ideal) ((c : Thread nD τ).loc b))

/-- A block of the weights at an index, as the permuted weights where they hold it. -/
theorem block_read (c : Dev nD) (t : Fin cfg0.N) (z : S1x5984x256.Idx) (i : S4x6144x2048.Idx)
    (hi0 : (i 0).val = (grid0.coords t 0).val) (hi1 : (i 1).val < 5984) (hz1 : (z 1).val = src (i 1).val)
    (hi2 : (i 2).val = (grid0.coords t 1).val * 256 + (z 2).val) :
    iblk0 V c 0 t z = permW (V c main_v4) i := by
  unfold permW
  rw [if_pos hi1]
  have hz0 : (z 0).val < 1 := (z 0).isLt
  blk_ext [iblk0, (idx0 t).1]

theorem perm_point (c : Dev nD) (t : Fin cfg0.N) (y : S1x6144x256.Idx) (i : S4x6144x2048.Idx)
    (hi0 : (i 0).val = (grid0.coords t 0).val) (hi1 : (i 1).val = (y 1).val)
    (hi2 : (i 2).val = (grid0.coords t 1).val * 256 + (y 2).val) :
    outsAt0 V c t y = permW (V c main_v4) i := by
  unfold outsAt0
  frame_out
  canon_tiles x h using (View.cover_of_tiledBy _ ![1, 16, 256] (by sl_kernel_rfl) y)
  · unfold_payloads
    pointwise
    unfold permW
    rw [if_neg (by omega)]
  all_goals
    unfold_payloads
    pointwise
    refine block_read V c t _ i hi0 (by omega) ?_ (by show _ = _ + (x 2).val; omega)
    rw [hi1, h1]
    unfold src
    repeat rw [if_neg (by omega)]
    try rw [if_pos (by omega)]
    simp

theorem perm_arr (c : Dev nD) : (dat0 V c).arrAt 1 cfg0.N = permW (V c main_v4) := by
  refine (dat0 V c).arrAt_eq_of_covers 1 _ (by decide +kernel) fun t hf y => ?_
  blk_simp
  rw [after0_1]
  refine perm_point V c t y _ ?_ ?_ ?_
  · blk_simp [(idx0 t).2]
  · blk_simp [(idx0 t).2]
  · blk_simp [(idx0 t).2]

end Cert.Proof.InProj.L3

end
-- ==== Proof.InProj.L3.Proj.lean ====
/-
  The projection call of layer 3: each block of rows of its first result is the normalized rows against the
  permuted weights, and its second result is the S5 branch's columns of that product, head by head.
-/
module

public import proofs.«01_k».proof.Proof.InProj.Proj
public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.InProj.L3

open Idealize.ShloMosaic Idealize.ShloMosaic.TcCoe Idealize.ShloMosaic.Tactic
open Cert.Kernel6Ideal Cert.Kernel6Ideal.Gen
open Idealize.ShloMosaic.Pipeline (Dat Cfg Window)

theorem idx1 : ∀ t : Fin cfg1.N, win1_0.index t = ![(grid1.coords t 0).val, 0]
    ∧ win1_1.index t = ![0, 0] ∧ win1_2.index t = ![3, 0, 0]
    ∧ win1_3.index t = ![(grid1.coords t 0).val, 0] ∧ win1_4.index t = ![0, (grid1.coords t 0).val, 0] :=
  (by decide +kernel : ∀ t : Fin grid1.N, _)

/-- The normalized row `r` against row `c` of layer 3 of the permuted weights. -/
def projAt (X : S16384x2048.Idx → EReal) (g : S1x2048.Idx → EReal) (w : S4x6144x2048.Idx → EReal) (r : Fin 16384) (c : Fin 6144) : EReal :=
  ∑ k : Fin 2048, norm X g r k * w (ix3 3 c k)

theorem pay1_apply (x : Vec Ideal S512x2048 .f32) (g : Vec Ideal S1x2048 .f32) (r : Fin 512) (k : Fin 2048) :
    k1_pay1 x g (ix2 r k) = x (ix2 r k) * Ideal.rsqrt (Ideal.div (∑ j : Fin 2048, x (ix2 r j) * x (ix2 r j)) (Ideal.ofBits FTy.f32 0x45000000#32)
      + Ideal.ofBits FTy.f32 0x358637BD#32) * g (ix2 0 k) := by
  unfold_payloads
  pointwise

variable (V : (c : Dev nD) → (b : Ref sig .tc) → Buf (Elt Ideal) ((c : Thread nD τ).loc b))

theorem read0 (c : Dev nD) (t : Fin cfg1.N) (r : Fin 512) (k : Fin 2048) (R : Fin 16384)
    (hR : R.val = (grid1.coords t 0).val * 512 + r.val) :
    iblk1 V c 0 t (ix2 r k) = V c main_v0 (ix2 R k) := by
  blk_ext [iblk1, (idx1 t).1]

theorem read1 (c : Dev nD) (t : Fin cfg1.N) (k : Fin 2048) :
    iblk1 V c 1 t (ix2 0 k) = V c main_v3 (ix2 0 k) := by
  blk_ext [iblk1, (idx1 t).2.1]

theorem read2 (c : Dev nD) (t : Fin cfg1.N) (a : Fin 6144) (k : Fin 2048) :
    iblk1 V c 2 t (ix3 0 a k) = V c main_v5 (ix3 3 a k) := by
  blk_ext [iblk1, (idx1 t).2.2.1]

theorem norm_block (c : Dev nD) (t : Fin cfg1.N) (r : Fin 512) (k : Fin 2048) (R : Fin 16384)
    (hR : R.val = (grid1.coords t 0).val * 512 + r.val) :
    k1_pay1 (F := Ideal) (iblk1 V c 0 t) (iblk1 V c 1 t) (ix2 r k) = norm (V c main_v0) (V c main_v3) R k := by
  rw [pay1_apply]
  unfold norm
  simp only [read0 V c t r _ R hR, read1]

/-- A sum over the normalized block and the block of weights, as the sum of the whole arrays. -/
theorem sum_block (c : Dev nD) (t : Fin cfg1.N) (r : Fin 512) (R : Fin 16384) (a a' : Fin 6144)
    (hR : R.val = (grid1.coords t 0).val * 512 + r.val) (ha : a = a') :
    (∑ k : Fin 2048, k1_pay1 (F := Ideal) (iblk1 V c 0 t) (iblk1 V c 1 t) (ix2 r k) * iblk1 V c 2 t (ix3 0 a k))
      = projAt (V c main_v0) (V c main_v3) (V c main_v5) R a' := by
  subst ha
  refine Finset.sum_congr rfl fun k _ => ?_
  rw [norm_block V c t r k R hR, read2]

theorem proj_point3 (c : Dev nD) (t : Fin cfg1.N) (y : S512x6144.Idx) (R : Fin 16384) (C : Fin 6144)
    (hR : R.val = (grid1.coords t 0).val * 512 + (y 0).val) (hC : C.val = (y 1).val) :
    (outsAt1 V c t).1 y = projAt (V c main_v0) (V c main_v3) (V c main_v5) R C := by
  unfold outsAt1
  dsimp only
  frame_out
  canon_tiles x h
  all_goals
    refine Eq.trans ?_ (sum_block V c t (x 0) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 0) k) * iblk1 V c 2 t (ix3 0 a k)) (Fin.ext ?_)
    rw [hC, h1]
    try simp

theorem proj_point4 (c : Dev nD) (t : Fin cfg1.N) (y : S4x512x128.Idx) (R : Fin 16384) (C : Fin 6144)
    (hR : R.val = (grid1.coords t 0).val * 512 + (y 1).val) (hC : C.val = 3584 + (y 0).val * 128 + (y 2).val) :
    (outsAt1 V c t).2 y = projAt (V c main_v0) (V c main_v3) (V c main_v5) R C := by
  unfold outsAt1
  dsimp only
  frame_out
  canon_tiles x h
  all_goals
    refine Eq.trans ?_ (sum_block V c t (x 1) R C C (by omega) rfl)
    generalize k1_pay1 (F := Ideal) (iblk1 V c 0 t) (iblk1 V c 1 t) = H
    unfold_payloads
    pointwise
    refine Finset.sum_congr rfl fun k _ => ?_
    refine congrArg (fun a : Fin 6144 => H (ix2 (x 1) k) * iblk1 V c 2 t (ix3 0 a k)) (Fin.ext ?_)
    show _ + _ = C.val
    omega

/-- The projection, an array of 16384 rows. -/
def projArr (X : S16384x2048.Idx → EReal) (g : S1x2048.Idx → EReal) (w : S4x6144x2048.Idx → EReal) : S16384x6144.Idx → EReal :=
  fun i => projAt X g w (i 0) (i 1)

/-- Columns 3584 to 4096 of the projection, in four parts of 128. -/
def partsArr (X : S16384x2048.Idx → EReal) (g : S1x2048.Idx → EReal) (w : S4x6144x2048.Idx → EReal) : S4x16384x128.Idx → EReal :=
  fun i => projAt X g w (i 1) ⟨3584 + (i 0).val * 128 + (i 2).val, by
    have h0 : (i 0).val < 4 := (i 0).isLt
    have h2 : (i 2).val < 128 := (i 2).isLt
    omega⟩

theorem proj_arr (c : Dev nD) :
    (dat1 V c).arrAt 3 cfg1.N = projArr (V c main_v0) (V c main_v3) (V c main_v5) := by
  refine (dat1 V c).arrAt_eq_of_covers 3 _ (by decide +kernel) fun t hf y => ?_
  blk_simp
  rw [after1_3]
  refine proj_point3 V c t y _ _ ?_ ?_
  all_goals
    simp [(idx1 t).2.2.2.1]

theorem parts_arr (c : Dev nD) :
    (dat1 V c).arrAt 4 cfg1.N = partsArr (V c main_v0) (V c main_v3) (V c main_v5) := by
  refine (dat1 V c).arrAt_eq_of_covers 4 _ (by decide +kernel) fun t hf y => ?_
  blk_simp
  rw [after1_4]
  refine proj_point4 V c t y _ _ ?_ ?_
  all_goals
    simp [(idx1 t).2.2.2.2]

end Cert.Proof.InProj.L3

end
-- ==== Proof.InProj.L3.Run.lean ====
module

public import proofs.«01_k».proof.Proof.InProj.Run
public import proofs.«01_k».proof.Proof.InProj.L3.Perm
public import proofs.«01_k».proof.Proof.InProj.L3.Proj
public import Idealize.ShloMosaic.Lib.Claim

/-! The run of the input projection of layer 3: its two results as functions of its arguments. -/

@[expose] public section

set_option maxRecDepth 16384

noncomputable section

namespace Cert.Proof.InProj.L3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

theorem entry_rows (c : Dev nD) : V1 m ρ c main_v0 = rows (m ((c : Thread nD τ).loc main_arg0)) := by
  unfold_abbrev_sides
  after_results
  rfl

theorem entry_gain (c : Dev nD) (k : Fin 2048) :
    (V1 m ρ c main_v3 : S1x2048.Idx → EReal) (ix2 0 k) = (m ((c : Thread nD τ).loc main_arg1) : S4x2048.Idx → EReal) (ix2 3 k) := by
  unfold_abbrev_sides
  after_results
  pointwise

theorem entry_weights (c : Dev nD) (l : Fin 4) (j : Fin 5984) (k : Fin 2048) :
    (V1 m ρ c main_v4 : S4x5984x2048.Idx → EReal) (ix3 l j k) = (m ((c : Thread nD τ).loc main_arg2) : S4x2048x5984.Idx → EReal) (ix3 l k j) := by
  unfold_abbrev_sides
  after_results
  pointwise

theorem end_proj (c : Dev nD) : W3 m ρ c (Proc.devRef .tc main_v6_0)
    = projArr (V1 m ρ c main_v0) (V1 m ρ c main_v3) (permW (V1 m ρ c main_v4)) := by
  refine (W3_arr m ρ c 3).trans ?_
  rw [proj_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

theorem end_parts (c : Dev nD) : W3 m ρ c (Proc.devRef .tc main_v6_1)
    = partsArr (V1 m ρ c main_v0) (V1 m ρ c main_v3) (permW (V1 m ρ c main_v4)) := by
  refine (W3_arr m ρ c 4).trans ?_
  rw [parts_arr]
  rw [show V2 m ρ c main_v0 = V1 m ρ c main_v0 from W2_of m ρ c main_v0 (by decide),
    show V2 m ρ c main_v3 = V1 m ρ c main_v3 from W2_of m ρ c main_v3 (by decide),
    show V2 m ρ c main_v5 = permW (V1 m ρ c main_v4) from (W2_arr m ρ c 1).trans (perm_arr _ c)]

/-- The run: both results, and the arguments as they were. -/
theorem run : θ_run defs (onTc (τ := τ) (main (F := Ideal))) ⟨m, fun _ => 0, ρ⟩ (fun r => ∀ c : Dev nD,
      r.2.mem ((c.tc : Thread nD τ).loc main_v6_0) = projArr (V1 m ρ c main_v0) (V1 m ρ c main_v3) (permW (V1 m ρ c main_v4))
      ∧ r.2.mem ((c.tc : Thread nD τ).loc main_v6_1) = partsArr (V1 m ρ c main_v0) (V1 m ρ c main_v3) (permW (V1 m ρ c main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6_0 (by decide))).trans (end_proj m ρ c),
     (h c _ (mem_uc main_v6_1 (by decide))).trans (end_parts m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_bound m ρ)

end Cert.Proof.InProj.L3

end
-- ==== Proof.InProj.L3.Ref.lean ====
module

public import proofs.«01_k».proof.Proof.InProj.L3.Perm
public import proofs.«01_k».proof.Proof.InProj.L3.Proj
public import proofs.«01_k».proof.Proof.Gen.Reference6Ideal.Run
public import proofs.«01_k».proof.Proof.Gen.Reference6Ideal.Read
public import proofs.«01_k».proof.Proof.InProj.Ref
public import Idealize.ShloMosaic.Lib.KernelVsHost

/-! The two results of the reference of layer 3, read at an index. -/

@[expose] public section

set_option maxRecDepth 16384

noncomputable section

namespace Cert.Proof.InProj.L3

open Idealize.ShloMosaic Idealize.ShloMosaic.TcCoe Idealize.ShloMosaic.Tactic
open Cert.Reference6Ideal Cert.Reference6Ideal.Gen Cert.Reference6Ideal.Read

variable (x0 : S4x4096x2048.Idx → EReal) (x1 : S4x2048.Idx → EReal) (x2 : S4x2048x5984.Idx → EReal)

theorem ref_norm (g : S1x2048.Idx → EReal) (hg : ∀ k : Fin 2048, g (ix2 0 k) = x1 (ix2 3 k)) (r : Fin 16384) (k : Fin 2048) :
    val_main_v15 (F := Ideal) x0 x1 (ix2 r k) = norm (val_main_v0 (F := Ideal) x0) g r k := by
  unfold norm
  rw [hg]
  rw [val_main_v15_apply, val_main_v10_apply, val_main_v9_apply, val_main_v8_apply, val_main_v7_apply, val_main_v5_apply, val_main_v3_apply,
    val_main_v2_apply, val_main_v14_apply, val_main_v13_apply, val_main_v12_apply, val_main_v11_apply, val_main_v4_apply, val_main_v6_apply]
  simp only [val_main_v1_apply, val_main_cst_apply, val_main_cst_0_apply, val_main_cst_1_apply]
  generalize val_main_v0 (F := Ideal) x0 = X
  have e : idx_main_v11 (idx_main_v12 (idx_main_v13 (idx_main_v14 (ix2 r k)))) = ix2 3 k :=
    funext fun a => Fin.ext (by
      match a with
      | ⟨0, _⟩ => rfl
      | ⟨1, _⟩ => exact Nat.mod_eq_of_lt k.isLt)
  have e' : ∀ j : Fin 2048, idx_main_v2 (idx_main_v3 (idx_main_v9 (ix2 r k))) j = ix2 r j := fun j =>
    funext fun a => Fin.ext (by
      match a with
      | ⟨0, _⟩ => rfl
      | ⟨1, _⟩ => rfl)
  rw [e]
  simp only [e', Ideal.mulf_def, Ideal.addf_def, Ideal.hostUnary_rsqrt_def, Ideal.hostDivf_def, Ideal.ofBits_def, Ideal.ofBits_zero_f32, zero_add]

theorem ref_dot (g : S1x2048.Idx → EReal) (hg : ∀ k : Fin 2048, g (ix2 0 k) = x1 (ix2 3 k)) (r : Fin 16384) (j : Fin 5984) :
    val_main_v18 (F := Ideal) x0 x1 x2 (ix2 r j) = ∑ k : Fin 2048, norm (val_main_v0 (F := Ideal) x0) g r k * x2 (ix3 3 k j) := by
  rw [val_main_v18_apply]
  refine Finset.sum_congr rfl fun k _ => ?_
  rw [val_main_v17_apply, val_main_v16_apply, ← ref_norm x0 x1 g hg]
  have e : lidx_main_v18 (ix2 r j) k = ix2 r k := funext fun a => Fin.ext (by
    match a with
    | ⟨0, _⟩ => rfl
    | ⟨1, _⟩ => rfl)
  have e' : idx_main_v16 (idx_main_v17 (ridx_main_v18 (ix2 r j) k)) = ix3 3 k j := funext fun a => Fin.ext (by
    have hk := k.isLt
    have hj := j.isLt
    match a with
    | ⟨0, _⟩ => rfl
    | ⟨1, _⟩ => show (k.val * 5984 + j.val) / 5984 % 2048 = k.val; omega
    | ⟨2, _⟩ => show (k.val * 5984 + j.val) % 5984 = j.val; omega)
  rw [e, e']

/-- Column `c` of the concatenation is column `src c` of the product. -/
theorem ref_cat (r : Fin 16384) (c : Fin 5984) :
    val_main_v35 (F := Ideal) x0 x1 x2 (ix2 r c) = val_main_v18 (F := Ideal) x0 x1 x2 (ix2 r ⟨src c.val, src_lt _⟩) := by
  have hc := c.isLt
  by_cases h0 : c.val < 512
  · refine (cat_0 _ _ _ _ _ _ _ _ _ _ _ _ _ _ _ _ r c ⟨c.val - 0, by omega⟩ (by show 0 + (c.val - 0) = c.val; omega)).trans ?_
    rw [val_main_v23_apply]
    refine at_col _ _ _ _ rfl ?_
    show 1040 + (c.val - 0) = src c.val
    unfold src
    rw [if_pos (by omega)]
    omega
  by_cases h1 : c.val < 1024
  · refine (cat_1 _ _ _ _ _ _ _ _ _ _ _ _ _ _ _ _ r c ⟨c.val - 512, by omega⟩ (by show 512 + (c.val - 512) = c.val; omega)).trans ?_
    rw [val_main_v25_apply]
    refine at_col _ _ _ _ rfl ?_
    show 2064 + (c.val - 512) = src c.val
    unfold src
    repeat rw [if_neg (by omega)]
    rw [if_pos (by omega)]
  by_cases h2 : c.val < 1536
  · refine (cat_2 _ _ _ _ _ _ _ _ _ _ _ _ _ _ _ _ r c ⟨c.val - 1024, by omega⟩ (by show 1024 + (c.val - 1024) = c.val; omega)).trans ?_
    rw [val_main_v32_apply]
    refine at_col _ _ _ _ rfl ?_
    show 4448 + (c.val - 1024) = src c.val
    unfold src
    repeat rw [if_neg (by omega)]
    rw [if_pos (by omega)]
  by_cases h3 : c.val < 2048
  · refine (cat_3 _ _ _ _ _ _ _ _ _ _ _ _ _ _ _ _ r c ⟨c.val - 1536, by omega⟩ (by show 1536 + (c.val - 1536) = c.val; omega)).trans ?_
    rw [val_main_v34_apply]
    refine at_col _ _ _ _ rfl ?_
    show 5472 + (c.val - 1536) = src c.val
    unfold src
    repeat rw [if_neg (by omega)]
    rw [if_pos (by omega)]
  by_cases h4 : c.val < 3072
  · refine (cat_4 _ _ _ _ _ _ _ _ _ _ _ _ _ _ _ _ r c ⟨c.val - 2048, by omega⟩ (by show 2048 + (c.val - 2048) = c.val; omega)).trans ?_
    rw [val_main_v29_apply]
    refine at_col _ _ _ _ rfl ?_
    show 3344 + (c.val - 2048) = src c.val
    unfold src
    repeat rw [if_neg (by omega)]
    rw [if_pos (by omega)]
  by_cases h5 : c.val < 3584
  · refine (cat_5 _ _ _ _ _ _ _ _ _ _ _ _ _ _ _ _ r c ⟨c.val - 3072, by omega⟩ (by show 3072 + (c.val - 3072) = c.val; omega)).trans ?_
    rw [val_main_v21_apply]
    refine at_col _ _ _ _ rfl ?_
    show 512 + (c.val - 3072) = src c.val
    unfold src
    repeat rw [if_neg (by omega)]
    rw [if_pos (by omega)]
  by_cases h6 : c.val < 4096
  · refine (cat_6 _ _ _ _ _ _ _ _ _ _ _ _ _ _ _ _ r c ⟨c.val - 3584, by omega⟩ (by show 3584 + (c.val - 3584) = c.val; omega)).trans ?_
    rw [val_main_v24_apply]
    refine at_col _ _ _ _ rfl ?_
    show 1552 + (c.val - 3584) = src c.val
    unfold src
    repeat rw [if_neg (by omega)]
    rw [if_pos (by omega)]
  by_cases h7 : c.val < 4608
  · refine (cat_7 _ _ _ _ _ _ _ _ _ _ _ _ _ _ _ _ r c ⟨c.val - 4096, by omega⟩ (by show 4096 + (c.val - 4096) = c.val; omega)).trans ?_
    rw [val_main_v26_apply]
    refine at_col _ _ _ _ rfl ?_
    show 2576 + (c.val - 4096) = src c.val
    unfold src
    repeat rw [if_neg (by omega)]
    rw [if_pos (by omega)]
  by_cases h8 : c.val < 5120
  · refine (cat_8 _ _ _ _ _ _ _ _ _ _ _ _ _ _ _ _ r c ⟨c.val - 4608, by omega⟩ (by show 4608 + (c.val - 4608) = c.val; omega)).trans ?_
    rw [val_main_v33_apply]
    refine at_col _ _ _ _ rfl ?_
    show 4960 + (c.val - 4608) = src c.val
    unfold src
    repeat rw [if_neg (by omega)]
    rw [if_pos (by omega)]
  by_cases h9 : c.val < 5376
  · refine (cat_9 _ _ _ _ _ _ _ _ _ _ _ _ _ _ _ _ r c ⟨c.val - 5120, by omega⟩ (by show 5120 + (c.val - 5120) = c.val; omega)).trans ?_
    rw [val_main_v19_apply]
    refine at_col _ _ _ _ rfl ?_
    show (c.val - 5120) = src c.val
    unfold src
    repeat rw [if_neg (by omega)]
    rw [if_pos (by omega)]
    omega
  by_cases h10 : c.val < 5632
  · refine (cat_10 _ _ _ _ _ _ _ _ _ _ _ _ _ _ _ _ r c ⟨c.val - 5376, by omega⟩ (by show 5376 + (c.val - 5376) = c.val; omega)).trans ?_
    rw [val_main_v20_apply]
    refine at_col _ _ _ _ rfl ?_
    show 256 + (c.val - 5376) = src c.val
    unfold src
    repeat rw [if_neg (by omega)]
    rw [if_pos (by omega)]
  by_cases h11 : c.val < 5760
  · refine (cat_11 _ _ _ _ _ _ _ _ _ _ _ _ _ _ _ _ r c ⟨c.val - 5632, by omega⟩ (by show 5632 + (c.val - 5632) = c.val; omega)).trans ?_
    rw [val_main_v27_apply]
    refine at_col _ _ _ _ rfl ?_
    show 3088 + (c.val - 5632) = src c.val
    unfold src
    repeat rw [if_neg (by omega)]
    rw [if_pos (by omega)]
  by_cases h12 : c.val < 5888
  · refine (cat_12 _ _ _ _ _ _ _ _ _ _ _ _ _ _ _ _ r c ⟨c.val - 5760, by omega⟩ (by show 5760 + (c.val - 5760) = c.val; omega)).trans ?_
    rw [val_main_v28_apply]
    refine at_col _ _ _ _ rfl ?_
    show 3216 + (c.val - 5760) = src c.val
    unfold src
    repeat rw [if_neg (by omega)]
    rw [if_pos (by omega)]
  by_cases h13 : c.val < 5952
  · refine (cat_13 _ _ _ _ _ _ _ _ _ _ _ _ _ _ _ _ r c ⟨c.val - 5888, by omega⟩ (by show 5888 + (c.val - 5888) = c.val; omega)).trans ?_
    rw [val_main_v30_apply]
    refine at_col _ _ _ _ rfl ?_
    show 4368 + (c.val - 5888) = src c.val
    unfold src
    repeat rw [if_neg (by omega)]
    rw [if_pos (by omega)]
  by_cases h14 : c.val < 5968
  · refine (cat_14 _ _ _ _ _ _ _ _ _ _ _ _ _ _ _ _ r c ⟨c.val - 5952, by omega⟩ (by show 5952 + (c.val - 5952) = c.val; omega)).trans ?_
    rw [val_main_v22_apply]
    refine at_col _ _ _ _ rfl ?_
    show 1024 + (c.val - 5952) = src c.val
    unfold src
    repeat rw [if_neg (by omega)]
    rw [if_pos (by omega)]
  refine (cat_15 _ _ _ _ _ _ _ _ _ _ _ _ _ _ _ _ r c ⟨c.val - 5968, by omega⟩ (by show 5968 + (c.val - 5968) = c.val; omega)).trans ?_
  rw [val_main_v31_apply]
  refine at_col _ _ _ _ rfl ?_
  show 4432 + (c.val - 5968) = src c.val
  unfold src
  repeat rw [if_neg (by omega)]
  rw [if_pos (by omega)]

theorem ref_proj (g : S1x2048.Idx → EReal) (hg : ∀ k : Fin 2048, g (ix2 0 k) = x1 (ix2 3 k))
    (w : Cert.Kernel6Ideal.S4x5984x2048.Idx → EReal) (hw : ∀ (j : Fin 5984) (k : Fin 2048), w (ix3 3 j k) = x2 (ix3 3 k j)) :
    val_main_v37 (F := Ideal) x0 x1 x2 = projArr (val_main_v0 (F := Ideal) x0) g (permW w) := by
  refine funext fun i => ?_
  have hi : i = ix2 (i 0) (i 1) := funext fun a => by
    match a with
    | ⟨0, _⟩ => rfl
    | ⟨1, _⟩ => rfl
  have hc : (i 1).val < 6144 := (i 1).isLt
  rw [val_main_v37_apply]
  show val_main_v36 (F := Ideal) x0 x1 x2 i = projAt _ g (permW w) (i 0) (i 1)
  unfold val_main_v36 projAt
  by_cases h : (i 1).val < 5984
  · rw [pad_apply_of_inside _ _ _ _ _ _ _ i (ix2 (i 0) ⟨(i 1).val, h⟩ : S16384x5984.Idx) (fun a => by
      match a with
      | ⟨0, _⟩ => show (i 0).val = 0 + (i 0).val * 1; omega
      | ⟨1, _⟩ => show (i 1).val = 0 + (i 1).val * 1; omega)]
    refine (ref_cat x0 x1 x2 (i 0) ⟨(i 1).val, h⟩).trans ((ref_dot x0 x1 x2 g hg (i 0) _).trans ?_)
    refine Finset.sum_congr rfl fun k _ => congrArg (fun z : EReal => norm (val_main_v0 (F := Ideal) x0) g (i 0) k * z) ?_
    exact ((if_pos h).trans (hw _ _)).symm
  · rw [pad_apply_of_not_inside _ _ _ _ _ _ _ i 1 (fun hin => h (by
      have := hin.2.2
      have e : ((i 1).val - 0) / (0 + 1) < 5984 := this
      omega))]
    refine Eq.trans ?_ (Finset.sum_eq_zero fun k _ => ?_).symm
    · rw [val_main_call0_v0_apply, val_main_c_apply]
      exact sitofp_zero
    · rw [show permW w (ix3 3 (i 1) k) = 0 from if_neg h, mul_zero]

theorem ref_parts (g : S1x2048.Idx → EReal) (hg : ∀ k : Fin 2048, g (ix2 0 k) = x1 (ix2 3 k))
    (w : Cert.Kernel6Ideal.S4x5984x2048.Idx → EReal) (hw : ∀ (j : Fin 5984) (k : Fin 2048), w (ix3 3 j k) = x2 (ix3 3 k j)) :
    val_main_v39 (F := Ideal) x0 x1 x2 = partsArr (val_main_v0 (F := Ideal) x0) g (permW w) := by
  refine funext fun i => ?_
  have h0 : (i 0).val < 4 := (i 0).isLt
  have h1 : (i 1).val < 16384 := (i 1).isLt
  have h2 : (i 2).val < 128 := (i 2).isLt
  have hs : src (3584 + (i 0).val * 128 + (i 2).val) = 1552 + ((i 0).val * 128 + (i 2).val) := by
    unfold src
    repeat rw [if_neg (by omega)]
    rw [if_pos (by omega)]
    omega
  rw [val_main_v39_apply, val_main_v38_apply, val_main_v24_apply]
  rw [at_col (val_main_v18 (F := Ideal) x0 x1 x2) _ (i 1) ⟨src (3584 + (i 0).val * 128 + (i 2).val), src_lt _⟩
    (by show (((i 1).val * 4 + (i 0).val) * 128 + (i 2).val) / 512 = (i 1).val; omega)
    (by show 1552 + (((i 1).val * 4 + (i 0).val) * 128 + (i 2).val) % 512 = src (3584 + (i 0).val * 128 + (i 2).val); omega)]
  refine (ref_dot x0 x1 x2 g hg (i 1) _).trans ?_
  show _ = projAt _ g (permW w) (i 1) _
  unfold projAt
  refine Finset.sum_congr rfl fun k _ => congrArg (fun z : EReal => norm (val_main_v0 (F := Ideal) x0) g (i 1) k * z) ?_
  exact ((if_pos (show 3584 + (i 0).val * 128 + (i 2).val < 5984 by omega)).trans (hw _ _)).symm

end Cert.Proof.InProj.L3

end
-- ==== Proof.InProj.L3.Claim.lean ====
module

public import proofs.«01_k».proof.Defs
public import proofs.«01_k».proof.Proof.InProj.L3.Run
public import proofs.«01_k».proof.Proof.InProj.L3.Ref
public import Idealize.ShloMosaic.Lib.Quiescent

/-! The input projection of layer 3: the kernel's results are the reference's. -/

@[expose] public section

set_option maxRecDepth 16384

noncomputable section

namespace Cert.Proof.InProj.L3

open Idealize.ShloMosaic Idealize.ShloMosaic.TcCoe Idealize.ShloMosaic.Tactic Idealize.SL.Sem

/-- The reference leaves its arguments unchanged, and has no semaphore. -/
theorem frame_reference : Cert.quiescent_Reference6Ideal := fun m ρ _ =>
  (θ_run _ _ _).mono (fun _ h => ⟨fun c => (h c).2.2, sem_eq_zero_of_no_sems rfl _⟩) (Cert.Reference6Ideal.Value.run m ρ)

theorem algebraic : Cert.algebraic_Kernel6Ideal_Reference6Ideal := by
  intro m g m' g' _ hag
  refine ⟨_, _, run m g, (θ_run _ _ _).mono (fun _ h c => ?_) (Cert.Reference6Ideal.Value.run m' g')⟩
  obtain ⟨h0, h1, hargs⟩ := h c
  obtain ⟨a0, a1, a2⟩ := hag c
  refine ⟨h0.trans ?_, h1.trans ?_, hargs⟩
  · rw [Cert.Reference6Ideal.Read.val_main_v37_eq, a0, a1, a2]
    refine (ref_proj _ _ _ _ (entry_gain m g c) _ (entry_weights m g c 3)).trans ?_
    rw [entry_rows]
    rfl
  · rw [Cert.Reference6Ideal.Read.val_main_v39_eq, a0, a1, a2]
    refine (ref_parts _ _ _ _ (entry_gain m g c) _ (entry_weights m g c 3)).trans ?_
    rw [entry_rows]
    rfl

end Cert.Proof.InProj.L3

end
-- ==== Proof.OutProj.L1.Block.lean ====
/-
  The output projection of layer 1 at one grid point.
-/
module

public import proofs.«01_k».proof.Proof.OutProj.Block
public import proofs.«01_k».proof.Proof.Gen.Kernel7Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.OutProj.L1

open Idealize.ShloMosaic Idealize.ShloMosaic.TcCoe Idealize.ShloMosaic.Tactic
open Cert.Kernel7Ideal Cert.Kernel7Ideal.Gen
open Idealize.ShloMosaic.Pipeline (Dat Cfg Window)

/-- What a grid point leaves in the result's block, from the point's input blocks. -/
theorem point (m : (ℓ : Loc nD τ sig) → Buf (Elt Ideal) ℓ) (c : Dev nD) (t : Fin cfg0.N) (r : Fin 512) (k : Fin 2048) :
    outsAt0 m c t (ix2 r k) = outBlk (iblk m c 0 t) (fun i => s5At (ysRow (iblk m c 1 t) (i 0)) (fun j k => iblk m c 7 t (ix3 0 j k)) (i 1))
      (iblk m c 2 t) (iblk m c 3 t) (iblk m c 4 t) (iblk m c 5 t) (iblk m c 6 t) (iblk m c 8 t) (ix2 r k) := by
  have hS : k0_pay3 (F := Ideal) (View.ld (iblk m c 1 t) (Rect.unit ![0, 0, 0] ![1, 512, 128] inb_S4x512x128_S1x512x128_0_0_0))
      (View.ld (iblk m c 1 t) (Rect.unit ![1, 0, 0] ![1, 512, 128] inb_S4x512x128_S1x512x128_1_0_0))
      (View.ld (iblk m c 1 t) (Rect.unit ![2, 0, 0] ![1, 512, 128] inb_S4x512x128_S1x512x128_2_0_0))
      (View.ld (iblk m c 1 t) (Rect.unit ![3, 0, 0] ![1, 512, 128] inb_S4x512x128_S1x512x128_3_0_0)) (iblk m c 7 t)
      = fun i : S512x512.Idx => s5At (ysRow (iblk m c 1 t) (i 0)) (fun j k => iblk m c 7 t (ix3 0 j k)) (i 1) := by
    funext i
    obtain ⟨r, k, rfl⟩ : ∃ (r : Fin 512) (k : Fin 512), i = ix2 r k := ⟨i 0, i 1, funext fun a => by match a with | ⟨0, _⟩ => rfl | ⟨1, _⟩ => rfl⟩
    exact pay3_apply _ _ r k
  unfold outsAt0
  frame_out
  refine (pay2_apply _ _ _ _).trans ?_
  unfold outBlk
  refine congrArg₂ (fun a s : EReal => a + s) rfl (Finset.sum_congr rfl fun j _ => congrArg₂ (fun a b : EReal => a * b) ?_ rfl)
  refine (congrFun (View.readCov_eq_canon' _ _ _) _).trans ?_
  refine Eq.trans ?_ ((congrArg (fun S => View.canon (stores (iblk m c 0 t) (iblk m c 2 t) (iblk m c 3 t) S (iblk m c 4 t) (iblk m c 6 t)) (ix2 r j)) hS).trans
    (stores_read _ _ _ _ _ _ _))
  refine congrArg (View.canon _) (funext fun a => Fin.ext ?_)
  match a with
  | ⟨0, _⟩ => simp
  | ⟨1, _⟩ => simp

end Cert.Proof.OutProj.L1
-- ==== Proof.OutProj.L1.Arr.lean ====
/-
  The output projection of layer 1 over its whole arrays: every block of its result is the same function of them.
-/
module

public import proofs.«01_k».proof.Proof.OutProj.Arr
public import proofs.«01_k».proof.Proof.OutProj.L1.Block

@[expose] public section

set_option maxRecDepth 16384

noncomputable section

namespace Cert.Proof.OutProj.L1

open Idealize.ShloMosaic Idealize.ShloMosaic.TcCoe Idealize.ShloMosaic.Tactic
open Cert.Kernel7Ideal Cert.Kernel7Ideal.Gen
open Idealize.ShloMosaic.Pipeline (Dat Cfg Window)

theorem idx0 : ∀ t : Fin cfg0.N, (win0_0.index t = ![(grid0.coords t 0).val, 0] ∧ win0_1.index t = ![0, (grid0.coords t 0).val, 0]
    ∧ win0_2.index t = ![(grid0.coords t 0).val, 0] ∧ win0_3.index t = ![(grid0.coords t 0).val, 0]
    ∧ win0_4.index t = ![(grid0.coords t 0).val, 0]) ∧ win0_5.index t = ![(grid0.coords t 0).val, 0]
    ∧ win0_6.index t = ![0, 0] ∧ win0_7.index t = ![1, 0, 0] ∧ win0_8.index t = ![1, 0, 0]
    ∧ win0_9.index t = ![(grid0.coords t 0).val, 0] :=
  (by decide +kernel : ∀ t : Fin grid0.N, _)

variable (m : (ℓ : Loc nD τ sig) → Buf (Elt Ideal) ℓ)

theorem read0 (c : Dev nD) (t : Fin cfg0.N) (r : Fin 512) (k : Fin 512) (R : Fin 16384) (hR : R.val = (grid0.coords t 0).val * 512 + r.val) :
    iblk m c 0 t (ix2 r k) = V m c main_arg0 (ix2 R k) := by
  blk_ext [iblk, (idx0 t).1.1]

theorem read1 (c : Dev nD) (t : Fin cfg0.N) (a : Fin 4) (r : Fin 512) (k : Fin 128) (R : Fin 16384)
    (hR : R.val = (grid0.coords t 0).val * 512 + r.val) : iblk m c 1 t (ix3 a r k) = V m c main_arg1 (ix3 a R k) := by
  blk_ext [iblk, (idx0 t).1.2.1]

theorem read2 (c : Dev nD) (t : Fin cfg0.N) (r : Fin 512) (k : Fin 512) (R : Fin 16384) (hR : R.val = (grid0.coords t 0).val * 512 + r.val) :
    iblk m c 2 t (ix2 r k) = V m c main_arg2 (ix2 R k) := by
  blk_ext [iblk, (idx0 t).1.2.2.1]

theorem read3 (c : Dev nD) (t : Fin cfg0.N) (r : Fin 512) (k : Fin 512) (R : Fin 16384) (hR : R.val = (grid0.coords t 0).val * 512 + r.val) :
    iblk m c 3 t (ix2 r k) = V m c main_arg3 (ix2 R k) := by
  blk_ext [iblk, (idx0 t).1.2.2.2.1]

theorem read4 (c : Dev nD) (t : Fin cfg0.N) (r : Fin 512) (k : Fin 2048) (R : Fin 16384) (hR : R.val = (grid0.coords t 0).val * 512 + r.val) :
    iblk m c 4 t (ix2 r k) = V m c main_arg4 (ix2 R ⟨k.val, by omega⟩) := by
  blk_ext [iblk, (idx0 t).1.2.2.2.2]

theorem read5 (c : Dev nD) (t : Fin cfg0.N) (r : Fin 512) (k : Fin 2048) (R : Fin 16384) (hR : R.val = (grid0.coords t 0).val * 512 + r.val) :
    iblk m c 5 t (ix2 r k) = V m c main_v0 (ix2 R k) := by
  blk_ext [iblk, (idx0 t).2.1]

theorem read6 (c : Dev nD) (t : Fin cfg0.N) (k : Fin 2048) : iblk m c 6 t (ix2 0 k) = V m c main_v3 (ix2 0 k) := by
  blk_ext [iblk, (idx0 t).2.2.1]

theorem read7 (c : Dev nD) (t : Fin cfg0.N) (j k : Fin 512) : iblk m c 7 t (ix3 0 j k) = V m c main_v4 (ix3 1 j k) := by
  blk_ext [iblk, (idx0 t).2.2.2.1]

theorem read8 (c : Dev nD) (t : Fin cfg0.N) (j k : Fin 2048) : iblk m c 8 t (ix3 0 j k) = V m c main_v5 (ix3 1 j k) := by
  blk_ext [iblk, (idx0 t).2.2.2.2.1]

/-- The block of point `t`, in terms of the whole arrays. -/
theorem point_all (c : Dev nD) (t : Fin cfg0.N) (r : Fin 512) (k : Fin 2048) (R : Fin 16384)
    (hR : R.val = (grid0.coords t 0).val * 512 + r.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 1 j k)) (fun j k => V m c main_v5 (ix3 1 j k)) R k := by
  rw [point]
  have hy : ysRow (iblk m c 1 t) r = ysAll (V m c main_arg1) R := funext fun k => read1 m c t _ r _ R hR
  have hrow : blockRow (iblk m c 0 t) (fun i => s5At (ysRow (iblk m c 1 t) (i 0)) (fun j k => iblk m c 7 t (ix3 0 j k)) (i 1)) (iblk m c 2 t) (iblk m c 3 t) r
      = rowOf (fun k => V m c main_arg0 (ix2 R k)) (s5At (ysAll (V m c main_arg1) R) (fun j k => V m c main_v4 (ix3 1 j k)))
        (fun k => V m c main_arg2 (ix2 R k)) (fun k => V m c main_arg3 (ix2 R k)) := by
    unfold blockRow
    rw [funext fun k => read0 m c t r k R hR, funext fun k => read2 m c t r k R hR, funext fun k => read3 m c t r k R hR]
    refine congrArg (fun b => rowOf _ b _ _) ?_
    show s5At (ysRow (iblk m c 1 t) r) (fun j k => iblk m c 7 t (ix3 0 j k)) = _
    rw [hy, funext fun j => funext fun k => read7 m c t j k]
  refine congrArg₂ (fun a s : EReal => a + s) (read5 m c t r k R hR) (Finset.sum_congr rfl fun j _ => congrArg₂ (fun a b : EReal => a * b) ?_ (read8 m c t j k))
  show lhsOf (blockRow _ _ _ _ r) (iblk m c 6 t (ix2 0 j)) (iblk m c 4 t (ix2 r j)) j = _
  rw [hrow, read6, read4 m c t r j R hR]

theorem point_all' (c : Dev nD) (t : Fin cfg0.N) (r : Fin 512) (k : Fin 2048) (R : Fin 16384) (C : Fin 2048)
    (hR : R.val = (grid0.coords t 0).val * 512 + r.val) (hC : C.val = k.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 1 j k)) (fun j k => V m c main_v5 (ix3 1 j k)) R C := by
  obtain rfl : C = k := Fin.ext hC
  exact point_all m c t r C R hR

theorem arr9 (c : Dev nD) : (dats m 0 c).arrAt 9 cfg0.N = fun i : S16384x2048.Idx =>
    outAt (V m c main_arg0) (V m c main_arg1) (V m c main_arg2) (V m c main_arg3) (V m c main_arg4) (V m c main_v0)
      (fun k => V m c main_v3 (ix2 0 k)) (fun j k => V m c main_v4 (ix3 1 j k)) (fun j k => V m c main_v5 (ix3 1 j k)) (i 0) (i 1) := by
  refine (dats m 0 c).arrAt_eq_of_covers 9 _ (by decide +kernel) fun t hf y => ?_
  obtain ⟨r, k, rfl⟩ : ∃ (r : Fin 512) (k : Fin 2048), y = ix2 r k := ⟨y 0, y 1, funext fun a => by match a with | ⟨0, _⟩ => rfl | ⟨1, _⟩ => rfl⟩
  blk_simp
  rw [after0_9]
  refine point_all' m c t r k _ _ ?_ ?_
  all_goals
    simp [(idx0 t).2.2.2.2.2]

theorem entry_rows (c : Dev nD) : V m c main_v0 = rows (m ((c : Thread nD τ).loc main_arg5)) := by
  unfold_abbrev_sides
  after_results
  rfl

theorem entry_gain (c : Dev nD) (k : Fin 2048) :
    (V m c main_v3 : S1x2048.Idx → EReal) (ix2 0 k) = (m ((c : Thread nD τ).loc main_arg6) : S4x2048.Idx → EReal) (ix2 1 k) := by
  unfold_abbrev_sides
  after_results
  pointwise

theorem entry_glu (c : Dev nD) : V m c main_v4 = m ((c : Thread nD τ).loc main_arg7) := by
  unfold_abbrev_sides
  after_results
  rfl

theorem entry_weights (c : Dev nD) : V m c main_v5 = m ((c : Thread nD τ).loc main_arg8) := by
  unfold_abbrev_sides
  after_results
  rfl

end Cert.Proof.OutProj.L1

end
-- ==== Proof.OutProj.L1.Ref.lean ====
/-
  The result of the reference of layer 1, read at an index, stage by stage.
-/
module

public import proofs.«01_k».proof.Proof.OutProj.Ref
public import proofs.«01_k».proof.Proof.OutProj.L1.Arr
public import proofs.«01_k».proof.Proof.Gen.Reference7Ideal.Run
public import proofs.«01_k».proof.Proof.Gen.Reference7Ideal.Read
public import Idealize.ShloMosaic.Lib.KernelVsHost

@[expose] public section

set_option maxRecDepth 16384

noncomputable section

namespace Cert.Proof.OutProj.L1

open Idealize.ShloMosaic Idealize.ShloMosaic.TcCoe Idealize.ShloMosaic.Tactic
open Cert.Reference7Ideal Cert.Reference7Ideal.Gen Cert.Reference7Ideal.Read

variable (x0 : S16384x512.Idx → EReal) (x1 : S4x16384x128.Idx → EReal) (x2 x3 : S16384x512.Idx → EReal) (x4 : S16384x6144.Idx → EReal)
  (x5 : S4x4096x2048.Idx → EReal) (x6 : S4x2048.Idx → EReal) (x7 : S4x512x512.Idx → EReal) (x8 : S4x2048x2048.Idx → EReal)

theorem ref_ys (r : Fin 16384) (k : Fin 512) : val_main_v1 (F := Ideal) x1 (ix2 r k) = ysAll x1 r k := by
  rw [val_main_v1_apply, val_main_v0_apply]
  refine congrArg x1 (funext fun a => Fin.ext ?_)
  have hr := r.isLt
  have hk := k.isLt
  match a with
  | ⟨0, _⟩ => show (r.val * 512 + k.val) / 128 % 4 = k.val / 128; omega
  | ⟨1, _⟩ => show (r.val * 512 + k.val) / 512 = r.val; omega
  | ⟨2, _⟩ => show (r.val * 512 + k.val) % 128 = k.val % 128; omega

theorem ref_gelu (r : Fin 16384) (k : Fin 512) : val_main_v14 (F := Ideal) x1 (ix2 r k) = gelu (ysAll x1 r k) := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, ref_ys]
  simp only [val_main_cst_apply, val_main_cst_0_apply, val_main_cst_1_apply, val_main_cst_2_apply, Ideal.mulf_def, Ideal.addf_def,
    Ideal.hostUnary_tanh_def, Ideal.ofBits_def, Ideal.ofBits_one_f32]
  unfold gelu
  rw [mul_comm (ysAll x1 r k * ysAll x1 r k) (ysAll x1 r k)]

theorem ref_s5 (r : Fin 16384) (k : Fin 512) :
    val_main_v24 (F := Ideal) x1 x7 (ix2 r k) = s5At (ysAll x1 r) (fun j k => x7 (ix3 1 j k)) k := by
  have hd : val_main_v17 (F := Ideal) x1 x7 (ix2 r k) = ∑ j : Fin 512, gelu (ysAll x1 r j) * x7 (ix3 1 j k) := by
    rw [val_main_v17_apply]
    refine Finset.sum_congr rfl fun j _ => ?_
    rw [val_main_v16_apply, val_main_v15_apply, ← ref_gelu]
    have e : lidx_main_v17 (ix2 r k) j = ix2 r j := funext fun a => Fin.ext (by
      match a with
      | ⟨0, _⟩ => rfl
      | ⟨1, _⟩ => rfl)
    have e' : idx_main_v15 (idx_main_v16 (ridx_main_v17 (ix2 r k) j)) = ix3 1 j k := funext fun a => Fin.ext (by
      have hk := k.isLt
      have hj := j.isLt
      match a with
      | ⟨0, _⟩ => rfl
      | ⟨1, _⟩ => show (j.val * 512 + k.val) / 512 % 512 = j.val; omega
      | ⟨2, _⟩ => show (j.val * 512 + k.val) % 512 = k.val; omega)
    rw [e, e']
  rw [val_main_v24_apply, val_main_v23_apply, val_main_v22_apply, val_main_v21_apply, val_main_v20_apply, val_main_v19_apply, val_main_v18_apply,
    hd, ref_gelu]
  simp only [val_main_cst_3_apply, val_main_cst_4_apply, Ideal.mulf_def, Ideal.addf_def, Ideal.ofBits_def, Ideal.ofBits_one_f32]
  rfl

/-- The four branches' row `r`. -/
def refRow (r : Fin 16384) : Fin 2048 → EReal :=
  rowOf (fun k => x0 (ix2 r k)) (s5At (ysAll x1 r) (fun j k => x7 (ix3 1 j k))) (fun k => x2 (ix2 r k)) (fun k => x3 (ix2 r k))

theorem ref_row (r : Fin 16384) (c : Fin 2048) : val_main_v28 (F := Ideal) x0 x1 x2 x3 x7 (ix2 r c) = refRow x0 x1 x2 x3 x7 r c := by
  unfold val_main_v28 refRow
  refine (cat_four _ _ _ _ r c).trans ?_
  rw [funext fun k => ref_s5 x1 x7 r k]
  rfl

theorem ref_head (r : Fin 16384) (c : Fin 2048) (i : S16384x16x128.Idx) (h0 : (i 0).val = r.val) (h1 : (i 1).val * 128 + (i 2).val = c.val) :
    val_main_v29 (F := Ideal) x0 x1 x2 x3 x7 i = refRow x0 x1 x2 x3 x7 r c := by
  rw [val_main_v29_apply, ← ref_row]
  refine congrArg _ (funext fun a => Fin.ext ?_)
  have h1' : (i 1).val < 16 := (i 1).isLt
  have h2' : (i 2).val < 128 := (i 2).isLt
  match a with
  | ⟨0, _⟩ => show (((i 0).val * 16 + (i 1).val) * 128 + (i 2).val) / 2048 = r.val; omega
  | ⟨1, _⟩ => show (((i 0).val * 16 + (i 1).val) * 128 + (i 2).val) % 2048 = c.val; omega

theorem ref_gate (r : Fin 16384) (c : Fin 2048) :
    val_main_v50 (F := Ideal) x4 (ix2 r c) = x4 (ix2 r ⟨c.val, by omega⟩) * Ideal.logistic (x4 (ix2 r ⟨c.val, by omega⟩)) := by
  have hz : val_main_v47 (F := Ideal) x4 (ix2 r c) = x4 (ix2 r ⟨c.val, by omega⟩) := by
    rw [val_main_v47_apply, val_main_v46_apply]
    refine congrArg x4 (funext fun a => Fin.ext ?_)
    match a with
    | ⟨0, _⟩ => rfl
    | ⟨1, _⟩ => rfl
  rw [val_main_v50_apply, val_main_call0_v5_apply, val_main_call0_v4_apply, val_main_call0_v3_apply, val_main_call0_v2_apply,
    val_main_call0_v1_apply, val_main_call0_v0_apply, hz]
  simp only [val_main_call0_cst_apply, val_main_call0_cst_0_apply, Ideal.mulf_def, Ideal.addf_def, Ideal.ofBits_def, Ideal.ofBits_one_f32]
  rfl

theorem ref_gain (r : Fin 16384) (c : Fin 2048) : val_main_v44 (F := Ideal) x6 (idx_main_v49 (ix2 r c)) = x6 (ix2 1 c) := by
  rw [val_main_v44_apply, val_main_v43_apply, val_main_v42_apply, val_main_v41_apply, val_main_v40_apply]
  refine congrArg x6 (funext fun a => Fin.ext ?_)
  have hc := c.isLt
  match a with
  | ⟨0, _⟩ => rfl
  | ⟨1, _⟩ => show ((r.val * 2048 + c.val) / 128 % 16 * 128 + (r.val * 2048 + c.val) % 128) % 2048 = c.val; omega

theorem ref_lhs (r : Fin 16384) (c : Fin 2048) :
    val_main_v51 (F := Ideal) x0 x1 x2 x3 x4 x6 x7 (ix2 r c) = lhsOf (refRow x0 x1 x2 x3 x7 r) (x6 (ix2 1 c)) (x4 (ix2 r ⟨c.val, by omega⟩)) c := by
  have hc := c.isLt
  rw [val_main_v51_apply, val_main_v49_apply, val_main_v45_apply, ref_gain, val_main_v39_apply, val_main_v38_apply, val_main_v37_apply,
    val_main_v36_apply, val_main_v35_apply, val_main_v34_apply, val_main_v33_apply, val_main_v32_apply, val_main_v31_apply, ref_gate,
    ref_head x0 x1 x2 x3 x7 r c _ (by show (r.val * 2048 + c.val) / 2048 = r.val; omega)
      (by show (r.val * 2048 + c.val) / 128 % 16 * 128 + (r.val * 2048 + c.val) % 128 = c.val; omega)]
  have hs : ∀ j : Fin 128, val_main_v30 (F := Ideal) x0 x1 x2 x3 x7 (idx_main_v31 (idx_main_v32 (idx_main_v38 (idx_main_v49 (ix2 r c)))) j)
      = refRow x0 x1 x2 x3 x7 r ⟨c.val / 128 * 128 + j.val, by omega⟩ * refRow x0 x1 x2 x3 x7 r ⟨c.val / 128 * 128 + j.val, by omega⟩ := fun j => by
    rw [val_main_v30_apply, ref_head x0 x1 x2 x3 x7 r ⟨c.val / 128 * 128 + j.val, by omega⟩ _ (by show (r.val * 2048 + c.val) / 2048 = r.val; omega)
      (by show (r.val * 2048 + c.val) / 128 % 16 * 128 + j.val = c.val / 128 * 128 + j.val; omega)]
    rfl
  simp only [hs, val_main_cst_5_apply, val_main_cst_6_apply, val_main_cst_7_apply, Ideal.mulf_def, Ideal.addf_def, Ideal.hostUnary_rsqrt_def,
    Ideal.hostDivf_def, Ideal.ofBits_def, Ideal.ofBits_zero_f32, zero_add]
  rfl

/-- The reference's result is the output projection. -/
theorem ref_out (r : Fin 16384) (c : Fin 2048) :
    val_main_v55 (F := Ideal) x0 x1 x2 x3 x4 x5 x6 x7 x8 (ix2 r c)
      = outAt x0 x1 x2 x3 x4 (rows x5) (fun k => x6 (ix2 1 k)) (fun j k => x7 (ix3 1 j k)) (fun j k => x8 (ix3 1 j k)) r c := by
  rw [val_main_v55_apply, val_main_v54_apply]
  unfold outAt
  refine congrArg₂ (fun a s : EReal => a + s) rfl (Finset.sum_congr rfl fun j _ => congrArg₂ (fun a b : EReal => a * b) ?_ ?_)
  · refine Eq.trans (congrArg _ (funext fun a => Fin.ext ?_)) (ref_lhs x0 x1 x2 x3 x4 x6 x7 r j)
    match a with
    | ⟨0, _⟩ => rfl
    | ⟨1, _⟩ => rfl
  · rw [val_main_v53_apply, val_main_v52_apply]
    refine congrArg x8 (funext fun a => Fin.ext ?_)
    have hc := c.isLt
    have hj := j.isLt
    match a with
    | ⟨0, _⟩ => rfl
    | ⟨1, _⟩ => show (j.val * 2048 + c.val) / 2048 % 2048 = j.val; omega
    | ⟨2, _⟩ => show (j.val * 2048 + c.val) % 2048 = c.val; omega

end Cert.Proof.OutProj.L1

end
-- ==== Proof.OutProj.L1.Claim.lean ====
module

public import proofs.«01_k».proof.Defs
public import proofs.«01_k».proof.Proof.OutProj.L1.Ref
public import proofs.«01_k».proof.Proof.Gen.Kernel7Ideal.Value
public import Idealize.ShloMosaic.Lib.Quiescent

/-! The output projection of layer 1: the kernel's result is the reference's. -/

@[expose] public section

set_option maxRecDepth 16384

noncomputable section

namespace Cert.Proof.OutProj.L1

open Idealize.ShloMosaic Idealize.ShloMosaic.TcCoe Idealize.ShloMosaic.Tactic Idealize.SL.Sem

/-- The reference leaves its arguments unchanged, and has no semaphore. -/
theorem frame_reference : Cert.quiescent_Reference7Ideal := fun m ρ _ =>
  (θ_run _ _ _).mono (fun _ h => ⟨fun c => (h c).2, sem_eq_zero_of_no_sems rfl _⟩) (Cert.Reference7Ideal.Value.run m ρ)

theorem algebraic : Cert.algebraic_Kernel7Ideal_Reference7Ideal := by
  intro m g m' g' _ hag
  refine ⟨_, Cert.Kernel7Ideal.Value.run_blocks m g, (θ_run _ _ _).mono (fun _ h c => ?_) (Cert.Reference7Ideal.Value.run m' g')⟩
  obtain ⟨h0, hargs⟩ := h c
  obtain ⟨a0, a1, a2, a3, a4, a5, a6, a7, a8⟩ := hag c
  refine ⟨h0.trans ?_, hargs⟩
  rw [Cert.Reference7Ideal.Read.val_main_v55_eq, a0, a1, a2, a3, a4, a5, a6, a7, a8, arr9]
  funext i
  obtain ⟨r, k, rfl⟩ : ∃ (r : Fin 16384) (k : Fin 2048), i = Idealize.ShloMosaic.ix2 r k :=
    ⟨i 0, i 1, funext fun a => by match a with | ⟨0, _⟩ => rfl | ⟨1, _⟩ => rfl⟩
  refine (ref_out _ _ _ _ _ _ _ _ _ r k).trans ?_
  rw [entry_rows, entry_glu, entry_weights, funext (entry_gain m c)]
  rfl

end Cert.Proof.OutProj.L1

end
-- ==== Proof.OutProj.L2.Block.lean ====
/-
  The output projection of layer 2 at one grid point.
-/
module

public import proofs.«01_k».proof.Proof.OutProj.Block
public import proofs.«01_k».proof.Proof.Gen.Kernel8Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.OutProj.L2

open Idealize.ShloMosaic Idealize.ShloMosaic.TcCoe Idealize.ShloMosaic.Tactic
open Cert.Kernel8Ideal Cert.Kernel8Ideal.Gen
open Idealize.ShloMosaic.Pipeline (Dat Cfg Window)

/-- What a grid point leaves in the result's block, from the point's input blocks. -/
theorem point (m : (ℓ : Loc nD τ sig) → Buf (Elt Ideal) ℓ) (c : Dev nD) (t : Fin cfg0.N) (r : Fin 512) (k : Fin 2048) :
    outsAt0 m c t (ix2 r k) = outBlk (iblk m c 0 t) (fun i => s5At (ysRow (iblk m c 1 t) (i 0)) (fun j k => iblk m c 7 t (ix3 0 j k)) (i 1))
      (iblk m c 2 t) (iblk m c 3 t) (iblk m c 4 t) (iblk m c 5 t) (iblk m c 6 t) (iblk m c 8 t) (ix2 r k) := by
  have hS : k0_pay3 (F := Ideal) (View.ld (iblk m c 1 t) (Rect.unit ![0, 0, 0] ![1, 512, 128] inb_S4x512x128_S1x512x128_0_0_0))
      (View.ld (iblk m c 1 t) (Rect.unit ![1, 0, 0] ![1, 512, 128] inb_S4x512x128_S1x512x128_1_0_0))
      (View.ld (iblk m c 1 t) (Rect.unit ![2, 0, 0] ![1, 512, 128] inb_S4x512x128_S1x512x128_2_0_0))
      (View.ld (iblk m c 1 t) (Rect.unit ![3, 0, 0] ![1, 512, 128] inb_S4x512x128_S1x512x128_3_0_0)) (iblk m c 7 t)
      = fun i : S512x512.Idx => s5At (ysRow (iblk m c 1 t) (i 0)) (fun j k => iblk m c 7 t (ix3 0 j k)) (i 1) := by
    funext i
    obtain ⟨r, k, rfl⟩ : ∃ (r : Fin 512) (k : Fin 512), i = ix2 r k := ⟨i 0, i 1, funext fun a => by match a with | ⟨0, _⟩ => rfl | ⟨1, _⟩ => rfl⟩
    exact pay3_apply _ _ r k
  unfold outsAt0
  frame_out
  refine (pay2_apply _ _ _ _).trans ?_
  unfold outBlk
  refine congrArg₂ (fun a s : EReal => a + s) rfl (Finset.sum_congr rfl fun j _ => congrArg₂ (fun a b : EReal => a * b) ?_ rfl)
  refine (congrFun (View.readCov_eq_canon' _ _ _) _).trans ?_
  refine Eq.trans ?_ ((congrArg (fun S => View.canon (stores (iblk m c 0 t) (iblk m c 2 t) (iblk m c 3 t) S (iblk m c 4 t) (iblk m c 6 t)) (ix2 r j)) hS).trans
    (stores_read _ _ _ _ _ _ _))
  refine congrArg (View.canon _) (funext fun a => Fin.ext ?_)
  match a with
  | ⟨0, _⟩ => simp
  | ⟨1, _⟩ => simp

end Cert.Proof.OutProj.L2
-- ==== Proof.OutProj.L2.Arr.lean ====
/-
  The output projection of layer 2 over its whole arrays: every block of its result is the same function of them.
-/
module

public import proofs.«01_k».proof.Proof.OutProj.Arr
public import proofs.«01_k».proof.Proof.OutProj.L2.Block

@[expose] public section

set_option maxRecDepth 16384

noncomputable section

namespace Cert.Proof.OutProj.L2

open Idealize.ShloMosaic Idealize.ShloMosaic.TcCoe Idealize.ShloMosaic.Tactic
open Cert.Kernel8Ideal Cert.Kernel8Ideal.Gen
open Idealize.ShloMosaic.Pipeline (Dat Cfg Window)

theorem idx0 : ∀ t : Fin cfg0.N, (win0_0.index t = ![(grid0.coords t 0).val, 0] ∧ win0_1.index t = ![0, (grid0.coords t 0).val, 0]
    ∧ win0_2.index t = ![(grid0.coords t 0).val, 0] ∧ win0_3.index t = ![(grid0.coords t 0).val, 0]
    ∧ win0_4.index t = ![(grid0.coords t 0).val, 0]) ∧ win0_5.index t = ![(grid0.coords t 0).val, 0]
    ∧ win0_6.index t = ![0, 0] ∧ win0_7.index t = ![2, 0, 0] ∧ win0_8.index t = ![2, 0, 0]
    ∧ win0_9.index t = ![(grid0.coords t 0).val, 0] :=
  (by decide +kernel : ∀ t : Fin grid0.N, _)

variable (m : (ℓ : Loc nD τ sig) → Buf (Elt Ideal) ℓ)

theorem read0 (c : Dev nD) (t : Fin cfg0.N) (r : Fin 512) (k : Fin 512) (R : Fin 16384) (hR : R.val = (grid0.coords t 0).val * 512 + r.val) :
    iblk m c 0 t (ix2 r k) = V m c main_arg0 (ix2 R k) := by
  blk_ext [iblk, (idx0 t).1.1]

theorem read1 (c : Dev nD) (t : Fin cfg0.N) (a : Fin 4) (r : Fin 512) (k : Fin 128) (R : Fin 16384)
    (hR : R.val = (grid0.coords t 0).val * 512 + r.val) : iblk m c 1 t (ix3 a r k) = V m c main_arg1 (ix3 a R k) := by
  blk_ext [iblk, (idx0 t).1.2.1]

theorem read2 (c : Dev nD) (t : Fin cfg0.N) (r : Fin 512) (k : Fin 512) (R : Fin 16384) (hR : R.val = (grid0.coords t 0).val * 512 + r.val) :
    iblk m c 2 t (ix2 r k) = V m c main_arg2 (ix2 R k) := by
  blk_ext [iblk, (idx0 t).1.2.2.1]

theorem read3 (c : Dev nD) (t : Fin cfg0.N) (r : Fin 512) (k : Fin 512) (R : Fin 16384) (hR : R.val = (grid0.coords t 0).val * 512 + r.val) :
    iblk m c 3 t (ix2 r k) = V m c main_arg3 (ix2 R k) := by
  blk_ext [iblk, (idx0 t).1.2.2.2.1]

theorem read4 (c : Dev nD) (t : Fin cfg0.N) (r : Fin 512) (k : Fin 2048) (R : Fin 16384) (hR : R.val = (grid0.coords t 0).val * 512 + r.val) :
    iblk m c 4 t (ix2 r k) = V m c main_arg4 (ix2 R ⟨k.val, by omega⟩) := by
  blk_ext [iblk, (idx0 t).1.2.2.2.2]

theorem read5 (c : Dev nD) (t : Fin cfg0.N) (r : Fin 512) (k : Fin 2048) (R : Fin 16384) (hR : R.val = (grid0.coords t 0).val * 512 + r.val) :
    iblk m c 5 t (ix2 r k) = V m c main_v0 (ix2 R k) := by
  blk_ext [iblk, (idx0 t).2.1]

theorem read6 (c : Dev nD) (t : Fin cfg0.N) (k : Fin 2048) : iblk m c 6 t (ix2 0 k) = V m c main_v3 (ix2 0 k) := by
  blk_ext [iblk, (idx0 t).2.2.1]

theorem read7 (c : Dev nD) (t : Fin cfg0.N) (j k : Fin 512) : iblk m c 7 t (ix3 0 j k) = V m c main_v4 (ix3 2 j k) := by
  blk_ext [iblk, (idx0 t).2.2.2.1]

theorem read8 (c : Dev nD) (t : Fin cfg0.N) (j k : Fin 2048) : iblk m c 8 t (ix3 0 j k) = V m c main_v5 (ix3 2 j k) := by
  blk_ext [iblk, (idx0 t).2.2.2.2.1]

/-- The block of point `t`, in terms of the whole arrays. -/
theorem point_all (c : Dev nD) (t : Fin cfg0.N) (r : Fin 512) (k : Fin 2048) (R : Fin 16384)
    (hR : R.val = (grid0.coords t 0).val * 512 + r.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 2 j k)) (fun j k => V m c main_v5 (ix3 2 j k)) R k := by
  rw [point]
  have hy : ysRow (iblk m c 1 t) r = ysAll (V m c main_arg1) R := funext fun k => read1 m c t _ r _ R hR
  have hrow : blockRow (iblk m c 0 t) (fun i => s5At (ysRow (iblk m c 1 t) (i 0)) (fun j k => iblk m c 7 t (ix3 0 j k)) (i 1)) (iblk m c 2 t) (iblk m c 3 t) r
      = rowOf (fun k => V m c main_arg0 (ix2 R k)) (s5At (ysAll (V m c main_arg1) R) (fun j k => V m c main_v4 (ix3 2 j k)))
        (fun k => V m c main_arg2 (ix2 R k)) (fun k => V m c main_arg3 (ix2 R k)) := by
    unfold blockRow
    rw [funext fun k => read0 m c t r k R hR, funext fun k => read2 m c t r k R hR, funext fun k => read3 m c t r k R hR]
    refine congrArg (fun b => rowOf _ b _ _) ?_
    show s5At (ysRow (iblk m c 1 t) r) (fun j k => iblk m c 7 t (ix3 0 j k)) = _
    rw [hy, funext fun j => funext fun k => read7 m c t j k]
  refine congrArg₂ (fun a s : EReal => a + s) (read5 m c t r k R hR) (Finset.sum_congr rfl fun j _ => congrArg₂ (fun a b : EReal => a * b) ?_ (read8 m c t j k))
  show lhsOf (blockRow _ _ _ _ r) (iblk m c 6 t (ix2 0 j)) (iblk m c 4 t (ix2 r j)) j = _
  rw [hrow, read6, read4 m c t r j R hR]

theorem point_all' (c : Dev nD) (t : Fin cfg0.N) (r : Fin 512) (k : Fin 2048) (R : Fin 16384) (C : Fin 2048)
    (hR : R.val = (grid0.coords t 0).val * 512 + r.val) (hC : C.val = k.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 2 j k)) (fun j k => V m c main_v5 (ix3 2 j k)) R C := by
  obtain rfl : C = k := Fin.ext hC
  exact point_all m c t r C R hR

theorem arr9 (c : Dev nD) : (dats m 0 c).arrAt 9 cfg0.N = fun i : S16384x2048.Idx =>
    outAt (V m c main_arg0) (V m c main_arg1) (V m c main_arg2) (V m c main_arg3) (V m c main_arg4) (V m c main_v0)
      (fun k => V m c main_v3 (ix2 0 k)) (fun j k => V m c main_v4 (ix3 2 j k)) (fun j k => V m c main_v5 (ix3 2 j k)) (i 0) (i 1) := by
  refine (dats m 0 c).arrAt_eq_of_covers 9 _ (by decide +kernel) fun t hf y => ?_
  obtain ⟨r, k, rfl⟩ : ∃ (r : Fin 512) (k : Fin 2048), y = ix2 r k := ⟨y 0, y 1, funext fun a => by match a with | ⟨0, _⟩ => rfl | ⟨1, _⟩ => rfl⟩
  blk_simp
  rw [after0_9]
  refine point_all' m c t r k _ _ ?_ ?_
  all_goals
    simp [(idx0 t).2.2.2.2.2]

theorem entry_rows (c : Dev nD) : V m c main_v0 = rows (m ((c : Thread nD τ).loc main_arg5)) := by
  unfold_abbrev_sides
  after_results
  rfl

theorem entry_gain (c : Dev nD) (k : Fin 2048) :
    (V m c main_v3 : S1x2048.Idx → EReal) (ix2 0 k) = (m ((c : Thread nD τ).loc main_arg6) : S4x2048.Idx → EReal) (ix2 2 k) := by
  unfold_abbrev_sides
  after_results
  pointwise

theorem entry_glu (c : Dev nD) : V m c main_v4 = m ((c : Thread nD τ).loc main_arg7) := by
  unfold_abbrev_sides
  after_results
  rfl

theorem entry_weights (c : Dev nD) : V m c main_v5 = m ((c : Thread nD τ).loc main_arg8) := by
  unfold_abbrev_sides
  after_results
  rfl

end Cert.Proof.OutProj.L2

end
-- ==== Proof.OutProj.L2.Ref.lean ====
/-
  The result of the reference of layer 2, read at an index, stage by stage.
-/
module

public import proofs.«01_k».proof.Proof.OutProj.Ref
public import proofs.«01_k».proof.Proof.OutProj.L2.Arr
public import proofs.«01_k».proof.Proof.Gen.Reference8Ideal.Run
public import proofs.«01_k».proof.Proof.Gen.Reference8Ideal.Read
public import Idealize.ShloMosaic.Lib.KernelVsHost

@[expose] public section

set_option maxRecDepth 16384

noncomputable section

namespace Cert.Proof.OutProj.L2

open Idealize.ShloMosaic Idealize.ShloMosaic.TcCoe Idealize.ShloMosaic.Tactic
open Cert.Reference8Ideal Cert.Reference8Ideal.Gen Cert.Reference8Ideal.Read

variable (x0 : S16384x512.Idx → EReal) (x1 : S4x16384x128.Idx → EReal) (x2 x3 : S16384x512.Idx → EReal) (x4 : S16384x6144.Idx → EReal)
  (x5 : S4x4096x2048.Idx → EReal) (x6 : S4x2048.Idx → EReal) (x7 : S4x512x512.Idx → EReal) (x8 : S4x2048x2048.Idx → EReal)

theorem ref_ys (r : Fin 16384) (k : Fin 512) : val_main_v1 (F := Ideal) x1 (ix2 r k) = ysAll x1 r k := by
  rw [val_main_v1_apply, val_main_v0_apply]
  refine congrArg x1 (funext fun a => Fin.ext ?_)
  have hr := r.isLt
  have hk := k.isLt
  match a with
  | ⟨0, _⟩ => show (r.val * 512 + k.val) / 128 % 4 = k.val / 128; omega
  | ⟨1, _⟩ => show (r.val * 512 + k.val) / 512 = r.val; omega
  | ⟨2, _⟩ => show (r.val * 512 + k.val) % 128 = k.val % 128; omega

theorem ref_gelu (r : Fin 16384) (k : Fin 512) : val_main_v14 (F := Ideal) x1 (ix2 r k) = gelu (ysAll x1 r k) := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, ref_ys]
  simp only [val_main_cst_apply, val_main_cst_0_apply, val_main_cst_1_apply, val_main_cst_2_apply, Ideal.mulf_def, Ideal.addf_def,
    Ideal.hostUnary_tanh_def, Ideal.ofBits_def, Ideal.ofBits_one_f32]
  unfold gelu
  rw [mul_comm (ysAll x1 r k * ysAll x1 r k) (ysAll x1 r k)]

theorem ref_s5 (r : Fin 16384) (k : Fin 512) :
    val_main_v24 (F := Ideal) x1 x7 (ix2 r k) = s5At (ysAll x1 r) (fun j k => x7 (ix3 2 j k)) k := by
  have hd : val_main_v17 (F := Ideal) x1 x7 (ix2 r k) = ∑ j : Fin 512, gelu (ysAll x1 r j) * x7 (ix3 2 j k) := by
    rw [val_main_v17_apply]
    refine Finset.sum_congr rfl fun j _ => ?_
    rw [val_main_v16_apply, val_main_v15_apply, ← ref_gelu]
    have e : lidx_main_v17 (ix2 r k) j = ix2 r j := funext fun a => Fin.ext (by
      match a with
      | ⟨0, _⟩ => rfl
      | ⟨1, _⟩ => rfl)
    have e' : idx_main_v15 (idx_main_v16 (ridx_main_v17 (ix2 r k) j)) = ix3 2 j k := funext fun a => Fin.ext (by
      have hk := k.isLt
      have hj := j.isLt
      match a with
      | ⟨0, _⟩ => rfl
      | ⟨1, _⟩ => show (j.val * 512 + k.val) / 512 % 512 = j.val; omega
      | ⟨2, _⟩ => show (j.val * 512 + k.val) % 512 = k.val; omega)
    rw [e, e']
  rw [val_main_v24_apply, val_main_v23_apply, val_main_v22_apply, val_main_v21_apply, val_main_v20_apply, val_main_v19_apply, val_main_v18_apply,
    hd, ref_gelu]
  simp only [val_main_cst_3_apply, val_main_cst_4_apply, Ideal.mulf_def, Ideal.addf_def, Ideal.ofBits_def, Ideal.ofBits_one_f32]
  rfl

/-- The four branches' row `r`. -/
def refRow (r : Fin 16384) : Fin 2048 → EReal :=
  rowOf (fun k => x0 (ix2 r k)) (s5At (ysAll x1 r) (fun j k => x7 (ix3 2 j k))) (fun k => x2 (ix2 r k)) (fun k => x3 (ix2 r k))

theorem ref_row (r : Fin 16384) (c : Fin 2048) : val_main_v28 (F := Ideal) x0 x1 x2 x3 x7 (ix2 r c) = refRow x0 x1 x2 x3 x7 r c := by
  unfold val_main_v28 refRow
  refine (cat_four _ _ _ _ r c).trans ?_
  rw [funext fun k => ref_s5 x1 x7 r k]
  rfl

theorem ref_head (r : Fin 16384) (c : Fin 2048) (i : S16384x16x128.Idx) (h0 : (i 0).val = r.val) (h1 : (i 1).val * 128 + (i 2).val = c.val) :
    val_main_v29 (F := Ideal) x0 x1 x2 x3 x7 i = refRow x0 x1 x2 x3 x7 r c := by
  rw [val_main_v29_apply, ← ref_row]
  refine congrArg _ (funext fun a => Fin.ext ?_)
  have h1' : (i 1).val < 16 := (i 1).isLt
  have h2' : (i 2).val < 128 := (i 2).isLt
  match a with
  | ⟨0, _⟩ => show (((i 0).val * 16 + (i 1).val) * 128 + (i 2).val) / 2048 = r.val; omega
  | ⟨1, _⟩ => show (((i 0).val * 16 + (i 1).val) * 128 + (i 2).val) % 2048 = c.val; omega

theorem ref_gate (r : Fin 16384) (c : Fin 2048) :
    val_main_v50 (F := Ideal) x4 (ix2 r c) = x4 (ix2 r ⟨c.val, by omega⟩) * Ideal.logistic (x4 (ix2 r ⟨c.val, by omega⟩)) := by
  have hz : val_main_v47 (F := Ideal) x4 (ix2 r c) = x4 (ix2 r ⟨c.val, by omega⟩) := by
    rw [val_main_v47_apply, val_main_v46_apply]
    refine congrArg x4 (funext fun a => Fin.ext ?_)
    match a with
    | ⟨0, _⟩ => rfl
    | ⟨1, _⟩ => rfl
  rw [val_main_v50_apply, val_main_call0_v5_apply, val_main_call0_v4_apply, val_main_call0_v3_apply, val_main_call0_v2_apply,
    val_main_call0_v1_apply, val_main_call0_v0_apply, hz]
  simp only [val_main_call0_cst_apply, val_main_call0_cst_0_apply, Ideal.mulf_def, Ideal.addf_def, Ideal.ofBits_def, Ideal.ofBits_one_f32]
  rfl

theorem ref_gain (r : Fin 16384) (c : Fin 2048) : val_main_v44 (F := Ideal) x6 (idx_main_v49 (ix2 r c)) = x6 (ix2 2 c) := by
  rw [val_main_v44_apply, val_main_v43_apply, val_main_v42_apply, val_main_v41_apply, val_main_v40_apply]
  refine congrArg x6 (funext fun a => Fin.ext ?_)
  have hc := c.isLt
  match a with
  | ⟨0, _⟩ => rfl
  | ⟨1, _⟩ => show ((r.val * 2048 + c.val) / 128 % 16 * 128 + (r.val * 2048 + c.val) % 128) % 2048 = c.val; omega

theorem ref_lhs (r : Fin 16384) (c : Fin 2048) :
    val_main_v51 (F := Ideal) x0 x1 x2 x3 x4 x6 x7 (ix2 r c) = lhsOf (refRow x0 x1 x2 x3 x7 r) (x6 (ix2 2 c)) (x4 (ix2 r ⟨c.val, by omega⟩)) c := by
  have hc := c.isLt
  rw [val_main_v51_apply, val_main_v49_apply, val_main_v45_apply, ref_gain, val_main_v39_apply, val_main_v38_apply, val_main_v37_apply,
    val_main_v36_apply, val_main_v35_apply, val_main_v34_apply, val_main_v33_apply, val_main_v32_apply, val_main_v31_apply, ref_gate,
    ref_head x0 x1 x2 x3 x7 r c _ (by show (r.val * 2048 + c.val) / 2048 = r.val; omega)
      (by show (r.val * 2048 + c.val) / 128 % 16 * 128 + (r.val * 2048 + c.val) % 128 = c.val; omega)]
  have hs : ∀ j : Fin 128, val_main_v30 (F := Ideal) x0 x1 x2 x3 x7 (idx_main_v31 (idx_main_v32 (idx_main_v38 (idx_main_v49 (ix2 r c)))) j)
      = refRow x0 x1 x2 x3 x7 r ⟨c.val / 128 * 128 + j.val, by omega⟩ * refRow x0 x1 x2 x3 x7 r ⟨c.val / 128 * 128 + j.val, by omega⟩ := fun j => by
    rw [val_main_v30_apply, ref_head x0 x1 x2 x3 x7 r ⟨c.val / 128 * 128 + j.val, by omega⟩ _ (by show (r.val * 2048 + c.val) / 2048 = r.val; omega)
      (by show (r.val * 2048 + c.val) / 128 % 16 * 128 + j.val = c.val / 128 * 128 + j.val; omega)]
    rfl
  simp only [hs, val_main_cst_5_apply, val_main_cst_6_apply, val_main_cst_7_apply, Ideal.mulf_def, Ideal.addf_def, Ideal.hostUnary_rsqrt_def,
    Ideal.hostDivf_def, Ideal.ofBits_def, Ideal.ofBits_zero_f32, zero_add]
  rfl

/-- The reference's result is the output projection. -/
theorem ref_out (r : Fin 16384) (c : Fin 2048) :
    val_main_v55 (F := Ideal) x0 x1 x2 x3 x4 x5 x6 x7 x8 (ix2 r c)
      = outAt x0 x1 x2 x3 x4 (rows x5) (fun k => x6 (ix2 2 k)) (fun j k => x7 (ix3 2 j k)) (fun j k => x8 (ix3 2 j k)) r c := by
  rw [val_main_v55_apply, val_main_v54_apply]
  unfold outAt
  refine congrArg₂ (fun a s : EReal => a + s) rfl (Finset.sum_congr rfl fun j _ => congrArg₂ (fun a b : EReal => a * b) ?_ ?_)
  · refine Eq.trans (congrArg _ (funext fun a => Fin.ext ?_)) (ref_lhs x0 x1 x2 x3 x4 x6 x7 r j)
    match a with
    | ⟨0, _⟩ => rfl
    | ⟨1, _⟩ => rfl
  · rw [val_main_v53_apply, val_main_v52_apply]
    refine congrArg x8 (funext fun a => Fin.ext ?_)
    have hc := c.isLt
    have hj := j.isLt
    match a with
    | ⟨0, _⟩ => rfl
    | ⟨1, _⟩ => show (j.val * 2048 + c.val) / 2048 % 2048 = j.val; omega
    | ⟨2, _⟩ => show (j.val * 2048 + c.val) % 2048 = c.val; omega

end Cert.Proof.OutProj.L2

end
-- ==== Proof.OutProj.L2.Claim.lean ====
module

public import proofs.«01_k».proof.Defs
public import proofs.«01_k».proof.Proof.OutProj.L2.Ref
public import proofs.«01_k».proof.Proof.Gen.Kernel8Ideal.Value
public import Idealize.ShloMosaic.Lib.Quiescent

/-! The output projection of layer 2: the kernel's result is the reference's. -/

@[expose] public section

set_option maxRecDepth 16384

noncomputable section

namespace Cert.Proof.OutProj.L2

open Idealize.ShloMosaic Idealize.ShloMosaic.TcCoe Idealize.ShloMosaic.Tactic Idealize.SL.Sem

/-- The reference leaves its arguments unchanged, and has no semaphore. -/
theorem frame_reference : Cert.quiescent_Reference8Ideal := fun m ρ _ =>
  (θ_run _ _ _).mono (fun _ h => ⟨fun c => (h c).2, sem_eq_zero_of_no_sems rfl _⟩) (Cert.Reference8Ideal.Value.run m ρ)

theorem algebraic : Cert.algebraic_Kernel8Ideal_Reference8Ideal := by
  intro m g m' g' _ hag
  refine ⟨_, Cert.Kernel8Ideal.Value.run_blocks m g, (θ_run _ _ _).mono (fun _ h c => ?_) (Cert.Reference8Ideal.Value.run m' g')⟩
  obtain ⟨h0, hargs⟩ := h c
  obtain ⟨a0, a1, a2, a3, a4, a5, a6, a7, a8⟩ := hag c
  refine ⟨h0.trans ?_, hargs⟩
  rw [Cert.Reference8Ideal.Read.val_main_v55_eq, a0, a1, a2, a3, a4, a5, a6, a7, a8, arr9]
  funext i
  obtain ⟨r, k, rfl⟩ : ∃ (r : Fin 16384) (k : Fin 2048), i = Idealize.ShloMosaic.ix2 r k :=
    ⟨i 0, i 1, funext fun a => by match a with | ⟨0, _⟩ => rfl | ⟨1, _⟩ => rfl⟩
  refine (ref_out _ _ _ _ _ _ _ _ _ r k).trans ?_
  rw [entry_rows, entry_glu, entry_weights, funext (entry_gain m c)]
  rfl

end Cert.Proof.OutProj.L2

end
-- ==== Proof.OutProj.L3.Block.lean ====
/-
  The output projection of layer 3 at one grid point.
-/
module

public import proofs.«01_k».proof.Proof.OutProj.Block
public import proofs.«01_k».proof.Proof.Gen.Kernel9Ideal.Frame
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

namespace Cert.Proof.OutProj.L3

open Idealize.ShloMosaic Idealize.ShloMosaic.TcCoe Idealize.ShloMosaic.Tactic
open Cert.Kernel9Ideal Cert.Kernel9Ideal.Gen
open Idealize.ShloMosaic.Pipeline (Dat Cfg Window)

/-- What a grid point leaves in the result's block, from the point's input blocks. -/
theorem point (m : (ℓ : Loc nD τ sig) → Buf (Elt Ideal) ℓ) (c : Dev nD) (t : Fin cfg0.N) (r : Fin 512) (k : Fin 2048) :
    outsAt0 m c t (ix2 r k) = outBlk (iblk m c 0 t) (fun i => s5At (ysRow (iblk m c 1 t) (i 0)) (fun j k => iblk m c 7 t (ix3 0 j k)) (i 1))
      (iblk m c 2 t) (iblk m c 3 t) (iblk m c 4 t) (iblk m c 5 t) (iblk m c 6 t) (iblk m c 8 t) (ix2 r k) := by
  have hS : k0_pay3 (F := Ideal) (View.ld (iblk m c 1 t) (Rect.unit ![0, 0, 0] ![1, 512, 128] inb_S4x512x128_S1x512x128_0_0_0))
      (View.ld (iblk m c 1 t) (Rect.unit ![1, 0, 0] ![1, 512, 128] inb_S4x512x128_S1x512x128_1_0_0))
      (View.ld (iblk m c 1 t) (Rect.unit ![2, 0, 0] ![1, 512, 128] inb_S4x512x128_S1x512x128_2_0_0))
      (View.ld (iblk m c 1 t) (Rect.unit ![3, 0, 0] ![1, 512, 128] inb_S4x512x128_S1x512x128_3_0_0)) (iblk m c 7 t)
      = fun i : S512x512.Idx => s5At (ysRow (iblk m c 1 t) (i 0)) (fun j k => iblk m c 7 t (ix3 0 j k)) (i 1) := by
    funext i
    obtain ⟨r, k, rfl⟩ : ∃ (r : Fin 512) (k : Fin 512), i = ix2 r k := ⟨i 0, i 1, funext fun a => by match a with | ⟨0, _⟩ => rfl | ⟨1, _⟩ => rfl⟩
    exact pay3_apply _ _ r k
  unfold outsAt0
  frame_out
  refine (pay2_apply _ _ _ _).trans ?_
  unfold outBlk
  refine congrArg₂ (fun a s : EReal => a + s) rfl (Finset.sum_congr rfl fun j _ => congrArg₂ (fun a b : EReal => a * b) ?_ rfl)
  refine (congrFun (View.readCov_eq_canon' _ _ _) _).trans ?_
  refine Eq.trans ?_ ((congrArg (fun S => View.canon (stores (iblk m c 0 t) (iblk m c 2 t) (iblk m c 3 t) S (iblk m c 4 t) (iblk m c 6 t)) (ix2 r j)) hS).trans
    (stores_read _ _ _ _ _ _ _))
  refine congrArg (View.canon _) (funext fun a => Fin.ext ?_)
  match a with
  | ⟨0, _⟩ => simp
  | ⟨1, _⟩ => simp

end Cert.Proof.OutProj.L3
-- ==== Proof.OutProj.L3.Arr.lean ====
/-
  The output projection of layer 3 over its whole arrays: every block of its result is the same function of them.
-/
module

public import proofs.«01_k».proof.Proof.OutProj.Arr
public import proofs.«01_k».proof.Proof.OutProj.L3.Block

@[expose] public section

set_option maxRecDepth 16384

noncomputable section

namespace Cert.Proof.OutProj.L3

open Idealize.ShloMosaic Idealize.ShloMosaic.TcCoe Idealize.ShloMosaic.Tactic
open Cert.Kernel9Ideal Cert.Kernel9Ideal.Gen
open Idealize.ShloMosaic.Pipeline (Dat Cfg Window)

theorem idx0 : ∀ t : Fin cfg0.N, (win0_0.index t = ![(grid0.coords t 0).val, 0] ∧ win0_1.index t = ![0, (grid0.coords t 0).val, 0]
    ∧ win0_2.index t = ![(grid0.coords t 0).val, 0] ∧ win0_3.index t = ![(grid0.coords t 0).val, 0]
    ∧ win0_4.index t = ![(grid0.coords t 0).val, 0]) ∧ win0_5.index t = ![(grid0.coords t 0).val, 0]
    ∧ win0_6.index t = ![0, 0] ∧ win0_7.index t = ![3, 0, 0] ∧ win0_8.index t = ![3, 0, 0]
    ∧ win0_9.index t = ![(grid0.coords t 0).val, 0] :=
  (by decide +kernel : ∀ t : Fin grid0.N, _)

variable (m : (ℓ : Loc nD τ sig) → Buf (Elt Ideal) ℓ)

theorem read0 (c : Dev nD) (t : Fin cfg0.N) (r : Fin 512) (k : Fin 512) (R : Fin 16384) (hR : R.val = (grid0.coords t 0).val * 512 + r.val) :
    iblk m c 0 t (ix2 r k) = V m c main_arg0 (ix2 R k) := by
  blk_ext [iblk, (idx0 t).1.1]

theorem read1 (c : Dev nD) (t : Fin cfg0.N) (a : Fin 4) (r : Fin 512) (k : Fin 128) (R : Fin 16384)
    (hR : R.val = (grid0.coords t 0).val * 512 + r.val) : iblk m c 1 t (ix3 a r k) = V m c main_arg1 (ix3 a R k) := by
  blk_ext [iblk, (idx0 t).1.2.1]

theorem read2 (c : Dev nD) (t : Fin cfg0.N) (r : Fin 512) (k : Fin 512) (R : Fin 16384) (hR : R.val = (grid0.coords t 0).val * 512 + r.val) :
    iblk m c 2 t (ix2 r k) = V m c main_arg2 (ix2 R k) := by
  blk_ext [iblk, (idx0 t).1.2.2.1]

theorem read3 (c : Dev nD) (t : Fin cfg0.N) (r : Fin 512) (k : Fin 512) (R : Fin 16384) (hR : R.val = (grid0.coords t 0).val * 512 + r.val) :
    iblk m c 3 t (ix2 r k) = V m c main_arg3 (ix2 R k) := by
  blk_ext [iblk, (idx0 t).1.2.2.2.1]

theorem read4 (c : Dev nD) (t : Fin cfg0.N) (r : Fin 512) (k : Fin 2048) (R : Fin 16384) (hR : R.val = (grid0.coords t 0).val * 512 + r.val) :
    iblk m c 4 t (ix2 r k) = V m c main_arg4 (ix2 R ⟨k.val, by omega⟩) := by
  blk_ext [iblk, (idx0 t).1.2.2.2.2]

theorem read5 (c : Dev nD) (t : Fin cfg0.N) (r : Fin 512) (k : Fin 2048) (R : Fin 16384) (hR : R.val = (grid0.coords t 0).val * 512 + r.val) :
    iblk m c 5 t (ix2 r k) = V m c main_v0 (ix2 R k) := by
  blk_ext [iblk, (idx0 t).2.1]

theorem read6 (c : Dev nD) (t : Fin cfg0.N) (k : Fin 2048) : iblk m c 6 t (ix2 0 k) = V m c main_v3 (ix2 0 k) := by
  blk_ext [iblk, (idx0 t).2.2.1]

theorem read7 (c : Dev nD) (t : Fin cfg0.N) (j k : Fin 512) : iblk m c 7 t (ix3 0 j k) = V m c main_v4 (ix3 3 j k) := by
  blk_ext [iblk, (idx0 t).2.2.2.1]

theorem read8 (c : Dev nD) (t : Fin cfg0.N) (j k : Fin 2048) : iblk m c 8 t (ix3 0 j k) = V m c main_v5 (ix3 3 j k) := by
  blk_ext [iblk, (idx0 t).2.2.2.2.1]

/-- The block of point `t`, in terms of the whole arrays. -/
theorem point_all (c : Dev nD) (t : Fin cfg0.N) (r : Fin 512) (k : Fin 2048) (R : Fin 16384)
    (hR : R.val = (grid0.coords t 0).val * 512 + r.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 3 j k)) (fun j k => V m c main_v5 (ix3 3 j k)) R k := by
  rw [point]
  have hy : ysRow (iblk m c 1 t) r = ysAll (V m c main_arg1) R := funext fun k => read1 m c t _ r _ R hR
  have hrow : blockRow (iblk m c 0 t) (fun i => s5At (ysRow (iblk m c 1 t) (i 0)) (fun j k => iblk m c 7 t (ix3 0 j k)) (i 1)) (iblk m c 2 t) (iblk m c 3 t) r
      = rowOf (fun k => V m c main_arg0 (ix2 R k)) (s5At (ysAll (V m c main_arg1) R) (fun j k => V m c main_v4 (ix3 3 j k)))
        (fun k => V m c main_arg2 (ix2 R k)) (fun k => V m c main_arg3 (ix2 R k)) := by
    unfold blockRow
    rw [funext fun k => read0 m c t r k R hR, funext fun k => read2 m c t r k R hR, funext fun k => read3 m c t r k R hR]
    refine congrArg (fun b => rowOf _ b _ _) ?_
    show s5At (ysRow (iblk m c 1 t) r) (fun j k => iblk m c 7 t (ix3 0 j k)) = _
    rw [hy, funext fun j => funext fun k => read7 m c t j k]
  refine congrArg₂ (fun a s : EReal => a + s) (read5 m c t r k R hR) (Finset.sum_congr rfl fun j _ => congrArg₂ (fun a b : EReal => a * b) ?_ (read8 m c t j k))
  show lhsOf (blockRow _ _ _ _ r) (iblk m c 6 t (ix2 0 j)) (iblk m c 4 t (ix2 r j)) j = _
  rw [hrow, read6, read4 m c t r j R hR]

theorem point_all' (c : Dev nD) (t : Fin cfg0.N) (r : Fin 512) (k : Fin 2048) (R : Fin 16384) (C : Fin 2048)
    (hR : R.val = (grid0.coords t 0).val * 512 + r.val) (hC : C.val = k.val) :
    outsAt0 m c t (ix2 r k) = outAt (V m c main_arg0) (V m c main_arg1) (V m c main_arg2) (V m c main_arg3) (V m c main_arg4) (V m c main_v0)
      (fun k => V m c main_v3 (ix2 0 k)) (fun j k => V m c main_v4 (ix3 3 j k)) (fun j k => V m c main_v5 (ix3 3 j k)) R C := by
  obtain rfl : C = k := Fin.ext hC
  exact point_all m c t r C R hR

theorem arr9 (c : Dev nD) : (dats m 0 c).arrAt 9 cfg0.N = fun i : S16384x2048.Idx =>
    outAt (V m c main_arg0) (V m c main_arg1) (V m c main_arg2) (V m c main_arg3) (V m c main_arg4) (V m c main_v0)
      (fun k => V m c main_v3 (ix2 0 k)) (fun j k => V m c main_v4 (ix3 3 j k)) (fun j k => V m c main_v5 (ix3 3 j k)) (i 0) (i 1) := by
  refine (dats m 0 c).arrAt_eq_of_covers 9 _ (by decide +kernel) fun t hf y => ?_
  obtain ⟨r, k, rfl⟩ : ∃ (r : Fin 512) (k : Fin 2048), y = ix2 r k := ⟨y 0, y 1, funext fun a => by match a with | ⟨0, _⟩ => rfl | ⟨1, _⟩ => rfl⟩
  blk_simp
  rw [after0_9]
  refine point_all' m c t r k _ _ ?_ ?_
  all_goals
    simp [(idx0 t).2.2.2.2.2]

theorem entry_rows (c : Dev nD) : V m c main_v0 = rows (m ((c : Thread nD τ).loc main_arg5)) := by
  unfold_abbrev_sides
  after_results
  rfl

theorem entry_gain (c : Dev nD) (k : Fin 2048) :
    (V m c main_v3 : S1x2048.Idx → EReal) (ix2 0 k) = (m ((c : Thread nD τ).loc main_arg6) : S4x2048.Idx → EReal) (ix2 3 k) := by
  unfold_abbrev_sides
  after_results
  pointwise

theorem entry_glu (c : Dev nD) : V m c main_v4 = m ((c : Thread nD τ).loc main_arg7) := by
  unfold_abbrev_sides
  after_results
  rfl

theorem entry_weights (c : Dev nD) : V m c main_v5 = m ((c : Thread nD τ).loc main_arg8) := by
  unfold_abbrev_sides
  after_results
  rfl

end Cert.Proof.OutProj.L3

end
-- ==== Proof.OutProj.L3.Ref.lean ====
/-
  The result of the reference of layer 3, read at an index, stage by stage.
-/
module

public import proofs.«01_k».proof.Proof.OutProj.Ref
public import proofs.«01_k».proof.Proof.OutProj.L3.Arr
public import proofs.«01_k».proof.Proof.Gen.Reference9Ideal.Run
public import proofs.«01_k».proof.Proof.Gen.Reference9Ideal.Read
public import Idealize.ShloMosaic.Lib.KernelVsHost

@[expose] public section

set_option maxRecDepth 16384

noncomputable section

namespace Cert.Proof.OutProj.L3

open Idealize.ShloMosaic Idealize.ShloMosaic.TcCoe Idealize.ShloMosaic.Tactic
open Cert.Reference9Ideal Cert.Reference9Ideal.Gen Cert.Reference9Ideal.Read

variable (x0 : S16384x512.Idx → EReal) (x1 : S4x16384x128.Idx → EReal) (x2 x3 : S16384x512.Idx → EReal) (x4 : S16384x6144.Idx → EReal)
  (x5 : S4x4096x2048.Idx → EReal) (x6 : S4x2048.Idx → EReal) (x7 : S4x512x512.Idx → EReal) (x8 : S4x2048x2048.Idx → EReal)

theorem ref_ys (r : Fin 16384) (k : Fin 512) : val_main_v1 (F := Ideal) x1 (ix2 r k) = ysAll x1 r k := by
  rw [val_main_v1_apply, val_main_v0_apply]
  refine congrArg x1 (funext fun a => Fin.ext ?_)
  have hr := r.isLt
  have hk := k.isLt
  match a with
  | ⟨0, _⟩ => show (r.val * 512 + k.val) / 128 % 4 = k.val / 128; omega
  | ⟨1, _⟩ => show (r.val * 512 + k.val) / 512 = r.val; omega
  | ⟨2, _⟩ => show (r.val * 512 + k.val) % 128 = k.val % 128; omega

theorem ref_gelu (r : Fin 16384) (k : Fin 512) : val_main_v14 (F := Ideal) x1 (ix2 r k) = gelu (ysAll x1 r k) := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, ref_ys]
  simp only [val_main_cst_apply, val_main_cst_0_apply, val_main_cst_1_apply, val_main_cst_2_apply, Ideal.mulf_def, Ideal.addf_def,
    Ideal.hostUnary_tanh_def, Ideal.ofBits_def, Ideal.ofBits_one_f32]
  unfold gelu
  rw [mul_comm (ysAll x1 r k * ysAll x1 r k) (ysAll x1 r k)]

theorem ref_s5 (r : Fin 16384) (k : Fin 512) :
    val_main_v24 (F := Ideal) x1 x7 (ix2 r k) = s5At (ysAll x1 r) (fun j k => x7 (ix3 3 j k)) k := by
  have hd : val_main_v17 (F := Ideal) x1 x7 (ix2 r k) = ∑ j : Fin 512, gelu (ysAll x1 r j) * x7 (ix3 3 j k) := by
    rw [val_main_v17_apply]
    refine Finset.sum_congr rfl fun j _ => ?_
    rw [val_main_v16_apply, val_main_v15_apply, ← ref_gelu]
    have e : lidx_main_v17 (ix2 r k) j = ix2 r j := funext fun a => Fin.ext (by
      match a with
      | ⟨0, _⟩ => rfl
      | ⟨1, _⟩ => rfl)
    have e' : idx_main_v15 (idx_main_v16 (ridx_main_v17 (ix2 r k) j)) = ix3 3 j k := funext fun a => Fin.ext (by
      have hk := k.isLt
      have hj := j.isLt
      match a with
      | ⟨0, _⟩ => rfl
      | ⟨1, _⟩ => show (j.val * 512 + k.val) / 512 % 512 = j.val; omega
      | ⟨2, _⟩ => show (j.val * 512 + k.val) % 512 = k.val; omega)
    rw [e, e']
  rw [val_main_v24_apply, val_main_v23_apply, val_main_v22_apply, val_main_v21_apply, val_main_v20_apply, val_main_v19_apply, val_main_v18_apply,
    hd, ref_gelu]
  simp only [val_main_cst_3_apply, val_main_cst_4_apply, Ideal.mulf_def, Ideal.addf_def, Ideal.ofBits_def, Ideal.ofBits_one_f32]
  rfl

/-- The four branches' row `r`. -/
def refRow (r : Fin 16384) : Fin 2048 → EReal :=
  rowOf (fun k => x0 (ix2 r k)) (s5At (ysAll x1 r) (fun j k => x7 (ix3 3 j k))) (fun k => x2 (ix2 r k)) (fun k => x3 (ix2 r k))

theorem ref_row (r : Fin 16384) (c : Fin 2048) : val_main_v28 (F := Ideal) x0 x1 x2 x3 x7 (ix2 r c) = refRow x0 x1 x2 x3 x7 r c := by
  unfold val_main_v28 refRow
  refine (cat_four _ _ _ _ r c).trans ?_
  rw [funext fun k => ref_s5 x1 x7 r k]
  rfl

theorem ref_head (r : Fin 16384) (c : Fin 2048) (i : S16384x16x128.Idx) (h0 : (i 0).val = r.val) (h1 : (i 1).val * 128 + (i 2).val = c.val) :
    val_main_v29 (F := Ideal) x0 x1 x2 x3 x7 i = refRow x0 x1 x2 x3 x7 r c := by
  rw [val_main_v29_apply, ← ref_row]
  refine congrArg _ (funext fun a => Fin.ext ?_)
  have h1' : (i 1).val < 16 := (i 1).isLt
  have h2' : (i 2).val < 128 := (i 2).isLt
  match a with
  | ⟨0, _⟩ => show (((i 0).val * 16 + (i 1).val) * 128 + (i 2).val) / 2048 = r.val; omega
  | ⟨1, _⟩ => show (((i 0).val * 16 + (i 1).val) * 128 + (i 2).val) % 2048 = c.val; omega

theorem ref_gate (r : Fin 16384) (c : Fin 2048) :
    val_main_v50 (F := Ideal) x4 (ix2 r c) = x4 (ix2 r ⟨c.val, by omega⟩) * Ideal.logistic (x4 (ix2 r ⟨c.val, by omega⟩)) := by
  have hz : val_main_v47 (F := Ideal) x4 (ix2 r c) = x4 (ix2 r ⟨c.val, by omega⟩) := by
    rw [val_main_v47_apply, val_main_v46_apply]
    refine congrArg x4 (funext fun a => Fin.ext ?_)
    match a with
    | ⟨0, _⟩ => rfl
    | ⟨1, _⟩ => rfl
  rw [val_main_v50_apply, val_main_call0_v5_apply, val_main_call0_v4_apply, val_main_call0_v3_apply, val_main_call0_v2_apply,
    val_main_call0_v1_apply, val_main_call0_v0_apply, hz]
  simp only [val_main_call0_cst_apply, val_main_call0_cst_0_apply, Ideal.mulf_def, Ideal.addf_def, Ideal.ofBits_def, Ideal.ofBits_one_f32]
  rfl

theorem ref_gain (r : Fin 16384) (c : Fin 2048) : val_main_v44 (F := Ideal) x6 (idx_main_v49 (ix2 r c)) = x6 (ix2 3 c) := by
  rw [val_main_v44_apply, val_main_v43_apply, val_main_v42_apply, val_main_v41_apply, val_main_v40_apply]
  refine congrArg x6 (funext fun a => Fin.ext ?_)
  have hc := c.isLt
  match a with
  | ⟨0, _⟩ => rfl
  | ⟨1, _⟩ => show ((r.val * 2048 + c.val) / 128 % 16 * 128 + (r.val * 2048 + c.val) % 128) % 2048 = c.val; omega

theorem ref_lhs (r : Fin 16384) (c : Fin 2048) :
    val_main_v51 (F := Ideal) x0 x1 x2 x3 x4 x6 x7 (ix2 r c) = lhsOf (refRow x0 x1 x2 x3 x7 r) (x6 (ix2 3 c)) (x4 (ix2 r ⟨c.val, by omega⟩)) c := by
  have hc := c.isLt
  rw [val_main_v51_apply, val_main_v49_apply, val_main_v45_apply, ref_gain, val_main_v39_apply, val_main_v38_apply, val_main_v37_apply,
    val_main_v36_apply, val_main_v35_apply, val_main_v34_apply, val_main_v33_apply, val_main_v32_apply, val_main_v31_apply, ref_gate,
    ref_head x0 x1 x2 x3 x7 r c _ (by show (r.val * 2048 + c.val) / 2048 = r.val; omega)
      (by show (r.val * 2048 + c.val) / 128 % 16 * 128 + (r.val * 2048 + c.val) % 128 = c.val; omega)]
  have hs : ∀ j : Fin 128, val_main_v30 (F := Ideal) x0 x1 x2 x3 x7 (idx_main_v31 (idx_main_v32 (idx_main_v38 (idx_main_v49 (ix2 r c)))) j)
      = refRow x0 x1 x2 x3 x7 r ⟨c.val / 128 * 128 + j.val, by omega⟩ * refRow x0 x1 x2 x3 x7 r ⟨c.val / 128 * 128 + j.val, by omega⟩ := fun j => by
    rw [val_main_v30_apply, ref_head x0 x1 x2 x3 x7 r ⟨c.val / 128 * 128 + j.val, by omega⟩ _ (by show (r.val * 2048 + c.val) / 2048 = r.val; omega)
      (by show (r.val * 2048 + c.val) / 128 % 16 * 128 + j.val = c.val / 128 * 128 + j.val; omega)]
    rfl
  simp only [hs, val_main_cst_5_apply, val_main_cst_6_apply, val_main_cst_7_apply, Ideal.mulf_def, Ideal.addf_def, Ideal.hostUnary_rsqrt_def,
    Ideal.hostDivf_def, Ideal.ofBits_def, Ideal.ofBits_zero_f32, zero_add]
  rfl

/-- The reference's result is the output projection. -/
theorem ref_out (r : Fin 16384) (c : Fin 2048) :
    val_main_v55 (F := Ideal) x0 x1 x2 x3 x4 x5 x6 x7 x8 (ix2 r c)
      = outAt x0 x1 x2 x3 x4 (rows x5) (fun k => x6 (ix2 3 k)) (fun j k => x7 (ix3 3 j k)) (fun j k => x8 (ix3 3 j k)) r c := by
  rw [val_main_v55_apply, val_main_v54_apply]
  unfold outAt
  refine congrArg₂ (fun a s : EReal => a + s) rfl (Finset.sum_congr rfl fun j _ => congrArg₂ (fun a b : EReal => a * b) ?_ ?_)
  · refine Eq.trans (congrArg _ (funext fun a => Fin.ext ?_)) (ref_lhs x0 x1 x2 x3 x4 x6 x7 r j)
    match a with
    | ⟨0, _⟩ => rfl
    | ⟨1, _⟩ => rfl
  · rw [val_main_v53_apply, val_main_v52_apply]
    refine congrArg x8 (funext fun a => Fin.ext ?_)
    have hc := c.isLt
    have hj := j.isLt
    match a with
    | ⟨0, _⟩ => rfl
    | ⟨1, _⟩ => show (j.val * 2048 + c.val) / 2048 % 2048 = j.val; omega
    | ⟨2, _⟩ => show (j.val * 2048 + c.val) % 2048 = c.val; omega

end Cert.Proof.OutProj.L3

end
-- ==== Proof.OutProj.L3.Claim.lean ====
module

public import proofs.«01_k».proof.Defs
public import proofs.«01_k».proof.Proof.OutProj.L3.Ref
public import proofs.«01_k».proof.Proof.Gen.Kernel9Ideal.Value
public import Idealize.ShloMosaic.Lib.Quiescent

/-! The output projection of layer 3: the kernel's result is the reference's. -/

@[expose] public section

set_option maxRecDepth 16384

noncomputable section

namespace Cert.Proof.OutProj.L3

open Idealize.ShloMosaic Idealize.ShloMosaic.TcCoe Idealize.ShloMosaic.Tactic Idealize.SL.Sem

/-- The reference leaves its arguments unchanged, and has no semaphore. -/
theorem frame_reference : Cert.quiescent_Reference9Ideal := fun m ρ _ =>
  (θ_run _ _ _).mono (fun _ h => ⟨fun c => (h c).2, sem_eq_zero_of_no_sems rfl _⟩) (Cert.Reference9Ideal.Value.run m ρ)

theorem algebraic : Cert.algebraic_Kernel9Ideal_Reference9Ideal := by
  intro m g m' g' _ hag
  refine ⟨_, Cert.Kernel9Ideal.Value.run_blocks m g, (θ_run _ _ _).mono (fun _ h c => ?_) (Cert.Reference9Ideal.Value.run m' g')⟩
  obtain ⟨h0, hargs⟩ := h c
  obtain ⟨a0, a1, a2, a3, a4, a5, a6, a7, a8⟩ := hag c
  refine ⟨h0.trans ?_, hargs⟩
  rw [Cert.Reference9Ideal.Read.val_main_v55_eq, a0, a1, a2, a3, a4, a5, a6, a7, a8, arr9]
  funext i
  obtain ⟨r, k, rfl⟩ : ∃ (r : Fin 16384) (k : Fin 2048), i = Idealize.ShloMosaic.ix2 r k :=
    ⟨i 0, i 1, funext fun a => by match a with | ⟨0, _⟩ => rfl | ⟨1, _⟩ => rfl⟩
  refine (ref_out _ _ _ _ _ _ _ _ _ r k).trans ?_
  rw [entry_rows, entry_glu, entry_weights, funext (entry_gain m c)]
  rfl

end Cert.Proof.OutProj.L3

end
-- ==== Proof.Mem.Math.lean ====
/-
  The memory attention of one row and one head, as a function: the normalized heads, the softmax over the memory's rows, and the two
  orders in which the quotient by the softmax's sum can be taken.
-/
module

public import Idealize.ShloMosaic.PureOps.Ideal
public import Idealize.ShloMosaic.Lib.IdealHost

@[expose] public section

noncomputable section

namespace Cert.Proof.Mem

open Idealize.ShloMosaic

/-- The reciprocal root mean square of a head. -/
def rms (x : Fin 128 → EReal) : EReal :=
  Ideal.rsqrt (Ideal.div (∑ j : Fin 128, x j * x j) (Ideal.ofBits FTy.f32 0x43000000#32) + Ideal.ofBits FTy.f32 0x358637BD#32)

/-- A head divided by its root mean square and multiplied by the gain. -/
def hn (x g : Fin 128 → EReal) (d : Fin 128) : EReal := x d * rms x * g d

/-- A memory row, divided by its root mean square and multiplied by the gain, against column `c` of the weights. -/
def kvRow (x g : Fin 2048 → EReal) (w : Fin 2048 → Fin 1024 → EReal) (c : Fin 1024) : EReal :=
  ∑ j : Fin 2048, x j * Ideal.rsqrt (Ideal.div (∑ i : Fin 2048, x i * x i) (Ideal.ofBits FTy.f32 0x45000000#32)
    + Ideal.ofBits FTy.f32 0x358637BD#32) * g j * w j c

/-- The scale of the logits. -/
def scale : EReal := Ideal.ofBits FTy.f32 0x3DB504F3#32

/-- The softmax's numerator. -/
def num (s : Fin 256 → EReal) (m : Fin 256) : EReal :=
  Ideal.exp (s m - Finset.fold max (Ideal.ofBits FTy.f32 0xFF800000#32) s Finset.univ)

/-- Weighted sum first, quotient last; the query scaled. -/
def attK (q : Fin 128 → EReal) (k v : Fin 256 → Fin 128 → EReal) (d : Fin 128) : EReal :=
  Ideal.div (∑ m : Fin 256, num (fun m => ∑ j : Fin 128, q j * scale * k m j) m * v m d)
    (∑ m : Fin 256, num (fun m => ∑ j : Fin 128, q j * scale * k m j) m)

/-- Quotients first, then the weighted sum; the logits scaled. -/
def attR (q : Fin 128 → EReal) (k v : Fin 256 → Fin 128 → EReal) (d : Fin 128) : EReal :=
  ∑ m : Fin 256, v m d * Ideal.div (num (fun m => (∑ j : Fin 128, q j * k m j) * scale) m)
    (∑ m : Fin 256, num (fun m => (∑ j : Fin 128, q j * k m j) * scale) m)

/-- A real number, among the extended reals. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem coe_sum {n : ℕ} (f : Fin n → ℝ) : (∑ j : Fin n, ((f j : ℝ) : EReal)) = ((∑ j : Fin n, f j : ℝ) : EReal) := by
  symm
  exact map_sum (⟨⟨((↑) : ℝ → EReal), EReal.coe_zero⟩, EReal.coe_add⟩ : ℝ →+ EReal) f Finset.univ

theorem mul_self_nonneg' (x : EReal) : 0 ≤ x * x := by
  rcases le_total 0 x with h | h
  · exact mul_nonneg h h
  · rw [← neg_mul_neg x x]
    exact mul_nonneg (EReal.neg_nonneg.mpr h) (EReal.neg_nonneg.mpr h)

theorem ofBits_128 : Ideal.ofBits .f32 0x43000000#32 = ((128 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

theorem ofBits_scale : ∃ e : ℝ, scale = (e : EReal) := by
  refine ⟨11863283 / 2 ^ 27, ?_⟩
  unfold scale
  simp [Ideal.ofBits, Ideal.ieee, -EReal.coe_mul]; norm_num

theorem ofBits_bot : Ideal.ofBits .f32 0xFF800000#32 = ⊥ := by
  simp [Ideal.ofBits, Ideal.ieee]

/-- An entry of a normalized head is a real number, whatever the head. -/
theorem rms_real (x : Fin 128 → EReal) (d : Fin 128) : IsReal (x d * rms x) := by
  obtain ⟨e, he, hE⟩ := ofBits_eps
  unfold rms
  rw [hE, ofBits_128, Ideal.div_coe (by norm_num : (128 : ℝ) ≠ 0)]
  by_cases hx : ∀ j, IsReal (x j)
  · choose y hy using hx
    simp only [hy, ← EReal.coe_mul, coe_sum, ← EReal.coe_add]
    have h0 : 0 ≤ ∑ j, y j * y j := Finset.sum_nonneg fun j _ => mul_self_nonneg _
    have hp : 0 < (∑ j, y j * y j) * (1 / 128) + e := by positivity
    rw [Ideal.rsqrt_coe, if_neg (not_lt.mpr hp.le), if_neg hp.ne']
    exact ⟨_, (EReal.coe_mul _ _).symm⟩
  · push Not at hx
    obtain ⟨j, hj⟩ := hx
    have ht : x j * x j = ⊤ := by
      induction h : x j with
      | bot => rfl
      | coe r => exact absurd ⟨r, h⟩ hj
      | top => rfl
    have hS : (∑ j, x j * x j) = ⊤ := top_le_iff.mp (ht ▸ Finset.single_le_sum (f := fun j => x j * x j)
      (fun j _ => mul_self_nonneg' _) (Finset.mem_univ j))
    rw [hS, EReal.top_mul_coe_of_pos (by norm_num), EReal.top_add_coe]
    exact ⟨0, by show x d * Ideal.rsqrt ⊤ = _; rw [show Ideal.rsqrt ⊤ = 0 from rfl, mul_zero]; rfl⟩

theorem hn_real (x g : Fin 128 → EReal) (hg : ∀ d, IsReal (g d)) (d : Fin 128) : IsReal (hn x g d) :=
  (rms_real x d).mul (hg d)

theorem fold_real (s : Fin 256 → ℝ) : IsReal (Finset.fold max (⊥ : EReal) (fun m => ((s m : ℝ) : EReal)) Finset.univ) := by
  obtain ⟨m, -, hm⟩ := Finset.exists_mem_eq_sup Finset.univ ⟨(0 : Fin 256), Finset.mem_univ _⟩ (fun m => ((s m : ℝ) : EReal))
  exact ⟨s m, hm⟩

theorem sum_mul_coe {n : ℕ} (f : Fin n → EReal) (r : ℝ) (h : 0 ≤ r) : (∑ m, f m) * (r : EReal) = ∑ m, f m * (r : EReal) := by
  have hs : ∀ S : Finset (Fin n), (∑ m ∈ S, f m) * (r : EReal) = ∑ m ∈ S, f m * (r : EReal) := by
    intro S
    induction S using Finset.induction_on with
    | empty => simp
    | insert a S ha ih =>
      rw [Finset.sum_insert ha, Finset.sum_insert ha, EReal.right_distrib_of_nonneg_of_ne_top (EReal.coe_nonneg.mpr h) (EReal.coe_ne_top r), ih]
  exact hs Finset.univ

theorem quot_eq (s : Fin 256 → ℝ) (w : Fin 256 → EReal) :
    Ideal.div (∑ m : Fin 256, num (fun m => ((s m : ℝ) : EReal)) m * w m) (∑ m : Fin 256, num (fun m => ((s m : ℝ) : EReal)) m)
      = ∑ m : Fin 256, w m * Ideal.div (num (fun m => ((s m : ℝ) : EReal)) m) (∑ m : Fin 256, num (fun m => ((s m : ℝ) : EReal)) m) := by
  obtain ⟨M, hM⟩ := fold_real s
  have hn : ∀ m, num (fun m => ((s m : ℝ) : EReal)) m = ((Real.exp (s m - M) : ℝ) : EReal) := fun m => by
    unfold num
    rw [ofBits_bot, hM, ← EReal.coe_sub]
    rfl
  simp only [hn, coe_sum]
  have hP : 0 < ∑ m, Real.exp (s m - M) := Finset.sum_pos (fun m _ => Real.exp_pos _) ⟨0, Finset.mem_univ _⟩
  simp only [Ideal.div_coe hP.ne']
  rw [sum_mul_coe _ _ (by positivity)]
  exact Finset.sum_congr rfl fun m _ => by rw [mul_comm (w m), mul_assoc, mul_assoc, mul_comm (w m)]

/-- With real queries and keys the two orders agree, whatever the values. -/
theorem attK_eq (q : Fin 128 → EReal) (k v : Fin 256 → Fin 128 → EReal) (hq : ∀ j, IsReal (q j)) (hk : ∀ m j, IsReal (k m j)) (d : Fin 128) :
    attK q k v d = attR q k v d := by
  obtain ⟨c, hc⟩ := ofBits_scale
  choose q' hq' using hq
  choose k' hk' using hk
  unfold attK attR
  have e : (fun m => ∑ j : Fin 128, q j * scale * k m j) = fun m => (((∑ j : Fin 128, q' j * k' m j) * c : ℝ) : EReal) := funext fun m => by
    simp only [hq', hk', hc, ← EReal.coe_mul, coe_sum]
    rw [Finset.sum_mul]
    exact congrArg _ (Finset.sum_congr rfl fun j _ => by ring)
  have e' : (fun m => (∑ j : Fin 128, q j * k m j) * scale) = fun m => (((∑ j : Fin 128, q' j * k' m j) * c : ℝ) : EReal) := funext fun m => by
    simp only [hq', hk', hc, ← EReal.coe_mul, coe_sum]
  rw [e, e']
  exact quot_eq _ _

end Cert.Proof.Mem

end
-- ==== Proof.Mem.Attn.lean ====
/-
  The memory attention call: one grid point, and its whole result.
-/
module

public import proofs.«01_k».proof.Proof.Gen.Kernel10Ideal.Frame
public import proofs.«01_k».proof.Proof.Mem.Math
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mem

open Idealize.ShloMosaic Idealize.ShloMosaic.TcCoe Idealize.ShloMosaic.Tactic
open Cert.Kernel10Ideal Cert.Kernel10Ideal.Gen
open Idealize.ShloMosaic.Pipeline (Dat Cfg Window)

/-- One head of a block: the queries `q`, their gain `g`, and the memory's keys and values. -/
def headAt (q : S512x128.Idx → EReal) (g : S1x128.Idx → EReal) (k v : S256x128.Idx → EReal) (r : Fin 512) (d : Fin 128) : EReal :=
  attK (hn (fun j => q (ix2 r j)) (fun j => g (ix2 0 j))) (fun m j => k (ix2 m j)) (fun m j => v (ix2 m j)) d

theorem pay2_apply (q : Vec Ideal S512x128 .bf16) (g : Vec Ideal S1x128 .f32) (k v : Vec Ideal S256x128 .bf16) (r : Fin 512) (d : Fin 128) :
    k1_pay2 q g k v (ix2 r d) = headAt q g k v r d := by
  unfold_payloads
  pointwise
  rfl

theorem pay3_apply (q : Vec Ideal S512x128 .bf16) (g : Vec Ideal S1x128 .f32) (k v : Vec Ideal S256x128 .bf16) (r : Fin 512) (d : Fin 128) :
    k1_pay3 q g k v (ix2 r d) = headAt q g k v r d := by
  unfold_payloads
  pointwise
  rfl

theorem pay5_apply (q : Vec Ideal S512x128 .bf16) (g : Vec Ideal S1x128 .f32) (k v : Vec Ideal S256x128 .bf16) (r : Fin 512) (d : Fin 128) :
    k1_pay5 (k1_pay4 q) g k v (ix2 r d) = headAt q g k v r d := by
  unfold_payloads
  pointwise
  rfl

theorem pay1_apply (q : Vec Ideal S512x128 .bf16) (g : Vec Ideal S1x128 .f32) (k v : Vec Ideal S256x128 .bf16) (r : Fin 512) (d : Fin 128) :
    k1_pay1 (k1_pay6 q) (k1_pay7 g) (k1_pay8 q) k v (ix2 r d) = headAt q g k v r d := by
  unfold_payloads
  pointwise
  rfl

/-- Column `h * 128 + j` of 512. -/
def hc (h : ℕ) (hh : h < 4) (j : Fin 128) : Fin 512 := ⟨h * 128 + j.val, by omega⟩

/-- Head `h` of a block. -/
def headOf (x0 : S512x512.Idx → EReal) (x1 x2 : S256x512.Idx → EReal) (x3 : S1x128.Idx → EReal) (r : Fin 512) (h : ℕ) (hh : h < 4) (d : Fin 128) : EReal :=
  attK (hn (fun j => x0 (ix2 r (hc h hh j))) (fun j => x3 (ix2 0 j))) (fun m j => x1 (ix2 m (hc h hh j))) (fun m j => x2 (ix2 m (hc h hh j))) d

theorem headOf_congr (x0 : S512x512.Idx → EReal) (x1 x2 : S256x512.Idx → EReal) (x3 : S1x128.Idx → EReal) (r r' : Fin 512) (h h' : ℕ) (hh : h < 4)
    (hh' : h' < 4) (d d' : Fin 128) (er : r = r') (eh : h = h') (ed : d = d') : headOf x0 x1 x2 x3 r h hh d = headOf x0 x1 x2 x3 r' h' hh' d' := by
  subst er eh ed
  rfl

theorem head_piece (x0 : S512x512.Idx → EReal) (x1 x2 : S256x512.Idx → EReal) (x3 : S1x128.Idx → EReal)
    (q : S512x128.Idx → EReal) (g : S1x128.Idx → EReal) (k v : S256x128.Idx → EReal) (h : ℕ) (hh : h < 4)
    (hq : ∀ r j, q (ix2 r j) = x0 (ix2 r (hc h hh j))) (hg : ∀ j, g (ix2 0 j) = x3 (ix2 0 j))
    (hk : ∀ r j, k (ix2 r j) = x1 (ix2 r (hc h hh j))) (hv : ∀ r j, v (ix2 r j) = x2 (ix2 r (hc h hh j)))
    (a : Fin 512) (b : Fin 128) (r : Fin 512) (n : ℕ) (hn : n < 4) (d : Fin 128) (h0 : r = a) (h1 : n = h) (h2 : d = b) :
    headAt q g k v a b = headOf x0 x1 x2 x3 r n hn d := by
  refine Eq.trans ?_ (headOf_congr x0 x1 x2 x3 _ _ _ _ hh hn _ _ h0.symm h1.symm h2.symm)
  unfold headAt headOf
  simp only [hq, hg, hk, hv]

theorem out_block (x0 : Vec Ideal S512x512 .bf16) (x1 x2 : Vec Ideal S256x512 .bf16) (x3 : Vec Ideal S1x128 .f32) (y : S512x512.Idx) :
    out1_4 x0 x1 x2 x3 y = headOf x0 x1 x2 x3 (y 0) ((y 1).val / 128) (by have := (y 1).isLt; show _ < 4; change (y 1).val < 512 at this; omega)
      ⟨(y 1).val % 128, by omega⟩ := by
  unfold out1_4
  canon_tiles x h
  · refine (congrArg _ (eq_ix2 x)).trans ((pay1_apply _ _ _ _ (x 0) (x 1)).trans (head_piece x0 x1 x2 x3 _ _ _ _ 3 (by omega) ?_ ?_ ?_ ?_ _ _ _ _ _ _
      (Fin.ext h0) (by omega) (Fin.ext (by show (y 1).val % 128 = _; omega))))
    all_goals intros; pointwise; try rfl
  · refine (congrArg _ (eq_ix2 x)).trans ((pay5_apply _ _ _ _ (x 0) (x 1)).trans (head_piece x0 x1 x2 x3 _ _ _ _ 2 (by omega) ?_ ?_ ?_ ?_ _ _ _ _ _ _
      (Fin.ext h0) (by omega) (Fin.ext (by show (y 1).val % 128 = _; omega))))
    all_goals intros; pointwise; try rfl
  · refine (congrArg _ (eq_ix2 x)).trans ((pay3_apply _ _ _ _ (x 0) (x 1)).trans (head_piece x0 x1 x2 x3 _ _ _ _ 1 (by omega) ?_ ?_ ?_ ?_ _ _ _ _ _ _
      (Fin.ext h0) (by omega) (Fin.ext (by show (y 1).val % 128 = _; omega))))
    all_goals intros; pointwise; try rfl
  · refine (congrArg _ (eq_ix2 x)).trans ((pay2_apply _ _ _ _ (x 0) (x 1)).trans (head_piece x0 x1 x2 x3 _ _ _ _ 0 (by omega) ?_ ?_ ?_ ?_ _ _ _ _ _ _
      (Fin.ext h0) (by omega) (Fin.ext (by show (y 1).val % 128 = _; omega))))
    all_goals intros; pointwise; try simp only [hc, Nat.zero_mul, Nat.zero_add]

/-- The memory attention at row `R` and entry `d` of head `h`: the queries are the columns of `P` from 4608, the memory of row `R` is that
    of its batch entry. -/
def attAt (P : S16384x6144.Idx → EReal) (K V : S1024x512.Idx → EReal) (g : S1x128.Idx → EReal) (R : Fin 16384) (h : ℕ) (hh : h < 4) (d : Fin 128) : EReal :=
  attK (hn (fun j => P (ix2 R ⟨4608 + (hc h hh j).val, by omega⟩)) (fun j => g (ix2 0 j)))
    (fun m j => K (ix2 ⟨R.val / 4096 * 256 + m.val, by omega⟩ (hc h hh j))) (fun m j => V (ix2 ⟨R.val / 4096 * 256 + m.val, by omega⟩ (hc h hh j))) d

theorem idx1 : ∀ t : Fin cfg1.N, (win1_0.index t = ![(grid1.coords t 0).val * 8 + (grid1.coords t 1).val, 9]
    ∧ win1_1.index t = ![(grid1.coords t 0).val, 0] ∧ win1_2.index t = ![(grid1.coords t 0).val, 0])
    ∧ win1_3.index t = ![0, 0] ∧ win1_4.index t = ![(grid1.coords t 0).val * 8 + (grid1.coords t 1).val, 0] :=
  (by decide +kernel : ∀ t : Fin grid1.N, _)

variable (V : (c : Dev nD) → (b : Ref sig .tc) → Buf (Elt Ideal) ((c : Thread nD τ).loc b))

theorem aread0 (c : Dev nD) (t : Fin cfg1.N) (r : Fin 512) (k : Fin 512) (R : Fin 16384) (K : Fin 6144)
    (hR : R.val = ((grid1.coords t 0).val * 8 + (grid1.coords t 1).val) * 512 + r.val) (hK : K.val = 4608 + k.val) :
    iblk1 V c 0 t (ix2 r k) = V c main_arg0 (ix2 R K) := by
  blk_ext [iblk1, (idx1 t).1.1]

theorem aread1 (c : Dev nD) (t : Fin cfg1.N) (r : Fin 256) (k : Fin 512) (R : Fin 1024)
    (hR : R.val = (grid1.coords t 0).val * 256 + r.val) :
    iblk1 V c 1 t (ix2 r k) = V c main_v8_0 (ix2 R k) := by
  blk_ext [iblk1, (idx1 t).1.2.1]

theorem aread2 (c : Dev nD) (t : Fin cfg1.N) (r : Fin 256) (k : Fin 512) (R : Fin 1024)
    (hR : R.val = (grid1.coords t 0).val * 256 + r.val) :
    iblk1 V c 2 t (ix2 r k) = V c main_v8_1 (ix2 R k) := by
  blk_ext [iblk1, (idx1 t).1.2.2]

theorem aread3 (c : Dev nD) (t : Fin cfg1.N) (k : Fin 128) :
    iblk1 V c 3 t (ix2 0 k) = V c main_v11 (ix2 0 k) := by
  blk_ext [iblk1, (idx1 t).2.1]

theorem att_congr (P : S16384x6144.Idx → EReal) (K W : S1024x512.Idx → EReal) (g : S1x128.Idx → EReal) (R R' : Fin 16384) (h h' : ℕ) (hh : h < 4)
    (hh' : h' < 4) (d d' : Fin 128) (er : R = R') (eh : h = h') (ed : d = d') : attAt P K W g R h hh d = attAt P K W g R' h' hh' d' := by
  subst er eh ed
  rfl

theorem att_point (c : Dev nD) (t : Fin cfg1.N) (r : Fin 512) (h : ℕ) (hh : h < 4) (d : Fin 128) (R : Fin 16384)
    (hR : R.val = ((grid1.coords t 0).val * 8 + (grid1.coords t 1).val) * 512 + r.val) :
    headOf (iblk1 V c 0 t) (iblk1 V c 1 t) (iblk1 V c 2 t) (iblk1 V c 3 t) r h hh d
      = attAt (V c main_arg0) (V c main_v8_0) (V c main_v8_1) (V c main_v11) R h hh d := by
  have hb : R.val / 4096 = (grid1.coords t 0).val := by
    have h8 : (grid1.coords t 1).val < 8 := (grid1.coords t 1).isLt
    omega
  unfold headOf attAt
  have e0 : ∀ j : Fin 128, iblk1 V c 0 t (ix2 r (hc h hh j)) = V c main_arg0 (ix2 R ⟨4608 + (hc h hh j).val, by omega⟩) := fun j =>
    aread0 V c t r _ R _ hR rfl
  have e1 : ∀ (m : Fin 256) (j : Fin 128), iblk1 V c 1 t (ix2 m (hc h hh j)) = V c main_v8_0 (ix2 ⟨R.val / 4096 * 256 + m.val, by omega⟩ (hc h hh j)) :=
    fun m j => aread1 V c t m _ _ (by show R.val / 4096 * 256 + m.val = _; omega)
  have e2 : ∀ (m : Fin 256) (j : Fin 128), iblk1 V c 2 t (ix2 m (hc h hh j)) = V c main_v8_1 (ix2 ⟨R.val / 4096 * 256 + m.val, by omega⟩ (hc h hh j)) :=
    fun m j => aread2 V c t m _ _ (by show R.val / 4096 * 256 + m.val = _; omega)
  simp only [e0, e1, e2, aread3]

/-- The memory attention, an array of 16384 rows. -/
def attArr (P : S16384x6144.Idx → EReal) (K V : S1024x512.Idx → EReal) (g : S1x128.Idx → EReal) : S16384x512.Idx → EReal :=
  fun i => attAt P K V g (i 0) ((i 1).val / 128) (by have h : (i 1).val < 512 := (i 1).isLt; omega) ⟨(i 1).val % 128, by omega⟩

theorem att_arr (c : Dev nD) :
    (dat1 V c).arrAt 4 cfg1.N = attArr (V c main_arg0) (V c main_v8_0) (V c main_v8_1) (V c main_v11) := by
  refine (dat1 V c).arrAt_eq_of_covers 4 _ (by decide +kernel) fun t hf y => ?_
  blk_simp
  rw [after1_4]
  refine (out_block _ _ _ _ y).trans ((att_point V c t _ _ _ _ _ ?_).trans (att_congr _ _ _ _ _ _ _ _ _ _ _ _ rfl ?_ ?_))
  all_goals
    simp [(idx1 t).2.2]

end Cert.Proof.Mem

end
-- ==== Proof.Mem.Kv.lean ====
/-
  The call that makes the memory's keys and values: one grid point, and its two results.
-/
module

public import proofs.«01_k».proof.Proof.Mem.Attn

@[expose] public section

set_option maxRecDepth 16384

noncomputable section

namespace Cert.Proof.Mem

open Idealize.ShloMosaic Idealize.ShloMosaic.TcCoe Idealize.ShloMosaic.Tactic
open Cert.Kernel10Ideal Cert.Kernel10Ideal.Gen
open Idealize.ShloMosaic.Pipeline (Dat Cfg Window)

/-- Row `r` of a block of memory rows, projected. -/
def kvOf (x0 : S256x2048.Idx → EReal) (x1 : S1x2048.Idx → EReal) (x2 : S1x2048x1024.Idx → EReal) (r : Fin 256) (c : Fin 1024) : EReal :=
  kvRow (fun j => x0 (ix2 r j)) (fun j => x1 (ix2 0 j)) (fun j c => x2 (ix3 0 j c)) c

/-- Column `h * 128 + j` of 1024. -/
def kc (h : ℕ) (hh : h < 4) (j : Fin 128) : Fin 1024 := ⟨h * 128 + j.val, by omega⟩

/-- Head `h` of a block of keys. -/
def keyOf (x0 : S256x2048.Idx → EReal) (x1 : S1x2048.Idx → EReal) (x2 : S1x2048x1024.Idx → EReal) (x3 : S1x128.Idx → EReal) (r : Fin 256)
    (h : ℕ) (hh : h < 4) (d : Fin 128) : EReal :=
  hn (fun j => kvOf x0 x1 x2 r (kc h hh j)) (fun j => x3 (ix2 0 j)) d

theorem keyOf_congr (x0 : S256x2048.Idx → EReal) (x1 : S1x2048.Idx → EReal) (x2 : S1x2048x1024.Idx → EReal) (x3 : S1x128.Idx → EReal) (r r' : Fin 256)
    (h h' : ℕ) (hh : h < 4) (hh' : h' < 4) (d d' : Fin 128) (er : r = r') (eh : h = h') (ed : d = d') :
    keyOf x0 x1 x2 x3 r h hh d = keyOf x0 x1 x2 x3 r' h' hh' d' := by
  subst er eh ed
  rfl

theorem kpay11_apply (x0 : Vec Ideal S256x2048 .f32) (x1 : Vec Ideal S1x2048 .f32) (x2 : Vec Ideal S1x2048x1024 .bf16) (x3 : Vec Ideal S1x128 .f32)
    (r : Fin 256) (c : Fin 1024) : k0_pay11 x0 x1 x2 x3 (ix2 r c) = kvOf x0 x1 x2 r c := by
  unfold_payloads
  pointwise
  rfl

theorem kpay4_apply (x0 : Vec Ideal S256x2048 .f32) (x1 : Vec Ideal S1x2048 .f32) (x2 : Vec Ideal S1x2048x1024 .bf16) (x3 : Vec Ideal S1x128 .f32)
    (r : Fin 256) (d : Fin 128) :
    k0_pay4 (View.ld x0 r0_0) (View.ld x1 r0_1) (View.ld x2 r0_2) (View.ld x3 r0_3) (ix2 r d) = keyOf x0 x1 x2 x3 r 0 (by omega) d := by
  unfold_payloads
  pointwise
  unfold keyOf hn rms kvOf kvRow kc
  simp

theorem kpay6_apply (x0 : Vec Ideal S256x2048 .f32) (x1 : Vec Ideal S1x2048 .f32) (x2 : Vec Ideal S1x2048x1024 .bf16) (x3 : Vec Ideal S1x128 .f32)
    (r : Fin 256) (d : Fin 128) :
    k0_pay6 (k0_pay5 (View.ld x0 r0_0) (View.ld x1 r0_1) (View.ld x2 r0_2)) (View.ld x3 r0_3) (ix2 r d) = keyOf x0 x1 x2 x3 r 1 (by omega) d := by
  unfold_payloads
  pointwise
  rfl

theorem kpay7_apply (w : Vec Ideal S256x1024 .f32) (x3 : Vec Ideal S1x128 .f32) (r : Fin 256) (d : Fin 128) :
    k0_pay7 w (View.ld x3 r0_3) (ix2 r d) = hn (fun j => w (ix2 r (kc 2 (by omega) j))) (fun j => x3 (ix2 0 j)) d := by
  unfold_payloads
  pointwise
  rfl

theorem kpay1_apply (w : Vec Ideal S256x1024 .f32) (x3 : Vec Ideal S1x128 .f32) (r : Fin 256) (d : Fin 128) :
    k0_pay1 (k0_pay8 w) (k0_pay9 (View.ld x3 r0_3)) (k0_pay10 w) (Scalar.ofBits .f32 0x358637BD#32) (ix2 r d)
      = hn (fun j => w (ix2 r (kc 3 (by omega) j))) (fun j => x3 (ix2 0 j)) d := by
  unfold_payloads
  pointwise
  rfl

theorem kpay7_key (x0 : Vec Ideal S256x2048 .f32) (x1 : Vec Ideal S1x2048 .f32) (x2 : Vec Ideal S1x2048x1024 .bf16) (x3 : Vec Ideal S1x128 .f32)
    (r : Fin 256) (d : Fin 128) : k0_pay7 (k0_pay11 x0 x1 x2 x3) (View.ld x3 r0_3) (ix2 r d) = keyOf x0 x1 x2 x3 r 2 (by omega) d := by
  rw [kpay7_apply]
  unfold keyOf
  simp only [kpay11_apply]

theorem kpay1_key (x0 : Vec Ideal S256x2048 .f32) (x1 : Vec Ideal S1x2048 .f32) (x2 : Vec Ideal S1x2048x1024 .bf16) (x3 : Vec Ideal S1x128 .f32)
    (r : Fin 256) (d : Fin 128) :
    k0_pay1 (k0_pay8 (k0_pay11 x0 x1 x2 x3)) (k0_pay9 (View.ld x3 r0_3)) (k0_pay10 (k0_pay11 x0 x1 x2 x3)) (Scalar.ofBits .f32 0x358637BD#32) (ix2 r d)
      = keyOf x0 x1 x2 x3 r 3 (by omega) d := by
  rw [kpay1_apply]
  unfold keyOf
  simp only [kpay11_apply]

theorem kpay2_apply (w : Vec Ideal S256x1024 .f32) (r : Fin 256) (c : Fin 512) :
    (k0_pay2 (F := Ideal) w (ix2 r c) : EReal) = w (ix2 r ⟨512 + c.val, by omega⟩) := by
  unfold_payloads
  pointwise

theorem kvOf_congr (x0 : S256x2048.Idx → EReal) (x1 : S1x2048.Idx → EReal) (x2 : S1x2048x1024.Idx → EReal) (r r' : Fin 256) (c c' : Fin 1024)
    (er : r = r') (ec : c = c') : kvOf x0 x1 x2 r c = kvOf x0 x1 x2 r' c' := by
  subst er ec
  rfl

theorem key_block (x0 : Vec Ideal S256x2048 .f32) (x1 : Vec Ideal S1x2048 .f32) (x2 : Vec Ideal S1x2048x1024 .bf16) (x3 : Vec Ideal S1x128 .f32)
    (y : S256x512.Idx) : out0_4 x0 x1 x2 x3 y
      = keyOf x0 x1 x2 x3 (y 0) ((y 1).val / 128) (by have h : (y 1).val < 512 := (y 1).isLt; omega) ⟨(y 1).val % 128, by omega⟩ := by
  unfold out0_4
  canon_tiles x h
  · exact ((congrArg _ (eq_ix2 x)).trans (kpay1_key _ _ _ _ (x 0) (x 1))).trans (keyOf_congr x0 x1 x2 x3 (x 0) _ 3 _ (by omega) _ (x 1) _
      (Fin.ext h0.symm) (by omega) (Fin.ext (by show _ = (y 1).val % 128; omega)))
  · exact ((congrArg _ (eq_ix2 x)).trans (kpay7_key _ _ _ _ (x 0) (x 1))).trans (keyOf_congr x0 x1 x2 x3 (x 0) _ 2 _ (by omega) _ (x 1) _
      (Fin.ext h0.symm) (by omega) (Fin.ext (by show _ = (y 1).val % 128; omega)))
  · exact ((congrArg _ (eq_ix2 x)).trans (kpay6_apply _ _ _ _ (x 0) (x 1))).trans (keyOf_congr x0 x1 x2 x3 (x 0) _ 1 _ (by omega) _ (x 1) _
      (Fin.ext h0.symm) (by omega) (Fin.ext (by show _ = (y 1).val % 128; omega)))
  · exact ((congrArg _ (eq_ix2 x)).trans (kpay4_apply _ _ _ _ (x 0) (x 1))).trans (keyOf_congr x0 x1 x2 x3 (x 0) _ 0 _ (by omega) _ (x 1) _
      (Fin.ext h0.symm) (by omega) (Fin.ext (by show _ = (y 1).val % 128; omega)))

theorem value_block (x0 : Vec Ideal S256x2048 .f32) (x1 : Vec Ideal S1x2048 .f32) (x2 : Vec Ideal S1x2048x1024 .bf16) (x3 : Vec Ideal S1x128 .f32)
    (y : S256x512.Idx) : out0_5 x0 x1 x2 x3 y = kvOf x0 x1 x2 (y 0) ⟨512 + (y 1).val, by have h : (y 1).val < 512 := (y 1).isLt; omega⟩ := by
  unfold out0_5
  canon_tiles x h
  exact ((congrArg _ (eq_ix2 x)).trans ((kpay2_apply _ (x 0) (x 1)).trans (kpay11_apply _ _ _ _ _ _))).trans
    (kvOf_congr x0 x1 x2 _ _ _ _ (Fin.ext h0.symm) (Fin.ext (by show 512 + (x 1).val = 512 + (y 1).val; omega)))

theorem idx0 : ∀ t : Fin cfg0.N, (win0_0.index t = ![(grid0.coords t 0).val, 0]
    ∧ win0_1.index t = ![0, 0] ∧ win0_2.index t = ![0, 0, 0] ∧ win0_3.index t = ![0, 0])
    ∧ win0_4.index t = ![(grid0.coords t 0).val, 0] ∧ win0_5.index t = ![(grid0.coords t 0).val, 0] :=
  (by decide +kernel : ∀ t : Fin grid0.N, _)

variable (V : (c : Dev nD) → (b : Ref sig .tc) → Buf (Elt Ideal) ((c : Thread nD τ).loc b))

theorem kread0 (c : Dev nD) (t : Fin cfg0.N) (r : Fin 256) (k : Fin 2048) (R : Fin 1024) (hR : R.val = (grid0.coords t 0).val * 256 + r.val) :
    iblk0 V c 0 t (ix2 r k) = V c main_v0 (ix2 R k) := by
  blk_ext [iblk0, (idx0 t).1.1]

theorem kread1 (c : Dev nD) (t : Fin cfg0.N) (k : Fin 2048) : iblk0 V c 1 t (ix2 0 k) = V c main_v3 (ix2 0 k) := by
  blk_ext [iblk0, (idx0 t).1.2.1]

theorem kread2 (c : Dev nD) (t : Fin cfg0.N) (j : Fin 2048) (k : Fin 1024) : iblk0 V c 2 t (ix3 0 j k) = V c main_v4 (ix3 0 j k) := by
  blk_ext [iblk0, (idx0 t).1.2.2.1]

theorem kread3 (c : Dev nD) (t : Fin cfg0.N) (k : Fin 128) : iblk0 V c 3 t (ix2 0 k) = V c main_v7 (ix2 0 k) := by
  blk_ext [iblk0, (idx0 t).1.2.2.2]

/-- Memory row `R`, projected by layer 0's weights. -/
def kvAt (X : S1024x2048.Idx → EReal) (g : S1x2048.Idx → EReal) (w : S4x2048x1024.Idx → EReal) (R : Fin 1024) (c : Fin 1024) : EReal :=
  kvRow (fun j => X (ix2 R j)) (fun j => g (ix2 0 j)) (fun j c => w (ix3 0 j c)) c

/-- The memory's keys. -/
def keyArr (X : S1024x2048.Idx → EReal) (g : S1x2048.Idx → EReal) (w : S4x2048x1024.Idx → EReal) (kg : S1x128.Idx → EReal) : S1024x512.Idx → EReal :=
  fun i => hn (fun j => kvAt X g w (i 0) (kc ((i 1).val / 128) (by have h : (i 1).val < 512 := (i 1).isLt; omega) j)) (fun j => kg (ix2 0 j))
    ⟨(i 1).val % 128, by omega⟩

/-- The memory's values. -/
def valueArr (X : S1024x2048.Idx → EReal) (g : S1x2048.Idx → EReal) (w : S4x2048x1024.Idx → EReal) : S1024x512.Idx → EReal :=
  fun i => kvAt X g w (i 0) ⟨512 + (i 1).val, by have h : (i 1).val < 512 := (i 1).isLt; omega⟩

theorem kv_point (c : Dev nD) (t : Fin cfg0.N) (r : Fin 256) (R : Fin 1024) (hR : R.val = (grid0.coords t 0).val * 256 + r.val) (k : Fin 1024) :
    kvOf (iblk0 V c 0 t) (iblk0 V c 1 t) (iblk0 V c 2 t) r k = kvAt (V c main_v0) (V c main_v3) (V c main_v4) R k := by
  unfold kvOf kvAt
  simp only [kread0 V c t r _ R hR, kread1, kread2]

theorem key_arr (c : Dev nD) : (dat0 V c).arrAt 4 cfg0.N = keyArr (V c main_v0) (V c main_v3) (V c main_v4) (V c main_v7) := by
  refine (dat0 V c).arrAt_eq_of_covers 4 _ (by decide +kernel) fun t hf y => ?_
  blk_simp
  rw [after0_4]
  refine (key_block _ _ _ _ y).trans ?_
  unfold keyOf keyArr
  simp only [kread3]
  refine congr (congrArg (fun q => hn q _) (funext fun j => ?_)) (Fin.ext ?_)
  · refine (kv_point V c t _ _ ?_ _).trans (congrArg (kvAt _ _ _ _) (Fin.ext ?_))
    all_goals simp [(idx0 t).2.1, kc]
  · simp [(idx0 t).2.1]

theorem value_arr (c : Dev nD) : (dat0 V c).arrAt 5 cfg0.N = valueArr (V c main_v0) (V c main_v3) (V c main_v4) := by
  refine (dat0 V c).arrAt_eq_of_covers 5 _ (by decide +kernel) fun t hf y => ?_
  blk_simp
  rw [after0_5]
  refine (value_block _ _ _ _ y).trans ?_
  unfold valueArr
  refine (kv_point V c t _ _ ?_ _).trans (congrArg (kvAt _ _ _ _) (Fin.ext ?_))
  all_goals simp [(idx0 t).2.2]

end Cert.Proof.Mem

end
-- ==== Proof.Mem.Run.lean ====
module

public import proofs.«01_k».proof.Proof.Mem.Kv
public import Idealize.ShloMosaic.Lib.Claim

/-! The run of the memory attention: its result as a function of its arguments. -/

@[expose] public section

set_option maxRecDepth 16384

noncomputable section

namespace Cert.Proof.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The memory's rows. -/
def memRows (x : S4x256x2048.Idx → EReal) : S1024x2048.Idx → EReal :=
  shapeCast S1024x2048 x shapeCasts_S4x256x2048_S1024x2048

theorem entry_rows (c : Dev nD) : V1 m ρ c main_v0 = memRows (m ((c : Thread nD τ).loc main_arg1)) := by
  unfold_abbrev_sides
  after_results
  rfl

theorem entry_gain (c : Dev nD) (k : Fin 2048) :
    (V1 m ρ c main_v3 : S1x2048.Idx → EReal) (ix2 0 k) = (m ((c : Thread nD τ).loc main_arg2) : S4x2048.Idx → EReal) (ix2 0 k) := by
  unfold_abbrev_sides
  after_results
  pointwise

theorem entry_weights (c : Dev nD) (l : Fin 4) (j : Fin 2048) (k : Fin 1024) :
    (V1 m ρ c main_v4 : S4x2048x1024.Idx → EReal) (ix3 l j k) = (m ((c : Thread nD τ).loc main_arg3) : S4x2048x1024.Idx → EReal) (ix3 l j k) := by
  unfold_abbrev_sides
  after_results
  pointwise

theorem entry_kgain (c : Dev nD) (k : Fin 128) :
    (V1 m ρ c main_v7 : S1x128.Idx → EReal) (ix2 0 k) = (m ((c : Thread nD τ).loc main_arg5) : S4x128.Idx → EReal) (ix2 0 k) := by
  unfold_abbrev_sides
  after_results
  pointwise

theorem entry_qgain (c : Dev nD) (k : Fin 128) :
    (V3 m ρ c main_v11 : S1x128.Idx → EReal) (ix2 0 k) = (m ((c : Thread nD τ).loc main_arg4) : S4x128.Idx → EReal) (ix2 0 k) := by
  rw [← W2_args m ρ c main_arg4 (by decide)]
  unfold_abbrev_sides
  after_results
  pointwise

theorem entry_keys (c : Dev nD) : V3 m ρ c main_v8_0 = keyArr (V1 m ρ c main_v0) (V1 m ρ c main_v3) (V1 m ρ c main_v4) (V1 m ρ c main_v7) :=
  (W3_of m ρ c main_v8_0 (by decide)).trans ((W2_arr m ρ c 4).trans (key_arr _ c))

theorem entry_values (c : Dev nD) : V3 m ρ c main_v8_1 = valueArr (V1 m ρ c main_v0) (V1 m ρ c main_v3) (V1 m ρ c main_v4) :=
  (W3_of m ρ c main_v8_1 (by decide)).trans ((W2_arr m ρ c 5).trans (value_arr _ c))

/-- The result, as a function of the projection, of the queries' gain, and of what the keys and the values are made of. -/
theorem end_att (c : Dev nD) : W4 m ρ c (Proc.devRef .tc main_v12)
    = attArr (m ((c : Thread nD τ).loc main_arg0)) (keyArr (V1 m ρ c main_v0) (V1 m ρ c main_v3) (V1 m ρ c main_v4) (V1 m ρ c main_v7))
        (valueArr (V1 m ρ c main_v0) (V1 m ρ c main_v3) (V1 m ρ c main_v4)) (V3 m ρ c main_v11) := by
  refine (W4_arr m ρ c 4).trans ?_
  rw [att_arr, entry_keys, entry_values]
  rw [show V3 m ρ c main_arg0 = m ((c : Thread nD τ).loc main_arg0) from W3_args m ρ c main_arg0 (by decide)]

/-- The run: the result, and the arguments as they were. -/
theorem run : θ_run defs (onTc (τ := τ) (main (F := Ideal))) ⟨m, fun _ => 0, ρ⟩ (fun r => ∀ c : Dev nD,
      r.2.mem ((c.tc : Thread nD τ).loc main_v12)
        = attArr (m ((c : Thread nD τ).loc main_arg0)) (keyArr (V1 m ρ c main_v0) (V1 m ρ c main_v3) (V1 m ρ c main_v4) (V1 m ρ c main_v7))
            (valueArr (V1 m ρ c main_v0) (V1 m ρ c main_v3) (V1 m ρ c main_v4)) (V3 m ρ c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (end_att m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_bound m ρ)

end Cert.Proof.Mem

end
-- ==== Proof.Mem.Ref.lean ====
module

public import proofs.«01_k».proof.Proof.Mem.Run
public import proofs.«01_k».proof.Proof.Gen.Reference10Ideal.Read

/-! The reference's result is the same function of the arguments, with the softmax's quotients taken first. -/

@[expose] public section

set_option maxRecDepth 16384

noncomputable section

namespace Cert.Proof.Mem

open Idealize.ShloMosaic Idealize.ShloMosaic.TcCoe Idealize.ShloMosaic.Tactic
open Cert.Reference10Ideal Cert.Reference10Ideal.Gen Cert.Reference10Ideal.Read

variable (x0 : S16384x6144.Idx → EReal) (x1 : S4x256x2048.Idx → EReal) (x2 : S4x2048.Idx → EReal) (x3 : S4x2048x1024.Idx → EReal)
  (x4 x5 : S4x128.Idx → EReal)

/-- Row `t` of batch entry `b`. -/
def tokRow (b : Fin 4) (t : Fin 4096) : Fin 16384 := ⟨b.val * 4096 + t.val, by omega⟩

/-- Memory row `m` of batch entry `b`. -/
def memRow (b : Fin 4) (m : Fin 256) : Fin 1024 := ⟨b.val * 256 + m.val, by omega⟩

/-- Column `j` of the queries' head `h`. -/
def qCol (h : Fin 4) (j : Fin 128) : Fin 6144 := ⟨4608 + (h.val * 128 + j.val), by omega⟩

theorem memRows_apply (b : Fin 4) (m : Fin 256) (j : Fin 2048) : memRows x1 (ix2 (memRow b m) j) = x1 (ix3 b m j) := by
  unfold memRows
  pointwise
  refine congrArg x1 (funext fun a => Fin.ext ?_)
  match a with
  | ⟨0, _⟩ => show (b.val * 256 + m.val) / 256 = b.val; omega
  | ⟨1, _⟩ => show (b.val * 256 + m.val) % 256 = m.val; omega
  | ⟨2, _⟩ => rfl

theorem ref_q0 (b : Fin 4) (t : Fin 4096) (h : Fin 4) (j : Fin 128) :
    val_main_v2 (F := Ideal) x0 (ix4 b t h j) = x0 (ix2 (tokRow b t) (qCol h j)) := by
  rw [val_main_v2_apply, val_main_v1_apply, val_main_v0_apply]
  refine congrArg x0 (funext fun a => Fin.ext ?_)
  match a with
  | ⟨0, _⟩ => show (((b.val * 4096 + t.val) * 4 + h.val) * 128 + j.val) / 512 = b.val * 4096 + t.val; omega
  | ⟨1, _⟩ => show 4608 + (((b.val * 4096 + t.val) * 4 + h.val) * 128 + j.val) % 512 = 4608 + (h.val * 128 + j.val); omega

theorem ref_q (b : Fin 4) (t : Fin 4096) (h : Fin 4) (d : Fin 128) :
    val_main_v17 (F := Ideal) x0 x4 (ix4 b t h d) = hn (fun j => x0 (ix2 (tokRow b t) (qCol h j))) (fun j => x4 (ix2 0 j)) d := by
  rw [val_main_v17_apply, val_main_v14_apply, val_main_v13_apply, val_main_v12_apply, val_main_v11_apply, val_main_v9_apply, val_main_v7_apply,
    val_main_v6_apply, val_main_v16_apply, val_main_v15_apply, val_main_v4_apply, val_main_v3_apply, val_main_v8_apply, val_main_v10_apply]
  simp only [val_main_v5_apply, val_main_cst_apply, val_main_cst_0_apply, val_main_cst_1_apply]
  have e : idx_main_v3 (idx_main_v4 (idx_main_v15 (idx_main_v16 (ix4 b t h d)))) = ix2 0 d :=
    funext fun a => Fin.ext (by
      match a with
      | ⟨0, _⟩ => rfl
      | ⟨1, _⟩ => exact Nat.mod_eq_of_lt d.isLt)
  have e' : ∀ j : Fin 128, idx_main_v6 (idx_main_v7 (idx_main_v13 (ix4 b t h d))) j = ix4 b t h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_q0, Ideal.mulf_def, Ideal.addf_def, Ideal.hostUnary_rsqrt_def, Ideal.hostDivf_def, Ideal.ofBits_def, Ideal.ofBits_zero_f32, zero_add]

theorem ref_norm (b : Fin 4) (m : Fin 256) (k : Fin 2048) :
    val_main_v32 (F := Ideal) x1 x2 (ix3 b m k) = x1 (ix3 b m k) * Ideal.rsqrt (Ideal.div (∑ i : Fin 2048, x1 (ix3 b m i) * x1 (ix3 b m i))
      (Ideal.ofBits FTy.f32 0x45000000#32) + Ideal.ofBits FTy.f32 0x358637BD#32) * x2 (ix2 0 k) := by
  rw [val_main_v32_apply, val_main_v29_apply, val_main_v28_apply, val_main_v27_apply, val_main_v26_apply, val_main_v24_apply, val_main_v22_apply,
    val_main_v21_apply, val_main_v31_apply, val_main_v30_apply, val_main_v19_apply, val_main_v18_apply, val_main_v23_apply, val_main_v25_apply]
  simp only [val_main_v20_apply, val_main_cst_2_apply, val_main_cst_3_apply, val_main_cst_4_apply]
  have e : idx_main_v18 (idx_main_v19 (idx_main_v30 (idx_main_v31 (ix3 b m k)))) = ix2 0 k :=
    funext fun a => Fin.ext (by
      match a with
      | ⟨0, _⟩ => rfl
      | ⟨1, _⟩ => exact Nat.mod_eq_of_lt k.isLt)
  have e' : ∀ j : Fin 2048, idx_main_v21 (idx_main_v22 (idx_main_v28 (ix3 b m k))) j = ix3 b m j := fun j =>
    funext fun a => Fin.ext (by
      match a with
      | ⟨0, _⟩ => rfl
      | ⟨1, _⟩ => rfl
      | ⟨2, _⟩ => rfl)
  rw [e]
  simp only [e', Ideal.mulf_def, Ideal.addf_def, Ideal.hostUnary_rsqrt_def, Ideal.hostDivf_def, Ideal.ofBits_def, Ideal.ofBits_zero_f32, zero_add]

theorem ref_kv (g : S1x2048.Idx → EReal) (hg : ∀ k : Fin 2048, g (ix2 0 k) = x2 (ix2 0 k)) (w : S4x2048x1024.Idx → EReal)
    (hw : ∀ (j : Fin 2048) (k : Fin 1024), w (ix3 0 j k) = x3 (ix3 0 j k)) (b : Fin 4) (m : Fin 256) (c : Fin 1024) :
    val_main_v35 (F := Ideal) x1 x2 x3 (ix3 b m c) = kvAt (memRows x1) g w (memRow b m) c := by
  rw [val_main_v35_apply]
  unfold kvAt kvRow
  refine Finset.sum_congr rfl fun k _ => ?_
  have e : lidx_main_v35 (ix3 b m c) k = ix3 b m k := funext fun a => Fin.ext (by
    match a with
    | ⟨0, _⟩ => rfl
    | ⟨1, _⟩ => rfl
    | ⟨2, _⟩ => rfl)
  have e' : idx_main_v33 (idx_main_v34 (ridx_main_v35 (ix3 b m c) k)) = ix3 0 k c := funext fun a => Fin.ext (by
    have hk := k.isLt
    have hc := c.isLt
    match a with
    | ⟨0, _⟩ => rfl
    | ⟨1, _⟩ => show (k.val * 1024 + c.val) / 1024 % 2048 = k.val; omega
    | ⟨2, _⟩ => show (k.val * 1024 + c.val) % 1024 = c.val; omega)
  rw [val_main_v34_apply, val_main_v33_apply, e, e', ref_norm]
  simp only [memRows_apply, hg, hw]

theorem ref_k0 (g : S1x2048.Idx → EReal) (hg : ∀ k : Fin 2048, g (ix2 0 k) = x2 (ix2 0 k)) (w : S4x2048x1024.Idx → EReal)
    (hw : ∀ (j : Fin 2048) (k : Fin 1024), w (ix3 0 j k) = x3 (ix3 0 j k)) (b : Fin 4) (m : Fin 256) (h : Fin 4) (j : Fin 128) :
    val_main_v38 (F := Ideal) x1 x2 x3 (ix4 b m h j) = kvAt (memRows x1) g w (memRow b m) (kc h.val h.isLt j) := by
  rw [val_main_v38_apply, val_main_v36_apply, ← ref_kv x1 x2 x3 g hg w hw]
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show (((b.val * 256 + m.val) * 4 + h.val) * 128 + j.val) % 512 = h.val * 128 + j.val; omega

theorem ref_v (g : S1x2048.Idx → EReal) (hg : ∀ k : Fin 2048, g (ix2 0 k) = x2 (ix2 0 k)) (w : S4x2048x1024.Idx → EReal)
    (hw : ∀ (j : Fin 2048) (k : Fin 1024), w (ix3 0 j k) = x3 (ix3 0 j k)) (b : Fin 4) (m : Fin 256) (h : Fin 4) (j : Fin 128) :
    val_main_v54 (F := Ideal) x1 x2 x3 (ix4 b m h j) = valueArr (memRows x1) g w (ix2 (memRow b m) (hc h.val h.isLt j)) := by
  rw [val_main_v54_apply, val_main_v37_apply]
  refine Eq.trans ?_ (ref_kv x1 x2 x3 g hg w hw b m _)
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show 512 + (((b.val * 256 + m.val) * 4 + h.val) * 128 + j.val) % 512 = 512 + (h.val * 128 + j.val); omega

theorem ref_k (g : S1x2048.Idx → EReal) (hg : ∀ k : Fin 2048, g (ix2 0 k) = x2 (ix2 0 k)) (w : S4x2048x1024.Idx → EReal)
    (hw : ∀ (j : Fin 2048) (k : Fin 1024), w (ix3 0 j k) = x3 (ix3 0 j k)) (kg : S1x128.Idx → EReal) (hkg : ∀ k : Fin 128, kg (ix2 0 k) = x5 (ix2 0 k))
    (b : Fin 4) (m : Fin 256) (h : Fin 4) (d : Fin 128) :
    val_main_v53 (F := Ideal) x1 x2 x3 x5 (ix4 b m h d) = keyArr (memRows x1) g w kg (ix2 (memRow b m) (hc h.val h.isLt d)) := by
  have a : keyArr (memRows x1) g w kg (ix2 (memRow b m) (hc h.val h.isLt d))
      = hn (fun j => kvAt (memRows x1) g w (memRow b m) (kc h.val h.isLt j)) (fun j => x5 (ix2 0 j)) d := by
    unfold keyArr
    simp only [hkg]
    refine congr (congrArg (fun q => hn q _) (funext fun j => congrArg (kvAt _ _ _ _) (Fin.ext ?_))) (Fin.ext ?_)
    · show (h.val * 128 + d.val) / 128 * 128 + j.val = h.val * 128 + j.val; omega
    · show (h.val * 128 + d.val) % 128 = d.val; omega
  rw [a]
  rw [val_main_v53_apply, val_main_v50_apply, val_main_v49_apply, val_main_v48_apply, val_main_v47_apply, val_main_v45_apply, val_main_v43_apply,
    val_main_v42_apply, val_main_v52_apply, val_main_v51_apply, val_main_v40_apply, val_main_v39_apply, val_main_v44_apply, val_main_v46_apply]
  simp only [val_main_v41_apply, val_main_cst_5_apply, val_main_cst_6_apply, val_main_cst_7_apply]
  have e : idx_main_v39 (idx_main_v40 (idx_main_v51 (idx_main_v52 (ix4 b m h d)))) = ix2 0 d :=
    funext fun a => Fin.ext (by
      match a with
      | ⟨0, _⟩ => rfl
      | ⟨1, _⟩ => exact Nat.mod_eq_of_lt d.isLt)
  have e' : ∀ j : Fin 128, idx_main_v42 (idx_main_v43 (idx_main_v49 (ix4 b m h d))) j = ix4 b m h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_k0 x1 x2 x3 g hg w hw, Ideal.mulf_def, Ideal.addf_def, Ideal.hostUnary_rsqrt_def, Ideal.hostDivf_def, Ideal.ofBits_def,
    Ideal.ofBits_zero_f32, zero_add]

/-- The logits of one row and one head. -/
def refLogit (b : Fin 4) (h : Fin 4) (t : Fin 4096) (m : Fin 256) : EReal :=
  (∑ j : Fin 128, val_main_v17 (F := Ideal) x0 x4 (ix4 b t h j) * val_main_v53 (F := Ideal) x1 x2 x3 x5 (ix4 b m h j)) * scale

theorem ref_logit (b : Fin 4) (h : Fin 4) (t : Fin 4096) (m : Fin 256) :
    val_main_v57 (F := Ideal) x0 x1 x2 x3 x4 x5 (ix4 b h t m) = refLogit x0 x1 x2 x3 x4 x5 b h t m := by
  rw [val_main_v57_apply, val_main_v55_apply, val_main_v56_apply, val_main_cst_8_apply]
  have e : ∀ k : Fin 128, lidx_main_v55 (ix4 b h t m) k = ix4 b t h k := fun k => funext fun a => Fin.ext (by
    match a with
    | ⟨0, _⟩ => rfl
    | ⟨1, _⟩ => rfl
    | ⟨2, _⟩ => rfl
    | ⟨3, _⟩ => rfl)
  have e' : ∀ k : Fin 128, ridx_main_v55 (ix4 b h t m) k = ix4 b m h k := fun k => funext fun a => Fin.ext (by
    match a with
    | ⟨0, _⟩ => rfl
    | ⟨1, _⟩ => rfl
    | ⟨2, _⟩ => rfl
    | ⟨3, _⟩ => rfl)
  simp only [e, e']
  rfl

theorem ref_max (b : Fin 4) (h : Fin 4) (t : Fin 4096) :
    val_main_v58 (F := Ideal) x0 x1 x2 x3 x4 x5 (ix3 b h t)
      = Finset.fold max (Ideal.ofBits FTy.f32 0xFF800000#32) (refLogit x0 x1 x2 x3 x4 x5 b h t) Finset.univ := by
  unfold val_main_v58
  have e : refLogit x0 x1 x2 x3 x4 x5 b h t = fun m => val_main_v57 (F := Ideal) x0 x1 x2 x3 x4 x5 (ix4 b h t m) :=
    funext fun m => (ref_logit x0 x1 x2 x3 x4 x5 b h t m).symm
  rw [e]
  generalize val_main_v57 (F := Ideal) x0 x1 x2 x3 x4 x5 = L
  pointwise
  rfl

theorem ref_num (b : Fin 4) (h : Fin 4) (t : Fin 4096) (m : Fin 256) :
    val_main_v64 (F := Ideal) x0 x1 x2 x3 x4 x5 (ix4 b h t m) = num (refLogit x0 x1 x2 x3 x4 x5 b h t) m := by
  rw [val_main_v64_apply, val_main_v63_apply, val_main_v62_apply, val_main_v61_apply, val_main_v60_apply, val_main_v59_apply, val_main_cst_10_apply,
    ref_logit]
  have e : idx_main_v61 (idx_main_v62 (ix4 b h t m)) = ix3 b h t := funext fun a => Fin.ext (by
    match a with
    | ⟨0, _⟩ => rfl
    | ⟨1, _⟩ => rfl
    | ⟨2, _⟩ => rfl)
  rw [e, ref_max]
  unfold num
  rw [Ideal.ofBits_def, ofBits_bot]
  show Ideal.exp (_ - max ⊥ _) = _
  rw [max_eq_right bot_le]

theorem ref_weight (b : Fin 4) (h : Fin 4) (t : Fin 4096) (m : Fin 256) :
    val_main_v68 (F := Ideal) x0 x1 x2 x3 x4 x5 (ix4 b h t m)
      = Ideal.div (num (refLogit x0 x1 x2 x3 x4 x5 b h t) m) (∑ m : Fin 256, num (refLogit x0 x1 x2 x3 x4 x5 b h t) m) := by
  rw [val_main_v68_apply, val_main_v67_apply, val_main_v66_apply, val_main_v65_apply, val_main_cst_11_apply, ref_num]
  have e : ∀ k : Fin 256, idx_main_v65 (idx_main_v66 (idx_main_v67 (ix4 b h t m))) k = ix4 b h t k := fun k => funext fun a => Fin.ext (by
    match a with
    | ⟨0, _⟩ => rfl
    | ⟨1, _⟩ => rfl
    | ⟨2, _⟩ => rfl
    | ⟨3, _⟩ => rfl)
  simp only [e, ref_num, Ideal.hostDivf_def, Ideal.ofBits_def, Ideal.ofBits_zero_f32, zero_add]

theorem ref_out (b : Fin 4) (h : Fin 4) (t : Fin 4096) (d : Fin 128) :
    val_main_v69 (F := Ideal) x0 x1 x2 x3 x4 x5 (ix4 b h d t)
      = attR (fun j => val_main_v17 (F := Ideal) x0 x4 (ix4 b t h j)) (fun m j => val_main_v53 (F := Ideal) x1 x2 x3 x5 (ix4 b m h j))
          (fun m j => val_main_v54 (F := Ideal) x1 x2 x3 (ix4 b m h j)) d := by
  rw [val_main_v69_apply]
  unfold attR
  refine Finset.sum_congr rfl fun m _ => ?_
  have e : lidx_main_v69 (ix4 b h d t) m = ix4 b m h d := funext fun a => Fin.ext (by
    match a with
    | ⟨0, _⟩ => rfl
    | ⟨1, _⟩ => rfl
    | ⟨2, _⟩ => rfl
    | ⟨3, _⟩ => rfl)
  have e' : ridx_main_v69 (ix4 b h d t) m = ix4 b h t m := funext fun a => Fin.ext (by
    match a with
    | ⟨0, _⟩ => rfl
    | ⟨1, _⟩ => rfl
    | ⟨2, _⟩ => rfl
    | ⟨3, _⟩ => rfl)
  rw [e, e', ref_weight]
  rfl

/-- With finite gains, the kernel's result is the reference's. -/
theorem ref_att (g : S1x2048.Idx → EReal) (hg : ∀ k : Fin 2048, g (ix2 0 k) = x2 (ix2 0 k)) (w : S4x2048x1024.Idx → EReal)
    (hw : ∀ (j : Fin 2048) (k : Fin 1024), w (ix3 0 j k) = x3 (ix3 0 j k)) (kg : S1x128.Idx → EReal) (hkg : ∀ k : Fin 128, kg (ix2 0 k) = x5 (ix2 0 k))
    (qg : S1x128.Idx → EReal) (hqg : ∀ k : Fin 128, qg (ix2 0 k) = x4 (ix2 0 k)) (f4 : ∀ i, IsReal (x4 i)) (f5 : ∀ i, IsReal (x5 i)) :
    attArr x0 (keyArr (memRows x1) g w kg) (valueArr (memRows x1) g w) qg = val_main_v72 (F := Ideal) x0 x1 x2 x3 x4 x5 := by
  funext i
  obtain ⟨R, C, rfl⟩ : ∃ (R : Fin 16384) (C : Fin 512), i = ix2 R C := ⟨i 0, i 1, eq_ix2 i⟩
  obtain ⟨b, t, rfl⟩ : ∃ (b : Fin 4) (t : Fin 4096), R = tokRow b t :=
    ⟨⟨R.val / 4096, by omega⟩, ⟨R.val % 4096, by omega⟩, Fin.ext (by show _ = R.val / 4096 * 4096 + R.val % 4096; omega)⟩
  obtain ⟨h, d, rfl⟩ : ∃ (h : Fin 4) (d : Fin 128), C = hc h.val h.isLt d :=
    ⟨⟨C.val / 128, by omega⟩, ⟨C.val % 128, by omega⟩, Fin.ext (by show _ = C.val / 128 * 128 + C.val % 128; omega)⟩
  have e : idx_main_v70 (idx_main_v71 (ix2 (tokRow b t) (hc h.val h.isLt d))) = ix4 b h d t := funext fun a => Fin.ext (by
    match a with
    | ⟨0, _⟩ => show ((b.val * 4096 + t.val) * 512 + (h.val * 128 + d.val)) / 2097152 = b.val; omega
    | ⟨1, _⟩ => show ((b.val * 4096 + t.val) * 512 + (h.val * 128 + d.val)) / 128 % 4 = h.val; omega
    | ⟨2, _⟩ => show ((b.val * 4096 + t.val) * 512 + (h.val * 128 + d.val)) % 128 = d.val; omega
    | ⟨3, _⟩ => show ((b.val * 4096 + t.val) * 512 + (h.val * 128 + d.val)) / 512 % 4096 = t.val; omega)
  have hr : val_main_v72 (F := Ideal) x0 x1 x2 x3 x4 x5 (ix2 (tokRow b t) (hc h.val h.isLt d))
      = val_main_v69 (F := Ideal) x0 x1 x2 x3 x4 x5 (ix4 b h d t) := by
    rw [val_main_v72_apply, val_main_v71_apply, val_main_v70_apply, e]
    rfl
  rw [hr, ref_out]
  have ha : attArr x0 (keyArr (memRows x1) g w kg) (valueArr (memRows x1) g w) qg (ix2 (tokRow b t) (hc h.val h.isLt d))
      = attAt x0 (keyArr (memRows x1) g w kg) (valueArr (memRows x1) g w) qg (tokRow b t) h.val h.isLt d :=
    att_congr _ _ _ _ _ _ _ _ _ _ _ _ rfl (by show (h.val * 128 + d.val) / 128 = h.val; omega) (Fin.ext (by show (h.val * 128 + d.val) % 128 = d.val; omega))
  rw [ha]
  have hm : ∀ m : Fin 256, (⟨(tokRow b t).val / 4096 * 256 + m.val, by have := (tokRow b t).isLt; omega⟩ : Fin 1024) = memRow b m := fun m =>
    Fin.ext (by show (b.val * 4096 + t.val) / 4096 * 256 + m.val = b.val * 256 + m.val; omega)
  unfold attAt
  simp only [hm, hqg, ← ref_k x1 x2 x3 x5 g hg w hw kg hkg, ← ref_v x1 x2 x3 g hg w hw]
  have hq : (hn (fun j => x0 (ix2 (tokRow b t) ⟨4608 + (hc h.val h.isLt j).val, by have := (hc h.val h.isLt j).isLt; omega⟩)) (fun j => x4 (ix2 0 j)))
      = fun j => val_main_v17 (F := Ideal) x0 x4 (ix4 b t h j) := funext fun j => (ref_q x0 x4 b t h j).symm
  rw [hq]
  refine attK_eq _ _ _ (fun j => ?_) (fun m j => ?_) d
  · rw [ref_q]
    exact hn_real _ _ (fun _ => f4 _) _
  · rw [ref_k x1 x2 x3 x5 g hg w hw kg hkg]
    exact hn_real _ _ (fun k => by rw [hkg]; exact f5 _) _

end Cert.Proof.Mem

end
-- ==== Proof.Mem.Claim.lean ====
module

public import proofs.«01_k».proof.Defs
public import proofs.«01_k».proof.Proof.Mem.Run
public import proofs.«01_k».proof.Proof.Mem.Ref
public import Idealize.ShloMosaic.Lib.Quiescent

/-! The memory attention: with finite gains, the kernel's result is the reference's. -/

@[expose] public section

set_option maxRecDepth 16384

noncomputable section

namespace Cert.Proof.Mem

open Idealize.ShloMosaic Idealize.ShloMosaic.TcCoe Idealize.ShloMosaic.Tactic Idealize.SL.Sem

instance pre_facts : Cert.Pre_finite_gains.Facts := ⟨by decide⟩

theorem real_of_lt_top (x : EReal) (h : Ideal.cmp .olt (max x (-x)) (Ideal.ofBits FTy.f32 0x7F800000#32) = 1#1) : IsReal x := by
  have ht : Ideal.ofBits FTy.f32 0x7F800000#32 = ⊤ := by simp [Ideal.ofBits, Ideal.ieee]
  rw [ht] at h
  induction x with
  | coe r => exact ⟨r, rfl⟩
  | bot => exact absurd h (by simp [Ideal.cmp])
  | top => exact absurd h (by simp [Ideal.cmp])

/-- The reference leaves its arguments unchanged, and has no semaphore. -/
theorem frame_reference : Cert.quiescent_Reference10Ideal := fun m ρ _ =>
  (θ_run _ _ _).mono (fun _ h => ⟨fun c => (h c).2, sem_eq_zero_of_no_sems rfl _⟩) (Cert.Reference10Ideal.Value.run m ρ)

theorem algebraic : Cert.algebraic_Kernel10Ideal_Reference10Ideal_pre_finite_gains := by
  intro m g m' g' hp hag
  refine ⟨_, run m g, (θ_run _ _ _).mono (fun _ h c => ?_) (Cert.Reference10Ideal.Value.run m' g')⟩
  obtain ⟨h0, hargs⟩ := h c
  obtain ⟨a0, a1, a2, a3, a4, a5⟩ := hag c
  obtain ⟨p4, p5⟩ := hp c
  refine ⟨h0.trans ?_, hargs⟩
  rw [Cert.Reference10Ideal.Read.val_main_v72_eq, a0, a1, a2, a3, a4, a5, entry_rows]
  exact (ref_att _ _ _ _ _ _ _ (entry_gain m g c) _ (entry_weights m g c 0) _ (entry_kgain m g c) _ (entry_qgain m g c)
    (fun i => real_of_lt_top _ (congrFun p4 i)) (fun i => real_of_lt_top _ (congrFun p5 i))).symm

end Cert.Proof.Mem

end
-- ==== Proof.Mem.L1.Attn.lean ====
/-
  The memory attention call of layer 1: one grid point, and its whole result.
-/
module

public import proofs.«01_k».proof.Proof.Gen.Kernel11Ideal.Frame
public import proofs.«01_k».proof.Proof.Mem.Attn
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mem.L1

open Idealize.ShloMosaic Idealize.ShloMosaic.TcCoe Idealize.ShloMosaic.Tactic
open Cert.Kernel11Ideal Cert.Kernel11Ideal.Gen
open Idealize.ShloMosaic.Pipeline (Dat Cfg Window)

theorem out_block (x0 : Vec Ideal S512x512 .bf16) (x1 x2 : Vec Ideal S256x512 .bf16) (x3 : Vec Ideal S1x128 .f32) (y : S512x512.Idx) :
    out1_4 x0 x1 x2 x3 y = headOf x0 x1 x2 x3 (y 0) ((y 1).val / 128) (by have := (y 1).isLt; show _ < 4; change (y 1).val < 512 at this; omega)
      ⟨(y 1).val % 128, by omega⟩ :=
  Cert.Proof.Mem.out_block x0 x1 x2 x3 y

theorem idx1 : ∀ t : Fin cfg1.N, (win1_0.index t = ![(grid1.coords t 0).val * 8 + (grid1.coords t 1).val, 9]
    ∧ win1_1.index t = ![(grid1.coords t 0).val, 0] ∧ win1_2.index t = ![(grid1.coords t 0).val, 0])
    ∧ win1_3.index t = ![0, 0] ∧ win1_4.index t = ![(grid1.coords t 0).val * 8 + (grid1.coords t 1).val, 0] :=
  (by decide +kernel : ∀ t : Fin grid1.N, _)

variable (V : (c : Dev nD) → (b : Ref sig .tc) → Buf (Elt Ideal) ((c : Thread nD τ).loc b))

theorem aread0 (c : Dev nD) (t : Fin cfg1.N) (r : Fin 512) (k : Fin 512) (R : Fin 16384) (K : Fin 6144)
    (hR : R.val = ((grid1.coords t 0).val * 8 + (grid1.coords t 1).val) * 512 + r.val) (hK : K.val = 4608 + k.val) :
    iblk1 V c 0 t (ix2 r k) = V c main_arg0 (ix2 R K) := by
  blk_ext [iblk1, (idx1 t).1.1]

theorem aread1 (c : Dev nD) (t : Fin cfg1.N) (r : Fin 256) (k : Fin 512) (R : Fin 1024)
    (hR : R.val = (grid1.coords t 0).val * 256 + r.val) :
    iblk1 V c 1 t (ix2 r k) = V c main_v8_0 (ix2 R k) := by
  blk_ext [iblk1, (idx1 t).1.2.1]

theorem aread2 (c : Dev nD) (t : Fin cfg1.N) (r : Fin 256) (k : Fin 512) (R : Fin 1024)
    (hR : R.val = (grid1.coords t 0).val * 256 + r.val) :
    iblk1 V c 2 t (ix2 r k) = V c main_v8_1 (ix2 R k) := by
  blk_ext [iblk1, (idx1 t).1.2.2]

theorem aread3 (c : Dev nD) (t : Fin cfg1.N) (k : Fin 128) :
    iblk1 V c 3 t (ix2 0 k) = V c main_v11 (ix2 0 k) := by
  blk_ext [iblk1, (idx1 t).2.1]

theorem att_point (c : Dev nD) (t : Fin cfg1.N) (r : Fin 512) (h : ℕ) (hh : h < 4) (d : Fin 128) (R : Fin 16384)
    (hR : R.val = ((grid1.coords t 0).val * 8 + (grid1.coords t 1).val) * 512 + r.val) :
    headOf (iblk1 V c 0 t) (iblk1 V c 1 t) (iblk1 V c 2 t) (iblk1 V c 3 t) r h hh d
      = attAt (V c main_arg0) (V c main_v8_0) (V c main_v8_1) (V c main_v11) R h hh d := by
  have hb : R.val / 4096 = (grid1.coords t 0).val := by
    have h8 : (grid1.coords t 1).val < 8 := (grid1.coords t 1).isLt
    omega
  unfold headOf attAt
  have e0 : ∀ j : Fin 128, iblk1 V c 0 t (ix2 r (hc h hh j)) = V c main_arg0 (ix2 R ⟨4608 + (hc h hh j).val, by omega⟩) := fun j =>
    aread0 V c t r _ R _ hR rfl
  have e1 : ∀ (m : Fin 256) (j : Fin 128), iblk1 V c 1 t (ix2 m (hc h hh j)) = V c main_v8_0 (ix2 ⟨R.val / 4096 * 256 + m.val, by omega⟩ (hc h hh j)) :=
    fun m j => aread1 V c t m _ _ (by show R.val / 4096 * 256 + m.val = _; omega)
  have e2 : ∀ (m : Fin 256) (j : Fin 128), iblk1 V c 2 t (ix2 m (hc h hh j)) = V c main_v8_1 (ix2 ⟨R.val / 4096 * 256 + m.val, by omega⟩ (hc h hh j)) :=
    fun m j => aread2 V c t m _ _ (by show R.val / 4096 * 256 + m.val = _; omega)
  simp only [e0, e1, e2, aread3]

theorem att_arr (c : Dev nD) :
    (dat1 V c).arrAt 4 cfg1.N = attArr (V c main_arg0) (V c main_v8_0) (V c main_v8_1) (V c main_v11) := by
  refine (dat1 V c).arrAt_eq_of_covers 4 _ (by decide +kernel) fun t hf y => ?_
  blk_simp
  rw [after1_4]
  refine (out_block _ _ _ _ y).trans ((att_point V c t _ _ _ _ _ ?_).trans (att_congr _ _ _ _ _ _ _ _ _ _ _ _ rfl ?_ ?_))
  all_goals
    simp [(idx1 t).2.2]

end Cert.Proof.Mem.L1

end
-- ==== Proof.Mem.L1.Kv.lean ====
/-
  The call that makes the memory's keys and values, in layer 1: one grid point, and its two results.
-/
module

public import proofs.«01_k».proof.Proof.Mem.Kv
public import proofs.«01_k».proof.Proof.Mem.L1.Attn

@[expose] public section

set_option maxRecDepth 16384

noncomputable section

namespace Cert.Proof.Mem.L1

open Idealize.ShloMosaic Idealize.ShloMosaic.TcCoe Idealize.ShloMosaic.Tactic
open Cert.Kernel11Ideal Cert.Kernel11Ideal.Gen
open Idealize.ShloMosaic.Pipeline (Dat Cfg Window)

theorem key_block (x0 : Vec Ideal S256x2048 .f32) (x1 : Vec Ideal S1x2048 .f32) (x2 : Vec Ideal S1x2048x1024 .bf16) (x3 : Vec Ideal S1x128 .f32)
    (y : S256x512.Idx) : out0_4 x0 x1 x2 x3 y
      = keyOf x0 x1 x2 x3 (y 0) ((y 1).val / 128) (by have h : (y 1).val < 512 := (y 1).isLt; omega) ⟨(y 1).val % 128, by omega⟩ :=
  Cert.Proof.Mem.key_block x0 x1 x2 x3 y

theorem value_block (x0 : Vec Ideal S256x2048 .f32) (x1 : Vec Ideal S1x2048 .f32) (x2 : Vec Ideal S1x2048x1024 .bf16) (x3 : Vec Ideal S1x128 .f32)
    (y : S256x512.Idx) : out0_5 x0 x1 x2 x3 y = kvOf x0 x1 x2 (y 0) ⟨512 + (y 1).val, by have h : (y 1).val < 512 := (y 1).isLt; omega⟩ :=
  Cert.Proof.Mem.value_block x0 x1 x2 x3 y

theorem idx0 : ∀ t : Fin cfg0.N, (win0_0.index t = ![(grid0.coords t 0).val, 0]
    ∧ win0_1.index t = ![0, 0] ∧ win0_2.index t = ![1, 0, 0] ∧ win0_3.index t = ![0, 0])
    ∧ win0_4.index t = ![(grid0.coords t 0).val, 0] ∧ win0_5.index t = ![(grid0.coords t 0).val, 0] :=
  (by decide +kernel : ∀ t : Fin grid0.N, _)

variable (V : (c : Dev nD) → (b : Ref sig .tc) → Buf (Elt Ideal) ((c : Thread nD τ).loc b))

theorem kread0 (c : Dev nD) (t : Fin cfg0.N) (r : Fin 256) (k : Fin 2048) (R : Fin 1024) (hR : R.val = (grid0.coords t 0).val * 256 + r.val) :
    iblk0 V c 0 t (ix2 r k) = V c main_v0 (ix2 R k) := by
  blk_ext [iblk0, (idx0 t).1.1]

theorem kread1 (c : Dev nD) (t : Fin cfg0.N) (k : Fin 2048) : iblk0 V c 1 t (ix2 0 k) = V c main_v3 (ix2 0 k) := by
  blk_ext [iblk0, (idx0 t).1.2.1]

theorem kread2 (c : Dev nD) (t : Fin cfg0.N) (j : Fin 2048) (k : Fin 1024) : iblk0 V c 2 t (ix3 0 j k) = V c main_v4 (ix3 1 j k) := by
  blk_ext [iblk0, (idx0 t).1.2.2.1]

theorem kread3 (c : Dev nD) (t : Fin cfg0.N) (k : Fin 128) : iblk0 V c 3 t (ix2 0 k) = V c main_v7 (ix2 0 k) := by
  blk_ext [iblk0, (idx0 t).1.2.2.2]

/-- Memory row `R`, projected by layer 1's weights. -/
def kvAt (X : S1024x2048.Idx → EReal) (g : S1x2048.Idx → EReal) (w : S4x2048x1024.Idx → EReal) (R : Fin 1024) (c : Fin 1024) : EReal :=
  kvRow (fun j => X (ix2 R j)) (fun j => g (ix2 0 j)) (fun j c => w (ix3 1 j c)) c

/-- The memory's keys. -/
def keyArr (X : S1024x2048.Idx → EReal) (g : S1x2048.Idx → EReal) (w : S4x2048x1024.Idx → EReal) (kg : S1x128.Idx → EReal) : S1024x512.Idx → EReal :=
  fun i => hn (fun j => kvAt X g w (i 0) (kc ((i 1).val / 128) (by have h : (i 1).val < 512 := (i 1).isLt; omega) j)) (fun j => kg (ix2 0 j))
    ⟨(i 1).val % 128, by omega⟩

/-- The memory's values. -/
def valueArr (X : S1024x2048.Idx → EReal) (g : S1x2048.Idx → EReal) (w : S4x2048x1024.Idx → EReal) : S1024x512.Idx → EReal :=
  fun i => kvAt X g w (i 0) ⟨512 + (i 1).val, by have h : (i 1).val < 512 := (i 1).isLt; omega⟩

theorem kv_point (c : Dev nD) (t : Fin cfg0.N) (r : Fin 256) (R : Fin 1024) (hR : R.val = (grid0.coords t 0).val * 256 + r.val) (k : Fin 1024) :
    kvOf (iblk0 V c 0 t) (iblk0 V c 1 t) (iblk0 V c 2 t) r k = kvAt (V c main_v0) (V c main_v3) (V c main_v4) R k := by
  unfold kvOf kvAt
  simp only [kread0 V c t r _ R hR, kread1, kread2]

theorem key_arr (c : Dev nD) : (dat0 V c).arrAt 4 cfg0.N = keyArr (V c main_v0) (V c main_v3) (V c main_v4) (V c main_v7) := by
  refine (dat0 V c).arrAt_eq_of_covers 4 _ (by decide +kernel) fun t hf y => ?_
  blk_simp
  rw [after0_4]
  refine (key_block _ _ _ _ y).trans ?_
  unfold keyOf keyArr
  simp only [kread3]
  refine congr (congrArg (fun q => hn q _) (funext fun j => ?_)) (Fin.ext ?_)
  · refine (kv_point V c t _ _ ?_ _).trans (congrArg (kvAt _ _ _ _) (Fin.ext ?_))
    all_goals simp [(idx0 t).2.1, kc]
  · simp [(idx0 t).2.1]

theorem value_arr (c : Dev nD) : (dat0 V c).arrAt 5 cfg0.N = valueArr (V c main_v0) (V c main_v3) (V c main_v4) := by
  refine (dat0 V c).arrAt_eq_of_covers 5 _ (by decide +kernel) fun t hf y => ?_
  blk_simp
  rw [after0_5]
  refine (value_block _ _ _ _ y).trans ?_
  unfold valueArr
  refine (kv_point V c t _ _ ?_ _).trans (congrArg (kvAt _ _ _ _) (Fin.ext ?_))
  all_goals simp [(idx0 t).2.2]

end Cert.Proof.Mem.L1

end
-- ==== Proof.Mem.L1.Run.lean ====
module

public import proofs.«01_k».proof.Proof.Mem.Run
public import proofs.«01_k».proof.Proof.Mem.L1.Kv
public import Idealize.ShloMosaic.Lib.Claim

/-! The run of the memory attention of layer 1: its result as a function of its arguments. -/

@[expose] public section

set_option maxRecDepth 16384

noncomputable section

namespace Cert.Proof.Mem.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

theorem entry_rows (c : Dev nD) : V1 m ρ c main_v0 = memRows (m ((c : Thread nD τ).loc main_arg1)) := by
  unfold_abbrev_sides
  after_results
  rfl

theorem entry_gain (c : Dev nD) (k : Fin 2048) :
    (V1 m ρ c main_v3 : S1x2048.Idx → EReal) (ix2 0 k) = (m ((c : Thread nD τ).loc main_arg2) : S4x2048.Idx → EReal) (ix2 1 k) := by
  unfold_abbrev_sides
  after_results
  pointwise

theorem entry_weights (c : Dev nD) (l : Fin 4) (j : Fin 2048) (k : Fin 1024) :
    (V1 m ρ c main_v4 : S4x2048x1024.Idx → EReal) (ix3 l j k) = (m ((c : Thread nD τ).loc main_arg3) : S4x2048x1024.Idx → EReal) (ix3 l j k) := by
  unfold_abbrev_sides
  after_results
  pointwise

theorem entry_kgain (c : Dev nD) (k : Fin 128) :
    (V1 m ρ c main_v7 : S1x128.Idx → EReal) (ix2 0 k) = (m ((c : Thread nD τ).loc main_arg5) : S4x128.Idx → EReal) (ix2 1 k) := by
  unfold_abbrev_sides
  after_results
  pointwise

theorem entry_qgain (c : Dev nD) (k : Fin 128) :
    (V3 m ρ c main_v11 : S1x128.Idx → EReal) (ix2 0 k) = (m ((c : Thread nD τ).loc main_arg4) : S4x128.Idx → EReal) (ix2 1 k) := by
  rw [← W2_args m ρ c main_arg4 (by decide)]
  unfold_abbrev_sides
  after_results
  pointwise

theorem entry_keys (c : Dev nD) : V3 m ρ c main_v8_0 = keyArr (V1 m ρ c main_v0) (V1 m ρ c main_v3) (V1 m ρ c main_v4) (V1 m ρ c main_v7) :=
  (W3_of m ρ c main_v8_0 (by decide)).trans ((W2_arr m ρ c 4).trans (key_arr _ c))

theorem entry_values (c : Dev nD) : V3 m ρ c main_v8_1 = valueArr (V1 m ρ c main_v0) (V1 m ρ c main_v3) (V1 m ρ c main_v4) :=
  (W3_of m ρ c main_v8_1 (by decide)).trans ((W2_arr m ρ c 5).trans (value_arr _ c))

/-- The result, as a function of the projection, of the queries' gain, and of what the keys and the values are made of. -/
theorem end_att (c : Dev nD) : W4 m ρ c (Proc.devRef .tc main_v12)
    = attArr (m ((c : Thread nD τ).loc main_arg0)) (keyArr (V1 m ρ c main_v0) (V1 m ρ c main_v3) (V1 m ρ c main_v4) (V1 m ρ c main_v7))
        (valueArr (V1 m ρ c main_v0) (V1 m ρ c main_v3) (V1 m ρ c main_v4)) (V3 m ρ c main_v11) := by
  refine (W4_arr m ρ c 4).trans ?_
  rw [att_arr, entry_keys, entry_values]
  rw [show V3 m ρ c main_arg0 = m ((c : Thread nD τ).loc main_arg0) from W3_args m ρ c main_arg0 (by decide)]

/-- The run: the result, and the arguments as they were. -/
theorem run : θ_run defs (onTc (τ := τ) (main (F := Ideal))) ⟨m, fun _ => 0, ρ⟩ (fun r => ∀ c : Dev nD,
      r.2.mem ((c.tc : Thread nD τ).loc main_v12)
        = attArr (m ((c : Thread nD τ).loc main_arg0)) (keyArr (V1 m ρ c main_v0) (V1 m ρ c main_v3) (V1 m ρ c main_v4) (V1 m ρ c main_v7))
            (valueArr (V1 m ρ c main_v0) (V1 m ρ c main_v3) (V1 m ρ c main_v4)) (V3 m ρ c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (end_att m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_bound m ρ)

end Cert.Proof.Mem.L1

end
-- ==== Proof.Mem.L1.Ref.lean ====
module

public import proofs.«01_k».proof.Proof.Mem.Ref
public import proofs.«01_k».proof.Proof.Mem.L1.Run
public import proofs.«01_k».proof.Proof.Gen.Reference11Ideal.Read

/-! The result of the reference of layer 1 is the same function of the arguments, with the softmax's quotients taken first. -/

@[expose] public section

set_option maxRecDepth 16384

noncomputable section

namespace Cert.Proof.Mem.L1

open Idealize.ShloMosaic Idealize.ShloMosaic.TcCoe Idealize.ShloMosaic.Tactic
open Cert.Reference11Ideal Cert.Reference11Ideal.Gen Cert.Reference11Ideal.Read

variable (x0 : S16384x6144.Idx → EReal) (x1 : S4x256x2048.Idx → EReal) (x2 : S4x2048.Idx → EReal) (x3 : S4x2048x1024.Idx → EReal)
  (x4 x5 : S4x128.Idx → EReal)

theorem ref_q0 (b : Fin 4) (t : Fin 4096) (h : Fin 4) (j : Fin 128) :
    val_main_v2 (F := Ideal) x0 (ix4 b t h j) = x0 (ix2 (tokRow b t) (qCol h j)) := by
  rw [val_main_v2_apply, val_main_v1_apply, val_main_v0_apply]
  refine congrArg x0 (funext fun a => Fin.ext ?_)
  match a with
  | ⟨0, _⟩ => show (((b.val * 4096 + t.val) * 4 + h.val) * 128 + j.val) / 512 = b.val * 4096 + t.val; omega
  | ⟨1, _⟩ => show 4608 + (((b.val * 4096 + t.val) * 4 + h.val) * 128 + j.val) % 512 = 4608 + (h.val * 128 + j.val); omega

theorem ref_q (b : Fin 4) (t : Fin 4096) (h : Fin 4) (d : Fin 128) :
    val_main_v17 (F := Ideal) x0 x4 (ix4 b t h d) = hn (fun j => x0 (ix2 (tokRow b t) (qCol h j))) (fun j => x4 (ix2 1 j)) d := by
  rw [val_main_v17_apply, val_main_v14_apply, val_main_v13_apply, val_main_v12_apply, val_main_v11_apply, val_main_v9_apply, val_main_v7_apply,
    val_main_v6_apply, val_main_v16_apply, val_main_v15_apply, val_main_v4_apply, val_main_v3_apply, val_main_v8_apply, val_main_v10_apply]
  simp only [val_main_v5_apply, val_main_cst_apply, val_main_cst_0_apply, val_main_cst_1_apply]
  have e : idx_main_v3 (idx_main_v4 (idx_main_v15 (idx_main_v16 (ix4 b t h d)))) = ix2 1 d :=
    funext fun a => Fin.ext (by
      match a with
      | ⟨0, _⟩ => rfl
      | ⟨1, _⟩ => exact Nat.mod_eq_of_lt d.isLt)
  have e' : ∀ j : Fin 128, idx_main_v6 (idx_main_v7 (idx_main_v13 (ix4 b t h d))) j = ix4 b t h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_q0, Ideal.mulf_def, Ideal.addf_def, Ideal.hostUnary_rsqrt_def, Ideal.hostDivf_def, Ideal.ofBits_def, Ideal.ofBits_zero_f32, zero_add]

theorem ref_norm (b : Fin 4) (m : Fin 256) (k : Fin 2048) :
    val_main_v32 (F := Ideal) x1 x2 (ix3 b m k) = x1 (ix3 b m k) * Ideal.rsqrt (Ideal.div (∑ i : Fin 2048, x1 (ix3 b m i) * x1 (ix3 b m i))
      (Ideal.ofBits FTy.f32 0x45000000#32) + Ideal.ofBits FTy.f32 0x358637BD#32) * x2 (ix2 1 k) := by
  rw [val_main_v32_apply, val_main_v29_apply, val_main_v28_apply, val_main_v27_apply, val_main_v26_apply, val_main_v24_apply, val_main_v22_apply,
    val_main_v21_apply, val_main_v31_apply, val_main_v30_apply, val_main_v19_apply, val_main_v18_apply, val_main_v23_apply, val_main_v25_apply]
  simp only [val_main_v20_apply, val_main_cst_2_apply, val_main_cst_3_apply, val_main_cst_4_apply]
  have e : idx_main_v18 (idx_main_v19 (idx_main_v30 (idx_main_v31 (ix3 b m k)))) = ix2 1 k :=
    funext fun a => Fin.ext (by
      match a with
      | ⟨0, _⟩ => rfl
      | ⟨1, _⟩ => exact Nat.mod_eq_of_lt k.isLt)
  have e' : ∀ j : Fin 2048, idx_main_v21 (idx_main_v22 (idx_main_v28 (ix3 b m k))) j = ix3 b m j := fun j =>
    funext fun a => Fin.ext (by
      match a with
      | ⟨0, _⟩ => rfl
      | ⟨1, _⟩ => rfl
      | ⟨2, _⟩ => rfl)
  rw [e]
  simp only [e', Ideal.mulf_def, Ideal.addf_def, Ideal.hostUnary_rsqrt_def, Ideal.hostDivf_def, Ideal.ofBits_def, Ideal.ofBits_zero_f32, zero_add]

theorem ref_kv (g : S1x2048.Idx → EReal) (hg : ∀ k : Fin 2048, g (ix2 0 k) = x2 (ix2 1 k)) (w : S4x2048x1024.Idx → EReal)
    (hw : ∀ (j : Fin 2048) (k : Fin 1024), w (ix3 1 j k) = x3 (ix3 1 j k)) (b : Fin 4) (m : Fin 256) (c : Fin 1024) :
    val_main_v35 (F := Ideal) x1 x2 x3 (ix3 b m c) = kvAt (memRows x1) g w (memRow b m) c := by
  rw [val_main_v35_apply]
  unfold kvAt kvRow
  refine Finset.sum_congr rfl fun k _ => ?_
  have e : lidx_main_v35 (ix3 b m c) k = ix3 b m k := funext fun a => Fin.ext (by
    match a with
    | ⟨0, _⟩ => rfl
    | ⟨1, _⟩ => rfl
    | ⟨2, _⟩ => rfl)
  have e' : idx_main_v33 (idx_main_v34 (ridx_main_v35 (ix3 b m c) k)) = ix3 1 k c := funext fun a => Fin.ext (by
    have hk := k.isLt
    have hc := c.isLt
    match a with
    | ⟨0, _⟩ => rfl
    | ⟨1, _⟩ => show (k.val * 1024 + c.val) / 1024 % 2048 = k.val; omega
    | ⟨2, _⟩ => show (k.val * 1024 + c.val) % 1024 = c.val; omega)
  rw [val_main_v34_apply, val_main_v33_apply, e, e', ref_norm]
  simp only [memRows_apply, hg, hw]

theorem ref_k0 (g : S1x2048.Idx → EReal) (hg : ∀ k : Fin 2048, g (ix2 0 k) = x2 (ix2 1 k)) (w : S4x2048x1024.Idx → EReal)
    (hw : ∀ (j : Fin 2048) (k : Fin 1024), w (ix3 1 j k) = x3 (ix3 1 j k)) (b : Fin 4) (m : Fin 256) (h : Fin 4) (j : Fin 128) :
    val_main_v38 (F := Ideal) x1 x2 x3 (ix4 b m h j) = kvAt (memRows x1) g w (memRow b m) (kc h.val h.isLt j) := by
  rw [val_main_v38_apply, val_main_v36_apply, ← ref_kv x1 x2 x3 g hg w hw]
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show (((b.val * 256 + m.val) * 4 + h.val) * 128 + j.val) % 512 = h.val * 128 + j.val; omega

theorem ref_v (g : S1x2048.Idx → EReal) (hg : ∀ k : Fin 2048, g (ix2 0 k) = x2 (ix2 1 k)) (w : S4x2048x1024.Idx → EReal)
    (hw : ∀ (j : Fin 2048) (k : Fin 1024), w (ix3 1 j k) = x3 (ix3 1 j k)) (b : Fin 4) (m : Fin 256) (h : Fin 4) (j : Fin 128) :
    val_main_v54 (F := Ideal) x1 x2 x3 (ix4 b m h j) = valueArr (memRows x1) g w (ix2 (memRow b m) (hc h.val h.isLt j)) := by
  rw [val_main_v54_apply, val_main_v37_apply]
  refine Eq.trans ?_ (ref_kv x1 x2 x3 g hg w hw b m _)
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show 512 + (((b.val * 256 + m.val) * 4 + h.val) * 128 + j.val) % 512 = 512 + (h.val * 128 + j.val); omega

theorem ref_k (g : S1x2048.Idx → EReal) (hg : ∀ k : Fin 2048, g (ix2 0 k) = x2 (ix2 1 k)) (w : S4x2048x1024.Idx → EReal)
    (hw : ∀ (j : Fin 2048) (k : Fin 1024), w (ix3 1 j k) = x3 (ix3 1 j k)) (kg : S1x128.Idx → EReal) (hkg : ∀ k : Fin 128, kg (ix2 0 k) = x5 (ix2 1 k))
    (b : Fin 4) (m : Fin 256) (h : Fin 4) (d : Fin 128) :
    val_main_v53 (F := Ideal) x1 x2 x3 x5 (ix4 b m h d) = keyArr (memRows x1) g w kg (ix2 (memRow b m) (hc h.val h.isLt d)) := by
  have a : keyArr (memRows x1) g w kg (ix2 (memRow b m) (hc h.val h.isLt d))
      = hn (fun j => kvAt (memRows x1) g w (memRow b m) (kc h.val h.isLt j)) (fun j => x5 (ix2 1 j)) d := by
    unfold keyArr
    simp only [hkg]
    refine congr (congrArg (fun q => hn q _) (funext fun j => congrArg (kvAt _ _ _ _) (Fin.ext ?_))) (Fin.ext ?_)
    · show (h.val * 128 + d.val) / 128 * 128 + j.val = h.val * 128 + j.val; omega
    · show (h.val * 128 + d.val) % 128 = d.val; omega
  rw [a]
  rw [val_main_v53_apply, val_main_v50_apply, val_main_v49_apply, val_main_v48_apply, val_main_v47_apply, val_main_v45_apply, val_main_v43_apply,
    val_main_v42_apply, val_main_v52_apply, val_main_v51_apply, val_main_v40_apply, val_main_v39_apply, val_main_v44_apply, val_main_v46_apply]
  simp only [val_main_v41_apply, val_main_cst_5_apply, val_main_cst_6_apply, val_main_cst_7_apply]
  have e : idx_main_v39 (idx_main_v40 (idx_main_v51 (idx_main_v52 (ix4 b m h d)))) = ix2 1 d :=
    funext fun a => Fin.ext (by
      match a with
      | ⟨0, _⟩ => rfl
      | ⟨1, _⟩ => exact Nat.mod_eq_of_lt d.isLt)
  have e' : ∀ j : Fin 128, idx_main_v42 (idx_main_v43 (idx_main_v49 (ix4 b m h d))) j = ix4 b m h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_k0 x1 x2 x3 g hg w hw, Ideal.mulf_def, Ideal.addf_def, Ideal.hostUnary_rsqrt_def, Ideal.hostDivf_def, Ideal.ofBits_def,
    Ideal.ofBits_zero_f32, zero_add]

/-- The logits of one row and one head. -/
def refLogit (b : Fin 4) (h : Fin 4) (t : Fin 4096) (m : Fin 256) : EReal :=
  (∑ j : Fin 128, val_main_v17 (F := Ideal) x0 x4 (ix4 b t h j) * val_main_v53 (F := Ideal) x1 x2 x3 x5 (ix4 b m h j)) * scale

theorem ref_logit (b : Fin 4) (h : Fin 4) (t : Fin 4096) (m : Fin 256) :
    val_main_v57 (F := Ideal) x0 x1 x2 x3 x4 x5 (ix4 b h t m) = refLogit x0 x1 x2 x3 x4 x5 b h t m := by
  rw [val_main_v57_apply, val_main_v55_apply, val_main_v56_apply, val_main_cst_8_apply]
  have e : ∀ k : Fin 128, lidx_main_v55 (ix4 b h t m) k = ix4 b t h k := fun k => funext fun a => Fin.ext (by
    match a with
    | ⟨0, _⟩ => rfl
    | ⟨1, _⟩ => rfl
    | ⟨2, _⟩ => rfl
    | ⟨3, _⟩ => rfl)
  have e' : ∀ k : Fin 128, ridx_main_v55 (ix4 b h t m) k = ix4 b m h k := fun k => funext fun a => Fin.ext (by
    match a with
    | ⟨0, _⟩ => rfl
    | ⟨1, _⟩ => rfl
    | ⟨2, _⟩ => rfl
    | ⟨3, _⟩ => rfl)
  simp only [e, e']
  rfl

theorem ref_max (b : Fin 4) (h : Fin 4) (t : Fin 4096) :
    val_main_v58 (F := Ideal) x0 x1 x2 x3 x4 x5 (ix3 b h t)
      = Finset.fold max (Ideal.ofBits FTy.f32 0xFF800000#32) (refLogit x0 x1 x2 x3 x4 x5 b h t) Finset.univ := by
  unfold val_main_v58
  have e : refLogit x0 x1 x2 x3 x4 x5 b h t = fun m => val_main_v57 (F := Ideal) x0 x1 x2 x3 x4 x5 (ix4 b h t m) :=
    funext fun m => (ref_logit x0 x1 x2 x3 x4 x5 b h t m).symm
  rw [e]
  generalize val_main_v57 (F := Ideal) x0 x1 x2 x3 x4 x5 = L
  pointwise
  rfl

theorem ref_num (b : Fin 4) (h : Fin 4) (t : Fin 4096) (m : Fin 256) :
    val_main_v64 (F := Ideal) x0 x1 x2 x3 x4 x5 (ix4 b h t m) = num (refLogit x0 x1 x2 x3 x4 x5 b h t) m := by
  rw [val_main_v64_apply, val_main_v63_apply, val_main_v62_apply, val_main_v61_apply, val_main_v60_apply, val_main_v59_apply, val_main_cst_10_apply,
    ref_logit]
  have e : idx_main_v61 (idx_main_v62 (ix4 b h t m)) = ix3 b h t := funext fun a => Fin.ext (by
    match a with
    | ⟨0, _⟩ => rfl
    | ⟨1, _⟩ => rfl
    | ⟨2, _⟩ => rfl)
  rw [e, ref_max]
  unfold num
  rw [Ideal.ofBits_def, ofBits_bot]
  show Ideal.exp (_ - max ⊥ _) = _
  rw [max_eq_right bot_le]

theorem ref_weight (b : Fin 4) (h : Fin 4) (t : Fin 4096) (m : Fin 256) :
    val_main_v68 (F := Ideal) x0 x1 x2 x3 x4 x5 (ix4 b h t m)
      = Ideal.div (num (refLogit x0 x1 x2 x3 x4 x5 b h t) m) (∑ m : Fin 256, num (refLogit x0 x1 x2 x3 x4 x5 b h t) m) := by
  rw [val_main_v68_apply, val_main_v67_apply, val_main_v66_apply, val_main_v65_apply, val_main_cst_11_apply, ref_num]
  have e : ∀ k : Fin 256, idx_main_v65 (idx_main_v66 (idx_main_v67 (ix4 b h t m))) k = ix4 b h t k := fun k => funext fun a => Fin.ext (by
    match a with
    | ⟨0, _⟩ => rfl
    | ⟨1, _⟩ => rfl
    | ⟨2, _⟩ => rfl
    | ⟨3, _⟩ => rfl)
  simp only [e, ref_num, Ideal.hostDivf_def, Ideal.ofBits_def, Ideal.ofBits_zero_f32, zero_add]

theorem ref_out (b : Fin 4) (h : Fin 4) (t : Fin 4096) (d : Fin 128) :
    val_main_v69 (F := Ideal) x0 x1 x2 x3 x4 x5 (ix4 b h d t)
      = attR (fun j => val_main_v17 (F := Ideal) x0 x4 (ix4 b t h j)) (fun m j => val_main_v53 (F := Ideal) x1 x2 x3 x5 (ix4 b m h j))
          (fun m j => val_main_v54 (F := Ideal) x1 x2 x3 (ix4 b m h j)) d := by
  rw [val_main_v69_apply]
  unfold attR
  refine Finset.sum_congr rfl fun m _ => ?_
  have e : lidx_main_v69 (ix4 b h d t) m = ix4 b m h d := funext fun a => Fin.ext (by
    match a with
    | ⟨0, _⟩ => rfl
    | ⟨1, _⟩ => rfl
    | ⟨2, _⟩ => rfl
    | ⟨3, _⟩ => rfl)
  have e' : ridx_main_v69 (ix4 b h d t) m = ix4 b h t m := funext fun a => Fin.ext (by
    match a with
    | ⟨0, _⟩ => rfl
    | ⟨1, _⟩ => rfl
    | ⟨2, _⟩ => rfl
    | ⟨3, _⟩ => rfl)
  rw [e, e', ref_weight]
  rfl

/-- With finite gains, the kernel's result is the reference's. -/
theorem ref_att (g : S1x2048.Idx → EReal) (hg : ∀ k : Fin 2048, g (ix2 0 k) = x2 (ix2 1 k)) (w : S4x2048x1024.Idx → EReal)
    (hw : ∀ (j : Fin 2048) (k : Fin 1024), w (ix3 1 j k) = x3 (ix3 1 j k)) (kg : S1x128.Idx → EReal) (hkg : ∀ k : Fin 128, kg (ix2 0 k) = x5 (ix2 1 k))
    (qg : S1x128.Idx → EReal) (hqg : ∀ k : Fin 128, qg (ix2 0 k) = x4 (ix2 1 k)) (f4 : ∀ i, IsReal (x4 i)) (f5 : ∀ i, IsReal (x5 i)) :
    attArr x0 (keyArr (memRows x1) g w kg) (valueArr (memRows x1) g w) qg = val_main_v72 (F := Ideal) x0 x1 x2 x3 x4 x5 := by
  funext i
  obtain ⟨R, C, rfl⟩ : ∃ (R : Fin 16384) (C : Fin 512), i = ix2 R C := ⟨i 0, i 1, eq_ix2 i⟩
  obtain ⟨b, t, rfl⟩ : ∃ (b : Fin 4) (t : Fin 4096), R = tokRow b t :=
    ⟨⟨R.val / 4096, by omega⟩, ⟨R.val % 4096, by omega⟩, Fin.ext (by show _ = R.val / 4096 * 4096 + R.val % 4096; omega)⟩
  obtain ⟨h, d, rfl⟩ : ∃ (h : Fin 4) (d : Fin 128), C = hc h.val h.isLt d :=
    ⟨⟨C.val / 128, by omega⟩, ⟨C.val % 128, by omega⟩, Fin.ext (by show _ = C.val / 128 * 128 + C.val % 128; omega)⟩
  have e : idx_main_v70 (idx_main_v71 (ix2 (tokRow b t) (hc h.val h.isLt d))) = ix4 b h d t := funext fun a => Fin.ext (by
    match a with
    | ⟨0, _⟩ => show ((b.val * 4096 + t.val) * 512 + (h.val * 128 + d.val)) / 2097152 = b.val; omega
    | ⟨1, _⟩ => show ((b.val * 4096 + t.val) * 512 + (h.val * 128 + d.val)) / 128 % 4 = h.val; omega
    | ⟨2, _⟩ => show ((b.val * 4096 + t.val) * 512 + (h.val * 128 + d.val)) % 128 = d.val; omega
    | ⟨3, _⟩ => show ((b.val * 4096 + t.val) * 512 + (h.val * 128 + d.val)) / 512 % 4096 = t.val; omega)
  have hr : val_main_v72 (F := Ideal) x0 x1 x2 x3 x4 x5 (ix2 (tokRow b t) (hc h.val h.isLt d))
      = val_main_v69 (F := Ideal) x0 x1 x2 x3 x4 x5 (ix4 b h d t) := by
    rw [val_main_v72_apply, val_main_v71_apply, val_main_v70_apply, e]
    rfl
  rw [hr, ref_out]
  have ha : attArr x0 (keyArr (memRows x1) g w kg) (valueArr (memRows x1) g w) qg (ix2 (tokRow b t) (hc h.val h.isLt d))
      = attAt x0 (keyArr (memRows x1) g w kg) (valueArr (memRows x1) g w) qg (tokRow b t) h.val h.isLt d :=
    att_congr _ _ _ _ _ _ _ _ _ _ _ _ rfl (by show (h.val * 128 + d.val) / 128 = h.val; omega) (Fin.ext (by show (h.val * 128 + d.val) % 128 = d.val; omega))
  rw [ha]
  have hm : ∀ m : Fin 256, (⟨(tokRow b t).val / 4096 * 256 + m.val, by have := (tokRow b t).isLt; omega⟩ : Fin 1024) = memRow b m := fun m =>
    Fin.ext (by show (b.val * 4096 + t.val) / 4096 * 256 + m.val = b.val * 256 + m.val; omega)
  unfold attAt
  simp only [hm, hqg, ← ref_k x1 x2 x3 x5 g hg w hw kg hkg, ← ref_v x1 x2 x3 g hg w hw]
  have hq : (hn (fun j => x0 (ix2 (tokRow b t) ⟨4608 + (hc h.val h.isLt j).val, by have := (hc h.val h.isLt j).isLt; omega⟩)) (fun j => x4 (ix2 1 j)))
      = fun j => val_main_v17 (F := Ideal) x0 x4 (ix4 b t h j) := funext fun j => (ref_q x0 x4 b t h j).symm
  rw [hq]
  refine attK_eq _ _ _ (fun j => ?_) (fun m j => ?_) d
  · rw [ref_q]
    exact hn_real _ _ (fun _ => f4 _) _
  · rw [ref_k x1 x2 x3 x5 g hg w hw kg hkg]
    exact hn_real _ _ (fun k => by rw [hkg]; exact f5 _) _

end Cert.Proof.Mem.L1

end
-- ==== Proof.Mem.L1.Claim.lean ====
module

public import proofs.«01_k».proof.Defs
public import proofs.«01_k».proof.Proof.Mem.Claim
public import proofs.«01_k».proof.Proof.Mem.L1.Run
public import proofs.«01_k».proof.Proof.Mem.L1.Ref
public import Idealize.ShloMosaic.Lib.Quiescent

/-! The memory attention of layer 1: with finite gains, the kernel's result is the reference's. -/

@[expose] public section

set_option maxRecDepth 16384

noncomputable section

namespace Cert.Proof.Mem.L1

open Idealize.ShloMosaic Idealize.ShloMosaic.TcCoe Idealize.ShloMosaic.Tactic Idealize.SL.Sem

/-- The reference leaves its arguments unchanged, and has no semaphore. -/
theorem frame_reference : Cert.quiescent_Reference11Ideal := fun m ρ _ =>
  (θ_run _ _ _).mono (fun _ h => ⟨fun c => (h c).2, sem_eq_zero_of_no_sems rfl _⟩) (Cert.Reference11Ideal.Value.run m ρ)

theorem algebraic : Cert.algebraic_Kernel11Ideal_Reference11Ideal_pre_finite_gains := by
  intro m g m' g' hp hag
  refine ⟨_, run m g, (θ_run _ _ _).mono (fun _ h c => ?_) (Cert.Reference11Ideal.Value.run m' g')⟩
  obtain ⟨h0, hargs⟩ := h c
  obtain ⟨a0, a1, a2, a3, a4, a5⟩ := hag c
  obtain ⟨p4, p5⟩ := hp c
  refine ⟨h0.trans ?_, hargs⟩
  rw [Cert.Reference11Ideal.Read.val_main_v72_eq, a0, a1, a2, a3, a4, a5, entry_rows]
  exact (ref_att _ _ _ _ _ _ _ (entry_gain m g c) _ (entry_weights m g c 1) _ (entry_kgain m g c) _ (entry_qgain m g c)
    (fun i => real_of_lt_top _ (congrFun p4 i)) (fun i => real_of_lt_top _ (congrFun p5 i))).symm

end Cert.Proof.Mem.L1

end
-- ==== Proof.Mem.L2.Attn.lean ====
/-
  The memory attention call of layer 2: one grid point, and its whole result.
-/
module

public import proofs.«01_k».proof.Proof.Gen.Kernel12Ideal.Frame
public import proofs.«01_k».proof.Proof.Mem.Attn
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mem.L2

open Idealize.ShloMosaic Idealize.ShloMosaic.TcCoe Idealize.ShloMosaic.Tactic
open Cert.Kernel12Ideal Cert.Kernel12Ideal.Gen
open Idealize.ShloMosaic.Pipeline (Dat Cfg Window)

theorem out_block (x0 : Vec Ideal S512x512 .bf16) (x1 x2 : Vec Ideal S256x512 .bf16) (x3 : Vec Ideal S1x128 .f32) (y : S512x512.Idx) :
    out1_4 x0 x1 x2 x3 y = headOf x0 x1 x2 x3 (y 0) ((y 1).val / 128) (by have := (y 1).isLt; show _ < 4; change (y 1).val < 512 at this; omega)
      ⟨(y 1).val % 128, by omega⟩ :=
  Cert.Proof.Mem.out_block x0 x1 x2 x3 y

theorem idx1 : ∀ t : Fin cfg1.N, (win1_0.index t = ![(grid1.coords t 0).val * 8 + (grid1.coords t 1).val, 9]
    ∧ win1_1.index t = ![(grid1.coords t 0).val, 0] ∧ win1_2.index t = ![(grid1.coords t 0).val, 0])
    ∧ win1_3.index t = ![0, 0] ∧ win1_4.index t = ![(grid1.coords t 0).val * 8 + (grid1.coords t 1).val, 0] :=
  (by decide +kernel : ∀ t : Fin grid1.N, _)

variable (V : (c : Dev nD) → (b : Ref sig .tc) → Buf (Elt Ideal) ((c : Thread nD τ).loc b))

theorem aread0 (c : Dev nD) (t : Fin cfg1.N) (r : Fin 512) (k : Fin 512) (R : Fin 16384) (K : Fin 6144)
    (hR : R.val = ((grid1.coords t 0).val * 8 + (grid1.coords t 1).val) * 512 + r.val) (hK : K.val = 4608 + k.val) :
    iblk1 V c 0 t (ix2 r k) = V c main_arg0 (ix2 R K) := by
  blk_ext [iblk1, (idx1 t).1.1]

theorem aread1 (c : Dev nD) (t : Fin cfg1.N) (r : Fin 256) (k : Fin 512) (R : Fin 1024)
    (hR : R.val = (grid1.coords t 0).val * 256 + r.val) :
    iblk1 V c 1 t (ix2 r k) = V c main_v8_0 (ix2 R k) := by
  blk_ext [iblk1, (idx1 t).1.2.1]

theorem aread2 (c : Dev nD) (t : Fin cfg1.N) (r : Fin 256) (k : Fin 512) (R : Fin 1024)
    (hR : R.val = (grid1.coords t 0).val * 256 + r.val) :
    iblk1 V c 2 t (ix2 r k) = V c main_v8_1 (ix2 R k) := by
  blk_ext [iblk1, (idx1 t).1.2.2]

theorem aread3 (c : Dev nD) (t : Fin cfg1.N) (k : Fin 128) :
    iblk1 V c 3 t (ix2 0 k) = V c main_v11 (ix2 0 k) := by
  blk_ext [iblk1, (idx1 t).2.1]

theorem att_point (c : Dev nD) (t : Fin cfg1.N) (r : Fin 512) (h : ℕ) (hh : h < 4) (d : Fin 128) (R : Fin 16384)
    (hR : R.val = ((grid1.coords t 0).val * 8 + (grid1.coords t 1).val) * 512 + r.val) :
    headOf (iblk1 V c 0 t) (iblk1 V c 1 t) (iblk1 V c 2 t) (iblk1 V c 3 t) r h hh d
      = attAt (V c main_arg0) (V c main_v8_0) (V c main_v8_1) (V c main_v11) R h hh d := by
  have hb : R.val / 4096 = (grid1.coords t 0).val := by
    have h8 : (grid1.coords t 1).val < 8 := (grid1.coords t 1).isLt
    omega
  unfold headOf attAt
  have e0 : ∀ j : Fin 128, iblk1 V c 0 t (ix2 r (hc h hh j)) = V c main_arg0 (ix2 R ⟨4608 + (hc h hh j).val, by omega⟩) := fun j =>
    aread0 V c t r _ R _ hR rfl
  have e1 : ∀ (m : Fin 256) (j : Fin 128), iblk1 V c 1 t (ix2 m (hc h hh j)) = V c main_v8_0 (ix2 ⟨R.val / 4096 * 256 + m.val, by omega⟩ (hc h hh j)) :=
    fun m j => aread1 V c t m _ _ (by show R.val / 4096 * 256 + m.val = _; omega)
  have e2 : ∀ (m : Fin 256) (j : Fin 128), iblk1 V c 2 t (ix2 m (hc h hh j)) = V c main_v8_1 (ix2 ⟨R.val / 4096 * 256 + m.val, by omega⟩ (hc h hh j)) :=
    fun m j => aread2 V c t m _ _ (by show R.val / 4096 * 256 + m.val = _; omega)
  simp only [e0, e1, e2, aread3]

theorem att_arr (c : Dev nD) :
    (dat1 V c).arrAt 4 cfg1.N = attArr (V c main_arg0) (V c main_v8_0) (V c main_v8_1) (V c main_v11) := by
  refine (dat1 V c).arrAt_eq_of_covers 4 _ (by decide +kernel) fun t hf y => ?_
  blk_simp
  rw [after1_4]
  refine (out_block _ _ _ _ y).trans ((att_point V c t _ _ _ _ _ ?_).trans (att_congr _ _ _ _ _ _ _ _ _ _ _ _ rfl ?_ ?_))
  all_goals
    simp [(idx1 t).2.2]

end Cert.Proof.Mem.L2

end
-- ==== Proof.Mem.L2.Kv.lean ====
/-
  The call that makes the memory's keys and values, in layer 2: one grid point, and its two results.
-/
module

public import proofs.«01_k».proof.Proof.Mem.Kv
public import proofs.«01_k».proof.Proof.Mem.L2.Attn

@[expose] public section

set_option maxRecDepth 16384

noncomputable section

namespace Cert.Proof.Mem.L2

open Idealize.ShloMosaic Idealize.ShloMosaic.TcCoe Idealize.ShloMosaic.Tactic
open Cert.Kernel12Ideal Cert.Kernel12Ideal.Gen
open Idealize.ShloMosaic.Pipeline (Dat Cfg Window)

theorem key_block (x0 : Vec Ideal S256x2048 .f32) (x1 : Vec Ideal S1x2048 .f32) (x2 : Vec Ideal S1x2048x1024 .bf16) (x3 : Vec Ideal S1x128 .f32)
    (y : S256x512.Idx) : out0_4 x0 x1 x2 x3 y
      = keyOf x0 x1 x2 x3 (y 0) ((y 1).val / 128) (by have h : (y 1).val < 512 := (y 1).isLt; omega) ⟨(y 1).val % 128, by omega⟩ :=
  Cert.Proof.Mem.key_block x0 x1 x2 x3 y

theorem value_block (x0 : Vec Ideal S256x2048 .f32) (x1 : Vec Ideal S1x2048 .f32) (x2 : Vec Ideal S1x2048x1024 .bf16) (x3 : Vec Ideal S1x128 .f32)
    (y : S256x512.Idx) : out0_5 x0 x1 x2 x3 y = kvOf x0 x1 x2 (y 0) ⟨512 + (y 1).val, by have h : (y 1).val < 512 := (y 1).isLt; omega⟩ :=
  Cert.Proof.Mem.value_block x0 x1 x2 x3 y

theorem idx0 : ∀ t : Fin cfg0.N, (win0_0.index t = ![(grid0.coords t 0).val, 0]
    ∧ win0_1.index t = ![0, 0] ∧ win0_2.index t = ![2, 0, 0] ∧ win0_3.index t = ![0, 0])
    ∧ win0_4.index t = ![(grid0.coords t 0).val, 0] ∧ win0_5.index t = ![(grid0.coords t 0).val, 0] :=
  (by decide +kernel : ∀ t : Fin grid0.N, _)

variable (V : (c : Dev nD) → (b : Ref sig .tc) → Buf (Elt Ideal) ((c : Thread nD τ).loc b))

theorem kread0 (c : Dev nD) (t : Fin cfg0.N) (r : Fin 256) (k : Fin 2048) (R : Fin 1024) (hR : R.val = (grid0.coords t 0).val * 256 + r.val) :
    iblk0 V c 0 t (ix2 r k) = V c main_v0 (ix2 R k) := by
  blk_ext [iblk0, (idx0 t).1.1]

theorem kread1 (c : Dev nD) (t : Fin cfg0.N) (k : Fin 2048) : iblk0 V c 1 t (ix2 0 k) = V c main_v3 (ix2 0 k) := by
  blk_ext [iblk0, (idx0 t).1.2.1]

theorem kread2 (c : Dev nD) (t : Fin cfg0.N) (j : Fin 2048) (k : Fin 1024) : iblk0 V c 2 t (ix3 0 j k) = V c main_v4 (ix3 2 j k) := by
  blk_ext [iblk0, (idx0 t).1.2.2.1]

theorem kread3 (c : Dev nD) (t : Fin cfg0.N) (k : Fin 128) : iblk0 V c 3 t (ix2 0 k) = V c main_v7 (ix2 0 k) := by
  blk_ext [iblk0, (idx0 t).1.2.2.2]

/-- Memory row `R`, projected by layer 2's weights. -/
def kvAt (X : S1024x2048.Idx → EReal) (g : S1x2048.Idx → EReal) (w : S4x2048x1024.Idx → EReal) (R : Fin 1024) (c : Fin 1024) : EReal :=
  kvRow (fun j => X (ix2 R j)) (fun j => g (ix2 0 j)) (fun j c => w (ix3 2 j c)) c

/-- The memory's keys. -/
def keyArr (X : S1024x2048.Idx → EReal) (g : S1x2048.Idx → EReal) (w : S4x2048x1024.Idx → EReal) (kg : S1x128.Idx → EReal) : S1024x512.Idx → EReal :=
  fun i => hn (fun j => kvAt X g w (i 0) (kc ((i 1).val / 128) (by have h : (i 1).val < 512 := (i 1).isLt; omega) j)) (fun j => kg (ix2 0 j))
    ⟨(i 1).val % 128, by omega⟩

/-- The memory's values. -/
def valueArr (X : S1024x2048.Idx → EReal) (g : S1x2048.Idx → EReal) (w : S4x2048x1024.Idx → EReal) : S1024x512.Idx → EReal :=
  fun i => kvAt X g w (i 0) ⟨512 + (i 1).val, by have h : (i 1).val < 512 := (i 1).isLt; omega⟩

theorem kv_point (c : Dev nD) (t : Fin cfg0.N) (r : Fin 256) (R : Fin 1024) (hR : R.val = (grid0.coords t 0).val * 256 + r.val) (k : Fin 1024) :
    kvOf (iblk0 V c 0 t) (iblk0 V c 1 t) (iblk0 V c 2 t) r k = kvAt (V c main_v0) (V c main_v3) (V c main_v4) R k := by
  unfold kvOf kvAt
  simp only [kread0 V c t r _ R hR, kread1, kread2]

theorem key_arr (c : Dev nD) : (dat0 V c).arrAt 4 cfg0.N = keyArr (V c main_v0) (V c main_v3) (V c main_v4) (V c main_v7) := by
  refine (dat0 V c).arrAt_eq_of_covers 4 _ (by decide +kernel) fun t hf y => ?_
  blk_simp
  rw [after0_4]
  refine (key_block _ _ _ _ y).trans ?_
  unfold keyOf keyArr
  simp only [kread3]
  refine congr (congrArg (fun q => hn q _) (funext fun j => ?_)) (Fin.ext ?_)
  · refine (kv_point V c t _ _ ?_ _).trans (congrArg (kvAt _ _ _ _) (Fin.ext ?_))
    all_goals simp [(idx0 t).2.1, kc]
  · simp [(idx0 t).2.1]

theorem value_arr (c : Dev nD) : (dat0 V c).arrAt 5 cfg0.N = valueArr (V c main_v0) (V c main_v3) (V c main_v4) := by
  refine (dat0 V c).arrAt_eq_of_covers 5 _ (by decide +kernel) fun t hf y => ?_
  blk_simp
  rw [after0_5]
  refine (value_block _ _ _ _ y).trans ?_
  unfold valueArr
  refine (kv_point V c t _ _ ?_ _).trans (congrArg (kvAt _ _ _ _) (Fin.ext ?_))
  all_goals simp [(idx0 t).2.2]

end Cert.Proof.Mem.L2

end
-- ==== Proof.Mem.L2.Run.lean ====
module

public import proofs.«01_k».proof.Proof.Mem.Run
public import proofs.«01_k».proof.Proof.Mem.L2.Kv
public import Idealize.ShloMosaic.Lib.Claim

/-! The run of the memory attention of layer 2: its result as a function of its arguments. -/

@[expose] public section

set_option maxRecDepth 16384

noncomputable section

namespace Cert.Proof.Mem.L2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

theorem entry_rows (c : Dev nD) : V1 m ρ c main_v0 = memRows (m ((c : Thread nD τ).loc main_arg1)) := by
  unfold_abbrev_sides
  after_results
  rfl

theorem entry_gain (c : Dev nD) (k : Fin 2048) :
    (V1 m ρ c main_v3 : S1x2048.Idx → EReal) (ix2 0 k) = (m ((c : Thread nD τ).loc main_arg2) : S4x2048.Idx → EReal) (ix2 2 k) := by
  unfold_abbrev_sides
  after_results
  pointwise

theorem entry_weights (c : Dev nD) (l : Fin 4) (j : Fin 2048) (k : Fin 1024) :
    (V1 m ρ c main_v4 : S4x2048x1024.Idx → EReal) (ix3 l j k) = (m ((c : Thread nD τ).loc main_arg3) : S4x2048x1024.Idx → EReal) (ix3 l j k) := by
  unfold_abbrev_sides
  after_results
  pointwise

theorem entry_kgain (c : Dev nD) (k : Fin 128) :
    (V1 m ρ c main_v7 : S1x128.Idx → EReal) (ix2 0 k) = (m ((c : Thread nD τ).loc main_arg5) : S4x128.Idx → EReal) (ix2 2 k) := by
  unfold_abbrev_sides
  after_results
  pointwise

theorem entry_qgain (c : Dev nD) (k : Fin 128) :
    (V3 m ρ c main_v11 : S1x128.Idx → EReal) (ix2 0 k) = (m ((c : Thread nD τ).loc main_arg4) : S4x128.Idx → EReal) (ix2 2 k) := by
  rw [← W2_args m ρ c main_arg4 (by decide)]
  unfold_abbrev_sides
  after_results
  pointwise

theorem entry_keys (c : Dev nD) : V3 m ρ c main_v8_0 = keyArr (V1 m ρ c main_v0) (V1 m ρ c main_v3) (V1 m ρ c main_v4) (V1 m ρ c main_v7) :=
  (W3_of m ρ c main_v8_0 (by decide)).trans ((W2_arr m ρ c 4).trans (key_arr _ c))

theorem entry_values (c : Dev nD) : V3 m ρ c main_v8_1 = valueArr (V1 m ρ c main_v0) (V1 m ρ c main_v3) (V1 m ρ c main_v4) :=
  (W3_of m ρ c main_v8_1 (by decide)).trans ((W2_arr m ρ c 5).trans (value_arr _ c))

/-- The result, as a function of the projection, of the queries' gain, and of what the keys and the values are made of. -/
theorem end_att (c : Dev nD) : W4 m ρ c (Proc.devRef .tc main_v12)
    = attArr (m ((c : Thread nD τ).loc main_arg0)) (keyArr (V1 m ρ c main_v0) (V1 m ρ c main_v3) (V1 m ρ c main_v4) (V1 m ρ c main_v7))
        (valueArr (V1 m ρ c main_v0) (V1 m ρ c main_v3) (V1 m ρ c main_v4)) (V3 m ρ c main_v11) := by
  refine (W4_arr m ρ c 4).trans ?_
  rw [att_arr, entry_keys, entry_values]
  rw [show V3 m ρ c main_arg0 = m ((c : Thread nD τ).loc main_arg0) from W3_args m ρ c main_arg0 (by decide)]

/-- The run: the result, and the arguments as they were. -/
theorem run : θ_run defs (onTc (τ := τ) (main (F := Ideal))) ⟨m, fun _ => 0, ρ⟩ (fun r => ∀ c : Dev nD,
      r.2.mem ((c.tc : Thread nD τ).loc main_v12)
        = attArr (m ((c : Thread nD τ).loc main_arg0)) (keyArr (V1 m ρ c main_v0) (V1 m ρ c main_v3) (V1 m ρ c main_v4) (V1 m ρ c main_v7))
            (valueArr (V1 m ρ c main_v0) (V1 m ρ c main_v3) (V1 m ρ c main_v4)) (V3 m ρ c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (end_att m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_bound m ρ)

end Cert.Proof.Mem.L2

end
-- ==== Proof.Mem.L2.Ref.lean ====
module

public import proofs.«01_k».proof.Proof.Mem.Ref
public import proofs.«01_k».proof.Proof.Mem.L2.Run
public import proofs.«01_k».proof.Proof.Gen.Reference12Ideal.Read

/-! The result of the reference of layer 2 is the same function of the arguments, with the softmax's quotients taken first. -/

@[expose] public section

set_option maxRecDepth 16384

noncomputable section

namespace Cert.Proof.Mem.L2

open Idealize.ShloMosaic Idealize.ShloMosaic.TcCoe Idealize.ShloMosaic.Tactic
open Cert.Reference12Ideal Cert.Reference12Ideal.Gen Cert.Reference12Ideal.Read

variable (x0 : S16384x6144.Idx → EReal) (x1 : S4x256x2048.Idx → EReal) (x2 : S4x2048.Idx → EReal) (x3 : S4x2048x1024.Idx → EReal)
  (x4 x5 : S4x128.Idx → EReal)

theorem ref_q0 (b : Fin 4) (t : Fin 4096) (h : Fin 4) (j : Fin 128) :
    val_main_v2 (F := Ideal) x0 (ix4 b t h j) = x0 (ix2 (tokRow b t) (qCol h j)) := by
  rw [val_main_v2_apply, val_main_v1_apply, val_main_v0_apply]
  refine congrArg x0 (funext fun a => Fin.ext ?_)
  match a with
  | ⟨0, _⟩ => show (((b.val * 4096 + t.val) * 4 + h.val) * 128 + j.val) / 512 = b.val * 4096 + t.val; omega
  | ⟨1, _⟩ => show 4608 + (((b.val * 4096 + t.val) * 4 + h.val) * 128 + j.val) % 512 = 4608 + (h.val * 128 + j.val); omega

theorem ref_q (b : Fin 4) (t : Fin 4096) (h : Fin 4) (d : Fin 128) :
    val_main_v17 (F := Ideal) x0 x4 (ix4 b t h d) = hn (fun j => x0 (ix2 (tokRow b t) (qCol h j))) (fun j => x4 (ix2 2 j)) d := by
  rw [val_main_v17_apply, val_main_v14_apply, val_main_v13_apply, val_main_v12_apply, val_main_v11_apply, val_main_v9_apply, val_main_v7_apply,
    val_main_v6_apply, val_main_v16_apply, val_main_v15_apply, val_main_v4_apply, val_main_v3_apply, val_main_v8_apply, val_main_v10_apply]
  simp only [val_main_v5_apply, val_main_cst_apply, val_main_cst_0_apply, val_main_cst_1_apply]
  have e : idx_main_v3 (idx_main_v4 (idx_main_v15 (idx_main_v16 (ix4 b t h d)))) = ix2 2 d :=
    funext fun a => Fin.ext (by
      match a with
      | ⟨0, _⟩ => rfl
      | ⟨1, _⟩ => exact Nat.mod_eq_of_lt d.isLt)
  have e' : ∀ j : Fin 128, idx_main_v6 (idx_main_v7 (idx_main_v13 (ix4 b t h d))) j = ix4 b t h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_q0, Ideal.mulf_def, Ideal.addf_def, Ideal.hostUnary_rsqrt_def, Ideal.hostDivf_def, Ideal.ofBits_def, Ideal.ofBits_zero_f32, zero_add]

theorem ref_norm (b : Fin 4) (m : Fin 256) (k : Fin 2048) :
    val_main_v32 (F := Ideal) x1 x2 (ix3 b m k) = x1 (ix3 b m k) * Ideal.rsqrt (Ideal.div (∑ i : Fin 2048, x1 (ix3 b m i) * x1 (ix3 b m i))
      (Ideal.ofBits FTy.f32 0x45000000#32) + Ideal.ofBits FTy.f32 0x358637BD#32) * x2 (ix2 2 k) := by
  rw [val_main_v32_apply, val_main_v29_apply, val_main_v28_apply, val_main_v27_apply, val_main_v26_apply, val_main_v24_apply, val_main_v22_apply,
    val_main_v21_apply, val_main_v31_apply, val_main_v30_apply, val_main_v19_apply, val_main_v18_apply, val_main_v23_apply, val_main_v25_apply]
  simp only [val_main_v20_apply, val_main_cst_2_apply, val_main_cst_3_apply, val_main_cst_4_apply]
  have e : idx_main_v18 (idx_main_v19 (idx_main_v30 (idx_main_v31 (ix3 b m k)))) = ix2 2 k :=
    funext fun a => Fin.ext (by
      match a with
      | ⟨0, _⟩ => rfl
      | ⟨1, _⟩ => exact Nat.mod_eq_of_lt k.isLt)
  have e' : ∀ j : Fin 2048, idx_main_v21 (idx_main_v22 (idx_main_v28 (ix3 b m k))) j = ix3 b m j := fun j =>
    funext fun a => Fin.ext (by
      match a with
      | ⟨0, _⟩ => rfl
      | ⟨1, _⟩ => rfl
      | ⟨2, _⟩ => rfl)
  rw [e]
  simp only [e', Ideal.mulf_def, Ideal.addf_def, Ideal.hostUnary_rsqrt_def, Ideal.hostDivf_def, Ideal.ofBits_def, Ideal.ofBits_zero_f32, zero_add]

theorem ref_kv (g : S1x2048.Idx → EReal) (hg : ∀ k : Fin 2048, g (ix2 0 k) = x2 (ix2 2 k)) (w : S4x2048x1024.Idx → EReal)
    (hw : ∀ (j : Fin 2048) (k : Fin 1024), w (ix3 2 j k) = x3 (ix3 2 j k)) (b : Fin 4) (m : Fin 256) (c : Fin 1024) :
    val_main_v35 (F := Ideal) x1 x2 x3 (ix3 b m c) = kvAt (memRows x1) g w (memRow b m) c := by
  rw [val_main_v35_apply]
  unfold kvAt kvRow
  refine Finset.sum_congr rfl fun k _ => ?_
  have e : lidx_main_v35 (ix3 b m c) k = ix3 b m k := funext fun a => Fin.ext (by
    match a with
    | ⟨0, _⟩ => rfl
    | ⟨1, _⟩ => rfl
    | ⟨2, _⟩ => rfl)
  have e' : idx_main_v33 (idx_main_v34 (ridx_main_v35 (ix3 b m c) k)) = ix3 2 k c := funext fun a => Fin.ext (by
    have hk := k.isLt
    have hc := c.isLt
    match a with
    | ⟨0, _⟩ => rfl
    | ⟨1, _⟩ => show (k.val * 1024 + c.val) / 1024 % 2048 = k.val; omega
    | ⟨2, _⟩ => show (k.val * 1024 + c.val) % 1024 = c.val; omega)
  rw [val_main_v34_apply, val_main_v33_apply, e, e', ref_norm]
  simp only [memRows_apply, hg, hw]

theorem ref_k0 (g : S1x2048.Idx → EReal) (hg : ∀ k : Fin 2048, g (ix2 0 k) = x2 (ix2 2 k)) (w : S4x2048x1024.Idx → EReal)
    (hw : ∀ (j : Fin 2048) (k : Fin 1024), w (ix3 2 j k) = x3 (ix3 2 j k)) (b : Fin 4) (m : Fin 256) (h : Fin 4) (j : Fin 128) :
    val_main_v38 (F := Ideal) x1 x2 x3 (ix4 b m h j) = kvAt (memRows x1) g w (memRow b m) (kc h.val h.isLt j) := by
  rw [val_main_v38_apply, val_main_v36_apply, ← ref_kv x1 x2 x3 g hg w hw]
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show (((b.val * 256 + m.val) * 4 + h.val) * 128 + j.val) % 512 = h.val * 128 + j.val; omega

theorem ref_v (g : S1x2048.Idx → EReal) (hg : ∀ k : Fin 2048, g (ix2 0 k) = x2 (ix2 2 k)) (w : S4x2048x1024.Idx → EReal)
    (hw : ∀ (j : Fin 2048) (k : Fin 1024), w (ix3 2 j k) = x3 (ix3 2 j k)) (b : Fin 4) (m : Fin 256) (h : Fin 4) (j : Fin 128) :
    val_main_v54 (F := Ideal) x1 x2 x3 (ix4 b m h j) = valueArr (memRows x1) g w (ix2 (memRow b m) (hc h.val h.isLt j)) := by
  rw [val_main_v54_apply, val_main_v37_apply]
  refine Eq.trans ?_ (ref_kv x1 x2 x3 g hg w hw b m _)
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show 512 + (((b.val * 256 + m.val) * 4 + h.val) * 128 + j.val) % 512 = 512 + (h.val * 128 + j.val); omega

theorem ref_k (g : S1x2048.Idx → EReal) (hg : ∀ k : Fin 2048, g (ix2 0 k) = x2 (ix2 2 k)) (w : S4x2048x1024.Idx → EReal)
    (hw : ∀ (j : Fin 2048) (k : Fin 1024), w (ix3 2 j k) = x3 (ix3 2 j k)) (kg : S1x128.Idx → EReal) (hkg : ∀ k : Fin 128, kg (ix2 0 k) = x5 (ix2 2 k))
    (b : Fin 4) (m : Fin 256) (h : Fin 4) (d : Fin 128) :
    val_main_v53 (F := Ideal) x1 x2 x3 x5 (ix4 b m h d) = keyArr (memRows x1) g w kg (ix2 (memRow b m) (hc h.val h.isLt d)) := by
  have a : keyArr (memRows x1) g w kg (ix2 (memRow b m) (hc h.val h.isLt d))
      = hn (fun j => kvAt (memRows x1) g w (memRow b m) (kc h.val h.isLt j)) (fun j => x5 (ix2 2 j)) d := by
    unfold keyArr
    simp only [hkg]
    refine congr (congrArg (fun q => hn q _) (funext fun j => congrArg (kvAt _ _ _ _) (Fin.ext ?_))) (Fin.ext ?_)
    · show (h.val * 128 + d.val) / 128 * 128 + j.val = h.val * 128 + j.val; omega
    · show (h.val * 128 + d.val) % 128 = d.val; omega
  rw [a]
  rw [val_main_v53_apply, val_main_v50_apply, val_main_v49_apply, val_main_v48_apply, val_main_v47_apply, val_main_v45_apply, val_main_v43_apply,
    val_main_v42_apply, val_main_v52_apply, val_main_v51_apply, val_main_v40_apply, val_main_v39_apply, val_main_v44_apply, val_main_v46_apply]
  simp only [val_main_v41_apply, val_main_cst_5_apply, val_main_cst_6_apply, val_main_cst_7_apply]
  have e : idx_main_v39 (idx_main_v40 (idx_main_v51 (idx_main_v52 (ix4 b m h d)))) = ix2 2 d :=
    funext fun a => Fin.ext (by
      match a with
      | ⟨0, _⟩ => rfl
      | ⟨1, _⟩ => exact Nat.mod_eq_of_lt d.isLt)
  have e' : ∀ j : Fin 128, idx_main_v42 (idx_main_v43 (idx_main_v49 (ix4 b m h d))) j = ix4 b m h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_k0 x1 x2 x3 g hg w hw, Ideal.mulf_def, Ideal.addf_def, Ideal.hostUnary_rsqrt_def, Ideal.hostDivf_def, Ideal.ofBits_def,
    Ideal.ofBits_zero_f32, zero_add]

/-- The logits of one row and one head. -/
def refLogit (b : Fin 4) (h : Fin 4) (t : Fin 4096) (m : Fin 256) : EReal :=
  (∑ j : Fin 128, val_main_v17 (F := Ideal) x0 x4 (ix4 b t h j) * val_main_v53 (F := Ideal) x1 x2 x3 x5 (ix4 b m h j)) * scale

theorem ref_logit (b : Fin 4) (h : Fin 4) (t : Fin 4096) (m : Fin 256) :
    val_main_v57 (F := Ideal) x0 x1 x2 x3 x4 x5 (ix4 b h t m) = refLogit x0 x1 x2 x3 x4 x5 b h t m := by
  rw [val_main_v57_apply, val_main_v55_apply, val_main_v56_apply, val_main_cst_8_apply]
  have e : ∀ k : Fin 128, lidx_main_v55 (ix4 b h t m) k = ix4 b t h k := fun k => funext fun a => Fin.ext (by
    match a with
    | ⟨0, _⟩ => rfl
    | ⟨1, _⟩ => rfl
    | ⟨2, _⟩ => rfl
    | ⟨3, _⟩ => rfl)
  have e' : ∀ k : Fin 128, ridx_main_v55 (ix4 b h t m) k = ix4 b m h k := fun k => funext fun a => Fin.ext (by
    match a with
    | ⟨0, _⟩ => rfl
    | ⟨1, _⟩ => rfl
    | ⟨2, _⟩ => rfl
    | ⟨3, _⟩ => rfl)
  simp only [e, e']
  rfl

theorem ref_max (b : Fin 4) (h : Fin 4) (t : Fin 4096) :
    val_main_v58 (F := Ideal) x0 x1 x2 x3 x4 x5 (ix3 b h t)
      = Finset.fold max (Ideal.ofBits FTy.f32 0xFF800000#32) (refLogit x0 x1 x2 x3 x4 x5 b h t) Finset.univ := by
  unfold val_main_v58
  have e : refLogit x0 x1 x2 x3 x4 x5 b h t = fun m => val_main_v57 (F := Ideal) x0 x1 x2 x3 x4 x5 (ix4 b h t m) :=
    funext fun m => (ref_logit x0 x1 x2 x3 x4 x5 b h t m).symm
  rw [e]
  generalize val_main_v57 (F := Ideal) x0 x1 x2 x3 x4 x5 = L
  pointwise
  rfl

theorem ref_num (b : Fin 4) (h : Fin 4) (t : Fin 4096) (m : Fin 256) :
    val_main_v64 (F := Ideal) x0 x1 x2 x3 x4 x5 (ix4 b h t m) = num (refLogit x0 x1 x2 x3 x4 x5 b h t) m := by
  rw [val_main_v64_apply, val_main_v63_apply, val_main_v62_apply, val_main_v61_apply, val_main_v60_apply, val_main_v59_apply, val_main_cst_10_apply,
    ref_logit]
  have e : idx_main_v61 (idx_main_v62 (ix4 b h t m)) = ix3 b h t := funext fun a => Fin.ext (by
    match a with
    | ⟨0, _⟩ => rfl
    | ⟨1, _⟩ => rfl
    | ⟨2, _⟩ => rfl)
  rw [e, ref_max]
  unfold num
  rw [Ideal.ofBits_def, ofBits_bot]
  show Ideal.exp (_ - max ⊥ _) = _
  rw [max_eq_right bot_le]

theorem ref_weight (b : Fin 4) (h : Fin 4) (t : Fin 4096) (m : Fin 256) :
    val_main_v68 (F := Ideal) x0 x1 x2 x3 x4 x5 (ix4 b h t m)
      = Ideal.div (num (refLogit x0 x1 x2 x3 x4 x5 b h t) m) (∑ m : Fin 256, num (refLogit x0 x1 x2 x3 x4 x5 b h t) m) := by
  rw [val_main_v68_apply, val_main_v67_apply, val_main_v66_apply, val_main_v65_apply, val_main_cst_11_apply, ref_num]
  have e : ∀ k : Fin 256, idx_main_v65 (idx_main_v66 (idx_main_v67 (ix4 b h t m))) k = ix4 b h t k := fun k => funext fun a => Fin.ext (by
    match a with
    | ⟨0, _⟩ => rfl
    | ⟨1, _⟩ => rfl
    | ⟨2, _⟩ => rfl
    | ⟨3, _⟩ => rfl)
  simp only [e, ref_num, Ideal.hostDivf_def, Ideal.ofBits_def, Ideal.ofBits_zero_f32, zero_add]

theorem ref_out (b : Fin 4) (h : Fin 4) (t : Fin 4096) (d : Fin 128) :
    val_main_v69 (F := Ideal) x0 x1 x2 x3 x4 x5 (ix4 b h d t)
      = attR (fun j => val_main_v17 (F := Ideal) x0 x4 (ix4 b t h j)) (fun m j => val_main_v53 (F := Ideal) x1 x2 x3 x5 (ix4 b m h j))
          (fun m j => val_main_v54 (F := Ideal) x1 x2 x3 (ix4 b m h j)) d := by
  rw [val_main_v69_apply]
  unfold attR
  refine Finset.sum_congr rfl fun m _ => ?_
  have e : lidx_main_v69 (ix4 b h d t) m = ix4 b m h d := funext fun a => Fin.ext (by
    match a with
    | ⟨0, _⟩ => rfl
    | ⟨1, _⟩ => rfl
    | ⟨2, _⟩ => rfl
    | ⟨3, _⟩ => rfl)
  have e' : ridx_main_v69 (ix4 b h d t) m = ix4 b h t m := funext fun a => Fin.ext (by
    match a with
    | ⟨0, _⟩ => rfl
    | ⟨1, _⟩ => rfl
    | ⟨2, _⟩ => rfl
    | ⟨3, _⟩ => rfl)
  rw [e, e', ref_weight]
  rfl

/-- With finite gains, the kernel's result is the reference's. -/
theorem ref_att (g : S1x2048.Idx → EReal) (hg : ∀ k : Fin 2048, g (ix2 0 k) = x2 (ix2 2 k)) (w : S4x2048x1024.Idx → EReal)
    (hw : ∀ (j : Fin 2048) (k : Fin 1024), w (ix3 2 j k) = x3 (ix3 2 j k)) (kg : S1x128.Idx → EReal) (hkg : ∀ k : Fin 128, kg (ix2 0 k) = x5 (ix2 2 k))
    (qg : S1x128.Idx → EReal) (hqg : ∀ k : Fin 128, qg (ix2 0 k) = x4 (ix2 2 k)) (f4 : ∀ i, IsReal (x4 i)) (f5 : ∀ i, IsReal (x5 i)) :
    attArr x0 (keyArr (memRows x1) g w kg) (valueArr (memRows x1) g w) qg = val_main_v72 (F := Ideal) x0 x1 x2 x3 x4 x5 := by
  funext i
  obtain ⟨R, C, rfl⟩ : ∃ (R : Fin 16384) (C : Fin 512), i = ix2 R C := ⟨i 0, i 1, eq_ix2 i⟩
  obtain ⟨b, t, rfl⟩ : ∃ (b : Fin 4) (t : Fin 4096), R = tokRow b t :=
    ⟨⟨R.val / 4096, by omega⟩, ⟨R.val % 4096, by omega⟩, Fin.ext (by show _ = R.val / 4096 * 4096 + R.val % 4096; omega)⟩
  obtain ⟨h, d, rfl⟩ : ∃ (h : Fin 4) (d : Fin 128), C = hc h.val h.isLt d :=
    ⟨⟨C.val / 128, by omega⟩, ⟨C.val % 128, by omega⟩, Fin.ext (by show _ = C.val / 128 * 128 + C.val % 128; omega)⟩
  have e : idx_main_v70 (idx_main_v71 (ix2 (tokRow b t) (hc h.val h.isLt d))) = ix4 b h d t := funext fun a => Fin.ext (by
    match a with
    | ⟨0, _⟩ => show ((b.val * 4096 + t.val) * 512 + (h.val * 128 + d.val)) / 2097152 = b.val; omega
    | ⟨1, _⟩ => show ((b.val * 4096 + t.val) * 512 + (h.val * 128 + d.val)) / 128 % 4 = h.val; omega
    | ⟨2, _⟩ => show ((b.val * 4096 + t.val) * 512 + (h.val * 128 + d.val)) % 128 = d.val; omega
    | ⟨3, _⟩ => show ((b.val * 4096 + t.val) * 512 + (h.val * 128 + d.val)) / 512 % 4096 = t.val; omega)
  have hr : val_main_v72 (F := Ideal) x0 x1 x2 x3 x4 x5 (ix2 (tokRow b t) (hc h.val h.isLt d))
      = val_main_v69 (F := Ideal) x0 x1 x2 x3 x4 x5 (ix4 b h d t) := by
    rw [val_main_v72_apply, val_main_v71_apply, val_main_v70_apply, e]
    rfl
  rw [hr, ref_out]
  have ha : attArr x0 (keyArr (memRows x1) g w kg) (valueArr (memRows x1) g w) qg (ix2 (tokRow b t) (hc h.val h.isLt d))
      = attAt x0 (keyArr (memRows x1) g w kg) (valueArr (memRows x1) g w) qg (tokRow b t) h.val h.isLt d :=
    att_congr _ _ _ _ _ _ _ _ _ _ _ _ rfl (by show (h.val * 128 + d.val) / 128 = h.val; omega) (Fin.ext (by show (h.val * 128 + d.val) % 128 = d.val; omega))
  rw [ha]
  have hm : ∀ m : Fin 256, (⟨(tokRow b t).val / 4096 * 256 + m.val, by have := (tokRow b t).isLt; omega⟩ : Fin 1024) = memRow b m := fun m =>
    Fin.ext (by show (b.val * 4096 + t.val) / 4096 * 256 + m.val = b.val * 256 + m.val; omega)
  unfold attAt
  simp only [hm, hqg, ← ref_k x1 x2 x3 x5 g hg w hw kg hkg, ← ref_v x1 x2 x3 g hg w hw]
  have hq : (hn (fun j => x0 (ix2 (tokRow b t) ⟨4608 + (hc h.val h.isLt j).val, by have := (hc h.val h.isLt j).isLt; omega⟩)) (fun j => x4 (ix2 2 j)))
      = fun j => val_main_v17 (F := Ideal) x0 x4 (ix4 b t h j) := funext fun j => (ref_q x0 x4 b t h j).symm
  rw [hq]
  refine attK_eq _ _ _ (fun j => ?_) (fun m j => ?_) d
  · rw [ref_q]
    exact hn_real _ _ (fun _ => f4 _) _
  · rw [ref_k x1 x2 x3 x5 g hg w hw kg hkg]
    exact hn_real _ _ (fun k => by rw [hkg]; exact f5 _) _

end Cert.Proof.Mem.L2

end
-- ==== Proof.Mem.L2.Claim.lean ====
module

public import proofs.«01_k».proof.Defs
public import proofs.«01_k».proof.Proof.Mem.Claim
public import proofs.«01_k».proof.Proof.Mem.L2.Run
public import proofs.«01_k».proof.Proof.Mem.L2.Ref
public import Idealize.ShloMosaic.Lib.Quiescent

/-! The memory attention of layer 2: with finite gains, the kernel's result is the reference's. -/

@[expose] public section

set_option maxRecDepth 16384

noncomputable section

namespace Cert.Proof.Mem.L2

open Idealize.ShloMosaic Idealize.ShloMosaic.TcCoe Idealize.ShloMosaic.Tactic Idealize.SL.Sem

/-- The reference leaves its arguments unchanged, and has no semaphore. -/
theorem frame_reference : Cert.quiescent_Reference12Ideal := fun m ρ _ =>
  (θ_run _ _ _).mono (fun _ h => ⟨fun c => (h c).2, sem_eq_zero_of_no_sems rfl _⟩) (Cert.Reference12Ideal.Value.run m ρ)

theorem algebraic : Cert.algebraic_Kernel12Ideal_Reference12Ideal_pre_finite_gains := by
  intro m g m' g' hp hag
  refine ⟨_, run m g, (θ_run _ _ _).mono (fun _ h c => ?_) (Cert.Reference12Ideal.Value.run m' g')⟩
  obtain ⟨h0, hargs⟩ := h c
  obtain ⟨a0, a1, a2, a3, a4, a5⟩ := hag c
  obtain ⟨p4, p5⟩ := hp c
  refine ⟨h0.trans ?_, hargs⟩
  rw [Cert.Reference12Ideal.Read.val_main_v72_eq, a0, a1, a2, a3, a4, a5, entry_rows]
  exact (ref_att _ _ _ _ _ _ _ (entry_gain m g c) _ (entry_weights m g c 2) _ (entry_kgain m g c) _ (entry_qgain m g c)
    (fun i => real_of_lt_top _ (congrFun p4 i)) (fun i => real_of_lt_top _ (congrFun p5 i))).symm

end Cert.Proof.Mem.L2

end
-- ==== Proof.Mem.L3.Attn.lean ====
/-
  The memory attention call of layer 3: one grid point, and its whole result.
-/
module

public import proofs.«01_k».proof.Proof.Gen.Kernel13Ideal.Frame
public import proofs.«01_k».proof.Proof.Mem.Attn
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mem.L3

open Idealize.ShloMosaic Idealize.ShloMosaic.TcCoe Idealize.ShloMosaic.Tactic
open Cert.Kernel13Ideal Cert.Kernel13Ideal.Gen
open Idealize.ShloMosaic.Pipeline (Dat Cfg Window)

theorem out_block (x0 : Vec Ideal S512x512 .bf16) (x1 x2 : Vec Ideal S256x512 .bf16) (x3 : Vec Ideal S1x128 .f32) (y : S512x512.Idx) :
    out1_4 x0 x1 x2 x3 y = headOf x0 x1 x2 x3 (y 0) ((y 1).val / 128) (by have := (y 1).isLt; show _ < 4; change (y 1).val < 512 at this; omega)
      ⟨(y 1).val % 128, by omega⟩ :=
  Cert.Proof.Mem.out_block x0 x1 x2 x3 y

theorem idx1 : ∀ t : Fin cfg1.N, (win1_0.index t = ![(grid1.coords t 0).val * 8 + (grid1.coords t 1).val, 9]
    ∧ win1_1.index t = ![(grid1.coords t 0).val, 0] ∧ win1_2.index t = ![(grid1.coords t 0).val, 0])
    ∧ win1_3.index t = ![0, 0] ∧ win1_4.index t = ![(grid1.coords t 0).val * 8 + (grid1.coords t 1).val, 0] :=
  (by decide +kernel : ∀ t : Fin grid1.N, _)

variable (V : (c : Dev nD) → (b : Ref sig .tc) → Buf (Elt Ideal) ((c : Thread nD τ).loc b))

theorem aread0 (c : Dev nD) (t : Fin cfg1.N) (r : Fin 512) (k : Fin 512) (R : Fin 16384) (K : Fin 6144)
    (hR : R.val = ((grid1.coords t 0).val * 8 + (grid1.coords t 1).val) * 512 + r.val) (hK : K.val = 4608 + k.val) :
    iblk1 V c 0 t (ix2 r k) = V c main_arg0 (ix2 R K) := by
  blk_ext [iblk1, (idx1 t).1.1]

theorem aread1 (c : Dev nD) (t : Fin cfg1.N) (r : Fin 256) (k : Fin 512) (R : Fin 1024)
    (hR : R.val = (grid1.coords t 0).val * 256 + r.val) :
    iblk1 V c 1 t (ix2 r k) = V c main_v8_0 (ix2 R k) := by
  blk_ext [iblk1, (idx1 t).1.2.1]

theorem aread2 (c : Dev nD) (t : Fin cfg1.N) (r : Fin 256) (k : Fin 512) (R : Fin 1024)
    (hR : R.val = (grid1.coords t 0).val * 256 + r.val) :
    iblk1 V c 2 t (ix2 r k) = V c main_v8_1 (ix2 R k) := by
  blk_ext [iblk1, (idx1 t).1.2.2]

theorem aread3 (c : Dev nD) (t : Fin cfg1.N) (k : Fin 128) :
    iblk1 V c 3 t (ix2 0 k) = V c main_v11 (ix2 0 k) := by
  blk_ext [iblk1, (idx1 t).2.1]

theorem att_point (c : Dev nD) (t : Fin cfg1.N) (r : Fin 512) (h : ℕ) (hh : h < 4) (d : Fin 128) (R : Fin 16384)
    (hR : R.val = ((grid1.coords t 0).val * 8 + (grid1.coords t 1).val) * 512 + r.val) :
    headOf (iblk1 V c 0 t) (iblk1 V c 1 t) (iblk1 V c 2 t) (iblk1 V c 3 t) r h hh d
      = attAt (V c main_arg0) (V c main_v8_0) (V c main_v8_1) (V c main_v11) R h hh d := by
  have hb : R.val / 4096 = (grid1.coords t 0).val := by
    have h8 : (grid1.coords t 1).val < 8 := (grid1.coords t 1).isLt
    omega
  unfold headOf attAt
  have e0 : ∀ j : Fin 128, iblk1 V c 0 t (ix2 r (hc h hh j)) = V c main_arg0 (ix2 R ⟨4608 + (hc h hh j).val, by omega⟩) := fun j =>
    aread0 V c t r _ R _ hR rfl
  have e1 : ∀ (m : Fin 256) (j : Fin 128), iblk1 V c 1 t (ix2 m (hc h hh j)) = V c main_v8_0 (ix2 ⟨R.val / 4096 * 256 + m.val, by omega⟩ (hc h hh j)) :=
    fun m j => aread1 V c t m _ _ (by show R.val / 4096 * 256 + m.val = _; omega)
  have e2 : ∀ (m : Fin 256) (j : Fin 128), iblk1 V c 2 t (ix2 m (hc h hh j)) = V c main_v8_1 (ix2 ⟨R.val / 4096 * 256 + m.val, by omega⟩ (hc h hh j)) :=
    fun m j => aread2 V c t m _ _ (by show R.val / 4096 * 256 + m.val = _; omega)
  simp only [e0, e1, e2, aread3]

theorem att_arr (c : Dev nD) :
    (dat1 V c).arrAt 4 cfg1.N = attArr (V c main_arg0) (V c main_v8_0) (V c main_v8_1) (V c main_v11) := by
  refine (dat1 V c).arrAt_eq_of_covers 4 _ (by decide +kernel) fun t hf y => ?_
  blk_simp
  rw [after1_4]
  refine (out_block _ _ _ _ y).trans ((att_point V c t _ _ _ _ _ ?_).trans (att_congr _ _ _ _ _ _ _ _ _ _ _ _ rfl ?_ ?_))
  all_goals
    simp [(idx1 t).2.2]

end Cert.Proof.Mem.L3

end
-- ==== Proof.Mem.L3.Kv.lean ====
/-
  The call that makes the memory's keys and values, in layer 3: one grid point, and its two results.
-/
module

public import proofs.«01_k».proof.Proof.Mem.Kv
public import proofs.«01_k».proof.Proof.Mem.L3.Attn

@[expose] public section

set_option maxRecDepth 16384

noncomputable section

namespace Cert.Proof.Mem.L3

open Idealize.ShloMosaic Idealize.ShloMosaic.TcCoe Idealize.ShloMosaic.Tactic
open Cert.Kernel13Ideal Cert.Kernel13Ideal.Gen
open Idealize.ShloMosaic.Pipeline (Dat Cfg Window)

theorem key_block (x0 : Vec Ideal S256x2048 .f32) (x1 : Vec Ideal S1x2048 .f32) (x2 : Vec Ideal S1x2048x1024 .bf16) (x3 : Vec Ideal S1x128 .f32)
    (y : S256x512.Idx) : out0_4 x0 x1 x2 x3 y
      = keyOf x0 x1 x2 x3 (y 0) ((y 1).val / 128) (by have h : (y 1).val < 512 := (y 1).isLt; omega) ⟨(y 1).val % 128, by omega⟩ :=
  Cert.Proof.Mem.key_block x0 x1 x2 x3 y

theorem value_block (x0 : Vec Ideal S256x2048 .f32) (x1 : Vec Ideal S1x2048 .f32) (x2 : Vec Ideal S1x2048x1024 .bf16) (x3 : Vec Ideal S1x128 .f32)
    (y : S256x512.Idx) : out0_5 x0 x1 x2 x3 y = kvOf x0 x1 x2 (y 0) ⟨512 + (y 1).val, by have h : (y 1).val < 512 := (y 1).isLt; omega⟩ :=
  Cert.Proof.Mem.value_block x0 x1 x2 x3 y

theorem idx0 : ∀ t : Fin cfg0.N, (win0_0.index t = ![(grid0.coords t 0).val, 0]
    ∧ win0_1.index t = ![0, 0] ∧ win0_2.index t = ![3, 0, 0] ∧ win0_3.index t = ![0, 0])
    ∧ win0_4.index t = ![(grid0.coords t 0).val, 0] ∧ win0_5.index t = ![(grid0.coords t 0).val, 0] :=
  (by decide +kernel : ∀ t : Fin grid0.N, _)

variable (V : (c : Dev nD) → (b : Ref sig .tc) → Buf (Elt Ideal) ((c : Thread nD τ).loc b))

theorem kread0 (c : Dev nD) (t : Fin cfg0.N) (r : Fin 256) (k : Fin 2048) (R : Fin 1024) (hR : R.val = (grid0.coords t 0).val * 256 + r.val) :
    iblk0 V c 0 t (ix2 r k) = V c main_v0 (ix2 R k) := by
  blk_ext [iblk0, (idx0 t).1.1]

theorem kread1 (c : Dev nD) (t : Fin cfg0.N) (k : Fin 2048) : iblk0 V c 1 t (ix2 0 k) = V c main_v3 (ix2 0 k) := by
  blk_ext [iblk0, (idx0 t).1.2.1]

theorem kread2 (c : Dev nD) (t : Fin cfg0.N) (j : Fin 2048) (k : Fin 1024) : iblk0 V c 2 t (ix3 0 j k) = V c main_v4 (ix3 3 j k) := by
  blk_ext [iblk0, (idx0 t).1.2.2.1]

theorem kread3 (c : Dev nD) (t : Fin cfg0.N) (k : Fin 128) : iblk0 V c 3 t (ix2 0 k) = V c main_v7 (ix2 0 k) := by
  blk_ext [iblk0, (idx0 t).1.2.2.2]

/-- Memory row `R`, projected by layer 3's weights. -/
def kvAt (X : S1024x2048.Idx → EReal) (g : S1x2048.Idx → EReal) (w : S4x2048x1024.Idx → EReal) (R : Fin 1024) (c : Fin 1024) : EReal :=
  kvRow (fun j => X (ix2 R j)) (fun j => g (ix2 0 j)) (fun j c => w (ix3 3 j c)) c

/-- The memory's keys. -/
def keyArr (X : S1024x2048.Idx → EReal) (g : S1x2048.Idx → EReal) (w : S4x2048x1024.Idx → EReal) (kg : S1x128.Idx → EReal) : S1024x512.Idx → EReal :=
  fun i => hn (fun j => kvAt X g w (i 0) (kc ((i 1).val / 128) (by have h : (i 1).val < 512 := (i 1).isLt; omega) j)) (fun j => kg (ix2 0 j))
    ⟨(i 1).val % 128, by omega⟩

/-- The memory's values. -/
def valueArr (X : S1024x2048.Idx → EReal) (g : S1x2048.Idx → EReal) (w : S4x2048x1024.Idx → EReal) : S1024x512.Idx → EReal :=
  fun i => kvAt X g w (i 0) ⟨512 + (i 1).val, by have h : (i 1).val < 512 := (i 1).isLt; omega⟩

theorem kv_point (c : Dev nD) (t : Fin cfg0.N) (r : Fin 256) (R : Fin 1024) (hR : R.val = (grid0.coords t 0).val * 256 + r.val) (k : Fin 1024) :
    kvOf (iblk0 V c 0 t) (iblk0 V c 1 t) (iblk0 V c 2 t) r k = kvAt (V c main_v0) (V c main_v3) (V c main_v4) R k := by
  unfold kvOf kvAt
  simp only [kread0 V c t r _ R hR, kread1, kread2]

theorem key_arr (c : Dev nD) : (dat0 V c).arrAt 4 cfg0.N = keyArr (V c main_v0) (V c main_v3) (V c main_v4) (V c main_v7) := by
  refine (dat0 V c).arrAt_eq_of_covers 4 _ (by decide +kernel) fun t hf y => ?_
  blk_simp
  rw [after0_4]
  refine (key_block _ _ _ _ y).trans ?_
  unfold keyOf keyArr
  simp only [kread3]
  refine congr (congrArg (fun q => hn q _) (funext fun j => ?_)) (Fin.ext ?_)
  · refine (kv_point V c t _ _ ?_ _).trans (congrArg (kvAt _ _ _ _) (Fin.ext ?_))
    all_goals simp [(idx0 t).2.1, kc]
  · simp [(idx0 t).2.1]

theorem value_arr (c : Dev nD) : (dat0 V c).arrAt 5 cfg0.N = valueArr (V c main_v0) (V c main_v3) (V c main_v4) := by
  refine (dat0 V c).arrAt_eq_of_covers 5 _ (by decide +kernel) fun t hf y => ?_
  blk_simp
  rw [after0_5]
  refine (value_block _ _ _ _ y).trans ?_
  unfold valueArr
  refine (kv_point V c t _ _ ?_ _).trans (congrArg (kvAt _ _ _ _) (Fin.ext ?_))
  all_goals simp [(idx0 t).2.2]

end Cert.Proof.Mem.L3

end
-- ==== Proof.Mem.L3.Run.lean ====
module

public import proofs.«01_k».proof.Proof.Mem.Run
public import proofs.«01_k».proof.Proof.Mem.L3.Kv
public import Idealize.ShloMosaic.Lib.Claim

/-! The run of the memory attention of layer 3: its result as a function of its arguments. -/

@[expose] public section

set_option maxRecDepth 16384

noncomputable section

namespace Cert.Proof.Mem.L3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every array outside the kernels' own memory ends at the last boundary's contents. -/
theorem run_bound : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

theorem entry_rows (c : Dev nD) : V1 m ρ c main_v0 = memRows (m ((c : Thread nD τ).loc main_arg1)) := by
  unfold_abbrev_sides
  after_results
  rfl

theorem entry_gain (c : Dev nD) (k : Fin 2048) :
    (V1 m ρ c main_v3 : S1x2048.Idx → EReal) (ix2 0 k) = (m ((c : Thread nD τ).loc main_arg2) : S4x2048.Idx → EReal) (ix2 3 k) := by
  unfold_abbrev_sides
  after_results
  pointwise

theorem entry_weights (c : Dev nD) (l : Fin 4) (j : Fin 2048) (k : Fin 1024) :
    (V1 m ρ c main_v4 : S4x2048x1024.Idx → EReal) (ix3 l j k) = (m ((c : Thread nD τ).loc main_arg3) : S4x2048x1024.Idx → EReal) (ix3 l j k) := by
  unfold_abbrev_sides
  after_results
  pointwise

theorem entry_kgain (c : Dev nD) (k : Fin 128) :
    (V1 m ρ c main_v7 : S1x128.Idx → EReal) (ix2 0 k) = (m ((c : Thread nD τ).loc main_arg5) : S4x128.Idx → EReal) (ix2 3 k) := by
  unfold_abbrev_sides
  after_results
  pointwise

theorem entry_qgain (c : Dev nD) (k : Fin 128) :
    (V3 m ρ c main_v11 : S1x128.Idx → EReal) (ix2 0 k) = (m ((c : Thread nD τ).loc main_arg4) : S4x128.Idx → EReal) (ix2 3 k) := by
  rw [← W2_args m ρ c main_arg4 (by decide)]
  unfold_abbrev_sides
  after_results
  pointwise

theorem entry_keys (c : Dev nD) : V3 m ρ c main_v8_0 = keyArr (V1 m ρ c main_v0) (V1 m ρ c main_v3) (V1 m ρ c main_v4) (V1 m ρ c main_v7) :=
  (W3_of m ρ c main_v8_0 (by decide)).trans ((W2_arr m ρ c 4).trans (key_arr _ c))

theorem entry_values (c : Dev nD) : V3 m ρ c main_v8_1 = valueArr (V1 m ρ c main_v0) (V1 m ρ c main_v3) (V1 m ρ c main_v4) :=
  (W3_of m ρ c main_v8_1 (by decide)).trans ((W2_arr m ρ c 5).trans (value_arr _ c))

/-- The result, as a function of the projection, of the queries' gain, and of what the keys and the values are made of. -/
theorem end_att (c : Dev nD) : W4 m ρ c (Proc.devRef .tc main_v12)
    = attArr (m ((c : Thread nD τ).loc main_arg0)) (keyArr (V1 m ρ c main_v0) (V1 m ρ c main_v3) (V1 m ρ c main_v4) (V1 m ρ c main_v7))
        (valueArr (V1 m ρ c main_v0) (V1 m ρ c main_v3) (V1 m ρ c main_v4)) (V3 m ρ c main_v11) := by
  refine (W4_arr m ρ c 4).trans ?_
  rw [att_arr, entry_keys, entry_values]
  rw [show V3 m ρ c main_arg0 = m ((c : Thread nD τ).loc main_arg0) from W3_args m ρ c main_arg0 (by decide)]

/-- The run: the result, and the arguments as they were. -/
theorem run : θ_run defs (onTc (τ := τ) (main (F := Ideal))) ⟨m, fun _ => 0, ρ⟩ (fun r => ∀ c : Dev nD,
      r.2.mem ((c.tc : Thread nD τ).loc main_v12)
        = attArr (m ((c : Thread nD τ).loc main_arg0)) (keyArr (V1 m ρ c main_v0) (V1 m ρ c main_v3) (V1 m ρ c main_v4) (V1 m ρ c main_v7))
            (valueArr (V1 m ρ c main_v0) (V1 m ρ c main_v3) (V1 m ρ c main_v4)) (V3 m ρ c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (end_att m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_bound m ρ)

end Cert.Proof.Mem.L3

end
-- ==== Proof.Mem.L3.Ref.lean ====
module

public import proofs.«01_k».proof.Proof.Mem.Ref
public import proofs.«01_k».proof.Proof.Mem.L3.Run
public import proofs.«01_k».proof.Proof.Gen.Reference13Ideal.Read

/-! The result of the reference of layer 3 is the same function of the arguments, with the softmax's quotients taken first. -/

@[expose] public section

set_option maxRecDepth 16384

noncomputable section

namespace Cert.Proof.Mem.L3

open Idealize.ShloMosaic Idealize.ShloMosaic.TcCoe Idealize.ShloMosaic.Tactic
open Cert.Reference13Ideal Cert.Reference13Ideal.Gen Cert.Reference13Ideal.Read

variable (x0 : S16384x6144.Idx → EReal) (x1 : S4x256x2048.Idx → EReal) (x2 : S4x2048.Idx → EReal) (x3 : S4x2048x1024.Idx → EReal)
  (x4 x5 : S4x128.Idx → EReal)

theorem ref_q0 (b : Fin 4) (t : Fin 4096) (h : Fin 4) (j : Fin 128) :
    val_main_v2 (F := Ideal) x0 (ix4 b t h j) = x0 (ix2 (tokRow b t) (qCol h j)) := by
  rw [val_main_v2_apply, val_main_v1_apply, val_main_v0_apply]
  refine congrArg x0 (funext fun a => Fin.ext ?_)
  match a with
  | ⟨0, _⟩ => show (((b.val * 4096 + t.val) * 4 + h.val) * 128 + j.val) / 512 = b.val * 4096 + t.val; omega
  | ⟨1, _⟩ => show 4608 + (((b.val * 4096 + t.val) * 4 + h.val) * 128 + j.val) % 512 = 4608 + (h.val * 128 + j.val); omega

theorem ref_q (b : Fin 4) (t : Fin 4096) (h : Fin 4) (d : Fin 128) :
    val_main_v17 (F := Ideal) x0 x4 (ix4 b t h d) = hn (fun j => x0 (ix2 (tokRow b t) (qCol h j))) (fun j => x4 (ix2 3 j)) d := by
  rw [val_main_v17_apply, val_main_v14_apply, val_main_v13_apply, val_main_v12_apply, val_main_v11_apply, val_main_v9_apply, val_main_v7_apply,
    val_main_v6_apply, val_main_v16_apply, val_main_v15_apply, val_main_v4_apply, val_main_v3_apply, val_main_v8_apply, val_main_v10_apply]
  simp only [val_main_v5_apply, val_main_cst_apply, val_main_cst_0_apply, val_main_cst_1_apply]
  have e : idx_main_v3 (idx_main_v4 (idx_main_v15 (idx_main_v16 (ix4 b t h d)))) = ix2 3 d :=
    funext fun a => Fin.ext (by
      match a with
      | ⟨0, _⟩ => rfl
      | ⟨1, _⟩ => exact Nat.mod_eq_of_lt d.isLt)
  have e' : ∀ j : Fin 128, idx_main_v6 (idx_main_v7 (idx_main_v13 (ix4 b t h d))) j = ix4 b t h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_q0, Ideal.mulf_def, Ideal.addf_def, Ideal.hostUnary_rsqrt_def, Ideal.hostDivf_def, Ideal.ofBits_def, Ideal.ofBits_zero_f32, zero_add]

theorem ref_norm (b : Fin 4) (m : Fin 256) (k : Fin 2048) :
    val_main_v32 (F := Ideal) x1 x2 (ix3 b m k) = x1 (ix3 b m k) * Ideal.rsqrt (Ideal.div (∑ i : Fin 2048, x1 (ix3 b m i) * x1 (ix3 b m i))
      (Ideal.ofBits FTy.f32 0x45000000#32) + Ideal.ofBits FTy.f32 0x358637BD#32) * x2 (ix2 3 k) := by
  rw [val_main_v32_apply, val_main_v29_apply, val_main_v28_apply, val_main_v27_apply, val_main_v26_apply, val_main_v24_apply, val_main_v22_apply,
    val_main_v21_apply, val_main_v31_apply, val_main_v30_apply, val_main_v19_apply, val_main_v18_apply, val_main_v23_apply, val_main_v25_apply]
  simp only [val_main_v20_apply, val_main_cst_2_apply, val_main_cst_3_apply, val_main_cst_4_apply]
  have e : idx_main_v18 (idx_main_v19 (idx_main_v30 (idx_main_v31 (ix3 b m k)))) = ix2 3 k :=
    funext fun a => Fin.ext (by
      match a with
      | ⟨0, _⟩ => rfl
      | ⟨1, _⟩ => exact Nat.mod_eq_of_lt k.isLt)
  have e' : ∀ j : Fin 2048, idx_main_v21 (idx_main_v22 (idx_main_v28 (ix3 b m k))) j = ix3 b m j := fun j =>
    funext fun a => Fin.ext (by
      match a with
      | ⟨0, _⟩ => rfl
      | ⟨1, _⟩ => rfl
      | ⟨2, _⟩ => rfl)
  rw [e]
  simp only [e', Ideal.mulf_def, Ideal.addf_def, Ideal.hostUnary_rsqrt_def, Ideal.hostDivf_def, Ideal.ofBits_def, Ideal.ofBits_zero_f32, zero_add]

theorem ref_kv (g : S1x2048.Idx → EReal) (hg : ∀ k : Fin 2048, g (ix2 0 k) = x2 (ix2 3 k)) (w : S4x2048x1024.Idx → EReal)
    (hw : ∀ (j : Fin 2048) (k : Fin 1024), w (ix3 3 j k) = x3 (ix3 3 j k)) (b : Fin 4) (m : Fin 256) (c : Fin 1024) :
    val_main_v35 (F := Ideal) x1 x2 x3 (ix3 b m c) = kvAt (memRows x1) g w (memRow b m) c := by
  rw [val_main_v35_apply]
  unfold kvAt kvRow
  refine Finset.sum_congr rfl fun k _ => ?_
  have e : lidx_main_v35 (ix3 b m c) k = ix3 b m k := funext fun a => Fin.ext (by
    match a with
    | ⟨0, _⟩ => rfl
    | ⟨1, _⟩ => rfl
    | ⟨2, _⟩ => rfl)
  have e' : idx_main_v33 (idx_main_v34 (ridx_main_v35 (ix3 b m c) k)) = ix3 3 k c := funext fun a => Fin.ext (by
    have hk := k.isLt
    have hc := c.isLt
    match a with
    | ⟨0, _⟩ => rfl
    | ⟨1, _⟩ => show (k.val * 1024 + c.val) / 1024 % 2048 = k.val; omega
    | ⟨2, _⟩ => show (k.val * 1024 + c.val) % 1024 = c.val; omega)
  rw [val_main_v34_apply, val_main_v33_apply, e, e', ref_norm]
  simp only [memRows_apply, hg, hw]

theorem ref_k0 (g : S1x2048.Idx → EReal) (hg : ∀ k : Fin 2048, g (ix2 0 k) = x2 (ix2 3 k)) (w : S4x2048x1024.Idx → EReal)
    (hw : ∀ (j : Fin 2048) (k : Fin 1024), w (ix3 3 j k) = x3 (ix3 3 j k)) (b : Fin 4) (m : Fin 256) (h : Fin 4) (j : Fin 128) :
    val_main_v38 (F := Ideal) x1 x2 x3 (ix4 b m h j) = kvAt (memRows x1) g w (memRow b m) (kc h.val h.isLt j) := by
  rw [val_main_v38_apply, val_main_v36_apply, ← ref_kv x1 x2 x3 g hg w hw]
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show (((b.val * 256 + m.val) * 4 + h.val) * 128 + j.val) % 512 = h.val * 128 + j.val; omega

theorem ref_v (g : S1x2048.Idx → EReal) (hg : ∀ k : Fin 2048, g (ix2 0 k) = x2 (ix2 3 k)) (w : S4x2048x1024.Idx → EReal)
    (hw : ∀ (j : Fin 2048) (k : Fin 1024), w (ix3 3 j k) = x3 (ix3 3 j k)) (b : Fin 4) (m : Fin 256) (h : Fin 4) (j : Fin 128) :
    val_main_v54 (F := Ideal) x1 x2 x3 (ix4 b m h j) = valueArr (memRows x1) g w (ix2 (memRow b m) (hc h.val h.isLt j)) := by
  rw [val_main_v54_apply, val_main_v37_apply]
  refine Eq.trans ?_ (ref_kv x1 x2 x3 g hg w hw b m _)
  refine congrArg (val_main_v35 (F := Ideal) x1 x2 x3) (funext fun a => Fin.ext ?_)
  match a with
  | ⟨0, _⟩ => show (((b.val * 256 + m.val) * 4 + h.val) * 128 + j.val) / 131072 = b.val; omega
  | ⟨1, _⟩ => show (((b.val * 256 + m.val) * 4 + h.val) * 128 + j.val) / 512 % 256 = m.val; omega
  | ⟨2, _⟩ => show 512 + (((b.val * 256 + m.val) * 4 + h.val) * 128 + j.val) % 512 = 512 + (h.val * 128 + j.val); omega

theorem ref_k (g : S1x2048.Idx → EReal) (hg : ∀ k : Fin 2048, g (ix2 0 k) = x2 (ix2 3 k)) (w : S4x2048x1024.Idx → EReal)
    (hw : ∀ (j : Fin 2048) (k : Fin 1024), w (ix3 3 j k) = x3 (ix3 3 j k)) (kg : S1x128.Idx → EReal) (hkg : ∀ k : Fin 128, kg (ix2 0 k) = x5 (ix2 3 k))
    (b : Fin 4) (m : Fin 256) (h : Fin 4) (d : Fin 128) :
    val_main_v53 (F := Ideal) x1 x2 x3 x5 (ix4 b m h d) = keyArr (memRows x1) g w kg (ix2 (memRow b m) (hc h.val h.isLt d)) := by
  have a : keyArr (memRows x1) g w kg (ix2 (memRow b m) (hc h.val h.isLt d))
      = hn (fun j => kvAt (memRows x1) g w (memRow b m) (kc h.val h.isLt j)) (fun j => x5 (ix2 3 j)) d := by
    unfold keyArr
    simp only [hkg]
    refine congr (congrArg (fun q => hn q _) (funext fun j => congrArg (kvAt _ _ _ _) (Fin.ext ?_))) (Fin.ext ?_)
    · show (h.val * 128 + d.val) / 128 * 128 + j.val = h.val * 128 + j.val; omega
    · show (h.val * 128 + d.val) % 128 = d.val; omega
  rw [a]
  rw [val_main_v53_apply, val_main_v50_apply, val_main_v49_apply, val_main_v48_apply, val_main_v47_apply, val_main_v45_apply, val_main_v43_apply,
    val_main_v42_apply, val_main_v52_apply, val_main_v51_apply, val_main_v40_apply, val_main_v39_apply, val_main_v44_apply, val_main_v46_apply]
  simp only [val_main_v41_apply, val_main_cst_5_apply, val_main_cst_6_apply, val_main_cst_7_apply]
  have e : idx_main_v39 (idx_main_v40 (idx_main_v51 (idx_main_v52 (ix4 b m h d)))) = ix2 3 d :=
    funext fun a => Fin.ext (by
      match a with
      | ⟨0, _⟩ => rfl
      | ⟨1, _⟩ => exact Nat.mod_eq_of_lt d.isLt)
  have e' : ∀ j : Fin 128, idx_main_v42 (idx_main_v43 (idx_main_v49 (ix4 b m h d))) j = ix4 b m h j := fun j =>
    funext fun a => Fin.ext (by
      match a with
      | ⟨0, _⟩ => rfl
      | ⟨1, _⟩ => rfl
      | ⟨2, _⟩ => rfl
      | ⟨3, _⟩ => rfl)
  rw [e]
  unfold hn rms
  simp only [e', ref_k0 x1 x2 x3 g hg w hw, Ideal.mulf_def, Ideal.addf_def, Ideal.hostUnary_rsqrt_def, Ideal.hostDivf_def, Ideal.ofBits_def,
    Ideal.ofBits_zero_f32, zero_add]

/-- The logits of one row and one head. -/
def refLogit (b : Fin 4) (h : Fin 4) (t : Fin 4096) (m : Fin 256) : EReal :=
  (∑ j : Fin 128, val_main_v17 (F := Ideal) x0 x4 (ix4 b t h j) * val_main_v53 (F := Ideal) x1 x2 x3 x5 (ix4 b m h j)) * scale

theorem ref_logit (b : Fin 4) (h : Fin 4) (t : Fin 4096) (m : Fin 256) :
    val_main_v57 (F := Ideal) x0 x1 x2 x3 x4 x5 (ix4 b h t m) = refLogit x0 x1 x2 x3 x4 x5 b h t m := by
  rw [val_main_v57_apply, val_main_v55_apply, val_main_v56_apply, val_main_cst_8_apply]
  have e : ∀ k : Fin 128, lidx_main_v55 (ix4 b h t m) k = ix4 b t h k := fun k => funext fun a => Fin.ext (by
    match a with
    | ⟨0, _⟩ => rfl
    | ⟨1, _⟩ => rfl
    | ⟨2, _⟩ => rfl
    | ⟨3, _⟩ => rfl)
  have e' : ∀ k : Fin 128, ridx_main_v55 (ix4 b h t m) k = ix4 b m h k := fun k => funext fun a => Fin.ext (by
    match a with
    | ⟨0, _⟩ => rfl
    | ⟨1, _⟩ => rfl
    | ⟨2, _⟩ => rfl
    | ⟨3, _⟩ => rfl)
  simp only [e, e']
  rfl

theorem ref_max (b : Fin 4) (h : Fin 4) (t : Fin 4096) :
    val_main_v58 (F := Ideal) x0 x1 x2 x3 x4 x5 (ix3 b h t)
      = Finset.fold max (Ideal.ofBits FTy.f32 0xFF800000#32) (refLogit x0 x1 x2 x3 x4 x5 b h t) Finset.univ := by
  unfold val_main_v58
  have e : refLogit x0 x1 x2 x3 x4 x5 b h t = fun m => val_main_v57 (F := Ideal) x0 x1 x2 x3 x4 x5 (ix4 b h t m) :=
    funext fun m => (ref_logit x0 x1 x2 x3 x4 x5 b h t m).symm
  rw [e]
  generalize val_main_v57 (F := Ideal) x0 x1 x2 x3 x4 x5 = L
  pointwise
  rfl

theorem ref_num (b : Fin 4) (h : Fin 4) (t : Fin 4096) (m : Fin 256) :
    val_main_v64 (F := Ideal) x0 x1 x2 x3 x4 x5 (ix4 b h t m) = num (refLogit x0 x1 x2 x3 x4 x5 b h t) m := by
  rw [val_main_v64_apply, val_main_v63_apply, val_main_v62_apply, val_main_v61_apply, val_main_v60_apply, val_main_v59_apply, val_main_cst_10_apply,
    ref_logit]
  have e : idx_main_v61 (idx_main_v62 (ix4 b h t m)) = ix3 b h t := funext fun a => Fin.ext (by
    match a with
    | ⟨0, _⟩ => rfl
    | ⟨1, _⟩ => rfl
    | ⟨2, _⟩ => rfl)
  rw [e, ref_max]
  unfold num
  rw [Ideal.ofBits_def, ofBits_bot]
  show Ideal.exp (_ - max ⊥ _) = _
  rw [max_eq_right bot_le]

theorem ref_weight (b : Fin 4) (h : Fin 4) (t : Fin 4096) (m : Fin 256) :
    val_main_v68 (F := Ideal) x0 x1 x2 x3 x4 x5 (ix4 b h t m)
      = Ideal.div (num (refLogit x0 x1 x2 x3 x4 x5 b h t) m) (∑ m : Fin 256, num (refLogit x0 x1 x2 x3 x4 x5 b h t) m) := by
  rw [val_main_v68_apply, val_main_v67_apply, val_main_v66_apply, val_main_v65_apply, val_main_cst_11_apply, ref_num]
  have e : ∀ k : Fin 256, idx_main_v65 (idx_main_v66 (idx_main_v67 (ix4 b h t m))) k = ix4 b h t k := fun k => funext fun a => Fin.ext (by
    match a with
    | ⟨0, _⟩ => rfl
    | ⟨1, _⟩ => rfl
    | ⟨2, _⟩ => rfl
    | ⟨3, _⟩ => rfl)
  simp only [e, ref_num, Ideal.hostDivf_def, Ideal.ofBits_def, Ideal.ofBits_zero_f32, zero_add]

theorem ref_out (b : Fin 4) (h : Fin 4) (t : Fin 4096) (d : Fin 128) :
    val_main_v69 (F := Ideal) x0 x1 x2 x3 x4 x5 (ix4 b h d t)
      = attR (fun j => val_main_v17 (F := Ideal) x0 x4 (ix4 b t h j)) (fun m j => val_main_v53 (F := Ideal) x1 x2 x3 x5 (ix4 b m h j))
          (fun m j => val_main_v54 (F := Ideal) x1 x2 x3 (ix4 b m h j)) d := by
  rw [val_main_v69_apply]
  unfold attR
  refine Finset.sum_congr rfl fun m _ => ?_
  have e : lidx_main_v69 (ix4 b h d t) m = ix4 b m h d := funext fun a => Fin.ext (by
    match a with
    | ⟨0, _⟩ => rfl
    | ⟨1, _⟩ => rfl
    | ⟨2, _⟩ => rfl
    | ⟨3, _⟩ => rfl)
  have e' : ridx_main_v69 (ix4 b h d t) m = ix4 b h t m := funext fun a => Fin.ext (by
    match a with
    | ⟨0, _⟩ => rfl
    | ⟨1, _⟩ => rfl
    | ⟨2, _⟩ => rfl
    | ⟨3, _⟩ => rfl)
  rw [e, e', ref_weight]
  rfl

/-- With finite gains, the kernel's result is the reference's. -/
theorem ref_att (g : S1x2048.Idx → EReal) (hg : ∀ k : Fin 2048, g (ix2 0 k) = x2 (ix2 3 k)) (w : S4x2048x1024.Idx → EReal)
    (hw : ∀ (j : Fin 2048) (k : Fin 1024), w (ix3 3 j k) = x3 (ix3 3 j k)) (kg : S1x128.Idx → EReal) (hkg : ∀ k : Fin 128, kg (ix2 0 k) = x5 (ix2 3 k))
    (qg : S1x128.Idx → EReal) (hqg : ∀ k : Fin 128, qg (ix2 0 k) = x4 (ix2 3 k)) (f4 : ∀ i, IsReal (x4 i)) (f5 : ∀ i, IsReal (x5 i)) :
    attArr x0 (keyArr (memRows x1) g w kg) (valueArr (memRows x1) g w) qg = val_main_v72 (F := Ideal) x0 x1 x2 x3 x4 x5 := by
  funext i
  obtain ⟨R, C, rfl⟩ : ∃ (R : Fin 16384) (C : Fin 512), i = ix2 R C := ⟨i 0, i 1, eq_ix2 i⟩
  obtain ⟨b, t, rfl⟩ : ∃ (b : Fin 4) (t : Fin 4096), R = tokRow b t :=
    ⟨⟨R.val / 4096, by omega⟩, ⟨R.val % 4096, by omega⟩, Fin.ext (by show _ = R.val / 4096 * 4096 + R.val % 4096; omega)⟩
  obtain ⟨h, d, rfl⟩ : ∃ (h : Fin 4) (d : Fin 128), C = hc h.val h.isLt d :=
    ⟨⟨C.val / 128, by omega⟩, ⟨C.val % 128, by omega⟩, Fin.ext (by show _ = C.val / 128 * 128 + C.val % 128; omega)⟩
  have e : idx_main_v70 (idx_main_v71 (ix2 (tokRow b t) (hc h.val h.isLt d))) = ix4 b h d t := funext fun a => Fin.ext (by
    match a with
    | ⟨0, _⟩ => show ((b.val * 4096 + t.val) * 512 + (h.val * 128 + d.val)) / 2097152 = b.val; omega
    | ⟨1, _⟩ => show ((b.val * 4096 + t.val) * 512 + (h.val * 128 + d.val)) / 128 % 4 = h.val; omega
    | ⟨2, _⟩ => show ((b.val * 4096 + t.val) * 512 + (h.val * 128 + d.val)) % 128 = d.val; omega
    | ⟨3, _⟩ => show ((b.val * 4096 + t.val) * 512 + (h.val * 128 + d.val)) / 512 % 4096 = t.val; omega)
  have hr : val_main_v72 (F := Ideal) x0 x1 x2 x3 x4 x5 (ix2 (tokRow b t) (hc h.val h.isLt d))
      = val_main_v69 (F := Ideal) x0 x1 x2 x3 x4 x5 (ix4 b h d t) := by
    rw [val_main_v72_apply, val_main_v71_apply, val_main_v70_apply, e]
    rfl
  rw [hr, ref_out]
  have ha : attArr x0 (keyArr (memRows x1) g w kg) (valueArr (memRows x1) g w) qg (ix2 (tokRow b t) (hc h.val h.isLt d))
      = attAt x0 (keyArr (memRows x1) g w kg) (valueArr (memRows x1) g w) qg (tokRow b t) h.val h.isLt d :=
    att_congr _ _ _ _ _ _ _ _ _ _ _ _ rfl (by show (h.val * 128 + d.val) / 128 = h.val; omega) (Fin.ext (by show (h.val * 128 + d.val) % 128 = d.val; omega))
  rw [ha]
  have hm : ∀ m : Fin 256, (⟨(tokRow b t).val / 4096 * 256 + m.val, by have := (tokRow b t).isLt; omega⟩ : Fin 1024) = memRow b m := fun m =>
    Fin.ext (by show (b.val * 4096 + t.val) / 4096 * 256 + m.val = b.val * 256 + m.val; omega)
  unfold attAt
  simp only [hm, hqg, ← ref_k x1 x2 x3 x5 g hg w hw kg hkg, ← ref_v x1 x2 x3 g hg w hw]
  have hq : (hn (fun j => x0 (ix2 (tokRow b t) ⟨4608 + (hc h.val h.isLt j).val, by have := (hc h.val h.isLt j).isLt; omega⟩)) (fun j => x4 (ix2 3 j)))
      = fun j => val_main_v17 (F := Ideal) x0 x4 (ix4 b t h j) := funext fun j => (ref_q x0 x4 b t h j).symm
  rw [hq]
  refine attK_eq _ _ _ (fun j => ?_) (fun m j => ?_) d
  · rw [ref_q]
    exact hn_real _ _ (fun _ => f4 _) _
  · rw [ref_k x1 x2 x3 x5 g hg w hw kg hkg]
    exact hn_real _ _ (fun k => by rw [hkg]; exact f5 _) _

end Cert.Proof.Mem.L3

end
-- ==== Proof.Mem.L3.Claim.lean ====
module

public import proofs.«01_k».proof.Defs
public import proofs.«01_k».proof.Proof.Mem.Claim
public import proofs.«01_k».proof.Proof.Mem.L3.Run
public import proofs.«01_k».proof.Proof.Mem.L3.Ref
public import Idealize.ShloMosaic.Lib.Quiescent

/-! The memory attention of layer 3: with finite gains, the kernel's result is the reference's. -/

@[expose] public section

set_option maxRecDepth 16384

noncomputable section

namespace Cert.Proof.Mem.L3

open Idealize.ShloMosaic Idealize.ShloMosaic.TcCoe Idealize.ShloMosaic.Tactic Idealize.SL.Sem

/-- The reference leaves its arguments unchanged, and has no semaphore. -/
theorem frame_reference : Cert.quiescent_Reference13Ideal := fun m ρ _ =>
  (θ_run _ _ _).mono (fun _ h => ⟨fun c => (h c).2, sem_eq_zero_of_no_sems rfl _⟩) (Cert.Reference13Ideal.Value.run m ρ)

theorem algebraic : Cert.algebraic_Kernel13Ideal_Reference13Ideal_pre_finite_gains := by
  intro m g m' g' hp hag
  refine ⟨_, run m g, (θ_run _ _ _).mono (fun _ h c => ?_) (Cert.Reference13Ideal.Value.run m' g')⟩
  obtain ⟨h0, hargs⟩ := h c
  obtain ⟨a0, a1, a2, a3, a4, a5⟩ := hag c
  obtain ⟨p4, p5⟩ := hp c
  refine ⟨h0.trans ?_, hargs⟩
  rw [Cert.Reference13Ideal.Read.val_main_v72_eq, a0, a1, a2, a3, a4, a5, entry_rows]
  exact (ref_att _ _ _ _ _ _ _ (entry_gain m g c) _ (entry_weights m g c 3) _ (entry_kgain m g c) _ (entry_qgain m g c)
    (fun i => real_of_lt_top _ (congrFun p4 i)) (fun i => real_of_lt_top _ (congrFun p5 i))).symm

end Cert.Proof.Mem.L3

end
-- ==== Proof.lean ====
/-
  The claim's parts, assembled.

  `Kernel` is the block-sparse attention call, whose frame is proved in Proof/Dsa: `Loose.lean` has the rules (a program that keeps
  every buffer at some contents), `Parts1.lean`–`Parts5.lean` go through the printed parts of the body, `While.lean` proves the while
  loop terminates, `Run.lean` runs the pipeline.

  `Kernel2` is the input projection, whose value is proved in Proof/InProj: `Perm.lean` has the weights' permutation, `Proj.lean` the
  normalization and the products, `Run.lean` the run of both, `Groups.lean` and `Ref.lean` the reference, `Claim.lean` their equality.

  `Kernel3` is the output projection, whose value is proved in Proof/OutProj: `Math.lean` has a row's value, `Block.lean` one round of
  the kernel, `Arr.lean` the whole result, `Ref.lean` the reference, `Claim.lean` their equality.

  `Kernel4`, `Kernel5` and `Kernel6` are the input projections of layers 1, 2 and 3, in Proof/InProj/L1, L2 and L3; `Kernel7`, `Kernel8`
  and `Kernel9` the output projections, in Proof/OutProj/L1, L2 and L3. They take from layer 0 what doesn't depend on the layer.

  `Kernel10`, `Kernel11`, `Kernel12` and `Kernel13` are the memory attention of layers 0 to 3, whose value is proved in Proof/Mem:
  `Math.lean` has one row and one head, `Attn.lean` the attention call, `Kv.lean` the keys and values, `Run.lean` the run of both,
  `Ref.lean` the reference, `Claim.lean` their equality; L1, L2 and L3 have the same for the other layers.
-/
module

public import proofs.«01_k».proof.Defs
public import proofs.«01_k».proof.Proof.Gen.Kernel
public import proofs.«01_k».proof.Proof.Gen.Kernel.Launch
public import proofs.«01_k».proof.Proof.Dsa.Run
public import proofs.«01_k».proof.Proof.Gen.Kernel2.Frame
public import proofs.«01_k».proof.Proof.Gen.Kernel2Ideal.Frame
public import proofs.«01_k».proof.Proof.InProj.Claim
public import proofs.«01_k».proof.Proof.Gen.Kernel3.Frame
public import proofs.«01_k».proof.Proof.Gen.Kernel3Ideal.Frame
public import proofs.«01_k».proof.Proof.OutProj.Claim
public import proofs.«01_k».proof.Proof.Gen.Kernel4.Frame
public import proofs.«01_k».proof.Proof.Gen.Kernel4Ideal.Frame
public import proofs.«01_k».proof.Proof.InProj.L1.Claim
public import proofs.«01_k».proof.Proof.Gen.Kernel5.Frame
public import proofs.«01_k».proof.Proof.Gen.Kernel5Ideal.Frame
public import proofs.«01_k».proof.Proof.InProj.L2.Claim
public import proofs.«01_k».proof.Proof.Gen.Kernel6.Frame
public import proofs.«01_k».proof.Proof.Gen.Kernel6Ideal.Frame
public import proofs.«01_k».proof.Proof.InProj.L3.Claim
public import proofs.«01_k».proof.Proof.Gen.Kernel7.Frame
public import proofs.«01_k».proof.Proof.Gen.Kernel7Ideal.Frame
public import proofs.«01_k».proof.Proof.OutProj.L1.Claim
public import proofs.«01_k».proof.Proof.Gen.Kernel8.Frame
public import proofs.«01_k».proof.Proof.Gen.Kernel8Ideal.Frame
public import proofs.«01_k».proof.Proof.OutProj.L2.Claim
public import proofs.«01_k».proof.Proof.Gen.Kernel9.Frame
public import proofs.«01_k».proof.Proof.Gen.Kernel9Ideal.Frame
public import proofs.«01_k».proof.Proof.OutProj.L3.Claim
public import proofs.«01_k».proof.Proof.Gen.Kernel10.Frame
public import proofs.«01_k».proof.Proof.Gen.Kernel10Ideal.Frame
public import proofs.«01_k».proof.Proof.Mem.Claim
public import proofs.«01_k».proof.Proof.Gen.Kernel11.Frame
public import proofs.«01_k».proof.Proof.Gen.Kernel11Ideal.Frame
public import proofs.«01_k».proof.Proof.Mem.L1.Claim
public import proofs.«01_k».proof.Proof.Gen.Kernel12.Frame
public import proofs.«01_k».proof.Proof.Gen.Kernel12Ideal.Frame
public import proofs.«01_k».proof.Proof.Mem.L2.Claim
public import proofs.«01_k».proof.Proof.Gen.Kernel13.Frame
public import proofs.«01_k».proof.Proof.Gen.Kernel13Ideal.Frame
public import proofs.«01_k».proof.Proof.Mem.L3.Claim

@[expose] public section

noncomputable section

theorem Cert.Proof.claim : Cert.Claim :=
  ⟨Cert.Kernel.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Proof.Mem.pre_facts,
    Cert.Proof.Dsa.frame_kernel,
    fun m ρ _ => Cert.Kernel2.Gen.frame m ρ, fun m ρ _ => Cert.Kernel2Ideal.Gen.frame m ρ, Cert.Proof.InProj.frame_reference,
    fun m ρ _ => Cert.Kernel3.Gen.frame m ρ, fun m ρ _ => Cert.Kernel3Ideal.Gen.frame m ρ, Cert.Proof.OutProj.frame_reference,
    fun m ρ _ => Cert.Kernel4.Gen.frame m ρ, fun m ρ _ => Cert.Kernel4Ideal.Gen.frame m ρ, Cert.Proof.InProj.L1.frame_reference,
    fun m ρ _ => Cert.Kernel5.Gen.frame m ρ, fun m ρ _ => Cert.Kernel5Ideal.Gen.frame m ρ, Cert.Proof.InProj.L2.frame_reference,
    fun m ρ _ => Cert.Kernel6.Gen.frame m ρ, fun m ρ _ => Cert.Kernel6Ideal.Gen.frame m ρ, Cert.Proof.InProj.L3.frame_reference,
    fun m ρ _ => Cert.Kernel7.Gen.frame m ρ, fun m ρ _ => Cert.Kernel7Ideal.Gen.frame m ρ, Cert.Proof.OutProj.L1.frame_reference,
    fun m ρ _ => Cert.Kernel8.Gen.frame m ρ, fun m ρ _ => Cert.Kernel8Ideal.Gen.frame m ρ, Cert.Proof.OutProj.L2.frame_reference,
    fun m ρ _ => Cert.Kernel9.Gen.frame m ρ, fun m ρ _ => Cert.Kernel9Ideal.Gen.frame m ρ, Cert.Proof.OutProj.L3.frame_reference,
    fun m ρ _ => Cert.Kernel10.Gen.frame m ρ, fun m ρ _ => Cert.Kernel10Ideal.Gen.frame m ρ, fun m ρ _ => Cert.Kernel10Ideal.Gen.frame m ρ,
    Cert.Proof.Mem.frame_reference, fun m ρ _ => Cert.Proof.Mem.frame_reference m ρ trivial,
    fun m ρ _ => Cert.Kernel11.Gen.frame m ρ, fun m ρ _ => Cert.Kernel11Ideal.Gen.frame m ρ, fun m ρ _ => Cert.Kernel11Ideal.Gen.frame m ρ,
    Cert.Proof.Mem.L1.frame_reference, fun m ρ _ => Cert.Proof.Mem.L1.frame_reference m ρ trivial,
    fun m ρ _ => Cert.Kernel12.Gen.frame m ρ, fun m ρ _ => Cert.Kernel12Ideal.Gen.frame m ρ, fun m ρ _ => Cert.Kernel12Ideal.Gen.frame m ρ,
    Cert.Proof.Mem.L2.frame_reference, fun m ρ _ => Cert.Proof.Mem.L2.frame_reference m ρ trivial,
    fun m ρ _ => Cert.Kernel13.Gen.frame m ρ, fun m ρ _ => Cert.Kernel13Ideal.Gen.frame m ρ, fun m ρ _ => Cert.Kernel13Ideal.Gen.frame m ρ,
    Cert.Proof.Mem.L3.frame_reference, fun m ρ _ => Cert.Proof.Mem.L3.frame_reference m ρ trivial,
    trivial, Cert.Proof.InProj.algebraic,
    trivial, Cert.Proof.OutProj.algebraic,
    trivial, Cert.Proof.InProj.L1.algebraic,
    trivial, Cert.Proof.InProj.L2.algebraic,
    trivial, Cert.Proof.InProj.L3.algebraic,
    trivial, Cert.Proof.OutProj.L1.algebraic,
    trivial, Cert.Proof.OutProj.L2.algebraic,
    trivial, Cert.Proof.OutProj.L3.algebraic,
    trivial, Cert.Proof.Mem.algebraic,
    trivial, Cert.Proof.Mem.L1.algebraic,
    trivial, Cert.Proof.Mem.L2.algebraic,
    trivial, Cert.Proof.Mem.L3.algebraic⟩

end
